-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_v80) = v1 c
          ∧ r.2.mem ((c.tc : Thread Cert.Reference5Ideal.nD Cert.Reference5Ideal.τ).loc Cert.Reference5Ideal.main_v81) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v287) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S8x8x16x128x512 : Shape := ⟨5, ![8, 8, 16, 128, 512]⟩
abbrev S8x4096x2048 : Shape := ⟨3, ![8, 4096, 2048]⟩
abbrev S8x16x1024x256 : Shape := ⟨4, ![8, 16, 1024, 256]⟩
abbrev S_ : Shape := ⟨0, ![]⟩

class Facts : Prop where
  bitsLt_bf16_f32 : FTy.bits .bf16 < FTy.bits .f32
  bcast_S_S8x8x16x128x512 : S_.BroadcastsInDim S8x8x16x128x512 (![] : Fin 0 → Fin S8x8x16x128x512.rank)
  bcast_S_S8x4096x2048 : S_.BroadcastsInDim S8x4096x2048 (![] : Fin 0 → Fin S8x4096x2048.rank)

variable [Facts]

def fn {F : FTy → Type} [FloatOps F] (main_arg0 : FVec F S8x8x16x128x512 .bf16) (main_arg1 : FVec F S8x4096x2048 .bf16) (main_arg2 : FVec F S8x16x1024x256 .bf16) : IVec S8x8x16x128x512 1 × IVec S8x4096x2048 1 :=
  let main_v0 : FVec F S8x8x16x128x512 .f32 := (extf .f32 · bitsLt_bf16_f32) main_arg0
  let main_v1 : FVec F S8x8x16x128x512 .f32 := Host.absf main_v0
  let main_cst : FVec F S_ .f32 := constant S_ .f32 0x7F800000#32
  let main_v2 : FVec F S8x8x16x128x512 .f32 := broadcastInDim S8x8x16x128x512 ![] bcast_S_S8x8x16x128x512 main_cst
  let main_v3 : IVec S8x8x16x128x512 1 := cmpf .olt main_v1 main_v2
  let main_v4 : FVec F S8x4096x2048 .f32 := (extf .f32 · bitsLt_bf16_f32) main_arg1
  let main_v5 : FVec F S8x4096x2048 .f32 := Host.absf main_v4
  let main_cst_0 : FVec F S_ .f32 := constant S_ .f32 0x7F800000#32
  let main_v6 : FVec F S8x4096x2048 .f32 := broadcastInDim S8x4096x2048 ![] bcast_S_S8x4096x2048 main_cst_0
  let main_v7 : IVec S8x4096x2048 1 := cmpf .olt main_v5 main_v6
  (main_v3, main_v7)
-- ==== Pre_finite5.lean ====
abbrev S8x4096x1024 : Shape := ⟨3, ![8, 4096, 1024]⟩
abbrev S4x1024 : Shape := ⟨2, ![4, 1024]⟩
abbrev S2x1024x3088 : Shape := ⟨3, ![2, 1024, 3088]⟩
abbrev S2x16 : Shape := ⟨2, ![2, 16]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S1x1024x16 : Shape := ⟨3, ![1, 1024, 16]⟩
abbrev S1024x16 : Shape := ⟨2, ![1024, 16]⟩
abbrev S1x16 : Shape := ⟨2, ![1, 16]⟩
abbrev S16 : Shape := ⟨1, ![16]⟩

class Facts : Prop where
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  slices_S2x1024x3088_S1x1024x16_0_0_3072 : S2x1024x3088.Slices ![0, 0, 3072] S1x1024x16
  shapeCasts_S1x1024x16_S1024x16 : S1x1024x16.ShapeCasts S1024x16
  bcast_S_S1024x16 : S_.BroadcastsInDim S1024x16 (![] : Fin 0 → Fin S1024x16.rank)
  slices_S2x16_S1x16_0_0 : S2x16.Slices ![0, 0] S1x16
  shapeCasts_S1x16_S16 : S1x16.ShapeCasts S16
  bcast_S_S16 : S_.BroadcastsInDim S16 (![] : Fin 0 → Fin S16.rank)

variable [Facts]

def fn {F : FTy → Type} [FloatOps F] (main_arg0 : FVec F S8x4096x1024 .f32) (main_arg1 : FVec F S4x1024 .f32) (main_arg2 : FVec F S2x1024x3088 .f32) (main_arg3 : FVec F S2x16 .f32) (main_arg4 : FVec F S2x64 .f32) (main_arg5 : FVec F S2x64 .f32) : IVec S1024 1 × IVec S1024x16 1 × IVec S16 1 :=
  let main_v0 : FVec F S1x1024 .f32 := (extractStridedSlice S1x1024 ![0, 0] · slices_S4x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x16 .f32 := (extractStridedSlice S1x1024x16 ![0, 0, 3072] · slices_S2x1024x3088_S1x1024x16_0_0_3072) main_arg2
  let main_v6 : FVec F S1024x16 .f32 := shapeCast S1024x16 main_v5 shapeCasts_S1x1024x16_S1024x16
  let main_v7 : FVec F S1024x16 .f32 := Host.absf main_v6
  let main_cst_0 : FVec F S_ .f32 := constant S_ .f32 0x7F800000#32
  let main_v8 : FVec F S1024x16 .f32 := broadcastInDim S1024x16 ![] bcast_S_S1024x16 main_cst_0
  let main_v9 : IVec S1024x16 1 := cmpf .olt main_v7 main_v8
  let main_v10 : FVec F S1x16 .f32 := (extractStridedSlice S1x16 ![0, 0] · slices_S2x16_S1x16_0_0) main_arg3
  let main_v11 : FVec F S16 .f32 := shapeCast S16 main_v10 shapeCasts_S1x16_S16
  let main_v12 : FVec F S16 .f32 := Host.absf main_v11
  let main_cst_1 : FVec F S_ .f32 := constant S_ .f32 0x7F800000#32
  let main_v13 : FVec F S16 .f32 := broadcastInDim S16 ![] bcast_S_S16 main_cst_1
  let main_v14 : IVec S16 1 := cmpf .olt main_v12 main_v13
  (main_v4, main_v9, main_v14)
-- ==== Kernel.lean ====
abbrev S8x8x16x128x512 : Shape := ⟨5, ![8, 8, 16, 128, 512]⟩
abbrev S8x4096x2048 : Shape := ⟨3, ![8, 4096, 2048]⟩
abbrev S8x16x1024x256 : Shape := ⟨4, ![8, 16, 1024, 256]⟩
abbrev S8x8x1024x512 : Shape := ⟨4, ![8, 8, 1024, 512]⟩
abbrev S1x8x2x128x512 : Shape := ⟨5, ![1, 8, 2, 128, 512]⟩
abbrev S1x4096x256 : Shape := ⟨3, ![1, 4096, 256]⟩
abbrev S1x16x128x256 : Shape := ⟨4, ![1, 16, 128, 256]⟩
abbrev S1x8x128x512 : Shape := ⟨4, ![1, 8, 128, 512]⟩
abbrev S2x256x512 : Shape := ⟨3, ![2, 256, 512]⟩
abbrev S2x2x256x512 : Shape := ⟨4, ![2, 2, 256, 512]⟩
abbrev S2x2x1x512 : Shape := ⟨4, ![2, 2, 1, 512]⟩
abbrev S2x1x512 : Shape := ⟨3, ![2, 1, 512]⟩
abbrev S2x64x512 : Shape := ⟨3, ![2, 64, 512]⟩
abbrev S256x512 : Shape := ⟨2, ![256, 512]⟩
abbrev S1x256x512 : Shape := ⟨3, ![1, 256, 512]⟩
abbrev S1x256x128 : Shape := ⟨3, ![1, 256, 128]⟩
abbrev S256x128 : Shape := ⟨2, ![256, 128]⟩
abbrev S1x1x1x128x512 : Shape := ⟨5, ![1, 1, 1, 128, 512]⟩
abbrev S128x512 : Shape := ⟨2, ![128, 512]⟩
abbrev S1x1x256x512 : Shape := ⟨4, ![1, 1, 256, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x64x512 : Shape := ⟨3, ![1, 64, 512]⟩
abbrev S64x512 : Shape := ⟨2, ![64, 512]⟩
abbrev S1x1x64x256 : Shape := ⟨4, ![1, 1, 64, 256]⟩
abbrev S64x256 : Shape := ⟨2, ![64, 256]⟩
abbrev S1x1x1x128x256 : Shape := ⟨5, ![1, 1, 1, 128, 256]⟩
abbrev S128x256 : Shape := ⟨2, ![128, 256]⟩
abbrev S256x256 : Shape := ⟨2, ![256, 256]⟩
abbrev S1x1x256x256 : Shape := ⟨4, ![1, 1, 256, 256]⟩
abbrev S256 : Shape := ⟨1, ![256]⟩
abbrev S1x256 : Shape := ⟨2, ![1, 256]⟩
abbrev S1x1x1x256 : Shape := ⟨4, ![1, 1, 1, 256]⟩
abbrev S1x256x256 : Shape := ⟨3, ![1, 256, 256]⟩
abbrev S1x1x256 : Shape := ⟨3, ![1, 1, 256]⟩
abbrev S1x64x256 : Shape := ⟨3, ![1, 64, 256]⟩
abbrev S1x1x128x512 : Shape := ⟨4, ![1, 1, 128, 512]⟩

abbrev nBuf : Space → Nat
  | .hbm => 4
  | .vmem => 14
  | .smem => 0
  | _ => 0

abbrev bufTy : (tb : Table) → Fin (tcTables nBuf tb) → BufTy
  | .hbm, ⟨0, _⟩ => ⟨S8x8x16x128x512, .bf16⟩
  | .hbm, ⟨1, _⟩ => ⟨S8x4096x2048, .bf16⟩
  | .hbm, ⟨2, _⟩ => ⟨S8x16x1024x256, .bf16⟩
  | .hbm, ⟨3, _⟩ => ⟨S8x8x1024x512, .bf16⟩
  | .local _ .vmem, ⟨0, _⟩ => ⟨S1x8x2x128x512, .bf16⟩
  | .local _ .vmem, ⟨1, _⟩ => ⟨S1x8x2x128x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S2x256x512, .f32⟩
  | .local _ .vmem, ⟨9, _⟩ => ⟨S2x2x256x512, .f32⟩
  | .local _ .vmem, ⟨10, _⟩ => ⟨S2x2x1x512, .f32⟩
  | .local _ .vmem, ⟨11, _⟩ => ⟨S2x1x512, .f32⟩
  | .local _ .vmem, ⟨12, _⟩ => ⟨S2x1x512, .f32⟩
  | .local _ .vmem, ⟨13, _⟩ => ⟨S2x64x512, .f32⟩
  | _, _ => ⟨S8x8x16x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_7 : BitVec 32 := 0#32
  let c8_i32 : BitVec 32 := 8#32
  let v22 : BitVec 32 := Scalar.addi c0_i32_7 c8_i32
  let c1_i32 : BitVec 32 := 1#32
  ⟨c0_i32_7, v22, c1_i32⟩
def k0_mult1 : BitVec 32 :=
  let c0_i32_21 : BitVec 32 := 0#32
  c0_i32_21
def k0_off1 (k0_t1 : Fin k0_t1_loop.trips) : Fin 5 → Nat :=
  let c0_24 : Index := 0#32
  let c0_i32_7 : BitVec 32 := 0#32
  let c1_i32 : BitVec 32 := 1#32
  let arg12 : BitVec 32 := Scf.iv c0_i32_7 c1_i32 k0_t1
  let v40 : Index := Scalar.indexCast arg12
  let c0_25 : Index := 0#32
  let c0_26 : Index := 0#32
  let c0_27 : Index := 0#32
  ![0, v40.toNat, 0, 0, 0]
def k0_mult2 : BitVec 32 :=
  let c0_i32_38 : BitVec 32 := 0#32
  c0_i32_38
def k0_off2 (k0_t1 : Fin k0_t1_loop.trips) : Fin 5 → Nat :=
  let c0_40 : Index := 0#32
  let c0_i32_7 : BitVec 32 := 0#32
  let c1_i32 : BitVec 32 := 1#32
  let arg12 : BitVec 32 := Scf.iv c0_i32_7 c1_i32 k0_t1
  let v56 : Index := Scalar.indexCast arg12
  let c1_41 : Index := 1#32
  let c0_42 : Index := 0#32
  let c0_43 : Index := 0#32
  ![0, v56.toNat, 1, 0, 0]
@[reducible] def k0_t2_loop (k0_t1 : Fin k0_t1_loop.trips) : Scf.Loop 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_63 : BitVec 32 := 1#32
  ⟨c0_i32_61, v89, c1_i32_63⟩
def k0_mult3 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off3 (k0_t1 : Fin k0_t1_loop.trips) (k0_t2 : Fin (k0_t2_loop k0_t1).trips) (c0_i32_100 : BitVec 32) : Fin 3 → Nat :=
  let c0_103 : Index := 0#32
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off4 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult4 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off5 (k0_t1 : Fin k0_t1_loop.trips) (k0_t2 : Fin (k0_t2_loop k0_t1).trips) (c0_i32_100 : BitVec 32) : Fin 3 → Nat :=
  let c0_120 : Index := 0#32
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off6 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off7 (k0_t1 : Fin k0_t1_loop.trips) (k0_t2 : Fin (k0_t2_loop k0_t1).trips) (c0_i32_136 : BitVec 32) : Fin 4 → Nat :=
  let c0_158 : Index := 0#32
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let v185 : BitVec 32 := Scalar.addi v148 c0_i32_136
  let v211 : Index := Scalar.indexCast v185
  let c0_159 : Index := 0#32
  let c0_160 : Index := 0#32
  ![0, v211.toNat, 0, 0]
def k0_off8 (k0_t1 : Fin k0_t1_loop.trips) (k0_t2 : Fin (k0_t2_loop k0_t1).trips) (c0_i32_136 : BitVec 32) : Fin 4 → Nat :=
  let c0_189 : Index := 0#32
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let v185 : BitVec 32 := Scalar.addi v148 c0_i32_136
  let v248 : Index := Scalar.indexCast v185
  let c64 : Index := 64#32
  let c0_190 : Index := 0#32
  ![0, v248.toNat, 64, 0]
def k0_mult5 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult6 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult7 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult8 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult9 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult10 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult11 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult12 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult13 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult14 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult15 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult16 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult17 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult18 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult19 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_mult20 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_907 : BitVec 32 := 256#32
  let v1056 : BitVec 32 := Scalar.muli v1038 c256_i32_907
  v1056
def k0_mult21 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_988 : BitVec 32 := 256#32
  let v1150 : BitVec 32 := Scalar.muli v1149 c256_i32_988
  v1150
def k0_mult22 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_1005 : BitVec 32 := 256#32
  let v1167 : BitVec 32 := Scalar.muli v1149 c256_i32_1005
  v1167
def k0_mult23 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1087 : BitVec 32 := 256#32
  let v1261 : BitVec 32 := Scalar.muli v1260 c256_i32_1087
  v1261
def k0_mult24 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1104 : BitVec 32 := 256#32
  let v1278 : BitVec 32 := Scalar.muli v1260 c256_i32_1104
  v1278
def k0_mult25 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1185 : BitVec 32 := 256#32
  let v1372 : BitVec 32 := Scalar.muli v1371 c256_i32_1185
  v1372
def k0_mult26 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1202 : BitVec 32 := 256#32
  let v1389 : BitVec 32 := Scalar.muli v1371 c256_i32_1202
  v1389
def k0_mult27 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1284 : BitVec 32 := 256#32
  let v1483 : BitVec 32 := Scalar.muli v1482 c256_i32_1284
  v1483
def k0_mult28 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1301 : BitVec 32 := 256#32
  let v1500 : BitVec 32 := Scalar.muli v1482 c256_i32_1301
  v1500
def k0_mult29 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1382 : BitVec 32 := 256#32
  let v1594 : BitVec 32 := Scalar.muli v1593 c256_i32_1382
  v1594
def k0_mult30 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1399 : BitVec 32 := 256#32
  let v1611 : BitVec 32 := Scalar.muli v1593 c256_i32_1399
  v1611
def k0_mult31 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1481 : BitVec 32 := 256#32
  let v1705 : BitVec 32 := Scalar.muli v1704 c256_i32_1481
  v1705
def k0_mult32 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1498 : BitVec 32 := 256#32
  let v1722 : BitVec 32 := Scalar.muli v1704 c256_i32_1498
  v1722
def k0_mult33 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c15_i32 : BitVec 32 := 15#32
  let v1814 : BitVec 32 := Scalar.addi v148 c15_i32
  let c1_i32_1578 : BitVec 32 := 1#32
  let v1815 : BitVec 32 := Scalar.addi v1814 c1_i32_1578
  let c256_i32_1579 : BitVec 32 := 256#32
  let v1816 : BitVec 32 := Scalar.muli v1815 c256_i32_1579
  v1816
def k0_mult34 (k0_t1 : Fin k0_t1_loop.trips) (k0_t2 : Fin (k0_t2_loop k0_t1).trips) : BitVec 32 :=
  let c0_i32_61 : BitVec 32 := 0#32
  let c1_i32_63 : BitVec 32 := 1#32
  let arg13 : BitVec 32 := Scf.iv c0_i32_61 c1_i32_63 k0_t2
  let c16_i32_99 : BitVec 32 := 16#32
  let v148 : BitVec 32 := Scalar.muli arg13 c16_i32_99
  let c15_i32 : BitVec 32 := 15#32
  let v1814 : BitVec 32 := Scalar.addi v148 c15_i32
  let c1_i32_1578 : BitVec 32 := 1#32
  let v1815 : BitVec 32 := Scalar.addi v1814 c1_i32_1578
  let c256_i32_1596 : BitVec 32 := 256#32
  let v1833 : BitVec 32 := Scalar.muli v1815 c256_i32_1596
  v1833
@[reducible] def k0_t3_loop (k0_t1 : Fin k0_t1_loop.trips) : Scf.Loop 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let v86 : BitVec 32 := Scalar.addi c0_i32_61 v85
  let c1_i32_64 : BitVec 32 := 1#32
  ⟨v89, v86, c1_i32_64⟩
def k0_mult35 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off9 (k0_t1 : Fin k0_t1_loop.trips) (k0_t3 : Fin (k0_t3_loop k0_t1).trips) (c0_i32_100 : BitVec 32) : Fin 3 → Nat :=
  let c0_103 : Index := 0#32
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off10 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult36 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off11 (k0_t1 : Fin k0_t1_loop.trips) (k0_t3 : Fin (k0_t3_loop k0_t1).trips) (c0_i32_100 : BitVec 32) : Fin 3 → Nat :=
  let c0_120 : Index := 0#32
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off12 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off13 (k0_t1 : Fin k0_t1_loop.trips) (k0_t3 : Fin (k0_t3_loop k0_t1).trips) (c0_i32_136 : BitVec 32) : Fin 4 → Nat :=
  let c0_158 : Index := 0#32
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let v185 : BitVec 32 := Scalar.addi v148 c0_i32_136
  let v211 : Index := Scalar.indexCast v185
  let c0_159 : Index := 0#32
  let c0_160 : Index := 0#32
  ![0, v211.toNat, 0, 0]
def k0_off14 (k0_t1 : Fin k0_t1_loop.trips) (k0_t3 : Fin (k0_t3_loop k0_t1).trips) (c0_i32_136 : BitVec 32) : Fin 4 → Nat :=
  let c0_189 : Index := 0#32
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let v185 : BitVec 32 := Scalar.addi v148 c0_i32_136
  let v248 : Index := Scalar.indexCast v185
  let c64 : Index := 64#32
  let c0_190 : Index := 0#32
  ![0, v248.toNat, 64, 0]
def k0_mult37 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult38 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult39 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult40 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult41 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult42 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult43 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult44 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult45 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult46 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult47 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult48 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult49 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult50 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult51 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_mult52 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_907 : BitVec 32 := 256#32
  let v1056 : BitVec 32 := Scalar.muli v1038 c256_i32_907
  v1056
def k0_mult53 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_988 : BitVec 32 := 256#32
  let v1150 : BitVec 32 := Scalar.muli v1149 c256_i32_988
  v1150
def k0_mult54 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_1005 : BitVec 32 := 256#32
  let v1167 : BitVec 32 := Scalar.muli v1149 c256_i32_1005
  v1167
def k0_mult55 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1087 : BitVec 32 := 256#32
  let v1261 : BitVec 32 := Scalar.muli v1260 c256_i32_1087
  v1261
def k0_mult56 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1104 : BitVec 32 := 256#32
  let v1278 : BitVec 32 := Scalar.muli v1260 c256_i32_1104
  v1278
def k0_mult57 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1185 : BitVec 32 := 256#32
  let v1372 : BitVec 32 := Scalar.muli v1371 c256_i32_1185
  v1372
def k0_mult58 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1202 : BitVec 32 := 256#32
  let v1389 : BitVec 32 := Scalar.muli v1371 c256_i32_1202
  v1389
def k0_mult59 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1284 : BitVec 32 := 256#32
  let v1483 : BitVec 32 := Scalar.muli v1482 c256_i32_1284
  v1483
def k0_mult60 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1301 : BitVec 32 := 256#32
  let v1500 : BitVec 32 := Scalar.muli v1482 c256_i32_1301
  v1500
def k0_mult61 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1382 : BitVec 32 := 256#32
  let v1594 : BitVec 32 := Scalar.muli v1593 c256_i32_1382
  v1594
def k0_mult62 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1399 : BitVec 32 := 256#32
  let v1611 : BitVec 32 := Scalar.muli v1593 c256_i32_1399
  v1611
def k0_mult63 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1481 : BitVec 32 := 256#32
  let v1705 : BitVec 32 := Scalar.muli v1704 c256_i32_1481
  v1705
def k0_mult64 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1498 : BitVec 32 := 256#32
  let v1722 : BitVec 32 := Scalar.muli v1704 c256_i32_1498
  v1722
def k0_mult65 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c15_i32 : BitVec 32 := 15#32
  let v1814 : BitVec 32 := Scalar.addi v148 c15_i32
  let c1_i32_1578 : BitVec 32 := 1#32
  let v1815 : BitVec 32 := Scalar.addi v1814 c1_i32_1578
  let c256_i32_1579 : BitVec 32 := 256#32
  let v1816 : BitVec 32 := Scalar.muli v1815 c256_i32_1579
  v1816
def k0_mult66 (k0_t1 : Fin k0_t1_loop.trips) (k0_t3 : Fin (k0_t3_loop k0_t1).trips) : BitVec 32 :=
  let c0_i32_61 : BitVec 32 := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let v85 : BitVec 32 := Scalar.subi v84 c0_i32_61
  let c1_i32_62 : BitVec 32 := 1#32
  let v87 : BitVec 32 := Scalar.divsi v85 c1_i32_62
  let v88 : BitVec 32 := Scalar.muli v87 c1_i32_62
  let v89 : BitVec 32 := Scalar.addi c0_i32_61 v88
  let c1_i32_64 : BitVec 32 := 1#32
  let arg13 : BitVec 32 := Scf.iv v89 c1_i32_64 k0_t3
  let c16_i32_99 : BitVec 32 := 16#32
  let v148 : BitVec 32 := Scalar.muli arg13 c16_i32_99
  let c15_i32 : BitVec 32 := 15#32
  let v1814 : BitVec 32 := Scalar.addi v148 c15_i32
  let c1_i32_1578 : BitVec 32 := 1#32
  let v1815 : BitVec 32 := Scalar.addi v1814 c1_i32_1578
  let c256_i32_1596 : BitVec 32 := 256#32
  let v1833 : BitVec 32 := Scalar.muli v1815 c256_i32_1596
  v1833
def k0_cond1 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_65 : BitVec 32 := 16#32
  let v90 : BitVec 32 := Scalar.muli v84 c16_i32_65
  let v91 : BitVec 32 := Scalar.subi v23 v90
  let c0_i32_66 : BitVec 32 := 0#32
  let v92 : BitVec 1 := Scalar.cmpi .eq v91 c0_i32_66
  let v93 : BitVec 32 := Scalar.extui v92
  let c0_i32_67 : BitVec 32 := 0#32
  let v94 : BitVec 1 := Scalar.cmpi .ne v93 c0_i32_67
  v94

def k0_mult67 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off15 (k0_t1 : Fin k0_t1_loop.trips) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off16 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c256 : Index := 256#32
  ![0, v156.toNat, 0, 0, 256]
def k0_mult68 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_118 : BitVec 32 := 256#32
  let v168 : BitVec 32 := Scalar.muli v150 c256_i32_118
  v168
def k0_off17 (k0_t1 : Fin k0_t1_loop.trips) : Fin 3 → Nat :=
  let c0_119 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_118 : BitVec 32 := 256#32
  let v168 : BitVec 32 := Scalar.muli v150 c256_i32_118
  let v169 : BitVec 32 := v168
  let v170 : Index := Scalar.indexCast v169
  let c128_120 : Index := 128#32
  ![0, v170.toNat, 128]
def k0_off18 (k0_t1 : Fin k0_t1_loop.trips) : Fin 5 → Nat :=
  let c0_121 : Index := 0#32
  let c0_i32_7 : BitVec 32 := 0#32
  let c1_i32 : BitVec 32 := 1#32
  let arg12 : BitVec 32 := Scf.iv c0_i32_7 c1_i32 k0_t1
  let v173 : Index := Scalar.indexCast arg12
  let c1_122 : Index := 1#32
  let c0_123 : Index := 0#32
  let c256_124 : Index := 256#32
  ![0, v173.toNat, 1, 0, 256]
def k0_off19 (k0_t1 : Fin k0_t1_loop.trips) (c0_i32_135 : BitVec 32) : Fin 4 → Nat :=
  let c0_157 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_135
  let v214 : Index := Scalar.indexCast v185
  let c0_158 : Index := 0#32
  let c0_159 : Index := 0#32
  ![0, v214.toNat, 0, 0]
def k0_off20 (k0_t1 : Fin k0_t1_loop.trips) (c0_i32_135 : BitVec 32) : Fin 4 → Nat :=
  let c0_188 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_135
  let v254 : Index := Scalar.indexCast v185
  let c64 : Index := 64#32
  let c0_189 : Index := 0#32
  ![0, v254.toNat, 64, 0]
def k0_cond2 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_68 : BitVec 32 := 16#32
  let v95 : BitVec 32 := Scalar.muli v84 c16_i32_68
  let v96 : BitVec 32 := Scalar.subi v23 v95
  let c2_i32_69 : BitVec 32 := 2#32
  let v97 : BitVec 1 := Scalar.cmpi .eq v96 c2_i32_69
  let v98 : BitVec 32 := Scalar.extui v97
  let c0_i32_70 : BitVec 32 := 0#32
  let v99 : BitVec 1 := Scalar.cmpi .ne v98 c0_i32_70
  v99

def k0_mult69 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off21 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off22 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult70 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off23 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off24 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off25 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off26 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult71 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult72 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult73 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_off27 (k0_t1 : Fin k0_t1_loop.trips) : Fin 5 → Nat :=
  let c0_302 : Index := 0#32
  let c0_i32_7 : BitVec 32 := 0#32
  let c1_i32 : BitVec 32 := 1#32
  let arg12 : BitVec 32 := Scf.iv c0_i32_7 c1_i32 k0_t1
  let v378 : Index := Scalar.indexCast arg12
  let c0_303 : Index := 0#32
  let c0_304 : Index := 0#32
  let c256 : Index := 256#32
  ![0, v378.toNat, 0, 0, 256]
def k0_mult74 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_315 : BitVec 32 := 256#32
  let v390 : BitVec 32 := Scalar.muli v372 c256_i32_315
  v390
def k0_off28 (k0_t1 : Fin k0_t1_loop.trips) : Fin 5 → Nat :=
  let c0_318 : Index := 0#32
  let c0_i32_7 : BitVec 32 := 0#32
  let c1_i32 : BitVec 32 := 1#32
  let arg12 : BitVec 32 := Scf.iv c0_i32_7 c1_i32 k0_t1
  let v395 : Index := Scalar.indexCast arg12
  let c1_319 : Index := 1#32
  let c0_320 : Index := 0#32
  let c256_321 : Index := 256#32
  ![0, v395.toNat, 1, 0, 256]
def k0_cond3 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_71 : BitVec 32 := 16#32
  let v100 : BitVec 32 := Scalar.muli v84 c16_i32_71
  let v101 : BitVec 32 := Scalar.subi v23 v100
  let c4_i32 : BitVec 32 := 4#32
  let v102 : BitVec 1 := Scalar.cmpi .eq v101 c4_i32
  let v103 : BitVec 32 := Scalar.extui v102
  let c0_i32_72 : BitVec 32 := 0#32
  let v104 : BitVec 1 := Scalar.cmpi .ne v103 c0_i32_72
  v104

def k0_mult75 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off29 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off30 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult76 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off31 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off32 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off33 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off34 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult77 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult78 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult79 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult80 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult81 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult82 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult83 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_off35 (k0_t1 : Fin k0_t1_loop.trips) : Fin 5 → Nat :=
  let c0_499 : Index := 0#32
  let c0_i32_7 : BitVec 32 := 0#32
  let c1_i32 : BitVec 32 := 1#32
  let arg12 : BitVec 32 := Scf.iv c0_i32_7 c1_i32 k0_t1
  let v600 : Index := Scalar.indexCast arg12
  let c0_500 : Index := 0#32
  let c0_501 : Index := 0#32
  let c256 : Index := 256#32
  ![0, v600.toNat, 0, 0, 256]
def k0_mult84 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_512 : BitVec 32 := 256#32
  let v612 : BitVec 32 := Scalar.muli v594 c256_i32_512
  v612
def k0_off36 (k0_t1 : Fin k0_t1_loop.trips) : Fin 5 → Nat :=
  let c0_515 : Index := 0#32
  let c0_i32_7 : BitVec 32 := 0#32
  let c1_i32 : BitVec 32 := 1#32
  let arg12 : BitVec 32 := Scf.iv c0_i32_7 c1_i32 k0_t1
  let v617 : Index := Scalar.indexCast arg12
  let c1_516 : Index := 1#32
  let c0_517 : Index := 0#32
  let c256_518 : Index := 256#32
  ![0, v617.toNat, 1, 0, 256]
def k0_cond4 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_73 : BitVec 32 := 16#32
  let v105 : BitVec 32 := Scalar.muli v84 c16_i32_73
  let v106 : BitVec 32 := Scalar.subi v23 v105
  let c6_i32 : BitVec 32 := 6#32
  let v107 : BitVec 1 := Scalar.cmpi .eq v106 c6_i32
  let v108 : BitVec 32 := Scalar.extui v107
  let c0_i32_74 : BitVec 32 := 0#32
  let v109 : BitVec 1 := Scalar.cmpi .ne v108 c0_i32_74
  v109

def k0_mult85 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off37 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off38 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult86 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off39 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off40 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off41 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off42 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult87 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult88 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult89 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult90 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult91 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult92 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult93 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult94 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult95 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult96 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult97 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_off43 (k0_t1 : Fin k0_t1_loop.trips) : Fin 5 → Nat :=
  let c0_696 : Index := 0#32
  let c0_i32_7 : BitVec 32 := 0#32
  let c1_i32 : BitVec 32 := 1#32
  let arg12 : BitVec 32 := Scf.iv c0_i32_7 c1_i32 k0_t1
  let v822 : Index := Scalar.indexCast arg12
  let c0_697 : Index := 0#32
  let c0_698 : Index := 0#32
  let c256 : Index := 256#32
  ![0, v822.toNat, 0, 0, 256]
def k0_mult98 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_709 : BitVec 32 := 256#32
  let v834 : BitVec 32 := Scalar.muli v816 c256_i32_709
  v834
def k0_off44 (k0_t1 : Fin k0_t1_loop.trips) : Fin 5 → Nat :=
  let c0_712 : Index := 0#32
  let c0_i32_7 : BitVec 32 := 0#32
  let c1_i32 : BitVec 32 := 1#32
  let arg12 : BitVec 32 := Scf.iv c0_i32_7 c1_i32 k0_t1
  let v839 : Index := Scalar.indexCast arg12
  let c1_713 : Index := 1#32
  let c0_714 : Index := 0#32
  let c256_715 : Index := 256#32
  ![0, v839.toNat, 1, 0, 256]
def k0_cond5 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_75 : BitVec 32 := 16#32
  let v110 : BitVec 32 := Scalar.muli v84 c16_i32_75
  let v111 : BitVec 32 := Scalar.subi v23 v110
  let c8_i32_76 : BitVec 32 := 8#32
  let v112 : BitVec 1 := Scalar.cmpi .eq v111 c8_i32_76
  let v113 : BitVec 32 := Scalar.extui v112
  let c0_i32_77 : BitVec 32 := 0#32
  let v114 : BitVec 1 := Scalar.cmpi .ne v113 c0_i32_77
  v114

def k0_mult99 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off45 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off46 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult100 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off47 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off48 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off49 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off50 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult101 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult102 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult103 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult104 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult105 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult106 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult107 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult108 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult109 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult110 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult111 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult112 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult113 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult114 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult115 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_off51 (k0_t1 : Fin k0_t1_loop.trips) : Fin 5 → Nat :=
  let c0_893 : Index := 0#32
  let c0_i32_7 : BitVec 32 := 0#32
  let c1_i32 : BitVec 32 := 1#32
  let arg12 : BitVec 32 := Scf.iv c0_i32_7 c1_i32 k0_t1
  let v1044 : Index := Scalar.indexCast arg12
  let c0_894 : Index := 0#32
  let c0_895 : Index := 0#32
  let c256 : Index := 256#32
  ![0, v1044.toNat, 0, 0, 256]
def k0_mult116 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_906 : BitVec 32 := 256#32
  let v1056 : BitVec 32 := Scalar.muli v1038 c256_i32_906
  v1056
def k0_off52 (k0_t1 : Fin k0_t1_loop.trips) : Fin 5 → Nat :=
  let c0_909 : Index := 0#32
  let c0_i32_7 : BitVec 32 := 0#32
  let c1_i32 : BitVec 32 := 1#32
  let arg12 : BitVec 32 := Scf.iv c0_i32_7 c1_i32 k0_t1
  let v1061 : Index := Scalar.indexCast arg12
  let c1_910 : Index := 1#32
  let c0_911 : Index := 0#32
  let c256_912 : Index := 256#32
  ![0, v1061.toNat, 1, 0, 256]
def k0_cond6 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_78 : BitVec 32 := 16#32
  let v115 : BitVec 32 := Scalar.muli v84 c16_i32_78
  let v116 : BitVec 32 := Scalar.subi v23 v115
  let c10_i32 : BitVec 32 := 10#32
  let v117 : BitVec 1 := Scalar.cmpi .eq v116 c10_i32
  let v118 : BitVec 32 := Scalar.extui v117
  let c0_i32_79 : BitVec 32 := 0#32
  let v119 : BitVec 1 := Scalar.cmpi .ne v118 c0_i32_79
  v119

def k0_mult117 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off53 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off54 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult118 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off55 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off56 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off57 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off58 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult119 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult120 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult121 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult122 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult123 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult124 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult125 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult126 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult127 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult128 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult129 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult130 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult131 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult132 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult133 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_mult134 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_907 : BitVec 32 := 256#32
  let v1056 : BitVec 32 := Scalar.muli v1038 c256_i32_907
  v1056
def k0_mult135 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_988 : BitVec 32 := 256#32
  let v1150 : BitVec 32 := Scalar.muli v1149 c256_i32_988
  v1150
def k0_mult136 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_1005 : BitVec 32 := 256#32
  let v1167 : BitVec 32 := Scalar.muli v1149 c256_i32_1005
  v1167
def k0_mult137 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1087 : BitVec 32 := 256#32
  let v1261 : BitVec 32 := Scalar.muli v1260 c256_i32_1087
  v1261
def k0_off59 (k0_t1 : Fin k0_t1_loop.trips) : Fin 5 → Nat :=
  let c0_1090 : Index := 0#32
  let c0_i32_7 : BitVec 32 := 0#32
  let c1_i32 : BitVec 32 := 1#32
  let arg12 : BitVec 32 := Scf.iv c0_i32_7 c1_i32 k0_t1
  let v1266 : Index := Scalar.indexCast arg12
  let c0_1091 : Index := 0#32
  let c0_1092 : Index := 0#32
  let c256 : Index := 256#32
  ![0, v1266.toNat, 0, 0, 256]
def k0_mult138 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1103 : BitVec 32 := 256#32
  let v1278 : BitVec 32 := Scalar.muli v1260 c256_i32_1103
  v1278
def k0_off60 (k0_t1 : Fin k0_t1_loop.trips) : Fin 5 → Nat :=
  let c0_1106 : Index := 0#32
  let c0_i32_7 : BitVec 32 := 0#32
  let c1_i32 : BitVec 32 := 1#32
  let arg12 : BitVec 32 := Scf.iv c0_i32_7 c1_i32 k0_t1
  let v1283 : Index := Scalar.indexCast arg12
  let c1_1107 : Index := 1#32
  let c0_1108 : Index := 0#32
  let c256_1109 : Index := 256#32
  ![0, v1283.toNat, 1, 0, 256]
def k0_cond7 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_80 : BitVec 32 := 16#32
  let v120 : BitVec 32 := Scalar.muli v84 c16_i32_80
  let v121 : BitVec 32 := Scalar.subi v23 v120
  let c12_i32 : BitVec 32 := 12#32
  let v122 : BitVec 1 := Scalar.cmpi .eq v121 c12_i32
  let v123 : BitVec 32 := Scalar.extui v122
  let c0_i32_81 : BitVec 32 := 0#32
  let v124 : BitVec 1 := Scalar.cmpi .ne v123 c0_i32_81
  v124

def k0_mult139 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off61 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off62 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult140 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off63 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off64 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off65 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off66 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult141 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult142 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult143 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult144 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult145 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult146 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult147 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult148 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult149 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult150 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult151 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult152 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult153 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult154 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult155 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_mult156 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_907 : BitVec 32 := 256#32
  let v1056 : BitVec 32 := Scalar.muli v1038 c256_i32_907
  v1056
def k0_mult157 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_988 : BitVec 32 := 256#32
  let v1150 : BitVec 32 := Scalar.muli v1149 c256_i32_988
  v1150
def k0_mult158 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_1005 : BitVec 32 := 256#32
  let v1167 : BitVec 32 := Scalar.muli v1149 c256_i32_1005
  v1167
def k0_mult159 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1087 : BitVec 32 := 256#32
  let v1261 : BitVec 32 := Scalar.muli v1260 c256_i32_1087
  v1261
def k0_mult160 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1104 : BitVec 32 := 256#32
  let v1278 : BitVec 32 := Scalar.muli v1260 c256_i32_1104
  v1278
def k0_mult161 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1185 : BitVec 32 := 256#32
  let v1372 : BitVec 32 := Scalar.muli v1371 c256_i32_1185
  v1372
def k0_mult162 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1202 : BitVec 32 := 256#32
  let v1389 : BitVec 32 := Scalar.muli v1371 c256_i32_1202
  v1389
def k0_mult163 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1284 : BitVec 32 := 256#32
  let v1483 : BitVec 32 := Scalar.muli v1482 c256_i32_1284
  v1483
def k0_off67 (k0_t1 : Fin k0_t1_loop.trips) : Fin 5 → Nat :=
  let c0_1287 : Index := 0#32
  let c0_i32_7 : BitVec 32 := 0#32
  let c1_i32 : BitVec 32 := 1#32
  let arg12 : BitVec 32 := Scf.iv c0_i32_7 c1_i32 k0_t1
  let v1488 : Index := Scalar.indexCast arg12
  let c0_1288 : Index := 0#32
  let c0_1289 : Index := 0#32
  let c256 : Index := 256#32
  ![0, v1488.toNat, 0, 0, 256]
def k0_mult164 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1300 : BitVec 32 := 256#32
  let v1500 : BitVec 32 := Scalar.muli v1482 c256_i32_1300
  v1500
def k0_off68 (k0_t1 : Fin k0_t1_loop.trips) : Fin 5 → Nat :=
  let c0_1303 : Index := 0#32
  let c0_i32_7 : BitVec 32 := 0#32
  let c1_i32 : BitVec 32 := 1#32
  let arg12 : BitVec 32 := Scf.iv c0_i32_7 c1_i32 k0_t1
  let v1505 : Index := Scalar.indexCast arg12
  let c1_1304 : Index := 1#32
  let c0_1305 : Index := 0#32
  let c256_1306 : Index := 256#32
  ![0, v1505.toNat, 1, 0, 256]
def k0_cond8 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_82 : BitVec 32 := 16#32
  let v125 : BitVec 32 := Scalar.muli v84 c16_i32_82
  let v126 : BitVec 32 := Scalar.subi v23 v125
  let c14_i32 : BitVec 32 := 14#32
  let v127 : BitVec 1 := Scalar.cmpi .eq v126 c14_i32
  let v128 : BitVec 32 := Scalar.extui v127
  let c0_i32_83 : BitVec 32 := 0#32
  let v129 : BitVec 1 := Scalar.cmpi .ne v128 c0_i32_83
  v129

def k0_mult165 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  v151
def k0_off69 (k0_t1 : Fin k0_t1_loop.trips) (c0_i32_100 : BitVec 32) : Fin 3 → Nat :=
  let c0_103 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_102 : BitVec 32 := 256#32
  let v151 : BitVec 32 := Scalar.muli v150 c256_i32_102
  let v152 : BitVec 32 := v151
  let v153 : Index := Scalar.indexCast v152
  let c0_104 : Index := 0#32
  ![0, v153.toNat, 0]
def k0_off70 (k0_t1 : Fin k0_t1_loop.trips) : Fin 5 → Nat :=
  let c0_105 : Index := 0#32
  let c0_i32_7 : BitVec 32 := 0#32
  let c1_i32 : BitVec 32 := 1#32
  let arg12 : BitVec 32 := Scf.iv c0_i32_7 c1_i32 k0_t1
  let v156 : Index := Scalar.indexCast arg12
  let c0_106 : Index := 0#32
  let c0_107 : Index := 0#32
  let c0_108 : Index := 0#32
  ![0, v156.toNat, 0, 0, 0]
def k0_mult166 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c0_i32_100 : BitVec 32 := 0#32
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  v168
def k0_off71 (k0_t1 : Fin k0_t1_loop.trips) (c0_i32_100 : BitVec 32) : Fin 3 → Nat :=
  let c0_120 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v149 : BitVec 32 := Scalar.addi v148 c0_i32_100
  let c1_i32_101 : BitVec 32 := 1#32
  let v150 : BitVec 32 := Scalar.addi v149 c1_i32_101
  let c256_i32_119 : BitVec 32 := 256#32
  let v168 : BitVec 32 := Scalar.muli v150 c256_i32_119
  let v169 : BitVec 32 := v168
  let v170 : Index := Scalar.indexCast v169
  let c128_121 : Index := 128#32
  ![0, v170.toNat, 128]
def k0_off72 (k0_t1 : Fin k0_t1_loop.trips) : Fin 5 → Nat :=
  let c0_122 : Index := 0#32
  let c0_i32_7 : BitVec 32 := 0#32
  let c1_i32 : BitVec 32 := 1#32
  let arg12 : BitVec 32 := Scf.iv c0_i32_7 c1_i32 k0_t1
  let v173 : Index := Scalar.indexCast arg12
  let c1_123 : Index := 1#32
  let c0_124 : Index := 0#32
  let c0_125 : Index := 0#32
  ![0, v173.toNat, 1, 0, 0]
def k0_off73 (k0_t1 : Fin k0_t1_loop.trips) (c0_i32_136 : BitVec 32) : Fin 4 → Nat :=
  let c0_158 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v211 : Index := Scalar.indexCast v185
  let c0_159 : Index := 0#32
  let c0_160 : Index := 0#32
  ![0, v211.toNat, 0, 0]
def k0_off74 (k0_t1 : Fin k0_t1_loop.trips) (c0_i32_136 : BitVec 32) : Fin 4 → Nat :=
  let c0_189 : Index := 0#32
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let v185 : BitVec 32 := Scalar.addi v148 c0_i32_136
  let v248 : Index := Scalar.indexCast v185
  let c64 : Index := 64#32
  let c0_190 : Index := 0#32
  ![0, v248.toNat, 64, 0]
def k0_mult167 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_200 : BitVec 32 := 256#32
  let v262 : BitVec 32 := Scalar.muli v261 c256_i32_200
  v262
def k0_mult168 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c1_i32_198 : BitVec 32 := 1#32
  let v260 : BitVec 32 := Scalar.addi v148 c1_i32_198
  let c1_i32_199 : BitVec 32 := 1#32
  let v261 : BitVec 32 := Scalar.addi v260 c1_i32_199
  let c256_i32_217 : BitVec 32 := 256#32
  let v279 : BitVec 32 := Scalar.muli v261 c256_i32_217
  v279
def k0_mult169 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_299 : BitVec 32 := 256#32
  let v373 : BitVec 32 := Scalar.muli v372 c256_i32_299
  v373
def k0_mult170 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c2_i32_297 : BitVec 32 := 2#32
  let v371 : BitVec 32 := Scalar.addi v148 c2_i32_297
  let c1_i32_298 : BitVec 32 := 1#32
  let v372 : BitVec 32 := Scalar.addi v371 c1_i32_298
  let c256_i32_316 : BitVec 32 := 256#32
  let v390 : BitVec 32 := Scalar.muli v372 c256_i32_316
  v390
def k0_mult171 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_397 : BitVec 32 := 256#32
  let v484 : BitVec 32 := Scalar.muli v483 c256_i32_397
  v484
def k0_mult172 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c3_i32 : BitVec 32 := 3#32
  let v482 : BitVec 32 := Scalar.addi v148 c3_i32
  let c1_i32_396 : BitVec 32 := 1#32
  let v483 : BitVec 32 := Scalar.addi v482 c1_i32_396
  let c256_i32_414 : BitVec 32 := 256#32
  let v501 : BitVec 32 := Scalar.muli v483 c256_i32_414
  v501
def k0_mult173 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_496 : BitVec 32 := 256#32
  let v595 : BitVec 32 := Scalar.muli v594 c256_i32_496
  v595
def k0_mult174 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c4_i32_494 : BitVec 32 := 4#32
  let v593 : BitVec 32 := Scalar.addi v148 c4_i32_494
  let c1_i32_495 : BitVec 32 := 1#32
  let v594 : BitVec 32 := Scalar.addi v593 c1_i32_495
  let c256_i32_513 : BitVec 32 := 256#32
  let v612 : BitVec 32 := Scalar.muli v594 c256_i32_513
  v612
def k0_mult175 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_594 : BitVec 32 := 256#32
  let v706 : BitVec 32 := Scalar.muli v705 c256_i32_594
  v706
def k0_mult176 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c5_i32 : BitVec 32 := 5#32
  let v704 : BitVec 32 := Scalar.addi v148 c5_i32
  let c1_i32_593 : BitVec 32 := 1#32
  let v705 : BitVec 32 := Scalar.addi v704 c1_i32_593
  let c256_i32_611 : BitVec 32 := 256#32
  let v723 : BitVec 32 := Scalar.muli v705 c256_i32_611
  v723
def k0_mult177 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_693 : BitVec 32 := 256#32
  let v817 : BitVec 32 := Scalar.muli v816 c256_i32_693
  v817
def k0_mult178 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c6_i32_691 : BitVec 32 := 6#32
  let v815 : BitVec 32 := Scalar.addi v148 c6_i32_691
  let c1_i32_692 : BitVec 32 := 1#32
  let v816 : BitVec 32 := Scalar.addi v815 c1_i32_692
  let c256_i32_710 : BitVec 32 := 256#32
  let v834 : BitVec 32 := Scalar.muli v816 c256_i32_710
  v834
def k0_mult179 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_791 : BitVec 32 := 256#32
  let v928 : BitVec 32 := Scalar.muli v927 c256_i32_791
  v928
def k0_mult180 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c7_i32 : BitVec 32 := 7#32
  let v926 : BitVec 32 := Scalar.addi v148 c7_i32
  let c1_i32_790 : BitVec 32 := 1#32
  let v927 : BitVec 32 := Scalar.addi v926 c1_i32_790
  let c256_i32_808 : BitVec 32 := 256#32
  let v945 : BitVec 32 := Scalar.muli v927 c256_i32_808
  v945
def k0_mult181 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_890 : BitVec 32 := 256#32
  let v1039 : BitVec 32 := Scalar.muli v1038 c256_i32_890
  v1039
def k0_mult182 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c8_i32_888 : BitVec 32 := 8#32
  let v1037 : BitVec 32 := Scalar.addi v148 c8_i32_888
  let c1_i32_889 : BitVec 32 := 1#32
  let v1038 : BitVec 32 := Scalar.addi v1037 c1_i32_889
  let c256_i32_907 : BitVec 32 := 256#32
  let v1056 : BitVec 32 := Scalar.muli v1038 c256_i32_907
  v1056
def k0_mult183 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_988 : BitVec 32 := 256#32
  let v1150 : BitVec 32 := Scalar.muli v1149 c256_i32_988
  v1150
def k0_mult184 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c9_i32 : BitVec 32 := 9#32
  let v1148 : BitVec 32 := Scalar.addi v148 c9_i32
  let c1_i32_987 : BitVec 32 := 1#32
  let v1149 : BitVec 32 := Scalar.addi v1148 c1_i32_987
  let c256_i32_1005 : BitVec 32 := 256#32
  let v1167 : BitVec 32 := Scalar.muli v1149 c256_i32_1005
  v1167
def k0_mult185 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1087 : BitVec 32 := 256#32
  let v1261 : BitVec 32 := Scalar.muli v1260 c256_i32_1087
  v1261
def k0_mult186 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c10_i32_1085 : BitVec 32 := 10#32
  let v1259 : BitVec 32 := Scalar.addi v148 c10_i32_1085
  let c1_i32_1086 : BitVec 32 := 1#32
  let v1260 : BitVec 32 := Scalar.addi v1259 c1_i32_1086
  let c256_i32_1104 : BitVec 32 := 256#32
  let v1278 : BitVec 32 := Scalar.muli v1260 c256_i32_1104
  v1278
def k0_mult187 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1185 : BitVec 32 := 256#32
  let v1372 : BitVec 32 := Scalar.muli v1371 c256_i32_1185
  v1372
def k0_mult188 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c11_i32 : BitVec 32 := 11#32
  let v1370 : BitVec 32 := Scalar.addi v148 c11_i32
  let c1_i32_1184 : BitVec 32 := 1#32
  let v1371 : BitVec 32 := Scalar.addi v1370 c1_i32_1184
  let c256_i32_1202 : BitVec 32 := 256#32
  let v1389 : BitVec 32 := Scalar.muli v1371 c256_i32_1202
  v1389
def k0_mult189 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1284 : BitVec 32 := 256#32
  let v1483 : BitVec 32 := Scalar.muli v1482 c256_i32_1284
  v1483
def k0_mult190 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c12_i32_1282 : BitVec 32 := 12#32
  let v1481 : BitVec 32 := Scalar.addi v148 c12_i32_1282
  let c1_i32_1283 : BitVec 32 := 1#32
  let v1482 : BitVec 32 := Scalar.addi v1481 c1_i32_1283
  let c256_i32_1301 : BitVec 32 := 256#32
  let v1500 : BitVec 32 := Scalar.muli v1482 c256_i32_1301
  v1500
def k0_mult191 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1382 : BitVec 32 := 256#32
  let v1594 : BitVec 32 := Scalar.muli v1593 c256_i32_1382
  v1594
def k0_mult192 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c13_i32 : BitVec 32 := 13#32
  let v1592 : BitVec 32 := Scalar.addi v148 c13_i32
  let c1_i32_1381 : BitVec 32 := 1#32
  let v1593 : BitVec 32 := Scalar.addi v1592 c1_i32_1381
  let c256_i32_1399 : BitVec 32 := 256#32
  let v1611 : BitVec 32 := Scalar.muli v1593 c256_i32_1399
  v1611
def k0_mult193 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1481 : BitVec 32 := 256#32
  let v1705 : BitVec 32 := Scalar.muli v1704 c256_i32_1481
  v1705
def k0_off75 (k0_t1 : Fin k0_t1_loop.trips) : Fin 5 → Nat :=
  let c0_1484 : Index := 0#32
  let c0_i32_7 : BitVec 32 := 0#32
  let c1_i32 : BitVec 32 := 1#32
  let arg12 : BitVec 32 := Scf.iv c0_i32_7 c1_i32 k0_t1
  let v1710 : Index := Scalar.indexCast arg12
  let c0_1485 : Index := 0#32
  let c0_1486 : Index := 0#32
  let c256 : Index := 256#32
  ![0, v1710.toNat, 0, 0, 256]
def k0_mult194 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c2_i32 : BitVec 32 := 2#32
  let v23 : BitVec 32 := Scalar.muli arg12 c2_i32
  let c0_i32_54 : BitVec 32 := 0#32
  let v69 : BitVec 1 := Scalar.cmpi .sgt v23 c0_i32_54
  let v70 : BitVec 32 := Scalar.extui v69
  let c0_i32_55 : BitVec 32 := 0#32
  let v71 : BitVec 1 := Scalar.cmpi .slt v23 c0_i32_55
  let v72 : BitVec 32 := Scalar.extui v71
  let v73 : BitVec 32 := Scalar.subi v70 v72
  let c16_i32 : BitVec 32 := 16#32
  let c0_i32_56 : BitVec 32 := 0#32
  let v74 : BitVec 1 := Scalar.cmpi .sgt c16_i32 c0_i32_56
  let v75 : BitVec 32 := Scalar.extui v74
  let c0_i32_57 : BitVec 32 := 0#32
  let v76 : BitVec 1 := Scalar.cmpi .slt c16_i32 c0_i32_57
  let v77 : BitVec 32 := Scalar.extui v76
  let v78 : BitVec 32 := Scalar.subi v75 v77
  let v79 : BitVec 1 := Scalar.cmpi .ne v73 v78
  let v80 : BitVec 32 := Scalar.remsi v23 c16_i32
  let c0_i32_58 : BitVec 32 := 0#32
  let v81 : BitVec 1 := Scalar.cmpi .ne v80 c0_i32_58
  let v82 : BitVec 1 := Scalar.andi v79 v81
  let v68 : BitVec 32 := Scalar.divsi v23 c16_i32
  let c1_i32_59 : BitVec 32 := 1#32
  let v83 : BitVec 32 := Scalar.subi v68 c1_i32_59
  let v84 : BitVec 32 := Scalar.select v82 v83 v68
  let c16_i32_99 : BitVec 32 := 16#32
  let v148 : BitVec 32 := Scalar.muli v84 c16_i32_99
  let c14_i32_1479 : BitVec 32 := 14#32
  let v1703 : BitVec 32 := Scalar.addi v148 c14_i32_1479
  let c1_i32_1480 : BitVec 32 := 1#32
  let v1704 : BitVec 32 := Scalar.addi v1703 c1_i32_1480
  let c256_i32_1497 : BitVec 32 := 256#32
  let v1722 : BitVec 32 := Scalar.muli v1704 c256_i32_1497
  v1722
def k0_off76 (k0_t1 : Fin k0_t1_loop.trips) : Fin 5 → Nat :=
  let c0_1500 : Index := 0#32
  let c0_i32_7 : BitVec 32 := 0#32
  let c1_i32 : BitVec 32 := 1#32
  let arg12 : BitVec 32 := Scf.iv c0_i32_7 c1_i32 k0_t1
  let v1727 : Index := Scalar.indexCast arg12
  let c1_1501 : Index := 1#32
  let c0_1502 : Index := 0#32
  let c256_1503 : Index := 256#32
  ![0, v1727.toNat, 1, 0, 256]
def k0_off77 (k0_t1 : Fin k0_t1_loop.trips) : Fin 4 → Nat :=
  let c0_96 : Index := 0#32
  let c0_i32_7 : BitVec 32 := 0#32
  let c1_i32 : BitVec 32 := 1#32
  let arg12 : BitVec 32 := Scf.iv c0_i32_7 c1_i32 k0_t1
  let v144 : Index := Scalar.indexCast arg12
  let c0_97 : Index := 0#32
  let c0_98 : Index := 0#32
  ![0, v144.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8x16x128x512 : Shape := ⟨5, ![8, 8, 16, 128, 512]⟩
abbrev S8x4096x2048 : Shape := ⟨3, ![8, 4096, 2048]⟩
abbrev S8x16x1024x256 : Shape := ⟨4, ![8, 16, 1024, 256]⟩
abbrev S8x8x512x16x128 : Shape := ⟨5, ![8, 8, 512, 16, 128]⟩
abbrev S8x4096x16x128 : Shape := ⟨4, ![8, 4096, 16, 128]⟩
abbrev S8x16x256x1024 : Shape := ⟨4, ![8, 16, 256, 1024]⟩
abbrev S8x4096x16x64 : Shape := ⟨4, ![8, 4096, 16, 64]⟩
abbrev S8x16x4096x4096 : Shape := ⟨4, ![8, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x8x512x1024 : Shape := ⟨4, ![8, 8, 512, 1024]⟩
abbrev S8x8x1024x512 : Shape := ⟨4, ![8, 8, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x8x16x128x512, .bf16⟩
  | .hbm, ⟨1, _⟩ => ⟨S8x4096x2048, .bf16⟩
  | .hbm, ⟨2, _⟩ => ⟨S8x16x1024x256, .bf16⟩
  | .hbm, ⟨3, _⟩ => ⟨S8x8x16x128x512, .f32⟩
  | .hbm, ⟨4, _⟩ => ⟨S8x8x512x16x128, .f32⟩
  | .hbm, ⟨5, _⟩ => ⟨S8x4096x16x128, .f32⟩
  | .hbm, ⟨6, _⟩ => ⟨S8x4096x2048, .f32⟩
  | .hbm, ⟨7, _⟩ => ⟨S8x4096x16x128, .f32⟩
  | .hbm, ⟨8, _⟩ => ⟨S8x16x1024x256, .f32⟩
  | .hbm, ⟨9, _⟩ => ⟨S8x16x256x1024, .f32⟩
  | .hbm, ⟨10, _⟩ => ⟨S8x4096x16x64, .f32⟩
  | .hbm, ⟨11, _⟩ => ⟨S8x16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x16x4096x4096, .f32⟩
  | .hbm, ⟨22, _⟩ => ⟨S8x16x4096x4096, .f32⟩
  | .hbm, ⟨23, _⟩ => ⟨S_, .f32⟩
  | .hbm, ⟨24, _⟩ => ⟨S_, .f32⟩
  | .hbm, ⟨25, _⟩ => ⟨S8x16x4096x4096, .i1⟩
  | .hbm, ⟨26, _⟩ => ⟨S8x16x4096x4096, .f32⟩
  | .hbm, ⟨27, _⟩ => ⟨S8x16x4096x4096, .f32⟩
  | .hbm, ⟨28, _⟩ => ⟨S_, .f32⟩
  | .hbm, ⟨29, _⟩ => ⟨S8x16x4096, .f32⟩
  | .hbm, ⟨30, _⟩ => ⟨S_, .f32⟩
  | .hbm, ⟨31, _⟩ => ⟨S8x16x4096, .f32⟩
  | .hbm, ⟨32, _⟩ => ⟨S8x16x4096, .f32⟩
  | .hbm, ⟨33, _⟩ => ⟨S8x16x4096x1, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S_, .f32⟩
  | .hbm, ⟨38, _⟩ => ⟨S8x16x4096, .f32⟩
  | .hbm, ⟨39, _⟩ => ⟨S8x16x4096x1, .f32⟩
  | .hbm, ⟨40, _⟩ => ⟨S8x16x4096x4096, .f32⟩
  | .hbm, ⟨41, _⟩ => ⟨S8x16x4096x4096, .f32⟩
  | .hbm, ⟨42, _⟩ => ⟨S8x16x64x4096, .f32⟩
  | .hbm, ⟨43, _⟩ => ⟨S8x4096x16x64, .f32⟩
  | .hbm, ⟨44, _⟩ => ⟨S8x8x512x1024, .f32⟩
  | .hbm, ⟨45, _⟩ => ⟨S8x8x1024x512, .f32⟩
  | .hbm, ⟨46, _⟩ => ⟨S8x8x1024x512, .bf16⟩
  | _, _ => ⟨S8x8x16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel2.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S32768x1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x8x1024x512 : Shape := ⟨4, ![8, 8, 1024, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S1x2x1024x512 : Shape := ⟨4, ![1, 2, 1024, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1x1024x512 : Shape := ⟨4, ![1, 1, 1024, 512]⟩
abbrev S1024x512 : Shape := ⟨2, ![1024, 512]⟩
abbrev S512x1024 : Shape := ⟨2, ![512, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 14
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x8x1024x512, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S32768x1024, .f32⟩
  | .hbm, ⟨8, _⟩ => ⟨S4x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S2x1024x1024, .bf16⟩
  | .hbm, ⟨13, _⟩ => ⟨S32768x1024, .f32⟩
  | .local _ .vmem, ⟨0, _⟩ => ⟨S1x2x1024x512, .bf16⟩
  | .local _ .vmem, ⟨1, _⟩ => ⟨S1x2x1024x512, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S8x8x1024x512 : Shape := ⟨4, ![8, 8, 1024, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S8x8x512x1024 : Shape := ⟨4, ![8, 8, 512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x8x1024x512, .bf16⟩
  | .hbm, ⟨2, _⟩ => ⟨S2x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S8x8x1024x512, .f32⟩
  | .hbm, ⟨8, _⟩ => ⟨S8x8x512x1024, .f32⟩
  | .hbm, ⟨9, _⟩ => ⟨S8x4096x1024, .f32⟩
  | .hbm, ⟨10, _⟩ => ⟨S1x1024x1024, .f32⟩
  | .hbm, ⟨11, _⟩ => ⟨S1024x1024, .f32⟩
  | .hbm, ⟨12, _⟩ => ⟨S8x4096x1024, .f32⟩
  | .hbm, ⟨13, _⟩ => ⟨S8x4096x1024, .f32⟩
  | .hbm, ⟨14, _⟩ => ⟨S1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S1x1024x2816, .f32⟩
  | .hbm, ⟨33, _⟩ => ⟨S1024x2816, .f32⟩
  | .hbm, ⟨34, _⟩ => ⟨S1x1024x2816, .f32⟩
  | .hbm, ⟨35, _⟩ => ⟨S1024x2816, .f32⟩
  | .hbm, ⟨36, _⟩ => ⟨S1x2816x1024, .f32⟩
  | .hbm, ⟨37, _⟩ => ⟨S2816x1024, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096 : Shape := ⟨2, ![8, 4096]⟩
abbrev S8 : Shape := ⟨1, ![8]⟩
abbrev S4x1024 : Shape := ⟨2, ![4, 1024]⟩
abbrev S1x1024x3072 : Shape := ⟨3, ![1, 1024, 3072]⟩
abbrev S1x64 : Shape := ⟨2, ![1, 64]⟩
abbrev S8x1x4096 : Shape := ⟨3, ![8, 1, 4096]⟩
abbrev S4x1x1024 : Shape := ⟨3, ![4, 1, 1024]⟩
abbrev S1x3072x1024 : Shape := ⟨3, ![1, 3072, 1024]⟩
abbrev S1x64x1 : Shape := ⟨3, ![1, 64, 1]⟩
abbrev S8x1 : Shape := ⟨2, ![8, 1]⟩
abbrev S8x8x8x128x512 : Shape := ⟨5, ![8, 8, 8, 128, 512]⟩
abbrev S8x16x1024x256 : Shape := ⟨4, ![8, 16, 1024, 256]⟩
abbrev S1x512x1024 : Shape := ⟨3, ![1, 512, 1024]⟩
abbrev S1x1x512 : Shape := ⟨3, ![1, 1, 512]⟩
abbrev S1x1x1024 : Shape := ⟨3, ![1, 1, 1024]⟩
abbrev S1x1x8x128x512 : Shape := ⟨5, ![1, 1, 8, 128, 512]⟩
abbrev S1x2x1024x256 : Shape := ⟨4, ![1, 2, 1024, 256]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S8x512 : Shape := ⟨2, ![8, 512]⟩
abbrev S1x1024x1024 : Shape := ⟨3, ![1, 1024, 1024]⟩
abbrev S1024x1024 : Shape := ⟨2, ![1024, 1024]⟩
abbrev S1024x512 : Shape := ⟨2, ![1024, 512]⟩
abbrev S64x512 : Shape := ⟨2, ![64, 512]⟩
abbrev S64x1 : Shape := ⟨2, ![64, 1]⟩
abbrev S48x512 : Shape := ⟨2, ![48, 512]⟩
abbrev S128x512 : Shape := ⟨2, ![128, 512]⟩
abbrev S512x128 : Shape := ⟨2, ![512, 128]⟩
abbrev S1x512x128 : Shape := ⟨3, ![1, 512, 128]⟩
abbrev S1x1x1x128x512 : Shape := ⟨5, ![1, 1, 1, 128, 512]⟩
abbrev S1024x256 : Shape := ⟨2, ![1024, 256]⟩
abbrev S1x1x1024x256 : Shape := ⟨4, ![1, 1, 1024, 256]⟩

abbrev nBuf : Space → Nat
  | .hbm => 17
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8, .f32⟩
  | .hbm, ⟨3, _⟩ => ⟨S4x1024, .f32⟩
  | .hbm, ⟨4, _⟩ => ⟨S1x1024x3072, .f32⟩
  | .hbm, ⟨5, _⟩ => ⟨S1x64, .f32⟩
  | .hbm, ⟨6, _⟩ => ⟨S1x64, .f32⟩
  | .hbm, ⟨7, _⟩ => ⟨S8x1x4096, .i32⟩
  | .hbm, ⟨8, _⟩ => ⟨S4x1x1024, .f32⟩
  | .hbm, ⟨9, _⟩ => ⟨S1x3072x1024, .f32⟩
  | .hbm, ⟨10, _⟩ => ⟨S1x3072x1024, .bf16⟩
  | .hbm, ⟨11, _⟩ => ⟨S1x64x1, .f32⟩
  | .hbm, ⟨12, _⟩ => ⟨S1x64x1, .f32⟩
  | .hbm, ⟨13, _⟩ => ⟨S8x1, .f32⟩
  | .hbm, ⟨14, _⟩ => ⟨S8x8x8x128x512, .bf16⟩
  | .hbm, ⟨15, _⟩ => ⟨S8x4096x1024, .bf16⟩
  | .hbm, ⟨16, _⟩ => ⟨S8x16x1024x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512, .i32⟩
  | .local _ .vmem, ⟨3, _⟩ => ⟨S1x1x512, .i32⟩
  | .local _ .vmem, ⟨4, _⟩ => ⟨S1x1x1024, .f32⟩
  | .local _ .vmem, ⟨5, _⟩ => ⟨S1x3072x1024, .bf16⟩
  | .local _ .vmem, ⟨6, _⟩ => ⟨S1x64x1, .f32⟩
  | .local _ .vmem, ⟨7, _⟩ => ⟨S1x64x1, .f32⟩
  | .local _ .vmem, ⟨8, _⟩ => ⟨S8x1, .f32⟩
  | .local _ .vmem, ⟨9, _⟩ => ⟨S1x1x8x128x512, .bf16⟩
  | .local _ .vmem, ⟨10, _⟩ => ⟨S1x1x8x128x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x2x1024x256, .bf16⟩
  | .local _ .vmem, ⟨14, _⟩ => ⟨S1x2x1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x4096x1024 : Shape := ⟨3, ![8, 4096, 1024]⟩
abbrev S8x4096 : Shape := ⟨2, ![8, 4096]⟩
abbrev S8 : Shape := ⟨1, ![8]⟩
abbrev S4x1024 : Shape := ⟨2, ![4, 1024]⟩
abbrev S1x1024x3072 : Shape := ⟨3, ![1, 1024, 3072]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S8x4096x1 : Shape := ⟨3, ![8, 4096, 1]⟩
abbrev S1x1x1024 : Shape := ⟨3, ![1, 1, 1024]⟩
abbrev S8x4096x1x1x1 : Shape := ⟨5, ![8, 4096, 1, 1, 1]⟩
abbrev S1x1x1x1x8 : Shape := ⟨5, ![1, 1, 1, 1, 8]⟩
abbrev S8x4096x1x1x8 : Shape := ⟨5, ![8, 4096, 1, 1, 8]⟩
abbrev S1024x3072 : Shape := ⟨2, ![1024, 3072]⟩
abbrev S8x4096x3072 : Shape := ⟨3, ![8, 4096, 3072]⟩
abbrev S8x4096x8x2x64 : Shape := ⟨5, ![8, 4096, 8, 2, 64]⟩
abbrev S64 : Shape := ⟨1, ![64]⟩
abbrev S8x4096x8x2 : Shape := ⟨4, ![8, 4096, 8, 2]⟩
abbrev S8x4096x8x2x1 : Shape := ⟨5, ![8, 4096, 8, 2, 1]⟩
abbrev S1x1x1x1x64 : Shape := ⟨5, ![1, 1, 1, 1, 64]⟩
abbrev S8x4096x8x2x8 : Shape := ⟨5, ![8, 4096, 8, 2, 8]⟩
abbrev S8x4096x8x2x48 : Shape := ⟨5, ![8, 4096, 8, 2, 48]⟩
abbrev S8x8x512x8x128 : Shape := ⟨5, ![8, 8, 512, 8, 128]⟩
abbrev S8x8x8x128x512 : Shape := ⟨5, ![8, 8, 8, 128, 512]⟩
abbrev S8x16x256x1024 : Shape := ⟨4, ![8, 16, 256, 1024]⟩
abbrev S8x16x1024x256 : Shape := ⟨4, ![8, 16, 1024, 256]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8, .f32⟩
  | .hbm, ⟨3, _⟩ => ⟨S4x1024, .f32⟩
  | .hbm, ⟨4, _⟩ => ⟨S1x1024x3072, .f32⟩
  | .hbm, ⟨5, _⟩ => ⟨S1x64, .f32⟩
  | .hbm, ⟨6, _⟩ => ⟨S1x64, .f32⟩
  | .hbm, ⟨7, _⟩ => ⟨S1x1024, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096, .f32⟩
  | .hbm, ⟨26, _⟩ => ⟨S8x4096x1x1x1, .f32⟩
  | .hbm, ⟨27, _⟩ => ⟨S1x1x1x1x8, .f32⟩
  | .hbm, ⟨28, _⟩ => ⟨S8x4096x1x1x8, .f32⟩
  | .hbm, ⟨29, _⟩ => ⟨S8x4096x1x1x8, .f32⟩
  | .hbm, ⟨30, _⟩ => ⟨S8x4096x1x1x8, .f32⟩
  | .hbm, ⟨31, _⟩ => ⟨S8x4096x1x1x8, .f32⟩
  | .hbm, ⟨32, _⟩ => ⟨S8x4096x1x1x8, .f32⟩
  | .hbm, ⟨33, _⟩ => ⟨S1024x3072, .f32⟩
  | .hbm, ⟨34, _⟩ => ⟨S8x4096x3072, .f32⟩
  | .hbm, ⟨35, _⟩ => ⟨S8x4096x1024, .f32⟩
  | .hbm, ⟨36, _⟩ => ⟨S8x4096x8x2x64, .f32⟩
  | .hbm, ⟨37, _⟩ => ⟨S8x4096x1024, .f32⟩
  | .hbm, ⟨38, _⟩ => ⟨S8x4096x8x2x64, .f32⟩
  | .hbm, ⟨39, _⟩ => ⟨S8x4096x1024, .f32⟩
  | .hbm, ⟨40, _⟩ => ⟨S64, .f32⟩
  | .hbm, ⟨41, _⟩ => ⟨S8x4096x8x2x64, .f32⟩
  | .hbm, ⟨42, _⟩ => ⟨S_, .f32⟩
  | .hbm, ⟨43, _⟩ => ⟨S8x4096x8x2, .f32⟩
  | .hbm, ⟨44, _⟩ => ⟨S8x4096x8x2x1, .f32⟩
  | .hbm, ⟨45, _⟩ => ⟨S_, .f32⟩
  | .hbm, ⟨46, _⟩ => ⟨S8x4096x8x2x1, .f32⟩
  | .hbm, ⟨47, _⟩ => ⟨S8x4096x8x2x1, .f32⟩
  | .hbm, ⟨48, _⟩ => ⟨S_, .f32⟩
  | .hbm, ⟨49, _⟩ => ⟨S8x4096x8x2x1, .f32⟩
  | .hbm, ⟨50, _⟩ => ⟨S8x4096x8x2x1, .f32⟩
  | .hbm, ⟨51, _⟩ => ⟨S8x4096x8x2x1, .f32⟩
  | .hbm, ⟨52, _⟩ => ⟨S8x4096x8x2x64, .f32⟩
  | .hbm, ⟨53, _⟩ => ⟨S8x4096x8x2x64, .f32⟩
  | .hbm, ⟨54, _⟩ => ⟨S1x1x1x1x64, .f32⟩
  | .hbm, ⟨55, _⟩ => ⟨S8x4096x8x2x64, .f32⟩
  | .hbm, ⟨56, _⟩ => ⟨S8x4096x8x2x64, .f32⟩
  | .hbm, ⟨57, _⟩ => ⟨S8x4096x8x2x8, .f32⟩
  | .hbm, ⟨58, _⟩ => ⟨S8x4096x8x2x8, .f32⟩
  | .hbm, ⟨59, _⟩ => ⟨S8x4096x8x2x48, .f32⟩
  | .hbm, ⟨60, _⟩ => ⟨S8x4096x8x2x8, .f32⟩
  | .hbm, ⟨61, _⟩ => ⟨S8x4096x8x2x8, .f32⟩
  | .hbm, ⟨62, _⟩ => ⟨S8x4096x8x2x8, .f32⟩
  | .hbm, ⟨63, _⟩ => ⟨S8x4096x8x2x8, .f32⟩
  | .hbm, ⟨64, _⟩ => ⟨S8x4096x8x2x8, .f32⟩
  | .hbm, ⟨65, _⟩ => ⟨S8x4096x8x2x8, .f32⟩
  | .hbm, ⟨66, _⟩ => ⟨S8x4096x8x2x8, .f32⟩
  | .hbm, ⟨67, _⟩ => ⟨S8x4096x8x2x8, .f32⟩
  | .hbm, ⟨68, _⟩ => ⟨S8x4096x8x2x8, .f32⟩
  | .hbm, ⟨69, _⟩ => ⟨S8x4096x8x2x8, .f32⟩
  | .hbm, ⟨70, _⟩ => ⟨S8x4096x8x2x64, .f32⟩
  | .hbm, ⟨71, _⟩ => ⟨S_, .f32⟩
  | .hbm, ⟨72, _⟩ => ⟨S8x4096x8x2x64, .f32⟩
  | .hbm, ⟨73, _⟩ => ⟨S8x4096x8x2x64, .f32⟩
  | .hbm, ⟨74, _⟩ => ⟨S64, .f32⟩
  | .hbm, ⟨75, _⟩ => ⟨S8x4096x8x2x64, .f32⟩
  | .hbm, ⟨76, _⟩ => ⟨S_, .f32⟩
  | .hbm, ⟨77, _⟩ => ⟨S8x4096x8x2, .f32⟩
  | .hbm, ⟨78, _⟩ => ⟨S8x4096x8x2x1, .f32⟩
  | .hbm, ⟨79, _⟩ => ⟨S_, .f32⟩
  | .hbm, ⟨80, _⟩ => ⟨S8x4096x8x2x1, .f32⟩
  | .hbm, ⟨81, _⟩ => ⟨S8x4096x8x2x1, .f32⟩
  | .hbm, ⟨82, _⟩ => ⟨S_, .f32⟩
  | .hbm, ⟨83, _⟩ => ⟨S8x4096x8x2x1, .f32⟩
  | .hbm, ⟨84, _⟩ => ⟨S8x4096x8x2x1, .f32⟩
  | .hbm, ⟨85, _⟩ => ⟨S8x4096x8x2x1, .f32⟩
  | .hbm, ⟨86, _⟩ => ⟨S8x4096x8x2x64, .f32⟩
  | .hbm, ⟨87, _⟩ => ⟨S8x4096x8x2x64, .f32⟩
  | .hbm, ⟨88, _⟩ => ⟨S1x1x1x1x64, .f32⟩
  | .hbm, ⟨89, _⟩ => ⟨S8x4096x8x2x64, .f32⟩
  | .hbm, ⟨90, _⟩ => ⟨S8x4096x8x2x64, .f32⟩
  | .hbm, ⟨91, _⟩ => ⟨S8x4096x8x2x8, .f32⟩
  | .hbm, ⟨92, _⟩ => ⟨S8x4096x8x2x8, .f32⟩
  | .hbm, ⟨93, _⟩ => ⟨S8x4096x8x2x48, .f32⟩
  | .hbm, ⟨94, _⟩ => ⟨S8x4096x8x2x8, .f32⟩
  | .hbm, ⟨95, _⟩ => ⟨S8x4096x8x2x8, .f32⟩
  | .hbm, ⟨96, _⟩ => ⟨S8x4096x8x2x8, .f32⟩
  | .hbm, ⟨97, _⟩ => ⟨S8x4096x8x2x8, .f32⟩
  | .hbm, ⟨98, _⟩ => ⟨S8x4096x8x2x8, .f32⟩
  | .hbm, ⟨99, _⟩ => ⟨S8x4096x8x2x8, .f32⟩
  | .hbm, ⟨100, _⟩ => ⟨S8x4096x8x2x8, .f32⟩
  | .hbm, ⟨101, _⟩ => ⟨S8x4096x8x2x8, .f32⟩
  | .hbm, ⟨102, _⟩ => ⟨S8x4096x8x2x8, .f32⟩
  | .hbm, ⟨103, _⟩ => ⟨S8x4096x8x2x8, .f32⟩
  | .hbm, ⟨104, _⟩ => ⟨S8x4096x8x2x64, .f32⟩
  | .hbm, ⟨105, _⟩ => ⟨S8x8x512x8x128, .f32⟩
  | .hbm, ⟨106, _⟩ => ⟨S8x8x8x128x512, .f32⟩
  | .hbm, ⟨107, _⟩ => ⟨S8x16x256x1024, .f32⟩
  | .hbm, ⟨108, _⟩ => ⟨S8x16x1024x256, .f32⟩
  | .hbm, ⟨109, _⟩ => ⟨S8x8x8x128x512, .bf16⟩
  | .hbm, ⟨110, _⟩ => ⟨S8x4096x1024, .f32⟩
  | .hbm, ⟨111, _⟩ => ⟨S8x4096x1024, .bf16⟩
  | .hbm, ⟨112, _⟩ => ⟨S8x16x1024x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== Kernel5.lean ====
abbrev S8x4096x1024 : Shape := ⟨3, ![8, 4096, 1024]⟩
abbrev S4x1024 : Shape := ⟨2, ![4, 1024]⟩
abbrev S2x1024x3088 : Shape := ⟨3, ![2, 1024, 3088]⟩
abbrev S2x16 : Shape := ⟨2, ![2, 16]⟩
abbrev S2x64 : Shape := ⟨2, ![2, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x1x1024 : Shape := ⟨3, ![4, 1, 1024]⟩
abbrev S2x1024x3072 : Shape := ⟨3, ![2, 1024, 3072]⟩
abbrev S2x3072x1024 : Shape := ⟨3, ![2, 3072, 1024]⟩
abbrev S2x1024x16 : Shape := ⟨3, ![2, 1024, 16]⟩
abbrev S2x16x1024 : Shape := ⟨3, ![2, 16, 1024]⟩
abbrev S2x16x1 : Shape := ⟨3, ![2, 16, 1]⟩
abbrev S2x64x1 : Shape := ⟨3, ![2, 64, 1]⟩
abbrev S8x8x16x128x512 : Shape := ⟨5, ![8, 8, 16, 128, 512]⟩
abbrev S8x4096x2048 : Shape := ⟨3, ![8, 4096, 2048]⟩
abbrev S8x16x1024x256 : Shape := ⟨4, ![8, 16, 1024, 256]⟩
abbrev S1x512x1024 : Shape := ⟨3, ![1, 512, 1024]⟩
abbrev S1x1x1024 : Shape := ⟨3, ![1, 1, 1024]⟩
abbrev S1x3072x1024 : Shape := ⟨3, ![1, 3072, 1024]⟩
abbrev S1x16x1024 : Shape := ⟨3, ![1, 16, 1024]⟩
abbrev S1x16x1 : Shape := ⟨3, ![1, 16, 1]⟩
abbrev S1x64x1 : Shape := ⟨3, ![1, 64, 1]⟩
abbrev S1x1x16x128x512 : Shape := ⟨5, ![1, 1, 16, 128, 512]⟩
abbrev S1x512x2048 : Shape := ⟨3, ![1, 512, 2048]⟩
abbrev S1x2x1024x256 : Shape := ⟨4, ![1, 2, 1024, 256]⟩
abbrev S16x1 : Shape := ⟨2, ![16, 1]⟩
abbrev S512x1024 : Shape := ⟨2, ![512, 1024]⟩
abbrev S1x1024 : Shape := ⟨2, ![1, 1024]⟩
abbrev S16x1024 : Shape := ⟨2, ![16, 1024]⟩
abbrev S16x512 : Shape := ⟨2, ![16, 512]⟩
abbrev S1x1024x1024 : Shape := ⟨3, ![1, 1024, 1024]⟩
abbrev S1024x1024 : Shape := ⟨2, ![1024, 1024]⟩
abbrev S1024x512 : Shape := ⟨2, ![1024, 512]⟩
abbrev S48x512 : Shape := ⟨2, ![48, 512]⟩
abbrev S64x512 : Shape := ⟨2, ![64, 512]⟩
abbrev S64x1 : Shape := ⟨2, ![64, 1]⟩
abbrev S128x512 : Shape := ⟨2, ![128, 512]⟩
abbrev S512x128 : Shape := ⟨2, ![512, 128]⟩
abbrev S1x512x128 : Shape := ⟨3, ![1, 512, 128]⟩
abbrev S1x1x1x64x512 : Shape := ⟨5, ![1, 1, 1, 64, 512]⟩
abbrev S1x1x1x16x512 : Shape := ⟨5, ![1, 1, 1, 16, 512]⟩
abbrev S1x1x1x48x512 : Shape := ⟨5, ![1, 1, 1, 48, 512]⟩
abbrev S1024x256 : Shape := ⟨2, ![1024, 256]⟩
abbrev S1x1x1024x256 : Shape := ⟨4, ![1, 1, 1024, 256]⟩

abbrev nBuf : Space → Nat
  | .hbm => 27
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S2x1024x3088, .f32⟩
  | .hbm, ⟨3, _⟩ => ⟨S2x16, .f32⟩
  | .hbm, ⟨4, _⟩ => ⟨S2x64, .f32⟩
  | .hbm, ⟨5, _⟩ => ⟨S2x64, .f32⟩
  | .hbm, ⟨6, _⟩ => ⟨S512, .i32⟩
  | .hbm, ⟨7, _⟩ => ⟨S512x1, .i32⟩
  | .hbm, ⟨8, _⟩ => ⟨S512, .i32⟩
  | .hbm, ⟨9, _⟩ => ⟨S1x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .bf16⟩
  | .hbm, ⟨14, _⟩ => ⟨S4x1x1024, .f32⟩
  | .hbm, ⟨15, _⟩ => ⟨S2x1024x3072, .f32⟩
  | .hbm, ⟨16, _⟩ => ⟨S2x3072x1024, .f32⟩
  | .hbm, ⟨17, _⟩ => ⟨S2x3072x1024, .bf16⟩
  | .hbm, ⟨18, _⟩ => ⟨S2x1024x16, .f32⟩
  | .hbm, ⟨19, _⟩ => ⟨S2x16x1024, .f32⟩
  | .hbm, ⟨20, _⟩ => ⟨S2x16x1024, .bf16⟩
  | .hbm, ⟨21, _⟩ => ⟨S2x16x1, .f32⟩
  | .hbm, ⟨22, _⟩ => ⟨S2x64x1, .f32⟩
  | .hbm, ⟨23, _⟩ => ⟨S2x64x1, .f32⟩
  | .hbm, ⟨24, _⟩ => ⟨S8x8x16x128x512, .bf16⟩
  | .hbm, ⟨25, _⟩ => ⟨S8x4096x2048, .bf16⟩
  | .hbm, ⟨26, _⟩ => ⟨S8x16x1024x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1x16x1024, .bf16⟩
  | .local _ .vmem, ⟨5, _⟩ => ⟨S1x16x1, .f32⟩
  | .local _ .vmem, ⟨6, _⟩ => ⟨S1x64x1, .f32⟩
  | .local _ .vmem, ⟨7, _⟩ => ⟨S1x64x1, .f32⟩
  | .local _ .vmem, ⟨8, _⟩ => ⟨S512x512, .bf16⟩
  | .local _ .vmem, ⟨9, _⟩ => ⟨S1x1x16x128x512, .bf16⟩
  | .local _ .vmem, ⟨10, _⟩ => ⟨S1x1x16x128x512, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x2x1024x256, .bf16⟩
  | .local _ .vmem, ⟨14, _⟩ => ⟨S1x2x1024x256, .bf16⟩
  | .local _ .vmem, ⟨15, _⟩ => ⟨S16x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x16x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8x4096x1024 : Shape := ⟨3, ![8, 4096, 1024]⟩
abbrev S4x1024 : Shape := ⟨2, ![4, 1024]⟩
abbrev S2x1024x3088 : Shape := ⟨3, ![2, 1024, 3088]⟩
abbrev S2x16 : Shape := ⟨2, ![2, 16]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3088 : Shape := ⟨3, ![1, 1024, 3088]⟩
abbrev S1024x3088 : Shape := ⟨2, ![1024, 3088]⟩
abbrev S8x4096x3088 : Shape := ⟨3, ![8, 4096, 3088]⟩
abbrev S8x4096x16x64 : Shape := ⟨4, ![8, 4096, 16, 64]⟩
abbrev S8x4096x16 : Shape := ⟨3, ![8, 4096, 16]⟩
abbrev S1x16 : Shape := ⟨2, ![1, 16]⟩
abbrev S16 : Shape := ⟨1, ![16]⟩
abbrev S1x1x16 : Shape := ⟨3, ![1, 1, 16]⟩
abbrev S1x64 : Shape := ⟨2, ![1, 64]⟩
abbrev S64 : Shape := ⟨1, ![64]⟩
abbrev S8x4096x16x1 : Shape := ⟨4, ![8, 4096, 16, 1]⟩
abbrev S1x1x1x64 : Shape := ⟨4, ![1, 1, 1, 64]⟩
abbrev S8x4096x16x3 : Shape := ⟨4, ![8, 4096, 16, 3]⟩
abbrev S8x4096x16x60 : Shape := ⟨4, ![8, 4096, 16, 60]⟩
abbrev S8x4096x16x128 : Shape := ⟨4, ![8, 4096, 16, 128]⟩
abbrev S8x4096x16x2 : Shape := ⟨4, ![8, 4096, 16, 2]⟩
abbrev S8x4096x16x58 : Shape := ⟨4, ![8, 4096, 16, 58]⟩
abbrev S8x8x512x16x128 : Shape := ⟨5, ![8, 8, 512, 16, 128]⟩
abbrev S8x8x16x128x512 : Shape := ⟨5, ![8, 8, 16, 128, 512]⟩
abbrev S8x16x256x1024 : Shape := ⟨4, ![8, 16, 256, 1024]⟩
abbrev S8x16x1024x256 : Shape := ⟨4, ![8, 16, 1024, 256]⟩
abbrev S8x4096x2048 : Shape := ⟨3, ![8, 4096, 2048]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S2x1024x3088, .f32⟩
  | .hbm, ⟨3, _⟩ => ⟨S2x16, .f32⟩
  | .hbm, ⟨4, _⟩ => ⟨S2x64, .f32⟩
  | .hbm, ⟨5, _⟩ => ⟨S2x64, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x3088, .f32⟩
  | .hbm, ⟨25, _⟩ => ⟨S1024x3088, .f32⟩
  | .hbm, ⟨26, _⟩ => ⟨S8x4096x3088, .f32⟩
  | .hbm, ⟨27, _⟩ => ⟨S8x4096x1024, .f32⟩
  | .hbm, ⟨28, _⟩ => ⟨S8x4096x16x64, .f32⟩
  | .hbm, ⟨29, _⟩ => ⟨S8x4096x1024, .f32⟩
  | .hbm, ⟨30, _⟩ => ⟨S8x4096x16x64, .f32⟩
  | .hbm, ⟨31, _⟩ => ⟨S8x4096x1024, .f32⟩
  | .hbm, ⟨32, _⟩ => ⟨S8x4096x16, .f32⟩
  | .hbm, ⟨33, _⟩ => ⟨S1x16, .f32⟩
  | .hbm, ⟨34, _⟩ => ⟨S16, .f32⟩
  | .hbm, ⟨35, _⟩ => ⟨S1x1x16, .f32⟩
  | .hbm, ⟨36, _⟩ => ⟨S8x4096x16, .f32⟩
  | .hbm, ⟨37, _⟩ => ⟨S8x4096x16, .f32⟩
  | .hbm, ⟨38, _⟩ => ⟨S1x64, .f32⟩
  | .hbm, ⟨39, _⟩ => ⟨S64, .f32⟩
  | .hbm, ⟨40, _⟩ => ⟨S8x4096x16x64, .f32⟩
  | .hbm, ⟨41, _⟩ => ⟨S_, .f32⟩
  | .hbm, ⟨42, _⟩ => ⟨S8x4096x16, .f32⟩
  | .hbm, ⟨43, _⟩ => ⟨S8x4096x16x1, .f32⟩
  | .hbm, ⟨44, _⟩ => ⟨S_, .f32⟩
  | .hbm, ⟨45, _⟩ => ⟨S8x4096x16x1, .f32⟩
  | .hbm, ⟨46, _⟩ => ⟨S8x4096x16x1, .f32⟩
  | .hbm, ⟨47, _⟩ => ⟨S_, .f32⟩
  | .hbm, ⟨48, _⟩ => ⟨S8x4096x16x1, .f32⟩
  | .hbm, ⟨49, _⟩ => ⟨S8x4096x16x1, .f32⟩
  | .hbm, ⟨50, _⟩ => ⟨S8x4096x16x1, .f32⟩
  | .hbm, ⟨51, _⟩ => ⟨S8x4096x16x64, .f32⟩
  | .hbm, ⟨52, _⟩ => ⟨S8x4096x16x64, .f32⟩
  | .hbm, ⟨53, _⟩ => ⟨S1x1x1x64, .f32⟩
  | .hbm, ⟨54, _⟩ => ⟨S8x4096x16x64, .f32⟩
  | .hbm, ⟨55, _⟩ => ⟨S8x4096x16x64, .f32⟩
  | .hbm, ⟨56, _⟩ => ⟨S_, .f32⟩
  | .hbm, ⟨57, _⟩ => ⟨S8x4096x16x64, .f32⟩
  | .hbm, ⟨58, _⟩ => ⟨S8x4096x16x64, .f32⟩
  | .hbm, ⟨59, _⟩ => ⟨S1x64, .f32⟩
  | .hbm, ⟨60, _⟩ => ⟨S64, .f32⟩
  | .hbm, ⟨61, _⟩ => ⟨S8x4096x16x64, .f32⟩
  | .hbm, ⟨62, _⟩ => ⟨S_, .f32⟩
  | .hbm, ⟨63, _⟩ => ⟨S8x4096x16, .f32⟩
  | .hbm, ⟨64, _⟩ => ⟨S8x4096x16x1, .f32⟩
  | .hbm, ⟨65, _⟩ => ⟨S_, .f32⟩
  | .hbm, ⟨66, _⟩ => ⟨S8x4096x16x1, .f32⟩
  | .hbm, ⟨67, _⟩ => ⟨S8x4096x16x1, .f32⟩
  | .hbm, ⟨68, _⟩ => ⟨S_, .f32⟩
  | .hbm, ⟨69, _⟩ => ⟨S8x4096x16x1, .f32⟩
  | .hbm, ⟨70, _⟩ => ⟨S8x4096x16x1, .f32⟩
  | .hbm, ⟨71, _⟩ => ⟨S8x4096x16x1, .f32⟩
  | .hbm, ⟨72, _⟩ => ⟨S8x4096x16x64, .f32⟩
  | .hbm, ⟨73, _⟩ => ⟨S8x4096x16x64, .f32⟩
  | .hbm, ⟨74, _⟩ => ⟨S1x1x1x64, .f32⟩
  | .hbm, ⟨75, _⟩ => ⟨S8x4096x16x64, .f32⟩
  | .hbm, ⟨76, _⟩ => ⟨S8x4096x16x64, .f32⟩
  | .hbm, ⟨77, _⟩ => ⟨S8x4096x16, .f32⟩
  | .hbm, ⟨78, _⟩ => ⟨S_, .f32⟩
  | .hbm, ⟨79, _⟩ => ⟨S8x4096x16, .f32⟩
  | .hbm, ⟨80, _⟩ => ⟨S8x4096x16, .f32⟩
  | .hbm, ⟨81, _⟩ => ⟨S8x4096x16, .f32⟩
  | .hbm, ⟨82, _⟩ => ⟨S8x4096x16, .f32⟩
  | .hbm, ⟨83, _⟩ => ⟨S8x4096x16, .i1⟩
  | .hbm, ⟨84, _⟩ => ⟨S8x4096x16, .f32⟩
  | .hbm, ⟨85, _⟩ => ⟨S8x4096x16, .f32⟩
  | .hbm, ⟨86, _⟩ => ⟨S8x4096x16, .f32⟩
  | .hbm, ⟨87, _⟩ => ⟨S8x4096x16, .f32⟩
  | .hbm, ⟨88, _⟩ => ⟨S8x4096x16, .f32⟩
  | .hbm, ⟨89, _⟩ => ⟨S8x4096x16, .f32⟩
  | .hbm, ⟨90, _⟩ => ⟨S8x4096x16, .f32⟩
  | .hbm, ⟨91, _⟩ => ⟨S8x4096x16, .f32⟩
  | .hbm, ⟨92, _⟩ => ⟨S8x4096x16, .f32⟩
  | .hbm, ⟨93, _⟩ => ⟨S_, .f32⟩
  | .hbm, ⟨94, _⟩ => ⟨S_, .f32⟩
  | .hbm, ⟨95, _⟩ => ⟨S8x4096x16, .f32⟩
  | .hbm, ⟨96, _⟩ => ⟨S8x4096x16x1, .f32⟩
  | .hbm, ⟨97, _⟩ => ⟨S_, .f32⟩
  | .hbm, ⟨98, _⟩ => ⟨S8x4096x16x1, .f32⟩
  | .hbm, ⟨99, _⟩ => ⟨S8x4096x16x1, .f32⟩
  | .hbm, ⟨100, _⟩ => ⟨S_, .f32⟩
  | .hbm, ⟨101, _⟩ => ⟨S8x4096x16x3, .f32⟩
  | .hbm, ⟨102, _⟩ => ⟨S_, .f32⟩
  | .hbm, ⟨103, _⟩ => ⟨S8x4096x16x60, .f32⟩
  | .hbm, ⟨104, _⟩ => ⟨S8x4096x16x128, .f32⟩
  | .hbm, ⟨105, _⟩ => ⟨S8x4096x16x1, .f32⟩
  | .hbm, ⟨106, _⟩ => ⟨S_, .f32⟩
  | .hbm, ⟨107, _⟩ => ⟨S8x4096x16x2, .f32⟩
  | .hbm, ⟨108, _⟩ => ⟨S_, .f32⟩
  | .hbm, ⟨109, _⟩ => ⟨S8x4096x16x3, .f32⟩
  | .hbm, ⟨110, _⟩ => ⟨S_, .f32⟩
  | .hbm, ⟨111, _⟩ => ⟨S8x4096x16x58, .f32⟩
  | .hbm, ⟨112, _⟩ => ⟨S8x4096x16x128, .f32⟩
  | .hbm, ⟨113, _⟩ => ⟨S8x8x512x16x128, .f32⟩
  | .hbm, ⟨114, _⟩ => ⟨S8x8x16x128x512, .f32⟩
  | .hbm, ⟨115, _⟩ => ⟨S8x16x256x1024, .f32⟩
  | .hbm, ⟨116, _⟩ => ⟨S8x16x1024x256, .f32⟩
  | .hbm, ⟨117, _⟩ => ⟨S8x8x16x128x512, .bf16⟩
  | .hbm, ⟨118, _⟩ => ⟨S8x4096x2048, .f32⟩
  | .hbm, ⟨119, _⟩ => ⟨S8x4096x2048, .bf16⟩
  | .hbm, ⟨120, _⟩ => ⟨S8x16x1024x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call0_v0 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_v4 : Ref sig .tc := ⟨.hbm, 83, rfl⟩
abbrev main_call0_call0_v5 : Ref sig .tc := ⟨.hbm, 84, rfl⟩
abbrev main_call0_call0_v6 : Ref sig .tc := ⟨.hbm, 85, rfl⟩
abbrev main_call0_call0_v7 : Ref sig .tc := ⟨.hbm, 86, rfl⟩
abbrev main_call0_call0_v8 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_v1 : Ref sig .tc := ⟨.hbm, 91, rfl⟩
abbrev main_v61 : Ref sig .tc := ⟨.hbm, 92, rfl⟩
abbrev main_call1_call0_cst : Ref sig .tc := ⟨.hbm, 93, rfl⟩
abbrev main_call1_call0_v0 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Kernel6.lean ====
abbrev S8x4096x1024 : Shape := ⟨3, ![8, 4096, 1024]⟩
abbrev S4x1024 : Shape := ⟨2, ![4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S4x1x1024 : Shape := ⟨3, ![4, 1, 1024]⟩
abbrev S1x1x2048 : Shape := ⟨3, ![1, 1, 2048]⟩
abbrev S1x1x1024 : Shape := ⟨3, ![1, 1, 1024]⟩
abbrev S1x256x1024 : Shape := ⟨3, ![1, 256, 1024]⟩
abbrev S288x1024 : Shape := ⟨2, ![288, 1024]⟩
abbrev S7x280x1024 : Shape := ⟨3, ![7, 280, 1024]⟩
abbrev S256x1024 : Shape := ⟨2, ![256, 1024]⟩
abbrev S32x1024 : Shape := ⟨2, ![32, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S280x1024 : Shape := ⟨2, ![280, 1024]⟩
abbrev S1x280x1024 : Shape := ⟨3, ![1, 280, 1024]⟩
abbrev S1x32x1024 : Shape := ⟨3, ![1, 32, 1024]⟩
abbrev S32 : Shape := ⟨1, ![32]⟩
abbrev S32x1 : Shape := ⟨2, ![32, 1]⟩
abbrev S1024x1024 : Shape := ⟨2, ![1024, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S1x1024x2048, .f32⟩
  | .hbm, ⟨3, _⟩ => ⟨S1x2048, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S4x1x1024, .f32⟩
  | .hbm, ⟨11, _⟩ => ⟨S1x1024x2048, .bf16⟩
  | .hbm, ⟨12, _⟩ => ⟨S1x1x2048, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1024x1024, .bf16⟩
  | .hbm, ⟨17, _⟩ => ⟨S1x1x1024, .f32⟩
  | .hbm, ⟨18, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1x2048, .f32⟩
  | .local _ .vmem, ⟨5, _⟩ => ⟨S1x31x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .bf16⟩
  | .local _ .vmem, ⟨10, _⟩ => ⟨S1x1x1024, .f32⟩
  | .local _ .vmem, ⟨11, _⟩ => ⟨S1x256x1024, .f32⟩
  | .local _ .vmem, ⟨12, _⟩ => ⟨S1x256x1024, .f32⟩
  | .local _ .vmem, ⟨13, _⟩ => ⟨S288x1024, .f32⟩
  | .local _ .vmem, ⟨14, _⟩ => ⟨S7x280x1024, .f32⟩
  | .local _ .vmem, ⟨15, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S8x4096x1024 : Shape := ⟨3, ![8, 4096, 1024]⟩
abbrev S4x1024 : Shape := ⟨2, ![4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩
abbrev S31x1024 : Shape := ⟨2, ![31, 1024]⟩
abbrev S8x4126x1024 : Shape := ⟨3, ![8, 4126, 1024]⟩
abbrev S1024x1024 : Shape := ⟨2, ![1024, 1024]⟩

abbrev nBuf : Space → Nat
  | .hbm => 319
  | .vmem => 0
  | .smem => 0
  | _ => 0

abbrev hbmTy0_0 (i : Nat) : BufTy := match i % 128 with
  | 0 => ⟨S8x4096x1024, .f32⟩
  | 1 => ⟨S4x1024, .f32⟩
  | 2 => ⟨S1x1024x2048, .f32⟩
  | 3 => ⟨S1x2048, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1024, .f32⟩
  | 11 => ⟨S1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x1024, .f32⟩
  | 24 => ⟨S8x4096x1024, .f32⟩
  | 25 => ⟨S1x1x1024, .f32⟩
  | 26 => ⟨S8x4096x1024, .f32⟩
  | 27 => ⟨S8x4096x1024, .f32⟩
  | 28 => ⟨S1024x2048, .f32⟩
  | 29 => ⟨S8x4096x2048, .f32⟩
  | 30 => ⟨S2048, .f32⟩
  | 31 => ⟨S1x1x2048, .f32⟩
  | 32 => ⟨S8x4096x2048, .f32⟩
  | 33 => ⟨S8x4096x2048, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S31x1024, .f32⟩
  | 46 => ⟨S_, .i32⟩
  | 47 => ⟨S_, .f32⟩
  | 48 => ⟨S8x4126x1024, .f32⟩
  | 49 => ⟨S8x4096x1024, .f32⟩
  | 50 => ⟨S1x1024, .f32⟩
  | 51 => ⟨S1024, .f32⟩
  | 52 => ⟨S1x1x1024, .f32⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S1x1x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S1x1024, .f32⟩
  | 67 => ⟨S1024, .f32⟩
  | 68 => ⟨S1x1x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S1x1024, .f32⟩
  | 74 => ⟨S1024, .f32⟩
  | 75 => ⟨S1x1x1024, .f32⟩
  | 76 => ⟨S8x4096x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S1x1x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S1x1024, .f32⟩
  | 88 => ⟨S1024, .f32⟩
  | 89 => ⟨S1x1x1024, .f32⟩
  | 90 => ⟨S8x4096x1024, .f32⟩
  | 91 => ⟨S8x4096x1024, .f32⟩
  | 92 => ⟨S8x4096x1024, .f32⟩
  | 93 => ⟨S8x4096x1024, .f32⟩
  | 94 => ⟨S1x1024, .f32⟩
  | 95 => ⟨S1024, .f32⟩
  | 96 => ⟨S1x1x1024, .f32⟩
  | 97 => ⟨S8x4096x1024, .f32⟩
  | 98 => ⟨S8x4096x1024, .f32⟩
  | 99 => ⟨S8x4096x1024, .f32⟩
  | 100 => ⟨S8x4096x1024, .f32⟩
  | 101 => ⟨S1x1024, .f32⟩
  | 102 => ⟨S1024, .f32⟩
  | 103 => ⟨S1x1x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S1x1024, .f32⟩
  | 109 => ⟨S1024, .f32⟩
  | 110 => ⟨S1x1x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S1x1024, .f32⟩
  | 116 => ⟨S1024, .f32⟩
  | 117 => ⟨S1x1x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S1x1024, .f32⟩
  | 123 => ⟨S1024, .f32⟩
  | 124 => ⟨S1x1x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S1x1024, .f32⟩
  | 2 => ⟨S1024, .f32⟩
  | 3 => ⟨S1x1x1024, .f32⟩
  | 4 => ⟨S8x4096x1024, .f32⟩
  | 5 => ⟨S8x4096x1024, .f32⟩
  | 6 => ⟨S8x4096x1024, .f32⟩
  | 7 => ⟨S8x4096x1024, .f32⟩
  | 8 => ⟨S1x1024, .f32⟩
  | 9 => ⟨S1024, .f32⟩
  | 10 => ⟨S1x1x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S1x1024, .f32⟩
  | 16 => ⟨S1024, .f32⟩
  | 17 => ⟨S1x1x1024, .f32⟩
  | 18 => ⟨S8x4096x1024, .f32⟩
  | 19 => ⟨S8x4096x1024, .f32⟩
  | 20 => ⟨S8x4096x1024, .f32⟩
  | 21 => ⟨S8x4096x1024, .f32⟩
  | 22 => ⟨S1x1024, .f32⟩
  | 23 => ⟨S1024, .f32⟩
  | 24 => ⟨S1x1x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S1x1024, .f32⟩
  | 30 => ⟨S1024, .f32⟩
  | 31 => ⟨S1x1x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S1x1024, .f32⟩
  | 37 => ⟨S1024, .f32⟩
  | 38 => ⟨S1x1x1024, .f32⟩
  | 39 => ⟨S8x4096x1024, .f32⟩
  | 40 => ⟨S8x4096x1024, .f32⟩
  | 41 => ⟨S8x4096x1024, .f32⟩
  | 42 => ⟨S8x4096x1024, .f32⟩
  | 43 => ⟨S1x1024, .f32⟩
  | 44 => ⟨S1024, .f32⟩
  | 45 => ⟨S1x1x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S1x1024, .f32⟩
  | 51 => ⟨S1024, .f32⟩
  | 52 => ⟨S1x1x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S1x1024, .f32⟩
  | 58 => ⟨S1024, .f32⟩
  | 59 => ⟨S1x1x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S1x1024, .f32⟩
  | 65 => ⟨S1024, .f32⟩
  | 66 => ⟨S1x1x1024, .f32⟩
  | 67 => ⟨S8x4096x1024, .f32⟩
  | 68 => ⟨S8x4096x1024, .f32⟩
  | 69 => ⟨S8x4096x1024, .f32⟩
  | 70 => ⟨S8x4096x1024, .f32⟩
  | 71 => ⟨S1x1024, .f32⟩
  | 72 => ⟨S1024, .f32⟩
  | 73 => ⟨S1x1x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S1x1024, .f32⟩
  | 79 => ⟨S1024, .f32⟩
  | 80 => ⟨S1x1x1024, .f32⟩
  | 81 => ⟨S8x4096x1024, .f32⟩
  | 82 => ⟨S8x4096x1024, .f32⟩
  | 83 => ⟨S8x4096x1024, .f32⟩
  | 84 => ⟨S8x4096x1024, .f32⟩
  | 85 => ⟨S1x1024, .f32⟩
  | 86 => ⟨S1024, .f32⟩
  | 87 => ⟨S1x1x1024, .f32⟩
  | 88 => ⟨S8x4096x1024, .f32⟩
  | 89 => ⟨S8x4096x1024, .f32⟩
  | 90 => ⟨S8x4096x1024, .f32⟩
  | 91 => ⟨S8x4096x1024, .f32⟩
  | 92 => ⟨S1x1024, .f32⟩
  | 93 => ⟨S1024, .f32⟩
  | 94 => ⟨S1x1x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S1x1024, .f32⟩
  | 100 => ⟨S1024, .f32⟩
  | 101 => ⟨S1x1x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S1x1024, .f32⟩
  | 107 => ⟨S1024, .f32⟩
  | 108 => ⟨S1x1x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S1x1024, .f32⟩
  | 114 => ⟨S1024, .f32⟩
  | 115 => ⟨S1x1x1024, .f32⟩
  | 116 => ⟨S8x4096x1024, .f32⟩
  | 117 => ⟨S8x4096x1024, .f32⟩
  | 118 => ⟨S8x4096x1024, .f32⟩
  | 119 => ⟨S8x4096x1024, .f32⟩
  | 120 => ⟨S1x1024, .f32⟩
  | 121 => ⟨S1024, .f32⟩
  | 122 => ⟨S1x1x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S1x1024, .f32⟩
  | _ => ⟨S8x4096x1024, .f32⟩

abbrev hbmTy0_2 (i : Nat) : BufTy := match i % 128 with
  | 0 => ⟨S1024, .f32⟩
  | 1 => ⟨S1x1x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S1x1024, .f32⟩
  | 7 => ⟨S1024, .f32⟩
  | 8 => ⟨S1x1x1024, .f32⟩
  | 9 => ⟨S8x4096x1024, .f32⟩
  | 10 => ⟨S8x4096x1024, .f32⟩
  | 11 => ⟨S8x4096x1024, .f32⟩
  | 12 => ⟨S1024, .f32⟩
  | 13 => ⟨S1x1x1024, .f32⟩
  | 14 => ⟨S8x4096x1024, .f32⟩
  | 15 => ⟨S8x4096x1024, .f32⟩
  | 16 => ⟨S1024, .f32⟩
  | 17 => ⟨S1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S8x4096x1024, .f32⟩
  | 25 => ⟨S8x4096x1024, .f32⟩
  | 26 => ⟨S8x4096x1024, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S8x4096x1024, .f32⟩
  | 34 => ⟨S8x4096x1024, .f32⟩
  | 35 => ⟨S_, .f32⟩
  | 36 => ⟨S8x4096x1, .f32⟩
  | 37 => ⟨S8x4096x1, .f32⟩
  | 38 => ⟨S8x4096x1, .f32⟩
  | 39 => ⟨S8x4096x1024, .f32⟩
  | 40 => ⟨S8x4096x1024, .f32⟩
  | 41 => ⟨S1x1x1024, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S_, .f32⟩
  | 50 => ⟨S8x4096x1024, .f32⟩
  | 51 => ⟨S8x4096x1024, .f32⟩
  | 52 => ⟨S_, .f32⟩
  | 53 => ⟨S8x4096x1024, .f32⟩
  | 54 => ⟨S8x4096x1024, .f32⟩
  | 55 => ⟨S8x4096x1024, .f32⟩
  | 56 => ⟨S1024x1024, .f32⟩
  | 57 => ⟨S8x4096x1024, .f32⟩
  | 58 => ⟨S1024, .f32⟩
  | 59 => ⟨S1x1x1024, .f32⟩
  | 60 => ⟨S8x4096x1024, .f32⟩
  | 61 => ⟨S8x4096x1024, .f32⟩
  | 62 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_cst_5 : Ref sig .tc := ⟨.hbm, 274, rfl⟩
abbrev main_v256 : Ref sig .tc := ⟨.hbm, 275, rfl⟩
abbrev main_v257 : Ref sig .tc := ⟨.hbm, 276, rfl⟩
abbrev main_cst_6 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_cst_7 : Ref sig .tc := ⟨.hbm, 283, rfl⟩
abbrev main_v263 : Ref sig .tc := ⟨.hbm, 284, rfl⟩
abbrev main_v264 : Ref sig .tc := ⟨.hbm, 285, rfl⟩
abbrev main_cst_8 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_cst_9 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_call1_v0 : Ref sig .tc := ⟨.hbm, 303, rfl⟩
abbrev main_call1_v1 : Ref sig .tc := ⟨.hbm, 304, rfl⟩
abbrev main_call1_cst : Ref sig .tc := ⟨.hbm, 305, rfl⟩
abbrev main_call1_v2 : Ref sig .tc := ⟨.hbm, 306, rfl⟩
abbrev main_call1_v3 : Ref sig .tc := ⟨.hbm, 307, rfl⟩
abbrev main_call1_cst_0 : Ref sig .tc := ⟨.hbm, 308, rfl⟩
abbrev main_call1_v4 : Ref sig .tc := ⟨.hbm, 309, rfl⟩
abbrev main_call1_v5 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩

abbrev nD : Nat := 1
abbrev τ : Topo := Topo.v7x

variable {F : FTy → Type} [FloatOps F]
-- ==== Proof.Steps.lean ====
/-
  The attention kernel's body, restated as the two steps it is made of.

  One query tile of 512 columns is handled by a chain of steps over the key blocks of 256 rows: `score` multiplies a
  key block by the query block and keeps the scores and their column maxima in one of two slots; `upd` folds one slot
  into the running maximum, the running denominator and the running weighted sum. The diagonal key blocks take their
  maxima after a mask has been added (`updMask`), and the last one touches the right half of the columns only
  (`scoreH`, `updMaskH`).

  Every step is written with the program that follows it as its last argument, operation by operation, so that the
  printed program is a chain of them by computation alone.
-/
module

public import proofs.«01_k».proof.Proof.Gen.KernelIdeal

@[expose] public section

noncomputable section

namespace Cert.KernelIdeal.Hand

open Cert.KernelIdeal Facts₀ Facts
open Idealize.ShloMosaic Idealize.ShloMosaic.TcCoe Idealize.SL.Sem

variable {F : FTy → Type} [FloatOps F]

/-- The kernel's programs. -/
abbrev PG (F : FTy → Type) (α : Type) := Prog (TpuEff nD τ sig (Elt F) Λ₀ .tc) α

/-- Positions of a key block, of a query block, of its right half, of a block of values. -/
abbrev OffK := { o : Fin 3 → ℕ // ∀ a, o a + S1x256x128.size a ≤ S1x4096x256.size a }
abbrev OffQ := { o : Fin 5 → ℕ // ∀ a, o a + S1x1x1x128x512.size a ≤ S1x8x2x128x512.size a }
abbrev OffQH := { o : Fin 5 → ℕ // ∀ a, o a + S1x1x1x128x256.size a ≤ S1x8x2x128x512.size a }
abbrev OffV := { o : Fin 4 → ℕ // ∀ a, o a + S1x1x64x256.size a ≤ S1x16x128x256.size a }

/-! ## Where each step reads and writes its scratch -/

abbrev r7 (s j : Fin 2) : Rect S2x2x256x512 :=
  Rect.unit (s := S2x2x256x512) ![s.val, j.val, 0, 0] S1x1x256x512.size (by fin_cases s <;> fin_cases j <;> decide)
abbrev r7H (s j : Fin 2) : Rect S2x2x256x512 :=
  Rect.unit (s := S2x2x256x512) ![s.val, j.val, 0, 256] S1x1x256x256.size (by fin_cases s <;> fin_cases j <;> decide)
abbrev r8 (s j : Fin 2) : Rect S2x2x1x512 :=
  Rect.unit (s := S2x2x1x512) ![s.val, j.val, 0, 0] S1x1x1x512.size (by fin_cases s <;> fin_cases j <;> decide)
abbrev r8H (s j : Fin 2) : Rect S2x2x1x512 :=
  Rect.unit (s := S2x2x1x512) ![s.val, j.val, 0, 256] S1x1x1x256.size (by fin_cases s <;> fin_cases j <;> decide)
abbrev r9 (j : Fin 2) : Rect S2x1x512 :=
  Rect.unit (s := S2x1x512) ![j.val, 0, 0] S1x1x512.size (by fin_cases j <;> decide)
abbrev r9H (j : Fin 2) : Rect S2x1x512 :=
  Rect.unit (s := S2x1x512) ![j.val, 0, 256] S1x1x256.size (by fin_cases j <;> decide)
abbrev r11 (j : Fin 2) : Rect S2x64x512 :=
  Rect.unit (s := S2x64x512) ![j.val, 0, 0] S1x64x512.size (by fin_cases j <;> decide)
abbrev r11H (j : Fin 2) : Rect S2x64x512 :=
  Rect.unit (s := S2x64x512) ![j.val, 0, 256] S1x64x256.size (by fin_cases j <;> decide)
abbrev r6 : Rect S2x256x512 :=
  Rect.unit (s := S2x256x512) ![0, 0, 0] S1x256x512.size inb_S2x256x512_S1x256x512_0_0_0
abbrev r6' : Rect S2x256x512 :=
  Rect.unit (s := S2x256x512) ![1, 0, 0] S1x256x512.size inb_S2x256x512_S1x256x512_1_0_0
abbrev r6H : Rect S2x256x512 :=
  Rect.unit (s := S2x256x512) ![1, 0, 256] S1x256x256.size inb_S2x256x512_S1x256x256_1_0_256

/-! ## What each step computes -/

/-- The scores of one key block against the query block. -/
def scoreV (kb : Vec F S1x256x128 .bf16) (qb : Vec F S1x1x1x128x512 .bf16) : FVec F S256x512 .f32 :=
  matmul dot_S256x128_S128x512_S256x512_1_0_0_1_n_n none (shapeCast S256x128 kb shapeCasts_S1x256x128_S256x128)
    (shapeCast S128x512 qb shapeCasts_S1x1x1x128x512_S128x512) (constant S256x512 .f32 0x00000000#32)
/-- The column maxima of a block of scores. -/
def maxV (s : FVec F S256x512 .f32) : FVec F S1x512 .f32 :=
  shapeCast S1x512 (multiReduction .maximumf [0] S512 s 0xFF800000#32 reduces_S256x512_S512 (.inl rfl) rfl) shapeCasts_S512_S1x512
/-- The masked scores. -/
def maskV (s : Vec F S1x1x256x512 .f32) (b : Vec F S1x256x512 .f32) : FVec F S256x512 .f32 :=
  addf (shapeCast S256x512 s shapeCasts_S1x1x256x512_S256x512) (shapeCast S256x512 b shapeCasts_S1x256x512_S256x512)
/-- The new running maximum. -/
def newM (m : Vec F S1x1x512 .f32) (x : FVec F S1x512 .f32) : FVec F S1x512 .f32 :=
  maximumf (shapeCast S1x512 m shapeCasts_S1x1x512_S1x512) x
/-- The factor the old sums are scaled by. -/
def alphaV (m : Vec F S1x1x512 .f32) (x : FVec F S1x512 .f32) : FVec F S1x512 .f32 :=
  exp2 (subf (shapeCast S1x512 m shapeCasts_S1x1x512_S1x512) (newM m x))
/-- The weights of one key block. -/
def pV (s : FVec F S256x512 .f32) (m : Vec F S1x1x512 .f32) (x : FVec F S1x512 .f32) : FVec F S256x512 .f32 :=
  exp2 (subf s (broadcastTo S256x512 (newM m x) broadcasts_S1x512_S256x512))
/-- The new denominator. -/
def newL (s : FVec F S256x512 .f32) (m : Vec F S1x1x512 .f32) (x : FVec F S1x512 .f32) (l : Vec F S1x1x512 .f32) : FVec F S1x512 .f32 :=
  addf (mulf (alphaV m x) (shapeCast S1x512 l shapeCasts_S1x1x512_S1x512))
    (shapeCast S1x512 (multiReduction .add [0] S512 (pV s m x) 0x00000000#32 reduces_S256x512_S512 (.inl rfl) rfl) shapeCasts_S512_S1x512)
/-- The new weighted sum of values. -/
def newA (s : FVec F S256x512 .f32) (m : Vec F S1x1x512 .f32) (x : FVec F S1x512 .f32) (a : Vec F S1x64x512 .f32)
    (v : Vec F S1x1x64x256 .bf16) : FVec F S64x512 .f32 :=
  addf (mulf (broadcastTo S64x512 (alphaV m x) broadcasts_S1x512_S64x512) (shapeCast S64x512 a shapeCasts_S1x64x512_S64x512))
    (matmul dot_S64x256_S256x512_S64x512_1_0_0_1_n_n none (shapeCast S64x256 v shapeCasts_S1x1x64x256_S64x256)
      (truncf .bf16 (pV s m x) bitsLt_bf16_f32) (constant S64x512 .f32 0x00000000#32))

/-! The same on the right half of the columns. -/

def scoreVH (kb : Vec F S1x256x128 .bf16) (qb : Vec F S1x1x1x128x256 .bf16) : FVec F S256x256 .f32 :=
  matmul dot_S256x128_S128x256_S256x256_1_0_0_1_n_n none (shapeCast S256x128 kb shapeCasts_S1x256x128_S256x128)
    (shapeCast S128x256 qb shapeCasts_S1x1x1x128x256_S128x256) (constant S256x256 .f32 0x00000000#32)
def maxVH (s : FVec F S256x256 .f32) : FVec F S1x256 .f32 :=
  shapeCast S1x256 (multiReduction .maximumf [0] S256 s 0xFF800000#32 reduces_S256x256_S256 (.inl rfl) rfl) shapeCasts_S256_S1x256
def maskVH (s : Vec F S1x1x256x256 .f32) (b : Vec F S1x256x256 .f32) : FVec F S256x256 .f32 :=
  addf (shapeCast S256x256 s shapeCasts_S1x1x256x256_S256x256) (shapeCast S256x256 b shapeCasts_S1x256x256_S256x256)
def newMH (m : Vec F S1x1x256 .f32) (x : FVec F S1x256 .f32) : FVec F S1x256 .f32 :=
  maximumf (shapeCast S1x256 m shapeCasts_S1x1x256_S1x256) x
def alphaVH (m : Vec F S1x1x256 .f32) (x : FVec F S1x256 .f32) : FVec F S1x256 .f32 :=
  exp2 (subf (shapeCast S1x256 m shapeCasts_S1x1x256_S1x256) (newMH m x))
def pVH (s : FVec F S256x256 .f32) (m : Vec F S1x1x256 .f32) (x : FVec F S1x256 .f32) : FVec F S256x256 .f32 :=
  exp2 (subf s (broadcastTo S256x256 (newMH m x) broadcasts_S1x256_S256x256))
def newLH (s : FVec F S256x256 .f32) (m : Vec F S1x1x256 .f32) (x : FVec F S1x256 .f32) (l : Vec F S1x1x256 .f32) : FVec F S1x256 .f32 :=
  addf (mulf (alphaVH m x) (shapeCast S1x256 l shapeCasts_S1x1x256_S1x256))
    (shapeCast S1x256 (multiReduction .add [0] S256 (pVH s m x) 0x00000000#32 reduces_S256x256_S256 (.inl rfl) rfl) shapeCasts_S256_S1x256)
def newAH (s : FVec F S256x256 .f32) (m : Vec F S1x1x256 .f32) (x : FVec F S1x256 .f32) (a : Vec F S1x64x256 .f32)
    (v : Vec F S1x1x64x256 .bf16) : FVec F S64x256 .f32 :=
  addf (mulf (broadcastTo S64x256 (alphaVH m x) broadcasts_S1x256_S64x256) (shapeCast S64x256 a shapeCasts_S1x64x256_S64x256))
    (matmul dot_S64x256_S256x256_S64x256_1_0_0_1_n_n none (shapeCast S64x256 v shapeCasts_S1x1x64x256_S64x256)
      (truncf .bf16 (pVH s m x) bitsLt_bf16_f32) (constant S64x256 .f32 0x00000000#32))

/-! ## The steps -/

variable (a2 : Memref sig .tc .vmem S1x8x2x128x512 .bf16) (a3 : Memref sig .tc .vmem S1x4096x256 .bf16)
  (a4 : Memref sig .tc .vmem S1x16x128x256 .bf16) (a6 : Memref sig .tc .vmem S2x256x512 .f32)
  (a7 : Memref sig .tc .vmem S2x2x256x512 .f32) (a8 : Memref sig .tc .vmem S2x2x1x512 .f32)
  (a9 : Memref sig .tc .vmem S2x1x512 .f32) (a10 : Memref sig .tc .vmem S2x1x512 .f32)
  (a11 : Memref sig .tc .vmem S2x64x512 .f32)

/-- Scores of a key block, into slot `s`, head `j`. -/
def score {α : Type} (s j : Fin 2) (ok : OffK) (oq : OffQ) (K : PG F α) : PG F α :=
  .op (.load a3 (Rect.unit (s := S1x4096x256) ok.1 S1x256x128.size ok.2).toLoadRect (View.loadsAt_vmem h_S1x256x128)) fun kb =>
  .op (.load a2 (Rect.unit (s := S1x8x2x128x512) oq.1 S1x1x1x128x512.size oq.2).toLoadRect (View.loadsAt_vmem h_S1x1x1x128x512)) fun qb =>
  .op (.load a7 (r7 s j).toLoadRect (View.loadsAt_vmem h_S1x1x256x512)) fun _ =>
  .op (.store a7 (r7 s j) (shapeCast S1x1x256x512 (scoreV kb qb) shapeCasts_S256x512_S1x1x256x512) Finset.univ
    (View.stores_vmem_bits_univ h_S1x1x256x512 rfl) (.inl rfl)) fun _ =>
  .op (.load a8 (r8 s j).toLoadRect (View.loadsAt_vmem h_S1x1x1x512)) fun _ =>
  .op (.store a8 (r8 s j) (shapeCast S1x1x1x512 (maxV (scoreV kb qb)) shapeCasts_S1x512_S1x1x1x512) Finset.univ
    (View.stores_vmem_bits_univ h_S1x1x1x512 rfl) (.inl rfl)) fun _ => K

/-- Scores of the last key block, against the right half of the columns. -/
def scoreH {α : Type} (s j : Fin 2) (ok : OffK) (oq : OffQH) (K : PG F α) : PG F α :=
  .op (.load a3 (Rect.unit (s := S1x4096x256) ok.1 S1x256x128.size ok.2).toLoadRect (View.loadsAt_vmem h_S1x256x128)) fun kb =>
  .op (.load a2 (Rect.unit (s := S1x8x2x128x512) oq.1 S1x1x1x128x256.size oq.2).toLoadRect (View.loadsAt_vmem h_S1x1x1x128x256)) fun qb =>
  .op (.load a7 (r7H s j).toLoadRect (View.loadsAt_vmem h_S1x1x256x256)) fun _ =>
  .op (.store a7 (r7H s j) (shapeCast S1x1x256x256 (scoreVH kb qb) shapeCasts_S256x256_S1x1x256x256) Finset.univ
    (View.stores_vmem_bits_univ h_S1x1x256x256 rfl) (.inl rfl)) fun _ =>
  .op (.load a8 (r8H s j).toLoadRect (View.loadsAt_vmem h_S1x1x1x256)) fun _ =>
  .op (.store a8 (r8H s j) (shapeCast S1x1x1x256 (maxVH (scoreVH kb qb)) shapeCasts_S1x256_S1x1x1x256) Finset.univ
    (View.stores_vmem_bits_univ h_S1x1x1x256 rfl) (.inl rfl)) fun _ => K

/-- What follows the maxima in every full-width step: the running maximum, denominator and weighted sum of head `j`. -/
def fold {α : Type} (j : Fin 2) (ov : OffV) (s : FVec F S256x512 .f32) (x : FVec F S1x512 .f32) (K : PG F α) : PG F α :=
  .op (.load a9 (r9 j).toLoadRect (View.loadsAt_vmem h_S1x1x512)) fun m =>
  .op (.load a10 (r9 j).toLoadRect (View.loadsAt_vmem h_S1x1x512)) fun l =>
  .op (.load a10 (r9 j).toLoadRect (View.loadsAt_vmem h_S1x1x512)) fun _ =>
  .op (.store a10 (r9 j) (shapeCast S1x1x512 (newL s m x l) shapeCasts_S1x512_S1x1x512) Finset.univ
    (View.stores_vmem_bits_univ h_S1x1x512 rfl) (.inl rfl)) fun _ =>
  .op (.load a11 (r11 j).toLoadRect (View.loadsAt_vmem h_S1x64x512)) fun a =>
  .op (.load a4 (Rect.unit (s := S1x16x128x256) ov.1 S1x1x64x256.size ov.2).toLoadRect (View.loadsAt_vmem h_S1x1x64x256)) fun v =>
  .op (.load a11 (r11 j).toLoadRect (View.loadsAt_vmem h_S1x64x512)) fun _ =>
  .op (.store a11 (r11 j) (shapeCast S1x64x512 (newA s m x a v) shapeCasts_S64x512_S1x64x512) Finset.univ
    (View.stores_vmem_bits_univ h_S1x64x512 rfl) (.inl rfl)) fun _ =>
  .op (.load a9 (r9 j).toLoadRect (View.loadsAt_vmem h_S1x1x512)) fun _ =>
  .op (.store a9 (r9 j) (shapeCast S1x1x512 (newM m x) shapeCasts_S1x512_S1x1x512) Finset.univ
    (View.stores_vmem_bits_univ h_S1x1x512 rfl) (.inl rfl)) fun _ => K

def foldH {α : Type} (j : Fin 2) (ov : OffV) (s : FVec F S256x256 .f32) (x : FVec F S1x256 .f32) (K : PG F α) : PG F α :=
  .op (.load a9 (r9H j).toLoadRect (View.loadsAt_vmem h_S1x1x256)) fun m =>
  .op (.load a10 (r9H j).toLoadRect (View.loadsAt_vmem h_S1x1x256)) fun l =>
  .op (.load a10 (r9H j).toLoadRect (View.loadsAt_vmem h_S1x1x256)) fun _ =>
  .op (.store a10 (r9H j) (shapeCast S1x1x256 (newLH s m x l) shapeCasts_S1x256_S1x1x256) Finset.univ
    (View.stores_vmem_bits_univ h_S1x1x256 rfl) (.inl rfl)) fun _ =>
  .op (.load a11 (r11H j).toLoadRect (View.loadsAt_vmem h_S1x64x256)) fun a =>
  .op (.load a4 (Rect.unit (s := S1x16x128x256) ov.1 S1x1x64x256.size ov.2).toLoadRect (View.loadsAt_vmem h_S1x1x64x256)) fun v =>
  .op (.load a11 (r11H j).toLoadRect (View.loadsAt_vmem h_S1x64x256)) fun _ =>
  .op (.store a11 (r11H j) (shapeCast S1x64x256 (newAH s m x a v) shapeCasts_S64x256_S1x64x256) Finset.univ
    (View.stores_vmem_bits_univ h_S1x64x256 rfl) (.inl rfl)) fun _ =>
  .op (.load a9 (r9H j).toLoadRect (View.loadsAt_vmem h_S1x1x256)) fun _ =>
  .op (.store a9 (r9H j) (shapeCast S1x1x256 (newMH m x) shapeCasts_S1x256_S1x1x256) Finset.univ
    (View.stores_vmem_bits_univ h_S1x1x256 rfl) (.inl rfl)) fun _ => K

/-- An unmasked key block folded in, from slot `s`. -/
def upd {α : Type} (s j : Fin 2) (ov : OffV) (K : PG F α) : PG F α :=
  .op (.load a7 (r7 s j).toLoadRect (View.loadsAt_vmem h_S1x1x256x512)) fun sc =>
  .op (.load a8 (r8 s j).toLoadRect (View.loadsAt_vmem h_S1x1x1x512)) fun sm =>
  fold a4 a9 a10 a11 j ov (shapeCast S256x512 sc shapeCasts_S1x1x256x512_S256x512)
    (shapeCast S1x512 sm shapeCasts_S1x1x1x512_S1x512) K

/-- The first masked key block, from slot 0. -/
def updMask {α : Type} (j : Fin 2) (ov : OffV) (K : PG F α) : PG F α :=
  .op (.load a7 (r7 0 j).toLoadRect (View.loadsAt_vmem h_S1x1x256x512)) fun sc =>
  .op (.load a6 r6.toLoadRect (View.loadsAt_vmem h_S1x256x512)) fun b =>
  fold a4 a9 a10 a11 j ov (maskV sc b) (maxV (maskV sc b)) K

/-- The last masked key block, from slot 1, on the right half of the columns. -/
def updMaskH {α : Type} (j : Fin 2) (ov : OffV) (K : PG F α) : PG F α :=
  .op (.load a7 (r7H 1 j).toLoadRect (View.loadsAt_vmem h_S1x1x256x256)) fun sc =>
  .op (.load a6 r6H.toLoadRect (View.loadsAt_vmem h_S1x256x256)) fun b =>
  foldH a4 a9 a10 a11 j ov (maskVH sc b) (maxVH (maskVH sc b)) K

/-! ## The chains -/

/-- The slot of key block `c`. -/
abbrev slot (c : ℕ) : Fin 2 := ⟨c % 2, Nat.mod_lt _ (by decide)⟩

/-- `n` unmasked key blocks from block `c` on: the scores of the next block, then the fold of this one. -/
def chain {α : Type} (k : Fin 2 → ℕ → OffK) (q : Fin 2 → OffQ) (v : Fin 2 → ℕ → OffV) (K : PG F α) : ℕ → ℕ → PG F α
  | 0, _ => K
  | n + 1, c =>
    score a2 a3 a7 a8 (slot (c + 1)) 0 (k 0 c) (q 0) <| score a2 a3 a7 a8 (slot (c + 1)) 1 (k 1 c) (q 1) <|
    upd a4 a7 a8 a9 a10 a11 (slot c) 0 (v 0 c) <| upd a4 a7 a8 a9 a10 a11 (slot c) 1 (v 1 c) <|
    chain k q v K n (c + 1)

/-- The two masked key blocks that end a tile. -/
def diag {α : Type} (k : Fin 2 → OffK) (q : Fin 2 → OffQH) (v v' : Fin 2 → OffV) (K : PG F α) : PG F α :=
  scoreH a2 a3 a7 a8 1 0 (k 0) (q 0) <| scoreH a2 a3 a7 a8 1 1 (k 1) (q 1) <|
  updMask a4 a6 a7 a9 a10 a11 0 (v 0) <| updMask a4 a6 a7 a9 a10 a11 1 (v 1) <|
  updMaskH a4 a6 a7 a9 a10 a11 0 (v' 0) <| updMaskH a4 a6 a7 a9 a10 a11 1 (v' 1) K

end Cert.KernelIdeal.Hand

end
-- ==== Proof.Tails.lean ====
/-
  The printed body is a chain of steps.

  A query tile's key blocks are taken by one of eight regions, chosen by how many unmasked blocks the tile has. Each
  region is the chain of that many steps followed by the two masked ones; the loops in front of the regions make no trip.
-/
module

public import proofs.«01_k».proof.Proof.Steps

@[expose] public section

noncomputable section

namespace Cert.KernelIdeal.Hand

open Cert.KernelIdeal Facts₀ Facts
open Idealize.ShloMosaic Idealize.ShloMosaic.TcCoe Idealize.SL.Sem

variable {F : FTy → Type} [FloatOps F]

theorem t2_trips (t : Fin k0_t1_loop.trips) : (k0_t2_loop t).trips = 0 := by revert t; decide +kernel
theorem t3_trips (t : Fin k0_t1_loop.trips) : (k0_t3_loop t).trips = 0 := by revert t; decide +kernel

/-- A loop without trips does nothing. -/
theorem for_none.{v} {E : Type → Type v} {σ : Type} {w : ℕ} (l : Scf.Loop w) (h : l.trips = 0) (hok : l.OK) (init : σ)
    (body : Fin l.trips → σ → Prog E σ) : Scf.Loop.for l hok init body = .ret init := by
  have : List.finRange l.trips = [] := by rw [h]; rfl
  rw [Scf.Loop.for, Scf.for_eq, this]; rfl

variable (t : Fin k0_t1_loop.trips)

/-! The positions each region reads at: `kN`, `qN`, `vN` the blocks of keys, queries and values of head 0 and head 1,
    `qhN` the right half of the query block. -/

section
variable (h1 : k0_cond1 t = 1#1)
def k1 : Fin 2 → OffK := ![⟨k0_off15 t, k0_off15_inb t h1⟩, ⟨k0_off17 t, k0_off17_inb t h1⟩]
def qh1 : Fin 2 → OffQH := ![⟨k0_off16 t, k0_off16_inb t h1⟩, ⟨k0_off18 t, k0_off18_inb t h1⟩]
def v1 (j : Fin 2) (c : ℕ) : OffV := (![⟨k0_off19 t (BitVec.ofNat 32 (c % 2)), k0_off19_inb t h1 (.ofNat 2 c)⟩,
  ⟨k0_off20 t (BitVec.ofNat 32 (c % 2)), k0_off20_inb t h1 (.ofNat 2 c)⟩] : Fin 2 → OffV) j
end

section
variable (h2 : k0_cond2 t = 1#1)
def k2 (j : Fin 2) (c : ℕ) : OffK := (![⟨k0_off21 t (BitVec.ofNat 32 (c % 3)), k0_off21_inb t h2 (.ofNat 3 c)⟩,
  ⟨k0_off23 t (BitVec.ofNat 32 (c % 3)), k0_off23_inb t h2 (.ofNat 3 c)⟩] : Fin 2 → OffK) j
def q2 : Fin 2 → OffQ := ![⟨k0_off22 t, k0_off22_inb t h2⟩, ⟨k0_off24 t, k0_off24_inb t h2⟩]
def v2 (j : Fin 2) (c : ℕ) : OffV := (![⟨k0_off25 t (BitVec.ofNat 32 (c % 4)), k0_off25_inb t h2 (.ofNat 4 c)⟩,
  ⟨k0_off26 t (BitVec.ofNat 32 (c % 4)), k0_off26_inb t h2 (.ofNat 4 c)⟩] : Fin 2 → OffV) j
def qh2 : Fin 2 → OffQH := ![⟨k0_off27 t, k0_off27_inb t h2⟩, ⟨k0_off28 t, k0_off28_inb t h2⟩]
end

section
variable (h3 : k0_cond3 t = 1#1)
def k3 (j : Fin 2) (c : ℕ) : OffK := (![⟨k0_off29 t (BitVec.ofNat 32 (c % 5)), k0_off29_inb t h3 (.ofNat 5 c)⟩,
  ⟨k0_off31 t (BitVec.ofNat 32 (c % 5)), k0_off31_inb t h3 (.ofNat 5 c)⟩] : Fin 2 → OffK) j
def q3 : Fin 2 → OffQ := ![⟨k0_off30 t, k0_off30_inb t h3⟩, ⟨k0_off32 t, k0_off32_inb t h3⟩]
def v3 (j : Fin 2) (c : ℕ) : OffV := (![⟨k0_off33 t (BitVec.ofNat 32 (c % 6)), k0_off33_inb t h3 (.ofNat 6 c)⟩,
  ⟨k0_off34 t (BitVec.ofNat 32 (c % 6)), k0_off34_inb t h3 (.ofNat 6 c)⟩] : Fin 2 → OffV) j
def qh3 : Fin 2 → OffQH := ![⟨k0_off35 t, k0_off35_inb t h3⟩, ⟨k0_off36 t, k0_off36_inb t h3⟩]
end

section
variable (h4 : k0_cond4 t = 1#1)
def k4 (j : Fin 2) (c : ℕ) : OffK := (![⟨k0_off37 t (BitVec.ofNat 32 (c % 7)), k0_off37_inb t h4 (.ofNat 7 c)⟩,
  ⟨k0_off39 t (BitVec.ofNat 32 (c % 7)), k0_off39_inb t h4 (.ofNat 7 c)⟩] : Fin 2 → OffK) j
def q4 : Fin 2 → OffQ := ![⟨k0_off38 t, k0_off38_inb t h4⟩, ⟨k0_off40 t, k0_off40_inb t h4⟩]
def v4 (j : Fin 2) (c : ℕ) : OffV := (![⟨k0_off41 t (BitVec.ofNat 32 (c % 8)), k0_off41_inb t h4 (.ofNat 8 c)⟩,
  ⟨k0_off42 t (BitVec.ofNat 32 (c % 8)), k0_off42_inb t h4 (.ofNat 8 c)⟩] : Fin 2 → OffV) j
def qh4 : Fin 2 → OffQH := ![⟨k0_off43 t, k0_off43_inb t h4⟩, ⟨k0_off44 t, k0_off44_inb t h4⟩]
end

section
variable (h5 : k0_cond5 t = 1#1)
def k5 (j : Fin 2) (c : ℕ) : OffK := (![⟨k0_off45 t (BitVec.ofNat 32 (c % 9)), k0_off45_inb t h5 (.ofNat 9 c)⟩,
  ⟨k0_off47 t (BitVec.ofNat 32 (c % 9)), k0_off47_inb t h5 (.ofNat 9 c)⟩] : Fin 2 → OffK) j
def q5 : Fin 2 → OffQ := ![⟨k0_off46 t, k0_off46_inb t h5⟩, ⟨k0_off48 t, k0_off48_inb t h5⟩]
def v5 (j : Fin 2) (c : ℕ) : OffV := (![⟨k0_off49 t (BitVec.ofNat 32 (c % 10)), k0_off49_inb t h5 (.ofNat 10 c)⟩,
  ⟨k0_off50 t (BitVec.ofNat 32 (c % 10)), k0_off50_inb t h5 (.ofNat 10 c)⟩] : Fin 2 → OffV) j
def qh5 : Fin 2 → OffQH := ![⟨k0_off51 t, k0_off51_inb t h5⟩, ⟨k0_off52 t, k0_off52_inb t h5⟩]
end

section
variable (h6 : k0_cond6 t = 1#1)
def k6 (j : Fin 2) (c : ℕ) : OffK := (![⟨k0_off53 t (BitVec.ofNat 32 (c % 11)), k0_off53_inb t h6 (.ofNat 11 c)⟩,
  ⟨k0_off55 t (BitVec.ofNat 32 (c % 11)), k0_off55_inb t h6 (.ofNat 11 c)⟩] : Fin 2 → OffK) j
def q6 : Fin 2 → OffQ := ![⟨k0_off54 t, k0_off54_inb t h6⟩, ⟨k0_off56 t, k0_off56_inb t h6⟩]
def v6 (j : Fin 2) (c : ℕ) : OffV := (![⟨k0_off57 t (BitVec.ofNat 32 (c % 12)), k0_off57_inb t h6 (.ofNat 12 c)⟩,
  ⟨k0_off58 t (BitVec.ofNat 32 (c % 12)), k0_off58_inb t h6 (.ofNat 12 c)⟩] : Fin 2 → OffV) j
def qh6 : Fin 2 → OffQH := ![⟨k0_off59 t, k0_off59_inb t h6⟩, ⟨k0_off60 t, k0_off60_inb t h6⟩]
end

section
variable (h7 : k0_cond7 t = 1#1)
def k7 (j : Fin 2) (c : ℕ) : OffK := (![⟨k0_off61 t (BitVec.ofNat 32 (c % 13)), k0_off61_inb t h7 (.ofNat 13 c)⟩,
  ⟨k0_off63 t (BitVec.ofNat 32 (c % 13)), k0_off63_inb t h7 (.ofNat 13 c)⟩] : Fin 2 → OffK) j
def q7 : Fin 2 → OffQ := ![⟨k0_off62 t, k0_off62_inb t h7⟩, ⟨k0_off64 t, k0_off64_inb t h7⟩]
def v7 (j : Fin 2) (c : ℕ) : OffV := (![⟨k0_off65 t (BitVec.ofNat 32 (c % 14)), k0_off65_inb t h7 (.ofNat 14 c)⟩,
  ⟨k0_off66 t (BitVec.ofNat 32 (c % 14)), k0_off66_inb t h7 (.ofNat 14 c)⟩] : Fin 2 → OffV) j
def qh7 : Fin 2 → OffQH := ![⟨k0_off67 t, k0_off67_inb t h7⟩, ⟨k0_off68 t, k0_off68_inb t h7⟩]
end

section
variable (h8 : k0_cond8 t = 1#1)
def k8 (j : Fin 2) (c : ℕ) : OffK := (![⟨k0_off69 t (BitVec.ofNat 32 (c % 15)), k0_off69_inb t h8 (.ofNat 15 c)⟩,
  ⟨k0_off71 t (BitVec.ofNat 32 (c % 15)), k0_off71_inb t h8 (.ofNat 15 c)⟩] : Fin 2 → OffK) j
def q8 : Fin 2 → OffQ := ![⟨k0_off70 t, k0_off70_inb t h8⟩, ⟨k0_off72 t, k0_off72_inb t h8⟩]
def v8 (j : Fin 2) (c : ℕ) : OffV := (![⟨k0_off73 t (BitVec.ofNat 32 (c % 16)), k0_off73_inb t h8 (.ofNat 16 c)⟩,
  ⟨k0_off74 t (BitVec.ofNat 32 (c % 16)), k0_off74_inb t h8 (.ofNat 16 c)⟩] : Fin 2 → OffV) j
def qh8 : Fin 2 → OffQH := ![⟨k0_off75 t, k0_off75_inb t h8⟩, ⟨k0_off76 t, k0_off76_inb t h8⟩]
end

variable (i : grid0.Coords) (arg2 : Memref sig .tc .vmem S1x8x2x128x512 .bf16) (harg2 : arg2.IsWhole)
  (arg3 : Memref sig .tc .vmem S1x4096x256 .bf16) (harg3 : arg3.IsWhole) (arg4 : Memref sig .tc .vmem S1x16x128x256 .bf16)
  (harg4 : arg4.IsWhole) (arg5 : Memref sig .tc .vmem S1x8x128x512 .bf16) (harg5 : arg5.IsWhole)
  (arg6 : Memref sig .tc .vmem S2x256x512 .f32) (harg6 : arg6.IsWhole) (arg7 : Memref sig .tc .vmem S2x2x256x512 .f32)
  (harg7 : arg7.IsWhole) (arg8 : Memref sig .tc .vmem S2x2x1x512 .f32) (harg8 : arg8.IsWhole)
  (arg9 : Memref sig .tc .vmem S2x1x512 .f32) (harg9 : arg9.IsWhole) (arg10 : Memref sig .tc .vmem S2x1x512 .f32)
  (harg10 : arg10.IsWhole) (arg11 : Memref sig .tc .vmem S2x64x512 .f32) (harg11 : arg11.IsWhole)

/-- A region: `n` unmasked blocks, then the two masked ones. -/
def region {α : Type} (k : Fin 2 → ℕ → OffK) (q : Fin 2 → OffQ) (v : Fin 2 → ℕ → OffV) (qh : Fin 2 → OffQH) (n : ℕ) (K : PG F α) : PG F α :=
  chain arg2 arg3 arg4 arg7 arg8 arg9 arg10 arg11 k q v
    (diag arg2 arg3 arg4 arg6 arg7 arg8 arg9 arg10 arg11 (fun j => k j n) qh (fun j => v j n) (fun j => v j (n + 1)) K) n 0

/-- A region under its condition. -/
def guarded {α : Type} (c : Prop) [Decidable c] (p : c → PG F α → PG F α) (K : PG F α) : PG F α :=
  if h : c then p h K else K

/-- The quotient of both heads, as the tile's result. -/
def outV (a0 : Vec F S1x64x512 .f32) (l0 : Vec F S1x1x512 .f32) (a1 : Vec F S1x64x512 .f32) (l1 : Vec F S1x1x512 .f32) : FVec F S128x512 .bf16 :=
  truncf .bf16 (concatenate S128x512 0
    [⟨S64x512, divf (shapeCast S64x512 a0 shapeCasts_S1x64x512_S64x512) (broadcastTo S64x512 (shapeCast S1x512 l0 shapeCasts_S1x1x512_S1x512) broadcasts_S1x512_S64x512)⟩,
     ⟨S64x512, divf (shapeCast S64x512 a1 shapeCasts_S1x64x512_S64x512) (broadcastTo S64x512 (shapeCast S1x512 l1 shapeCasts_S1x1x512_S1x512) broadcasts_S1x512_S64x512)⟩]
    concatenates_S64x512_S64x512_S128x512_d0) bitsLt_bf16_f32

set_option maxRecDepth 10000000 in
set_option maxHeartbeats 4000000 in
theorem part377_eq (arg12 v23 v68 : BitVec 32) (v79 v81 : BitVec 1) :
   (k0_part377 i arg2 harg2 arg3 harg3 arg4 harg4 arg5 harg5 arg6 harg6 arg7 harg7 arg8 harg8 arg9 harg9 arg10 harg10 arg11
      harg11 t arg12 v23 v68 v79 v81 : PG F (BitVec 32)) =
    (guarded (k0_cond1 t = 1#1) (fun h => diag arg2 arg3 arg4 arg6 arg7 arg8 arg9 arg10 arg11 (k1 t h) (qh1 t h) (fun j => v1 t h j 0) (fun j => v1 t h j 1)) <|
    guarded (k0_cond2 t = 1#1) (fun h => region arg2 arg3 arg4 arg6 arg7 arg8 arg9 arg10 arg11 (k2 t h) (q2 t h) (v2 t h) (qh2 t h) 2) <|
    guarded (k0_cond3 t = 1#1) (fun h => region arg2 arg3 arg4 arg6 arg7 arg8 arg9 arg10 arg11 (k3 t h) (q3 t h) (v3 t h) (qh3 t h) 4) <|
    guarded (k0_cond4 t = 1#1) (fun h => region arg2 arg3 arg4 arg6 arg7 arg8 arg9 arg10 arg11 (k4 t h) (q4 t h) (v4 t h) (qh4 t h) 6) <|
    .ret (Scalar.select (Scalar.andi v79 v81) (Scalar.subi v68 1#32) v68)) := by
  unfold k0_part377
  dsimp only
  rw [for_none _ (t2_trips t), for_none _ (t3_trips t)]
  unfold guarded
  refine dite_congr rfl (fun h => ?_) (fun h => ?_)
  · rfl
  refine dite_congr rfl (fun h => ?_) (fun h => ?_)
  · rfl
  refine dite_congr rfl (fun h => ?_) (fun h => ?_)
  · rfl
  refine dite_congr rfl (fun h => ?_) (fun h => ?_)
  · rfl
  rfl

/-- What ends a tile: both heads' sums and denominators read, and the tile's result. -/
def finish {α : Type} (K : FVec F S128x512 .bf16 → PG F α) : PG F α :=
  .op (.load arg11 (r11 0).toLoadRect (View.loadsAt_vmem h_S1x64x512)) fun a0 =>
  .op (.load arg10 (r9 0).toLoadRect (View.loadsAt_vmem h_S1x1x512)) fun l0 =>
  .op (.load arg11 (r11 1).toLoadRect (View.loadsAt_vmem h_S1x64x512)) fun a1 =>
  .op (.load arg10 (r9 1).toLoadRect (View.loadsAt_vmem h_S1x1x512)) fun l1 =>
  .op (.load arg5 (Rect.unit (s := S1x8x128x512) (k0_off77 t) S1x1x128x512.size (k0_off77_inb t)).toLoadRect (View.loadsAt_vmem h_S1x1x128x512)) fun _ =>
  K (outV a0 l0 a1 l1)

set_option maxRecDepth 10000000 in
set_option maxHeartbeats 4000000 in
theorem part378_eq (arg12 v23 v84 : BitVec 32) :
   (k0_part378 i arg2 harg2 arg3 harg3 arg4 harg4 arg5 harg5 arg6 harg6 arg7 harg7 arg8 harg8 arg9 harg9 arg10 harg10 arg11
      harg11 t arg12 v23 v84 : PG F (FVec F S128x512 .bf16)) =
    (guarded (k0_cond5 t = 1#1) (fun h => region arg2 arg3 arg4 arg6 arg7 arg8 arg9 arg10 arg11 (k5 t h) (q5 t h) (v5 t h) (qh5 t h) 8) <|
    guarded (k0_cond6 t = 1#1) (fun h => region arg2 arg3 arg4 arg6 arg7 arg8 arg9 arg10 arg11 (k6 t h) (q6 t h) (v6 t h) (qh6 t h) 10) <|
    guarded (k0_cond7 t = 1#1) (fun h => region arg2 arg3 arg4 arg6 arg7 arg8 arg9 arg10 arg11 (k7 t h) (q7 t h) (v7 t h) (qh7 t h) 12) <|
    guarded (k0_cond8 t = 1#1) (fun h => region arg2 arg3 arg4 arg6 arg7 arg8 arg9 arg10 arg11 (k8 t h) (q8 t h) (v8 t h) (qh8 t h) 14) <|
    finish t arg5 arg10 arg11 .ret) := by
  unfold k0_part378
  dsimp only
  unfold guarded
  refine dite_congr rfl (fun h => ?_) (fun h => ?_)
  · rfl
  refine dite_congr rfl (fun h => ?_) (fun h => ?_)
  · rfl
  refine dite_congr rfl (fun h => ?_) (fun h => ?_)
  · rfl
  refine dite_congr rfl (fun h => ?_) (fun h => ?_)
  · rfl
  rfl

/-! A step followed by a program, bound to another, is the step followed by the bound program. -/

variable {α β : Type} (f : α → PG F β)

theorem chain_bind (k : Fin 2 → ℕ → OffK) (q : Fin 2 → OffQ) (v : Fin 2 → ℕ → OffV) (K : PG F α) (n c : ℕ) :
    (chain arg2 arg3 arg4 arg7 arg8 arg9 arg10 arg11 k q v K n c).bind f
      = chain arg2 arg3 arg4 arg7 arg8 arg9 arg10 arg11 k q v (K.bind f) n c := by
  induction n generalizing c with
  | zero => rfl
  | succ n ih =>
    simp only [chain, score, upd, fold, Prog.bind, ih]

theorem diag_bind (k : Fin 2 → OffK) (q : Fin 2 → OffQH) (v v' : Fin 2 → OffV) (K : PG F α) :
    (diag arg2 arg3 arg4 arg6 arg7 arg8 arg9 arg10 arg11 k q v v' K).bind f
      = diag arg2 arg3 arg4 arg6 arg7 arg8 arg9 arg10 arg11 k q v v' (K.bind f) := rfl

theorem region_bind (k : Fin 2 → ℕ → OffK) (q : Fin 2 → OffQ) (v : Fin 2 → ℕ → OffV) (qh : Fin 2 → OffQH) (n : ℕ) (K : PG F α) :
    (region arg2 arg3 arg4 arg6 arg7 arg8 arg9 arg10 arg11 k q v qh n K).bind f
      = region arg2 arg3 arg4 arg6 arg7 arg8 arg9 arg10 arg11 k q v qh n (K.bind f) := by
  unfold region
  rw [chain_bind, diag_bind]

end Cert.KernelIdeal.Hand

end
-- ==== Proof.Machine.lean ====
/-
  Each step's effect on the scratch, as a plain function of what the scratch holds, and the run of each step.
-/
module

public import proofs.«01_k».proof.Proof.Tails
public import proofs.«01_k».proof.Proof.Gen.KernelIdeal.Frame
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The run of a program of the kernel on core `c`. -/
abbrev wpK (c : Dev nD) {α : Type} (p : PG F α) (Q : α → sProp 𝕄) : sProp 𝕄 :=
  wp frame (wpE (defs₀ (F := F)) Variants.none (c : Thread nD τ) none) Set.univ p Q

/-! ## A load and a store, by values -/

section
variable {c : Dev nD} {α : Type} {s : Shape} {e : EltTy} {m : Memref sig .tc .vmem s e} {off size : Fin s.rank → ℕ}
  {inb : ∀ a, off a + size a ≤ s.size a}

theorem wp_ld {hl : m.view.LoadsAt (Rect.unit off size inb).toLoadRect} {k : ((Rect.unit off size inb).shape.Idx → Elt F e) → PG F α}
    {Q : α → sProp 𝕄} (X : s.Idx → Elt F e) :
    (owns (c : Thread nD τ) m fullShare X : sProp 𝕄)
      ⊢ iprop((owns (c : Thread nD τ) m fullShare X -∗ wpK c (k (window X off size inb)) Q)
        -∗ wpK c (.op (.load m (Rect.unit off size inb).toLoadRect hl) k) Q) := by
  unfold owns
  iintro ⟨%f, %hf, H⟩ Hk
  subst hf
  iapply (wp_load Variants.none (c : Thread nD τ) none Set.univ (View.setOn_subset_set _ _)) $$ H
  iintro H
  iapply Hk
  iexists f
  isplitr; · ipureintro; rfl
  iexact H

theorem wp_st {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} {k : PUnit → PG F α}
    {Q : α → sProp 𝕄} (X : s.Idx → Elt F e) :
    (owns (c : Thread nD τ) m fullShare X : sProp 𝕄)
      ⊢ iprop((owns (c : Thread nD τ) m fullShare (put X off size w) -∗ wpK c (k ⟨⟩) Q)
        -∗ wpK c (.op (.store m (Rect.unit off size inb) w Finset.univ hx hm) k) Q) := by
  unfold owns
  iintro ⟨%f, %hf, H⟩ Hk
  subst hf
  have hS : (m.access (Rect.unit off size inb)).setOn Finset.univ ⊆ m.view.set :=
    (View.setOn_subset_set _ _).trans (View.set_slice_subset _ _)
  iapply (wp_store Variants.none (c : Thread nD τ) none Set.univ (m := m) (r := Rect.unit off size inb) (w := w) (f := f) hS) $$ H
  iintro H
  iapply Hk
  iexists _
  isplitr
  swap; · iexact H
  ipureintro
  exact View.read_writes_cons_put m.view f inb w [] rfl
end

/-! ## The scratch, by values -/

/-- What the scratch holds: the two slots of scores and of their maxima, the running maxima, denominators and sums. -/
structure St (F : FTy → Type) where
  S : Vec F S2x2x256x512 .f32
  X : Vec F S2x2x1x512 .f32
  m : Vec F S2x1x512 .f32
  l : Vec F S2x1x512 .f32
  a : Vec F S2x64x512 .f32

section
variable (Q : Vec F S1x8x2x128x512 .bf16) (Kb : Vec F S1x4096x256 .bf16) (V : Vec F S1x16x128x256 .bf16) (B : Vec F S2x256x512 .f32)

abbrev kAt (ok : OffK) : Vec F S1x256x128 .bf16 := window Kb ok.1 S1x256x128.size ok.2
abbrev qAt (oq : OffQ) : Vec F S1x1x1x128x512 .bf16 := window Q oq.1 S1x1x1x128x512.size oq.2
abbrev qhAt (oq : OffQH) : Vec F S1x1x1x128x256 .bf16 := window Q oq.1 S1x1x1x128x256.size oq.2
abbrev vAt (ov : OffV) : Vec F S1x1x64x256 .bf16 := window V ov.1 S1x1x64x256.size ov.2

/-- A window at a unit-stride rectangle. -/
abbrev win {α : Type} {s : Shape} (x : s.Idx → α) (r : Rect s) : r.shape.Idx → α := fun y => x (r.emb y)

def scoreSt (s j : Fin 2) (ok : OffK) (oq : OffQ) (σ : St F) : St F :=
  { σ with
    S := put σ.S ![s.val, j.val, 0, 0] S1x1x256x512.size (shapeCast S1x1x256x512 (scoreV (kAt Kb ok) (qAt Q oq)) shapeCasts_S256x512_S1x1x256x512)
    X := put σ.X ![s.val, j.val, 0, 0] S1x1x1x512.size (shapeCast S1x1x1x512 (maxV (scoreV (kAt Kb ok) (qAt Q oq))) shapeCasts_S1x512_S1x1x1x512) }

def scoreHSt (s j : Fin 2) (ok : OffK) (oq : OffQH) (σ : St F) : St F :=
  { σ with
    S := put σ.S ![s.val, j.val, 0, 256] S1x1x256x256.size (shapeCast S1x1x256x256 (scoreVH (kAt Kb ok) (qhAt Q oq)) shapeCasts_S256x256_S1x1x256x256)
    X := put σ.X ![s.val, j.val, 0, 256] S1x1x1x256.size (shapeCast S1x1x1x256 (maxVH (scoreVH (kAt Kb ok) (qhAt Q oq))) shapeCasts_S1x256_S1x1x1x256) }

def foldSt (j : Fin 2) (ov : OffV) (s : FVec F S256x512 .f32) (x : FVec F S1x512 .f32) (σ : St F) : St F :=
  { σ with
    l := put σ.l ![j.val, 0, 0] S1x1x512.size (shapeCast S1x1x512 (newL s (win σ.m (r9 j)) x (win σ.l (r9 j))) shapeCasts_S1x512_S1x1x512)
    a := put σ.a ![j.val, 0, 0] S1x64x512.size (shapeCast S1x64x512 (newA s (win σ.m (r9 j)) x (win σ.a (r11 j)) (vAt V ov)) shapeCasts_S64x512_S1x64x512)
    m := put σ.m ![j.val, 0, 0] S1x1x512.size (shapeCast S1x1x512 (newM (win σ.m (r9 j)) x) shapeCasts_S1x512_S1x1x512) }

def foldHSt (j : Fin 2) (ov : OffV) (s : FVec F S256x256 .f32) (x : FVec F S1x256 .f32) (σ : St F) : St F :=
  { σ with
    l := put σ.l ![j.val, 0, 256] S1x1x256.size (shapeCast S1x1x256 (newLH s (win σ.m (r9H j)) x (win σ.l (r9H j))) shapeCasts_S1x256_S1x1x256)
    a := put σ.a ![j.val, 0, 256] S1x64x256.size (shapeCast S1x64x256 (newAH s (win σ.m (r9H j)) x (win σ.a (r11H j)) (vAt V ov)) shapeCasts_S64x256_S1x64x256)
    m := put σ.m ![j.val, 0, 256] S1x1x256.size (shapeCast S1x1x256 (newMH (win σ.m (r9H j)) x) shapeCasts_S1x256_S1x1x256) }

def updSt (s j : Fin 2) (ov : OffV) (σ : St F) : St F :=
  foldSt V j ov (shapeCast S256x512 (win σ.S (r7 s j)) shapeCasts_S1x1x256x512_S256x512)
    (shapeCast S1x512 (win σ.X (r8 s j)) shapeCasts_S1x1x1x512_S1x512) σ

def updMaskSt (j : Fin 2) (ov : OffV) (σ : St F) : St F :=
  foldSt V j ov (maskV (win σ.S (r7 0 j)) (win B r6)) (maxV (maskV (win σ.S (r7 0 j)) (win B r6))) σ

def updMaskHSt (j : Fin 2) (ov : OffV) (σ : St F) : St F :=
  foldHSt V j ov (maskVH (win σ.S (r7H 1 j)) (win B r6H)) (maxVH (maskVH (win σ.S (r7H 1 j)) (win B r6H))) σ

def chainSt (k : Fin 2 → ℕ → OffK) (q : Fin 2 → OffQ) (v : Fin 2 → ℕ → OffV) : ℕ → ℕ → St F → St F
  | 0, _, σ => σ
  | n + 1, c, σ => chainSt k q v n (c + 1) <|
      updSt V (slot c) 1 (v 1 c) <| updSt V (slot c) 0 (v 0 c) <|
      scoreSt Q Kb (slot (c + 1)) 1 (k 1 c) (q 1) <| scoreSt Q Kb (slot (c + 1)) 0 (k 0 c) (q 0) σ

def diagSt (k : Fin 2 → OffK) (q : Fin 2 → OffQH) (v v' : Fin 2 → OffV) (σ : St F) : St F :=
  updMaskHSt V B 1 (v' 1) <| updMaskHSt V B 0 (v' 0) <| updMaskSt V B 1 (v 1) <| updMaskSt V B 0 (v 0) <|
  scoreHSt Q Kb 1 1 (k 1) (q 1) <| scoreHSt Q Kb 1 0 (k 0) (q 0) σ
end

/-! ## The runs -/

section
variable (c : Dev nD) (a2 : Memref sig .tc .vmem S1x8x2x128x512 .bf16) (a3 : Memref sig .tc .vmem S1x4096x256 .bf16)
  (a4 : Memref sig .tc .vmem S1x16x128x256 .bf16) (a6 : Memref sig .tc .vmem S2x256x512 .f32)
  (a7 : Memref sig .tc .vmem S2x2x256x512 .f32) (a8 : Memref sig .tc .vmem S2x2x1x512 .f32)
  (a9 : Memref sig .tc .vmem S2x1x512 .f32) (a10 : Memref sig .tc .vmem S2x1x512 .f32)
  (a11 : Memref sig .tc .vmem S2x64x512 .f32)
  (Q : Vec F S1x8x2x128x512 .bf16) (Kb : Vec F S1x4096x256 .bf16) (V : Vec F S1x16x128x256 .bf16) (B : Vec F S2x256x512 .f32)

/-- The operands and the scratch, held at these values. -/
def Held (σ : St F) : sProp 𝕄 :=
  iprop(owns (c : Thread nD τ) a2 fullShare Q ∗ owns (c : Thread nD τ) a3 fullShare Kb ∗ owns (c : Thread nD τ) a4 fullShare V
    ∗ owns (c : Thread nD τ) a6 fullShare B ∗ owns (c : Thread nD τ) a7 fullShare σ.S ∗ owns (c : Thread nD τ) a8 fullShare σ.X
    ∗ owns (c : Thread nD τ) a9 fullShare σ.m ∗ owns (c : Thread nD τ) a10 fullShare σ.l ∗ owns (c : Thread nD τ) a11 fullShare σ.a)

theorem wp_score {α : Type} (s j : Fin 2) (ok : OffK) (oq : OffQ) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (scoreSt Q Kb s j ok oq σ) -∗ wpK c K Φ) -∗ wpK c (score a2 a3 a7 a8 s j ok oq K) Φ) := by
  unfold Held score
  iintro ⟨H2, H3, H4, H6, H7, H8, H9, H10, H11⟩ Hk
  iapply (wp_ld Kb) $$ H3; iintro H3
  iapply (wp_ld Q) $$ H2; iintro H2
  iapply (wp_ld σ.S) $$ H7; iintro H7
  iapply (wp_st σ.S) $$ H7; iintro H7
  iapply (wp_ld σ.X) $$ H8; iintro H8
  iapply (wp_st σ.X) $$ H8; iintro H8
  iapply Hk
  sl_close
theorem wp_scoreH {α : Type} (s j : Fin 2) (ok : OffK) (oq : OffQH) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (scoreHSt Q Kb s j ok oq σ) -∗ wpK c K Φ) -∗ wpK c (scoreH a2 a3 a7 a8 s j ok oq K) Φ) := by
  unfold Held scoreH
  iintro ⟨H2, H3, H4, H6, H7, H8, H9, H10, H11⟩ Hk
  iapply (wp_ld Kb) $$ H3; iintro H3
  iapply (wp_ld Q) $$ H2; iintro H2
  iapply (wp_ld σ.S) $$ H7; iintro H7
  iapply (wp_st σ.S) $$ H7; iintro H7
  iapply (wp_ld σ.X) $$ H8; iintro H8
  iapply (wp_st σ.X) $$ H8; iintro H8
  iapply Hk
  sl_close

theorem wp_fold {α : Type} (j : Fin 2) (ov : OffV) (s : FVec F S256x512 .f32) (x : FVec F S1x512 .f32) {K : PG F α}
    {Φ : α → sProp 𝕄} (σ : St F) :
    (Held c a2 a3 a4 a6 a7 a8 a9 a10 a11 Q Kb V B σ : sProp 𝕄) ⊢ iprop((Held c a2 a3 a4 a6 a7 a8 a9 a10 a11 Q Kb V B (foldSt V j ov s x σ) -∗ wpK c K Φ) -∗ wpK c (fold a4 a9 a10 a11 j ov s x K) Φ) := by
  unfold Held fold
  iintro ⟨H2, H3, H4, H6, H7, H8, H9, H10, H11⟩ Hk
  iapply (wp_ld σ.m) $$ H9; iintro H9
  iapply (wp_ld σ.l) $$ H10; iintro H10
  iapply (wp_ld σ.l) $$ H10; iintro H10
  iapply (wp_st σ.l) $$ H10; iintro H10
  iapply (wp_ld σ.a) $$ H11; iintro H11
  iapply (wp_ld V) $$ H4; iintro H4
  iapply (wp_ld σ.a) $$ H11; iintro H11
  iapply (wp_st σ.a) $$ H11; iintro H11
  iapply (wp_ld σ.m) $$ H9; iintro H9
  iapply (wp_st σ.m) $$ H9; iintro H9
  iapply Hk
  sl_close

theorem wp_foldH {α : Type} (j : Fin 2) (ov : OffV) (s : FVec F S256x256 .f32) (x : FVec F S1x256 .f32) {K : PG F α}
    {Φ : α → sProp 𝕄} (σ : St F) :
    (Held c a2 a3 a4 a6 a7 a8 a9 a10 a11 Q Kb V B σ : sProp 𝕄) ⊢ iprop((Held c a2 a3 a4 a6 a7 a8 a9 a10 a11 Q Kb V B (foldHSt V j ov s x σ) -∗ wpK c K Φ) -∗ wpK c (foldH a4 a9 a10 a11 j ov s x K) Φ) := by
  unfold Held foldH
  iintro ⟨H2, H3, H4, H6, H7, H8, H9, H10, H11⟩ Hk
  iapply (wp_ld σ.m) $$ H9; iintro H9
  iapply (wp_ld σ.l) $$ H10; iintro H10
  iapply (wp_ld σ.l) $$ H10; iintro H10
  iapply (wp_st σ.l) $$ H10; iintro H10
  iapply (wp_ld σ.a) $$ H11; iintro H11
  iapply (wp_ld V) $$ H4; iintro H4
  iapply (wp_ld σ.a) $$ H11; iintro H11
  iapply (wp_st σ.a) $$ H11; iintro H11
  iapply (wp_ld σ.m) $$ H9; iintro H9
  iapply (wp_st σ.m) $$ H9; iintro H9
  iapply Hk
  sl_close

theorem wp_upd {α : Type} (s j : Fin 2) (ov : OffV) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (updSt V s j ov σ) -∗ wpK c K Φ) -∗ wpK c (upd a4 a7 a8 a9 a10 a11 s j ov K) Φ) := by
  unfold upd
  iintro Ho Hk
  unfold Held
  icases Ho with ⟨H2, H3, H4, H6, H7, H8, H9, H10, H11⟩
  iapply (wp_ld σ.S) $$ H7; iintro H7
  iapply (wp_ld σ.X) $$ H8; iintro H8
  iapply (wp_fold c a2 a3 a4 a6 a7 a8 a9 a10 a11 Q Kb V B j ov _ _ σ) $$ [H2 H3 H4 H6 H7 H8 H9 H10 H11]
  · unfold Held; sl_close
  iintro Ho; iapply Hk
  unfold Held; iexact Ho

theorem wp_updMask {α : Type} (j : Fin 2) (ov : OffV) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (updMaskSt V B j ov σ) -∗ wpK c K Φ) -∗ wpK c (updMask a4 a6 a7 a9 a10 a11 j ov K) Φ) := by
  unfold updMask
  iintro Ho Hk
  unfold Held
  icases Ho with ⟨H2, H3, H4, H6, H7, H8, H9, H10, H11⟩
  iapply (wp_ld σ.S) $$ H7; iintro H7
  iapply (wp_ld B) $$ H6; iintro H6
  iapply (wp_fold c a2 a3 a4 a6 a7 a8 a9 a10 a11 Q Kb V B j ov _ _ σ) $$ [H2 H3 H4 H6 H7 H8 H9 H10 H11]
  · unfold Held; sl_close
  iintro Ho; iapply Hk
  unfold Held; iexact Ho

theorem wp_updMaskH {α : Type} (j : Fin 2) (ov : OffV) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (updMaskHSt V B j ov σ) -∗ wpK c K Φ) -∗ wpK c (updMaskH a4 a6 a7 a9 a10 a11 j ov K) Φ) := by
  unfold updMaskH
  iintro Ho Hk
  unfold Held
  icases Ho with ⟨H2, H3, H4, H6, H7, H8, H9, H10, H11⟩
  iapply (wp_ld σ.S) $$ H7; iintro H7
  iapply (wp_ld B) $$ H6; iintro H6
  iapply (wp_foldH c a2 a3 a4 a6 a7 a8 a9 a10 a11 Q Kb V B j ov _ _ σ) $$ [H2 H3 H4 H6 H7 H8 H9 H10 H11]
  · unfold Held; sl_close
  iintro Ho; iapply Hk
  unfold Held; iexact Ho

theorem wp_chain {α : Type} (k : Fin 2 → ℕ → OffK) (q : Fin 2 → OffQ) (v : Fin 2 → ℕ → OffV) {K : PG F α} {Φ : α → sProp 𝕄}
    (n d : ℕ) (σ : St F) :
    (Held c a2 a3 a4 a6 a7 a8 a9 a10 a11 Q Kb V B σ : sProp 𝕄) ⊢ iprop((Held c a2 a3 a4 a6 a7 a8 a9 a10 a11 Q Kb V B (chainSt Q Kb V k q v n d σ) -∗ wpK c K Φ) -∗ wpK c (chain a2 a3 a4 a7 a8 a9 a10 a11 k q v K n d) Φ) := by
  induction n generalizing d σ with
  | zero => iintro Ho Hk; iapply Hk; iexact Ho
  | succ n ih =>
    rw [chain, chainSt]
    iintro Ho Hk
    iapply (wp_score c a2 a3 a4 a6 a7 a8 a9 a10 a11 Q Kb V B) $$ Ho; iintro Ho
    iapply (wp_score c a2 a3 a4 a6 a7 a8 a9 a10 a11 Q Kb V B) $$ Ho; iintro Ho
    iapply (wp_upd c a2 a3 a4 a6 a7 a8 a9 a10 a11 Q Kb V B) $$ Ho; iintro Ho
    iapply (wp_upd c a2 a3 a4 a6 a7 a8 a9 a10 a11 Q Kb V B) $$ Ho; iintro Ho
    iapply ih $$ Ho; iexact Hk

theorem wp_diag {α : Type} (k : Fin 2 → OffK) (q : Fin 2 → OffQH) (v v' : Fin 2 → OffV) {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (diagSt Q Kb V B k q v v' σ) -∗ wpK c K Φ) -∗ wpK c (diag a2 a3 a4 a6 a7 a8 a9 a10 a11 k q v v' K) Φ) := by
  unfold diag diagSt
  iintro Ho Hk
  iapply (wp_scoreH c a2 a3 a4 a6 a7 a8 a9 a10 a11 Q Kb V B) $$ Ho; iintro Ho
  iapply (wp_scoreH c a2 a3 a4 a6 a7 a8 a9 a10 a11 Q Kb V B) $$ Ho; iintro Ho
  iapply (wp_updMask c a2 a3 a4 a6 a7 a8 a9 a10 a11 Q Kb V B) $$ Ho; iintro Ho
  iapply (wp_updMask c a2 a3 a4 a6 a7 a8 a9 a10 a11 Q Kb V B) $$ Ho; iintro Ho
  iapply (wp_updMaskH c a2 a3 a4 a6 a7 a8 a9 a10 a11 Q Kb V B) $$ Ho; iintro Ho
  iapply (wp_updMaskH c a2 a3 a4 a6 a7 a8 a9 a10 a11 Q Kb V B) $$ Ho; iintro Ho
  iapply Hk; iexact Ho
end

end Cert.KernelIdeal.Hand

end
-- ==== Proof.Body.lean ====
/-
  Every query tile is the same program: the scratch reset, the scores of key block 0, one region with as many unmasked
  key blocks as the tile has, and the quotient stored.
-/
module

public import proofs.«01_k».proof.Proof.Tails

@[expose] public section

noncomputable section

namespace Cert.KernelIdeal.Hand

open Cert.KernelIdeal Facts₀ Facts
open Idealize.ShloMosaic Idealize.ShloMosaic.TcCoe Idealize.SL.Sem

variable {F : FTy → Type} [FloatOps F]

/-! ## Where a tile reads -/

/-- Key block `c` of head `j`. -/
def keyAt (j : Fin 2) (c : ℕ) : OffK :=
  ⟨![0, c % 16 * 256, 128 * j.val], by
    have : c % 16 < 16 := Nat.mod_lt _ (by decide)
    intro a; fin_cases j <;> fin_cases a <;> simp [S1x256x128, S1x4096x256] <;> omega⟩
/-- Query tile `t` of head `j`. -/
def queryAt (t : Fin 8) (j : Fin 2) : OffQ :=
  ⟨![0, t.val, j.val, 0, 0], by
    intro a; fin_cases j <;> fin_cases a <;> simp [S1x1x1x128x512, S1x8x2x128x512] <;> omega⟩
/-- Its right half. -/
def queryHAt (t : Fin 8) (j : Fin 2) : OffQH :=
  ⟨![0, t.val, j.val, 0, 256], by
    intro a; fin_cases j <;> fin_cases a <;> simp [S1x1x1x128x256, S1x8x2x128x512] <;> omega⟩
/-- The values of key block `c`, head `j`. -/
def valAt (j : Fin 2) (c : ℕ) : OffV :=
  ⟨![0, c % 16, 64 * j.val, 0], by
    have : c % 16 < 16 := Nat.mod_lt _ (by decide)
    intro a; fin_cases j <;> fin_cases a <;> simp [S1x1x64x256, S1x16x128x256] <;> omega⟩

variable (a2 : Memref sig .tc .vmem S1x8x2x128x512 .bf16) (a3 : Memref sig .tc .vmem S1x4096x256 .bf16)
  (a4 : Memref sig .tc .vmem S1x16x128x256 .bf16) (a5 : Memref sig .tc .vmem S1x8x128x512 .bf16)
  (a6 : Memref sig .tc .vmem S2x256x512 .f32)
  (a7 : Memref sig .tc .vmem S2x2x256x512 .f32) (a8 : Memref sig .tc .vmem S2x2x1x512 .f32)
  (a9 : Memref sig .tc .vmem S2x1x512 .f32) (a10 : Memref sig .tc .vmem S2x1x512 .f32)
  (a11 : Memref sig .tc .vmem S2x64x512 .f32)

theorem chain_congr {α : Type} {k k' : Fin 2 → ℕ → OffK} {q : Fin 2 → OffQ} {v v' : Fin 2 → ℕ → OffV} {K : PG F α} {n c : ℕ}
    (hk : ∀ j, ∀ d, c ≤ d → d < c + n → k j d = k' j d) (hv : ∀ j, ∀ d, c ≤ d → d < c + n → v j d = v' j d) :
    chain a2 a3 a4 a7 a8 a9 a10 a11 k q v K n c = chain a2 a3 a4 a7 a8 a9 a10 a11 k' q v' K n c := by
  induction n generalizing c with
  | zero => rfl
  | succ n ih =>
    rw [chain, chain, hk 0 c le_rfl (by omega), hk 1 c le_rfl (by omega), hv 0 c le_rfl (by omega), hv 1 c le_rfl (by omega),
      ih (fun j d h h' => hk j d (by omega) (by omega)) (fun j d h h' => hv j d (by omega) (by omega))]

/-- The region of a tile with `n` unmasked key blocks. -/
abbrev regionAt {α : Type} (t : Fin 8) (n : ℕ) (K : PG F α) : PG F α :=
  region a2 a3 a4 a6 a7 a8 a9 a10 a11 (fun j c => keyAt j (c + 1)) (queryAt t) valAt (queryHAt t) n K

/-- These positions are those of tile `t` with `n` unmasked key blocks. -/
abbrev Reads (t : Fin 8) (n : ℕ) (k : Fin 2 → ℕ → OffK) (q : Fin 2 → OffQ) (v : Fin 2 → ℕ → OffV) (qh : Fin 2 → OffQH) : Prop :=
  (∀ j, ∀ d : Fin (n + 1), (k j d.val).1 = (keyAt j (d.val + 1)).1) ∧ (∀ j, n ≠ 0 → (q j).1 = (queryAt t j).1)
    ∧ (∀ j, ∀ d : Fin (n + 2), (v j d.val).1 = (valAt j d.val).1) ∧ ∀ j, (qh j).1 = (queryHAt t j).1

/-- A region that reads where a tile reads is that tile's region. -/
theorem region_at {α : Type} {k : Fin 2 → ℕ → OffK} {q : Fin 2 → OffQ} {v : Fin 2 → ℕ → OffV} {qh : Fin 2 → OffQH} {K : PG F α}
    {t : Fin 8} {n : ℕ} (H : Reads t n k q v qh) :
    region a2 a3 a4 a6 a7 a8 a9 a10 a11 k q v qh n K = regionAt a2 a3 a4 a6 a7 a8 a9 a10 a11 t n K := by
  obtain ⟨hk, hq, hv, hqh⟩ := H
  have hk' : ∀ j d, d < n + 1 → k j d = keyAt j (d + 1) := fun j d h => Subtype.ext (hk j ⟨d, h⟩)
  have hv' : ∀ j d, d < n + 2 → v j d = valAt j d := fun j d h => Subtype.ext (hv j ⟨d, h⟩)
  have hqh' : qh = queryHAt t := funext fun j => Subtype.ext (hqh j)
  unfold regionAt region
  rw [funext fun j => hk' j n (by omega), funext fun j => hv' j n (by omega), funext fun j => hv' j (n + 1) (by omega), hqh',
    chain_congr a2 a3 a4 a7 a8 a9 a10 a11 (k' := fun j c => keyAt j (c + 1)) (v' := valAt)
      (fun j d _ h => hk' j d (by omega)) (fun j d _ h => hv' j d (by omega))]
  by_cases hn : n = 0
  · subst hn; rfl
  · rw [show q = queryAt t from funext fun j => Subtype.ext (hq j hn)]

/-- The loop over the tiles makes eight trips. -/
theorem t1_trips : k0_t1_loop.trips = 8 := by decide +kernel
/-- The tile of a trip. -/
abbrev tileOf (t : Fin k0_t1_loop.trips) : Fin 8 := t.cast t1_trips

theorem cond1_iff : ∀ t : Fin k0_t1_loop.trips, (k0_cond1 t = 1#1) ↔ (t.val = 0) := by decide +kernel
theorem cond2_iff : ∀ t : Fin k0_t1_loop.trips, (k0_cond2 t = 1#1) ↔ (t.val = 1) := by decide +kernel
theorem cond3_iff : ∀ t : Fin k0_t1_loop.trips, (k0_cond3 t = 1#1) ↔ (t.val = 2) := by decide +kernel
theorem cond4_iff : ∀ t : Fin k0_t1_loop.trips, (k0_cond4 t = 1#1) ↔ (t.val = 3) := by decide +kernel
theorem cond5_iff : ∀ t : Fin k0_t1_loop.trips, (k0_cond5 t = 1#1) ↔ (t.val = 4) := by decide +kernel
theorem cond6_iff : ∀ t : Fin k0_t1_loop.trips, (k0_cond6 t = 1#1) ↔ (t.val = 5) := by decide +kernel
theorem cond7_iff : ∀ t : Fin k0_t1_loop.trips, (k0_cond7 t = 1#1) ↔ (t.val = 6) := by decide +kernel
theorem cond8_iff : ∀ t : Fin k0_t1_loop.trips, (k0_cond8 t = 1#1) ↔ (t.val = 7) := by decide +kernel

/-! Each region reads where its tile reads. The first has no unmasked block. -/

theorem reads1 : ∀ t h, Reads (tileOf t) 0 (fun j _ => k1 t h j) (queryAt (tileOf t)) (v1 t h) (qh1 t h) := by decide +kernel
theorem reads2 : ∀ t h, Reads (tileOf t) 2 (k2 t h) (q2 t h) (v2 t h) (qh2 t h) := by decide +kernel
theorem reads3 : ∀ t h, Reads (tileOf t) 4 (k3 t h) (q3 t h) (v3 t h) (qh3 t h) := by decide +kernel
theorem reads4 : ∀ t h, Reads (tileOf t) 6 (k4 t h) (q4 t h) (v4 t h) (qh4 t h) := by decide +kernel
theorem reads5 : ∀ t h, Reads (tileOf t) 8 (k5 t h) (q5 t h) (v5 t h) (qh5 t h) := by decide +kernel
theorem reads6 : ∀ t h, Reads (tileOf t) 10 (k6 t h) (q6 t h) (v6 t h) (qh6 t h) := by decide +kernel
theorem reads7 : ∀ t h, Reads (tileOf t) 12 (k7 t h) (q7 t h) (v7 t h) (qh7 t h) := by decide +kernel
theorem reads8 : ∀ t h, Reads (tileOf t) 14 (k8 t h) (q8 t h) (v8 t h) (qh8 t h) := by decide +kernel

theorem guarded_pos {α : Type} {c : Prop} [Decidable c] (h : c) {p : c → PG F α → PG F α} {K : PG F α} : guarded c p K = p h K := dif_pos h
theorem guarded_neg {α : Type} {c : Prop} [Decidable c] (h : ¬c) {p : c → PG F α → PG F α} {K : PG F α} : guarded c p K = K := dif_neg h

section
variable (i : grid0.Coords) (h2 : a2.IsWhole) (h3 : a3.IsWhole) (h4 : a4.IsWhole) (h5 : a5.IsWhole) (h6 : a6.IsWhole)
  (h7 : a7.IsWhole) (h8 : a8.IsWhole) (h9 : a9.IsWhole) (h10 : a10.IsWhole) (h11 : a11.IsWhole)

/-- The regions and the quotient together: the region of this tile, then the quotient. -/
theorem tail_eq {β : Type} (t : Fin k0_t1_loop.trips) (w v u : BitVec 32) (x y : BitVec 1) (f : FVec F S128x512 .bf16 → PG F β) :
    ((k0_part377 i a2 h2 a3 h3 a4 h4 a5 h5 a6 h6 a7 h7 a8 h8 a9 h9 a10 h10 a11 h11 t w v u x y).bind fun z =>
      (k0_part378 i a2 h2 a3 h3 a4 h4 a5 h5 a6 h6 a7 h7 a8 h8 a9 h9 a10 h10 a11 h11 t w v z).bind f)
      = regionAt a2 a3 a4 a6 a7 a8 a9 a10 a11 (tileOf t) (2 * t.val) (finish t a5 a10 a11 f) := by
  rw [part377_eq]
  simp only [part378_eq]
  have e1 := cond1_iff t
  have e2 := cond2_iff t
  have e3 := cond3_iff t
  have e4 := cond4_iff t
  have e5 := cond5_iff t
  have e6 := cond6_iff t
  have e7 := cond7_iff t
  have e8 := cond8_iff t
  have ht : t.val < 8 := t1_trips ▸ t.isLt
  obtain h | h | h | h | h | h | h | h : t.val = 0 ∨ t.val = 1 ∨ t.val = 2 ∨ t.val = 3 ∨ t.val = 4 ∨ t.val = 5 ∨ t.val = 6 ∨ t.val = 7 := by omega
  all_goals
    simp only [guarded, h, e1, e2, e3, e4, e5, e6, e7, e8, Nat.reduceEqDiff, OfNat.ofNat_ne_zero, OfNat.zero_ne_ofNat,
      OfNat.one_ne_ofNat, OfNat.ofNat_ne_one, zero_ne_one, one_ne_zero, ↓reduceDIte, region_bind, diag_bind, Prog.bind]
  · exact region_at a2 a3 a4 a6 a7 a8 a9 a10 a11 (reads1 t (e1.2 h))
  · exact region_at a2 a3 a4 a6 a7 a8 a9 a10 a11 (reads2 t (e2.2 h))
  · exact region_at a2 a3 a4 a6 a7 a8 a9 a10 a11 (reads3 t (e3.2 h))
  · exact region_at a2 a3 a4 a6 a7 a8 a9 a10 a11 (reads4 t (e4.2 h))
  · exact region_at a2 a3 a4 a6 a7 a8 a9 a10 a11 (reads5 t (e5.2 h))
  · exact region_at a2 a3 a4 a6 a7 a8 a9 a10 a11 (reads6 t (e6.2 h))
  · exact region_at a2 a3 a4 a6 a7 a8 a9 a10 a11 (reads7 t (e7.2 h))
  · exact region_at a2 a3 a4 a6 a7 a8 a9 a10 a11 (reads8 t (e8.2 h))

/-- The running maxima, the running denominators and the running sums as a tile starts with them. -/
def m0V : FVec F S2x1x512 .f32 :=
  shapeCast S2x1x512 (broadcast S2x1x512 (Scalar.ofBits .f32 0xF149F2CA#32)) shapeCasts_S2x1x512_S2x1x512
def l0V : FVec F S2x1x512 .f32 :=
  shapeCast S2x1x512 (broadcast S2x1x512 (Scalar.ofBits .f32 0x00000000#32)) shapeCasts_S2x1x512_S2x1x512
def a0V : FVec F S2x64x512 .f32 :=
  shapeCast S2x64x512 (broadcast S2x64x512 (Scalar.ofBits .f32 0x00000000#32)) shapeCasts_S2x64x512_S2x64x512

/-- The scratch reset. -/
def reset {α : Type} (K : PG F α) : PG F α :=
  .op (.load a9 (Rect.unit (s := S2x1x512) ![0, 0, 0] S2x1x512.size inb_S2x1x512_S2x1x512_0_0_0).toLoadRect (View.loadsAt_vmem h_S2x1x512)) fun _ =>
  .op (.store a9 (Rect.unit (s := S2x1x512) ![0, 0, 0] S2x1x512.size inb_S2x1x512_S2x1x512_0_0_0) m0V Finset.univ (View.stores_vmem_bits_univ h_S2x1x512 rfl) (.inl rfl)) fun _ =>
  .op (.load a10 (Rect.unit (s := S2x1x512) ![0, 0, 0] S2x1x512.size inb_S2x1x512_S2x1x512_0_0_0).toLoadRect (View.loadsAt_vmem h_S2x1x512)) fun _ =>
  .op (.store a10 (Rect.unit (s := S2x1x512) ![0, 0, 0] S2x1x512.size inb_S2x1x512_S2x1x512_0_0_0) l0V Finset.univ (View.stores_vmem_bits_univ h_S2x1x512 rfl) (.inl rfl)) fun _ =>
  .op (.load a11 (Rect.unit (s := S2x64x512) ![0, 0, 0] S2x64x512.size inb_S2x64x512_S2x64x512_0_0_0).toLoadRect (View.loadsAt_vmem h_S2x64x512)) fun _ =>
  .op (.store a11 (Rect.unit (s := S2x64x512) ![0, 0, 0] S2x64x512.size inb_S2x64x512_S2x64x512_0_0_0) a0V Finset.univ (View.stores_vmem_bits_univ h_S2x64x512 rfl) (.inl rfl)) fun _ => K

theorem query0 (t : Fin k0_t1_loop.trips) : (⟨k0_off1 t, k0_off1_inb t⟩ : OffQ) = queryAt (tileOf t) 0 := Subtype.ext (Gen.k0_off1_eq t)
theorem query1 (t : Fin k0_t1_loop.trips) : (⟨k0_off2 t, k0_off2_inb t⟩ : OffQ) = queryAt (tileOf t) 1 := Subtype.ext (Gen.k0_off2_eq t)

/-- One tile, followed by `f` of its result. -/
def tile {β : Type} (t : Fin k0_t1_loop.trips) (f : FVec F S128x512 .bf16 → PG F β) : PG F β :=
  reset a9 a10 a11 <| score a2 a3 a7 a8 0 0 (keyAt 0 0) (queryAt (tileOf t) 0) <|
  score a2 a3 a7 a8 0 1 (keyAt 1 0) (queryAt (tileOf t) 1) <|
  regionAt a2 a3 a4 a6 a7 a8 a9 a10 a11 (tileOf t) (2 * t.val) (finish t a5 a10 a11 f)

set_option maxRecDepth 10000000 in
theorem tile_eq {β : Type} (t : Fin k0_t1_loop.trips) (z o : BitVec 32) (f : FVec F S128x512 .bf16 → PG F β) :
    ((k0_part375 i a2 h2 a3 h3 a4 h4 a5 h5 a6 h6 a7 h7 a8 h8 a9 h9 a10 h10 a11 h11 z o t).bind fun p =>
      (k0_part376 i a2 h2 a3 h3 a4 h4 a5 h5 a6 h6 a7 h7 a8 h8 a9 h9 a10 h10 a11 h11 t p.1 p.2.1 p.2.2).bind fun q =>
      (k0_part377 i a2 h2 a3 h3 a4 h4 a5 h5 a6 h6 a7 h7 a8 h8 a9 h9 a10 h10 a11 h11 t p.1 p.2.1 q.1 q.2.1 q.2.2).bind fun z =>
      (k0_part378 i a2 h2 a3 h3 a4 h4 a5 h5 a6 h6 a7 h7 a8 h8 a9 h9 a10 h10 a11 h11 t p.1 p.2.1 z).bind f)
      = tile a2 a3 a4 a5 a6 a7 a8 a9 a10 a11 t f := by
  simp only [tail_eq]
  unfold tile
  rw [← query0, ← query1]
  rfl

/-- The tile's result stored. -/
def store5 {β : Type} (t : Fin k0_t1_loop.trips) (h : a5.IsWhole) (K : PG F β) (o : FVec F S128x512 .bf16) : PG F β :=
  .op (.store a5 (Rect.unit (s := S1x8x128x512) (k0_off77 t) S1x1x128x512.size (k0_off77_inb t))
    (shapeCast S1x1x128x512 o shapeCasts_S128x512_S1x1x128x512) Finset.univ
    (View.stores_vmem h_S1x1x128x512 (h.storeExact_slice rfl _ (k0_off77_packedbf16 t)) (fun _ => rfl)) (.inl rfl)) fun _ => K

/-- The mask of the block that starts `d` rows below the tile's first key: 0 where the key is not after the query, −∞ where it is. -/
def biasV (d : BitVec 32) : FVec F S1x256x512 .f32 :=
  shapeCast S1x256x512 (select (cmpi .sle (addi (broadcast S256x512 d) (iota .tc S256x512 32 [0] iota_S256x512_d0_w32)) (iota .tc S256x512 32 [1] iota_S256x512_d1_w32))
    (broadcast S256x512 (Scalar.ofBits .f32 0x00000000#32 : F .f32)) (broadcast S256x512 (Scalar.ofBits .f32 0xFF800000#32 : F .f32))) shapeCasts_S256x512_S1x256x512

/-- The two masks written. -/
def masks {α : Type} (K : PG F α) : PG F α :=
  .op (.load a6 r6.toLoadRect (View.loadsAt_vmem h_S1x256x512)) fun _ =>
  .op (.store a6 r6 (biasV 0#32) Finset.univ (View.stores_vmem_bits_univ h_S1x256x512 rfl) (.inl rfl)) fun _ =>
  .op (.load a6 r6'.toLoadRect (View.loadsAt_vmem h_S1x256x512)) fun _ =>
  .op (.store a6 r6' (biasV 256#32) Finset.univ (View.stores_vmem_bits_univ h_S1x256x512 rfl) (.inl rfl)) fun _ => K

/-- The printed body: the masks, then the eight tiles. -/
theorem body_eq : (cc0_fox_attn i a2 h2 a3 h3 a4 h4 a5 h5 a6 h6 a7 h7 a8 h8 a9 h9 a10 h10 a11 h11 : PG F PUnit) =
    masks a6 ((Scf.Loop.for k0_t1_loop k0_t1_ok ⟨⟩ fun t _ => tile a2 a3 a4 a5 a6 a7 a8 a9 a10 a11 t (store5 a5 t h5 (.ret ⟨⟩))).bind .ret) := by
  simp only [← tile_eq a2 a3 a4 a5 a6 a7 a8 a9 a10 a11 i h2 h3 h4 h5 h6 h7 h8 h9 h10 h11 _ 0#32 1#32]
  rfl
end
end Cert.KernelIdeal.Hand

end
-- ==== Proof.Sim.lean ====
/-
  What one tile leaves, whatever the scratch held before it.

  Of a head only the running maximum, denominator and weighted sum are carried from key block to key block. `Ml` holds
  the three; `mlN` is the head's after some unmasked blocks, `mlEnd` after the two masked ones. A tile's result is a
  function of these alone.
-/
module

public import proofs.«01_k».proof.Proof.Machine
public import proofs.«01_k».proof.Proof.Body
public import Idealize.ShloMosaic.Lib.Pipeline.Value

@[expose] public section

noncomputable section

namespace Cert.KernelIdeal.Hand

open Cert.KernelIdeal Facts₀ Facts
open Idealize.ShloMosaic Idealize.ShloMosaic.TcCoe Idealize.SL.Sem
open Idealize.ShloMosaic.VecWindow

variable {F : FTy → Type} [FloatOps F]

/-! ## Windows in windows -/

section
variable {α : Type} {s : Shape}

/-- A window of a window is a window. -/
theorem window_window (x : s.Idx → α) (off size δ size' off' : Fin s.rank → ℕ) (inb : ∀ a, off a + size a ≤ s.size a)
    (inb' : ∀ a, δ a + size' a ≤ size a) (inb'' : ∀ a, off' a + size' a ≤ s.size a) (h : ∀ a, off' a = off a + δ a) :
    window x off' size' inb'' = window (s := ⟨s.rank, size⟩) (window x off size inb) δ size' inb' := by
  funext y
  refine congrArg x (funext fun a => Fin.ext ?_)
  show off' a + 1 * (y a).val = off a + 1 * (δ a + 1 * (y a).val)
  rw [h a]; omega

/-- A window around what was put reads it put into what the window read. -/
theorem window_put_around (x : s.Idx → α) (off size δ size' off' : Fin s.rank → ℕ) (inb : ∀ a, off a + size a ≤ s.size a)
    (w : ((a : Fin s.rank) → Fin (size' a)) → α) (h : ∀ a, off' a = off a + δ a) :
    window (put x off' size' w) off size inb = put (s := ⟨s.rank, size⟩) (window x off size inb) δ size' w := by
  funext y
  have hv : ∀ a, ((Rect.unit off size inb).emb y a).val = off a + 1 * (y a).val := fun a => rfl
  by_cases hy : ∀ a, δ a ≤ (y a).val ∧ (y a).val < δ a + size' a
  · have hx : ∀ a, off' a ≤ ((Rect.unit off size inb).emb y a).val ∧ ((Rect.unit off size inb).emb y a).val < off' a + size' a := by
      intro a; have := hy a; have := hv a; have := h a; omega
    refine (dif_pos hx).trans (Eq.trans ?_ (dif_pos hy).symm)
    refine congrArg w (funext fun a => Fin.ext ?_)
    show ((Rect.unit off size inb).emb y a).val - off' a = (y a).val - δ a
    have := hv a; have := h a; omega
  · have hx : ¬ ∀ a, off' a ≤ ((Rect.unit off size inb).emb y a).val ∧ ((Rect.unit off size inb).emb y a).val < off' a + size' a := by
      intro hh; apply hy
      intro a; have := hh a; have := hv a; have := h a; omega
    have e1 : put x off' size' w ((Rect.unit off size inb).emb y) = x ((Rect.unit off size inb).emb y) := dif_neg hx
    have e2 : put (s := ⟨s.rank, size⟩) (window x off size inb) δ size' w y = x ((Rect.unit off size inb).emb y) := dif_neg hy
    exact e1.trans e2.symm
end

/-! ## One head -/

/-- The running maximum, denominator and weighted sum of a head. -/
structure Ml (F : FTy → Type) where
  m : Vec F S1x1x512 .f32
  l : Vec F S1x1x512 .f32
  a : Vec F S1x64x512 .f32

/-- A block of scores `s` with maxima `x` and values `v` folded in. -/
def foldMl (s : FVec F S256x512 .f32) (x : FVec F S1x512 .f32) (v : Vec F S1x1x64x256 .bf16) (μ : Ml F) : Ml F :=
  ⟨shapeCast S1x1x512 (newM μ.m x) shapeCasts_S1x512_S1x1x512, shapeCast S1x1x512 (newL s μ.m x μ.l) shapeCasts_S1x512_S1x1x512,
    shapeCast S1x64x512 (newA s μ.m x μ.a v) shapeCasts_S64x512_S1x64x512⟩

/-- The right half of a row and of a block of 64 rows. -/
abbrev rowH (x : Vec F S1x1x512 .f32) : Vec F S1x1x256 .f32 := window x ![0, 0, 256] S1x1x256.size (by decide)
abbrev accH (x : Vec F S1x64x512 .f32) : Vec F S1x64x256 .f32 := window x ![0, 0, 256] S1x64x256.size (by decide)

/-- The same on the right half of the columns. -/
def foldMlH (s : FVec F S256x256 .f32) (x : FVec F S1x256 .f32) (v : Vec F S1x1x64x256 .bf16) (μ : Ml F) : Ml F :=
  ⟨put μ.m ![0, 0, 256] S1x1x256.size (shapeCast S1x1x256 (newMH (rowH μ.m) x) shapeCasts_S1x256_S1x1x256),
   put μ.l ![0, 0, 256] S1x1x256.size (shapeCast S1x1x256 (newLH s (rowH μ.m) x (rowH μ.l)) shapeCasts_S1x256_S1x1x256),
   put μ.a ![0, 0, 256] S1x64x256.size (shapeCast S1x64x256 (newAH s (rowH μ.m) x (accH μ.a) v) shapeCasts_S64x256_S1x64x256)⟩

/-- A head's part of the scratch. -/
def mlOf (σ : St F) (j : Fin 2) : Ml F := ⟨win σ.m (r9 j), win σ.l (r9 j), win σ.a (r11 j)⟩

theorem val_apart {j j' : Fin 2} (h : j ≠ j') : j'.val + 1 ≤ j.val ∨ j.val + 1 ≤ j'.val := by
  have := Fin.val_ne_of_ne h; omega

variable (Q : Vec F S1x8x2x128x512 .bf16) (Kb : Vec F S1x4096x256 .bf16) (V : Vec F S1x16x128x256 .bf16) (B : Vec F S2x256x512 .f32)

theorem mlOf_fold (j : Fin 2) (ov : OffV) (s : FVec F S256x512 .f32) (x : FVec F S1x512 .f32) (σ : St F) :
    mlOf (foldSt V j ov s x σ) j = foldMl s x (vAt V ov) (mlOf σ j) := by
  unfold mlOf foldMl foldSt
  congr 1
  · exact window_put_same _ _ _ _ _
  · exact window_put_same _ _ _ _ _
  · exact window_put_same _ _ _ _ _

theorem mlOf_fold_ne {j j' : Fin 2} (h : j ≠ j') (ov : OffV) (s : FVec F S256x512 .f32) (x : FVec F S1x512 .f32) (σ : St F) :
    mlOf (foldSt V j ov s x σ) j' = mlOf σ j' := by
  unfold mlOf foldSt
  congr 1
  · exact window_put_of_disjoint _ _ _ _ _ _ _ (0 : Fin 3) (val_apart h)
  · exact window_put_of_disjoint _ _ _ _ _ _ _ (0 : Fin 3) (val_apart h)
  · exact window_put_of_disjoint _ _ _ _ _ _ _ (0 : Fin 3) (val_apart h)

theorem mlOf_foldH (j : Fin 2) (ov : OffV) (s : FVec F S256x256 .f32) (x : FVec F S1x256 .f32) (σ : St F) :
    mlOf (foldHSt V j ov s x σ) j = foldMlH s x (vAt V ov) (mlOf σ j) := by
  have e1 : ∀ y : Vec F S2x1x512 .f32, win y (r9H j) = rowH (win y (r9 j)) := fun y =>
    window_window y ![j.val, 0, 0] S1x1x512.size ![0, 0, 256] S1x1x256.size ![j.val, 0, 256] (by fin_cases j <;> decide) (by decide) (by fin_cases j <;> decide) (by intro a; fin_cases a <;> rfl)
  have e2 : ∀ y : Vec F S2x64x512 .f32, win y (r11H j) = accH (win y (r11 j)) := fun y =>
    window_window y ![j.val, 0, 0] S1x64x512.size ![0, 0, 256] S1x64x256.size ![j.val, 0, 256] (by fin_cases j <;> decide) (by decide) (by fin_cases j <;> decide) (by intro a; fin_cases a <;> rfl)
  unfold mlOf foldMlH foldHSt
  rw [e1, e1, e2]
  congr 1
  · exact window_put_around (s := S2x1x512) _ ![j.val, 0, 0] S1x1x512.size ![0, 0, 256] _ ![j.val, 0, 256] _ _ (by intro a; fin_cases a <;> rfl)
  · exact window_put_around (s := S2x1x512) _ ![j.val, 0, 0] S1x1x512.size ![0, 0, 256] _ ![j.val, 0, 256] _ _ (by intro a; fin_cases a <;> rfl)
  · exact window_put_around (s := S2x64x512) _ ![j.val, 0, 0] S1x64x512.size ![0, 0, 256] _ ![j.val, 0, 256] _ _ (by intro a; fin_cases a <;> rfl)

theorem mlOf_foldH_ne {j j' : Fin 2} (h : j ≠ j') (ov : OffV) (s : FVec F S256x256 .f32) (x : FVec F S1x256 .f32) (σ : St F) :
    mlOf (foldHSt V j ov s x σ) j' = mlOf σ j' := by
  unfold mlOf foldHSt
  congr 1
  · exact window_put_of_disjoint _ _ _ _ _ _ _ (0 : Fin 3) (val_apart h)
  · exact window_put_of_disjoint _ _ _ _ _ _ _ (0 : Fin 3) (val_apart h)
  · exact window_put_of_disjoint _ _ _ _ _ _ _ (0 : Fin 3) (val_apart h)

/-! ## A slot of scores -/

theorem scoreSt_S (s j : Fin 2) (ok : OffK) (oq : OffQ) (σ : St F) :
    win (scoreSt Q Kb s j ok oq σ).S (r7 s j) = shapeCast S1x1x256x512 (scoreV (kAt Kb ok) (qAt Q oq)) shapeCasts_S256x512_S1x1x256x512 :=
  window_put_same _ _ _ _ _
theorem scoreSt_X (s j : Fin 2) (ok : OffK) (oq : OffQ) (σ : St F) :
    win (scoreSt Q Kb s j ok oq σ).X (r8 s j) = shapeCast S1x1x1x512 (maxV (scoreV (kAt Kb ok) (qAt Q oq))) shapeCasts_S1x512_S1x1x1x512 :=
  window_put_same _ _ _ _ _
theorem scoreSt_S_ne {s s' j j' : Fin 2} (h : s ≠ s' ∨ j ≠ j') (ok : OffK) (oq : OffQ) (σ : St F) :
    win (scoreSt Q Kb s j ok oq σ).S (r7 s' j') = win σ.S (r7 s' j') := by
  obtain h | h := h
  · exact window_put_of_disjoint _ _ _ _ _ _ _ (0 : Fin 4) (val_apart h)
  · exact window_put_of_disjoint _ _ _ _ _ _ _ (1 : Fin 4) (val_apart h)
theorem scoreSt_X_ne {s s' j j' : Fin 2} (h : s ≠ s' ∨ j ≠ j') (ok : OffK) (oq : OffQ) (σ : St F) :
    win (scoreSt Q Kb s j ok oq σ).X (r8 s' j') = win σ.X (r8 s' j') := by
  obtain h | h := h
  · exact window_put_of_disjoint _ _ _ _ _ _ _ (0 : Fin 4) (val_apart h)
  · exact window_put_of_disjoint _ _ _ _ _ _ _ (1 : Fin 4) (val_apart h)
theorem scoreHSt_S (s j : Fin 2) (ok : OffK) (oq : OffQH) (σ : St F) :
    win (scoreHSt Q Kb s j ok oq σ).S (r7H s j) = shapeCast S1x1x256x256 (scoreVH (kAt Kb ok) (qhAt Q oq)) shapeCasts_S256x256_S1x1x256x256 :=
  window_put_same _ _ _ _ _
theorem scoreHSt_S_ne {s j j' : Fin 2} (h : j ≠ j') (ok : OffK) (oq : OffQH) (σ : St F) :
    win (scoreHSt Q Kb s j ok oq σ).S (r7H s j') = win σ.S (r7H s j') :=
  window_put_of_disjoint _ _ _ _ _ _ _ (1 : Fin 4) (val_apart h)
theorem scoreHSt_S_slot {s s' j j' : Fin 2} (h : s ≠ s') (ok : OffK) (oq : OffQH) (σ : St F) :
    win (scoreHSt Q Kb s j ok oq σ).S (r7 s' j') = win σ.S (r7 s' j') :=
  window_put_of_disjoint _ _ _ _ _ _ _ (0 : Fin 4) (val_apart h)

/-! ## One tile -/

section
variable (t : Fin 8) (j : Fin 2)

/-- The scores of key block `c`. -/
def sc (c : ℕ) : FVec F S256x512 .f32 := scoreV (kAt Kb (keyAt j c)) (qAt Q (queryAt t j))
/-- The scores of key block `c` against the right half of the tile. -/
def scH (c : ℕ) : FVec F S256x256 .f32 := scoreVH (kAt Kb (keyAt j c)) (qhAt Q (queryHAt t j))

/-- Head `j` after `c` unmasked key blocks. -/
def mlN : ℕ → Ml F
  | 0 => ⟨win m0V (r9 j), win l0V (r9 j), win a0V (r11 j)⟩
  | c + 1 => foldMl (sc Q Kb t j c) (maxV (sc Q Kb t j c)) (vAt V (valAt j c)) (mlN c)

/-- The scores of the first masked block and of the last one. -/
def scM (n : ℕ) : FVec F S256x512 .f32 := addf (sc Q Kb t j n) (shapeCast S256x512 (biasV 0#32) shapeCasts_S1x256x512_S256x512)
/-- The right half of the second mask. -/
def biasH : Vec F S1x256x256 .f32 := window (s := S1x256x512) (biasV (F := F) 256#32) ![0, 0, 256] S1x256x256.size (by decide)
def scMH (n : ℕ) : FVec F S256x256 .f32 := addf (scH Q Kb t j n) (shapeCast S256x256 biasH shapeCasts_S1x256x256_S256x256)

/-- Head `j` at the end of tile `t`, which has `n` unmasked blocks. -/
def mlEnd (n : ℕ) : Ml F :=
  foldMlH (scMH Q Kb t j (n + 1)) (maxVH (scMH Q Kb t j (n + 1))) (vAt V (valAt j (n + 1)))
    (foldMl (scM Q Kb t j n) (maxV (scM Q Kb t j n)) (vAt V (valAt j n)) (mlN Q Kb V t j n))
end

/-- The result of tile `t`. -/
def tileOut (t : Fin 8) : FVec F S128x512 .bf16 :=
  outV (mlEnd Q Kb V t 0 (2 * t.val)).a (mlEnd Q Kb V t 0 (2 * t.val)).l (mlEnd Q Kb V t 1 (2 * t.val)).a (mlEnd Q Kb V t 1 (2 * t.val)).l

/-- The scratch reset. -/
def resetSt (σ : St F) : St F := { σ with m := m0V, l := l0V, a := a0V }

/-- The scratch after tile `t`. -/
def tileSt (t : Fin 8) (σ : St F) : St F :=
  diagSt Q Kb V B (fun j => keyAt j (2 * t.val + 1)) (queryHAt t) (fun j => valAt j (2 * t.val)) (fun j => valAt j (2 * t.val + 1)) <|
  chainSt Q Kb V (fun j c => keyAt j (c + 1)) (queryAt t) valAt (2 * t.val) 0 <|
  scoreSt Q Kb 0 1 (keyAt 1 0) (queryAt t 1) <| scoreSt Q Kb 0 0 (keyAt 0 0) (queryAt t 0) <| resetSt σ

/-- The slot of block `c` holds its scores, and the heads hold what they have after `c` blocks. -/
def Sim (t : Fin 8) (c : ℕ) (σ : St F) : Prop :=
  ∀ j, win σ.S (r7 (slot c) j) = shapeCast S1x1x256x512 (sc Q Kb t j c) shapeCasts_S256x512_S1x1x256x512
    ∧ win σ.X (r8 (slot c) j) = shapeCast S1x1x1x512 (maxV (sc Q Kb t j c)) shapeCasts_S1x512_S1x1x1x512
    ∧ mlOf σ j = mlN Q Kb V t j c

variable {Q Kb V B}

theorem slot_ne (c : ℕ) : slot (c + 1) ≠ slot c := by
  intro h; have := congrArg Fin.val h; dsimp only [slot] at this; omega

/-- Folding the slot of block `c` for one head. -/
theorem mlOf_upd {t : Fin 8} {c : ℕ} {j : Fin 2} {σ : St F}
    (hS : win σ.S (r7 (slot c) j) = shapeCast S1x1x256x512 (sc Q Kb t j c) shapeCasts_S256x512_S1x1x256x512)
    (hX : win σ.X (r8 (slot c) j) = shapeCast S1x1x1x512 (maxV (sc Q Kb t j c)) shapeCasts_S1x512_S1x1x1x512)
    (hm : mlOf σ j = mlN Q Kb V t j c) : mlOf (updSt V (slot c) j (valAt j c) σ) j = mlN Q Kb V t j (c + 1) := by
  unfold updSt
  rw [mlOf_fold, hS, hX, hm]
  exact congrArg₂ (fun s x => foldMl s x (vAt V (valAt j c)) (mlN Q Kb V t j c)) (shapeCast_shapeCast _ _ _) (shapeCast_shapeCast _ _ _)

theorem sim_step {t : Fin 8} {c : ℕ} {σ : St F} (h : Sim Q Kb V t c σ) :
    Sim Q Kb V t (c + 1) (updSt V (slot c) 1 (valAt 1 c) <| updSt V (slot c) 0 (valAt 0 c) <|
      scoreSt Q Kb (slot (c + 1)) 1 (keyAt 1 (c + 1)) (queryAt t 1) <| scoreSt Q Kb (slot (c + 1)) 0 (keyAt 0 (c + 1)) (queryAt t 0) σ) := by
  have hs := slot_ne c
  have h0 := h 0
  have h1 := h 1
  set σ1 := scoreSt Q Kb (slot (c + 1)) 0 (keyAt 0 (c + 1)) (queryAt t 0) σ with e1
  set σ2 := scoreSt Q Kb (slot (c + 1)) 1 (keyAt 1 (c + 1)) (queryAt t 1) σ1 with e2
  have S0 : ∀ j, win σ2.S (r7 (slot c) j) = win σ.S (r7 (slot c) j) := fun j => by
    rw [e2, scoreSt_S_ne Q Kb (.inl hs), e1, scoreSt_S_ne Q Kb (.inl hs)]
  have X0 : ∀ j, win σ2.X (r8 (slot c) j) = win σ.X (r8 (slot c) j) := fun j => by
    rw [e2, scoreSt_X_ne Q Kb (.inl hs), e1, scoreSt_X_ne Q Kb (.inl hs)]
  have m0 : ∀ j, mlOf σ2 j = mlOf σ j := fun j => rfl
  have u0 : mlOf (updSt V (slot c) 0 (valAt 0 c) σ2) 0 = mlN Q Kb V t 0 (c + 1) :=
    mlOf_upd ((S0 0).trans h0.1) ((X0 0).trans h0.2.1) ((m0 0).trans h0.2.2)
  have u1 : mlOf (updSt V (slot c) 0 (valAt 0 c) σ2) 1 = mlN Q Kb V t 1 c :=
    (mlOf_fold_ne V (by decide) _ _ _ _).trans ((m0 1).trans h1.2.2)
  have w1 : mlOf (updSt V (slot c) 1 (valAt 1 c) (updSt V (slot c) 0 (valAt 0 c) σ2)) 1 = mlN Q Kb V t 1 (c + 1) :=
    mlOf_upd ((S0 1).trans h1.1) ((X0 1).trans h1.2.1) u1
  have w0 : mlOf (updSt V (slot c) 1 (valAt 1 c) (updSt V (slot c) 0 (valAt 0 c) σ2)) 0 = mlN Q Kb V t 0 (c + 1) :=
    (mlOf_fold_ne V (by decide) _ _ _ _).trans u0
  intro j
  fin_cases j
  · exact ⟨(scoreSt_S_ne Q Kb (.inr (by decide)) _ _ _).trans (scoreSt_S Q Kb _ _ _ _ _),
      (scoreSt_X_ne Q Kb (.inr (by decide)) _ _ _).trans (scoreSt_X Q Kb _ _ _ _ _), w0⟩
  · exact ⟨scoreSt_S Q Kb _ _ _ _ _, scoreSt_X Q Kb _ _ _ _ _, w1⟩

theorem sim_chain {t : Fin 8} (n : ℕ) {c : ℕ} {σ : St F} (h : Sim Q Kb V t c σ) :
    Sim Q Kb V t (c + n) (chainSt Q Kb V (fun j c => keyAt j (c + 1)) (queryAt t) valAt n c σ) := by
  induction n generalizing c σ with
  | zero => exact h
  | succ n ih =>
    rw [chainSt, show c + (n + 1) = c + 1 + n by omega]
    exact ih (sim_step h)

theorem sim_start (t : Fin 8) (σ : St F) :
    Sim Q Kb V t 0 (scoreSt Q Kb 0 1 (keyAt 1 0) (queryAt t 1) <| scoreSt Q Kb 0 0 (keyAt 0 0) (queryAt t 0) <| resetSt σ) := by
  intro j
  fin_cases j
  · exact ⟨(scoreSt_S_ne Q Kb (.inr (by decide)) _ _ _).trans (scoreSt_S Q Kb _ _ _ _ _),
      (scoreSt_X_ne Q Kb (.inr (by decide)) _ _ _).trans (scoreSt_X Q Kb _ _ _ _ _), rfl⟩
  · exact ⟨scoreSt_S Q Kb _ _ _ _ _, scoreSt_X Q Kb _ _ _ _ _, rfl⟩

/-- The two masked blocks, when the scratch holds the masks. -/
theorem sim_diag {t : Fin 8} {n : ℕ} (hn : slot n = 0) {σ : St F} (h : Sim Q Kb V t n σ) (hB : win B r6 = biasV 0#32) (hB' : win B r6H = biasH) (j : Fin 2) :
    mlOf (diagSt Q Kb V B (fun j => keyAt j (n + 1)) (queryHAt t) (fun j => valAt j n) (fun j => valAt j (n + 1)) σ) j = mlEnd Q Kb V t j n := by
  have hS : ∀ j, win σ.S (r7 0 j) = shapeCast S1x1x256x512 (sc Q Kb t j n) shapeCasts_S256x512_S1x1x256x512 := fun j => by
    have := (h j).1; rwa [hn] at this
  unfold diagSt
  set σ1 := scoreHSt Q Kb 1 0 (keyAt 0 (n + 1)) (queryHAt t 0) σ with e1
  set σ2 := scoreHSt Q Kb 1 1 (keyAt 1 (n + 1)) (queryHAt t 1) σ1 with e2
  have S2 : ∀ j, win σ2.S (r7 0 j) = shapeCast S1x1x256x512 (sc Q Kb t j n) shapeCasts_S256x512_S1x1x256x512 := fun j => by
    rw [e2, scoreHSt_S_slot Q Kb (by decide), e1, scoreHSt_S_slot Q Kb (by decide), hS]
  have H2 : ∀ j, win σ2.S (r7H 1 j) = shapeCast S1x1x256x256 (scH Q Kb t j (n + 1)) shapeCasts_S256x256_S1x1x256x256 := fun j => by
    fin_cases j
    · exact (scoreHSt_S_ne Q Kb (by decide) _ _ _).trans (scoreHSt_S Q Kb _ _ _ _ _)
    · exact scoreHSt_S Q Kb _ _ _ _ _
  have M2 : ∀ j, mlOf σ2 j = mlN Q Kb V t j n := fun j => (h j).2.2
  have mk : ∀ j, maskV (win σ2.S (r7 0 j)) (win B r6) = scM Q Kb t j n := fun j => by
    rw [S2, hB]; unfold maskV scM; rw [shapeCast_shapeCast]
  have mkH : ∀ j, maskVH (win σ2.S (r7H 1 j)) (win B r6H) = scMH Q Kb t j (n + 1) := fun j => by
    rw [H2, hB']; unfold maskVH scMH; rw [shapeCast_shapeCast]
  have f0 : ∀ j τ, τ.S = σ2.S → mlOf τ j = mlN Q Kb V t j n → mlOf (updMaskSt V B j (valAt j n) τ) j
      = foldMl (scM Q Kb t j n) (maxV (scM Q Kb t j n)) (vAt V (valAt j n)) (mlN Q Kb V t j n) := fun j τ hτ hm => by
    unfold updMaskSt; rw [mlOf_fold, hτ, mk, hm]
  have f1 : ∀ j τ, τ.S = σ2.S → mlOf τ j = foldMl (scM Q Kb t j n) (maxV (scM Q Kb t j n)) (vAt V (valAt j n)) (mlN Q Kb V t j n) →
      mlOf (updMaskHSt V B j (valAt j (n + 1)) τ) j = mlEnd Q Kb V t j n := fun j τ hτ hm => by
    unfold updMaskHSt; rw [mlOf_foldH, hτ, mkH, hm]; rfl
  fin_cases j
  · exact (mlOf_foldH_ne V (by decide) _ _ _ _).trans (f1 0 _ rfl ((mlOf_fold_ne V (by decide) _ _ _ _).trans (f0 0 _ rfl (M2 0))))
  · exact f1 1 _ rfl ((mlOf_foldH_ne V (by decide) _ _ _ _).trans (f0 1 _ rfl ((mlOf_fold_ne V (by decide) _ _ _ _).trans (M2 1))))

/-- What a tile leaves of each head does not depend on what the scratch held. -/
theorem mlOf_tile (t : Fin 8) (σ : St F) (hB : win B r6 = biasV 0#32) (hB' : win B r6H = biasH) (j : Fin 2) :
    mlOf (tileSt Q Kb V B t σ) j = mlEnd Q Kb V t j (2 * t.val) := by
  have h := sim_chain (Q := Q) (Kb := Kb) (V := V) (2 * t.val) (sim_start t σ)
  rw [Nat.zero_add] at h
  exact sim_diag (by ext; show 2 * t.val % 2 = 0; omega) h hB hB' j

end Cert.KernelIdeal.Hand

end
-- ==== Proof.Run.lean ====
/-
  The run of the kernel: the body of one grid point, the loop over its eight tiles by an invariant, and @main.
-/
module

public import proofs.«01_k».proof.Proof.Sim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat BodyObligation)

variable {F : FTy → Type} [FloatOps F]

local notation "𝕄" => MT nD τ sig Unit (Elt F) ℕ (UR sig nD τ) ℕ

section
variable (c : Dev nD) (a2 : Memref sig .tc .vmem S1x8x2x128x512 .bf16) (a3 : Memref sig .tc .vmem S1x4096x256 .bf16)
  (a4 : Memref sig .tc .vmem S1x16x128x256 .bf16) (a5 : Memref sig .tc .vmem S1x8x128x512 .bf16)
  (a6 : Memref sig .tc .vmem S2x256x512 .f32)
  (a7 : Memref sig .tc .vmem S2x2x256x512 .f32) (a8 : Memref sig .tc .vmem S2x2x1x512 .f32)
  (a9 : Memref sig .tc .vmem S2x1x512 .f32) (a10 : Memref sig .tc .vmem S2x1x512 .f32)
  (a11 : Memref sig .tc .vmem S2x64x512 .f32)
  (Q : Vec F S1x8x2x128x512 .bf16) (Kb : Vec F S1x4096x256 .bf16) (V : Vec F S1x16x128x256 .bf16) (B : Vec F S2x256x512 .f32)

/-- A store of a whole buffer leaves what was stored. -/
theorem put_whole {α : Type} {s : Shape} (x : s.Idx → α) (off : Fin s.rank → ℕ) (h : ∀ a, off a = 0) (w : s.Idx → α) : put x off s.size w = w := by
  funext y
  have hy : ∀ a, off a ≤ (y a).val ∧ (y a).val < off a + s.size a := fun a => by have := (y a).isLt; have := h a; omega
  refine (dif_pos hy).trans (congrArg w (funext fun a => Fin.ext ?_))
  show (y a).val - off a = (y a).val
  rw [h a]; rfl

theorem wp_reset {α : Type} {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V B (resetSt σ) -∗ wpK c K Φ) -∗ wpK c (reset a9 a10 a11 K) Φ) := by
  have z : ∀ a, (![0, 0, 0] : Fin 3 → ℕ) a = 0 := by decide
  have e1 : put σ.m ![0, 0, 0] S2x1x512.size m0V = m0V := put_whole _ _ z _
  have e2 : put σ.l ![0, 0, 0] S2x1x512.size l0V = l0V := put_whole _ _ z _
  have e3 : put σ.a ![0, 0, 0] S2x64x512.size a0V = a0V := put_whole _ _ z _
  unfold Held reset
  iintro ⟨H2, H3, H4, H6, H7, H8, H9, H10, H11⟩ Hk
  iapply (wp_ld σ.m) $$ H9; iintro H9
  iapply (wp_st σ.m) $$ H9; rw [e1]; iintro H9
  iapply (wp_ld σ.l) $$ H10; iintro H10
  iapply (wp_st σ.l) $$ H10; rw [e2]; iintro H10
  iapply (wp_ld σ.a) $$ H11; iintro H11
  iapply (wp_st σ.a) $$ H11; rw [e3]; iintro H11
  iapply Hk
  unfold resetSt
  sl_close

theorem wp_finish {α : Type} (t : Fin k0_t1_loop.trips) {K : FVec F S128x512 .bf16 → PG F α} {Φ : α → sProp 𝕄} (σ : St F) (X : Vec F S1x8x128x512 .bf16) :
    iprop(Held c a2 a3 a4 a6 a7 a8 a9 a10 a11 Q Kb V B σ ∗ owns (c : Thread nD τ) a5 fullShare X : sProp 𝕄)
      ⊢ iprop((Held c a2 a3 a4 a6 a7 a8 a9 a10 a11 Q Kb V B σ ∗ owns (c : Thread nD τ) a5 fullShare X
          -∗ wpK c (K (outV (mlOf σ 0).a (mlOf σ 0).l (mlOf σ 1).a (mlOf σ 1).l)) Φ) -∗ wpK c (finish t a5 a10 a11 K) Φ) := by
  unfold finish Held
  iintro ⟨⟨H2, H3, H4, H6, H7, H8, H9, H10, H11⟩, H5⟩ Hk
  iapply (wp_ld σ.a) $$ H11; iintro H11
  iapply (wp_ld σ.l) $$ H10; iintro H10
  iapply (wp_ld σ.a) $$ H11; iintro H11
  iapply (wp_ld σ.l) $$ H10; iintro H10
  iapply (wp_ld X) $$ H5; iintro H5
  iapply Hk
  sl_close

/-- A run that has ended. -/
theorem ret_close {α : Type} {x : α} {Φ : α → sProp 𝕄} : Φ x ⊢ wpK (F := F) c (.ret x) Φ := le_wp_ret _ _ _ _ _

/-- The result block with tile `t`'s rows written. -/
def storeSt (t : Fin 8) (X : Vec F S1x8x128x512 .bf16) : Vec F S1x8x128x512 .bf16 :=
  put X ![0, t.val, 0, 0] S1x1x128x512.size (shapeCast S1x1x128x512 (tileOut Q Kb V t) shapeCasts_S128x512_S1x1x128x512)

/-- One tile, when the scratch holds the masks: whatever else the scratch held, the tile's rows are `tileOut`. -/
theorem wp_tile (t : Fin k0_t1_loop.trips) (h5 : a5.IsWhole) (hB : win B r6 = biasV 0#32) (hB' : win B r6H = biasH)
    (σ : St F) (X : Vec F S1x8x128x512 .bf16) {Φ : PUnit → sProp 𝕄} :
    iprop(Held c a2 a3 a4 a6 a7 a8 a9 a10 a11 Q Kb V B σ ∗ owns (c : Thread nD τ) a5 fullShare X : sProp 𝕄)
      ⊢ iprop((Held c a2 a3 a4 a6 a7 a8 a9 a10 a11 Q Kb V B (tileSt Q Kb V B (tileOf t) σ) ∗ owns (c : Thread nD τ) a5 fullShare (storeSt Q Kb V (tileOf t) X) -∗ Φ ⟨⟩)
        -∗ wpK c (tile a2 a3 a4 a5 a6 a7 a8 a9 a10 a11 t (store5 a5 t h5 (.ret ⟨⟩))) Φ) := by
  unfold tile regionAt region
  iintro ⟨Ho, H5⟩ Hk
  iapply (wp_reset c a2 a3 a4 a6 a7 a8 a9 a10 a11 Q Kb V B) $$ Ho; iintro Ho
  iapply (wp_score c a2 a3 a4 a6 a7 a8 a9 a10 a11 Q Kb V B) $$ Ho; iintro Ho
  iapply (wp_score c a2 a3 a4 a6 a7 a8 a9 a10 a11 Q Kb V B) $$ Ho; iintro Ho
  iapply (wp_chain c a2 a3 a4 a6 a7 a8 a9 a10 a11 Q Kb V B) $$ Ho; iintro Ho
  iapply (wp_diag c a2 a3 a4 a6 a7 a8 a9 a10 a11 Q Kb V B) $$ Ho; iintro Ho
  iapply (wp_finish c a2 a3 a4 a5 a6 a7 a8 a9 a10 a11 Q Kb V B t _ X) $$ [Ho H5]
  · isplitl [Ho]; · iexact Ho
    iexact H5
  iintro ⟨Ho, H5⟩
  unfold store5
  iapply (wp_st X) $$ H5; iintro H5
  have e : put X (k0_off77 t) S1x1x128x512.size (shapeCast S1x1x128x512 (outV (mlOf (tileSt Q Kb V B (tileOf t) σ) 0).a (mlOf (tileSt Q Kb V B (tileOf t) σ) 0).l
      (mlOf (tileSt Q Kb V B (tileOf t) σ) 1).a (mlOf (tileSt Q Kb V B (tileOf t) σ) 1).l) shapeCasts_S128x512_S1x1x128x512) = storeSt Q Kb V (tileOf t) X := by
    rw [mlOf_tile _ _ hB hB', mlOf_tile _ _ hB hB', k0_off77_eq]; rfl
  rw [← e]
  iapply (ret_close c)
  iapply Hk
  isplitl [Ho]; · iexact Ho
  iexact H5

/-- The index of row `d`, column `q`. -/
def rc (d : Fin 128) (q : Fin 512) : S128x512.Idx := fun | ⟨0, _⟩ => d | ⟨1, _⟩ => q

/-- What the block of the result holds after its eight tiles: tile `t` of the block is `tileOut t`. -/
def outAll : Vec F S1x8x128x512 .bf16 := fun i => tileOut Q Kb V (i 1) (rc (i 2) (i 3))

theorem storeSt_at (t : Fin 8) (X : Vec F S1x8x128x512 .bf16) (n : ℕ) (ht : t.val = n)
    (hX : ∀ i : S1x8x128x512.Idx, (i 1).val < n → X i = outAll Q Kb V i) (i : S1x8x128x512.Idx) (hi : (i 1).val < n + 1) :
    storeSt Q Kb V t X i = outAll Q Kb V i := by
  by_cases h : (i 1).val = n
  · have hin : ∀ a, (![0, t.val, 0, 0] : Fin 4 → ℕ) a ≤ (i a).val ∧ (i a).val < (![0, t.val, 0, 0] : Fin 4 → ℕ) a + S1x1x128x512.size a := by
      intro a
      fin_cases a
      · exact ⟨Nat.zero_le _, by have := (i 0).isLt; simpa using this⟩
      · exact ⟨by show t.val ≤ (i 1).val; omega, by show (i 1).val < t.val + 1; omega⟩
      · exact ⟨Nat.zero_le _, by have := (i 2).isLt; simpa using this⟩
      · exact ⟨Nat.zero_le _, by have := (i 3).isLt; simpa using this⟩
    refine (dif_pos hin).trans ?_
    have e1 : (i 1 : Fin 8) = t := Fin.ext (h.trans ht.symm)
    refine (shapeCast_apply _ _ _ (rc (i 2) (i 3)) ?_).trans ?_
    · rw [Shape.rowMajor_val_two, Shape.rowMajor_val_four]
      show (i 2).val * 512 + (i 3).val = ((((i 0).val - 0) * 1 + ((i 1).val - t.val)) * 128 + ((i 2).val - 0)) * 512 + ((i 3).val - 0)
      have := (i 0).isLt
      have : (i 0).val < 1 := this
      omega
    · show tileOut Q Kb V t (rc (i 2) (i 3)) = tileOut Q Kb V (i 1) (rc (i 2) (i 3))
      rw [e1]
  · have e : storeSt Q Kb V t X i = X i := dif_neg fun hin => by
      have h1 := hin 1
      have e1 : (![0, t.val, 0, 0] : Fin 4 → ℕ) 1 = t.val := rfl
      have e2 : S1x1x128x512.size 1 = 1 := rfl
      rw [e1, e2] at h1
      omega
    rw [e]; exact hX i (by omega)

/-- The two masks of the diagonal blocks, as the scratch holds them. -/
def maskSt : Vec F S2x256x512 .f32 :=
  put (put B ![0, 0, 0] S1x256x512.size (biasV 0#32)) ![1, 0, 0] S1x256x512.size (biasV 256#32)

theorem maskSt_left : win (maskSt B) r6 = biasV 0#32 :=
  (window_put_of_disjoint _ _ _ _ _ _ _ 0 (.inl (by decide))).trans (window_put_same _ _ _ _ _)

theorem maskSt_right : win (maskSt B) r6H = biasH :=
  window_put_of_inside _ _ _ _ _ _ _ (by decide)

theorem wp_masks {α : Type} {K : PG F α} {Φ : α → sProp 𝕄} (σ : St F) :
    (Held c a2 a3 a4 a6 a7 a8 a9 a10 a11 Q Kb V B σ : sProp 𝕄) ⊢ iprop((Held c a2 a3 a4 a6 a7 a8 a9 a10 a11 Q Kb V (maskSt B) σ -∗ wpK c K Φ) -∗ wpK c (masks a6 K) Φ) := by
  unfold Held masks
  iintro ⟨H2, H3, H4, H6, H7, H8, H9, H10, H11⟩ Hk
  iapply (wp_ld B) $$ H6; iintro H6
  iapply (wp_st B) $$ H6; iintro H6
  iapply (wp_ld _) $$ H6; iintro H6
  iapply (wp_st _) $$ H6; iintro H6
  iapply Hk
  unfold maskSt
  sl_close

/-- Between tiles: the first `n` tiles of the result are written, the other scratch holds anything. -/
def Inv (n : ℕ) : sProp 𝕄 :=
  iprop(∃ σ : St F, ∃ X : Vec F S1x8x128x512 .bf16, ⌜∀ i : S1x8x128x512.Idx, (i 1).val < n → X i = outAll Q Kb V i⌝
    ∗ Held c a2 a3 a4 a6 a7 a8 a9 a10 a11 Q Kb V (maskSt B) σ ∗ owns (c : Thread nD τ) a5 fullShare X)

theorem wp_trip (h5 : a5.IsWhole) (t : Fin k0_t1_loop.trips) :
    (Inv c a2 a3 a4 a5 a6 a7 a8 a9 a10 a11 Q Kb V B t.val : sProp 𝕄)
      ⊢ wpK c (tile a2 a3 a4 a5 a6 a7 a8 a9 a10 a11 t (store5 a5 t h5 (.ret ⟨⟩))) (fun _ : PUnit => Inv c a2 a3 a4 a5 a6 a7 a8 a9 a10 a11 Q Kb V B (t.val + 1)) := by
  unfold Inv
  iintro ⟨%σ, %X, %hX, Ho, H5⟩
  iapply (wp_tile c a2 a3 a4 a5 a6 a7 a8 a9 a10 a11 Q Kb V (maskSt B) t h5 (maskSt_left B) (maskSt_right B) σ X) $$ [Ho H5]
  · isplitl [Ho]; · iexact Ho
    iexact H5
  iintro ⟨Ho, H5⟩
  iexists _, _
  isplitr
  swap
  · isplitl [Ho]; · iexact Ho
    iexact H5
  ipureintro
  exact storeSt_at Q Kb V (tileOf t) X t.val rfl hX

/-- The run of one grid point. -/
theorem wp_body (i : grid0.Coords) (h2 : a2.IsWhole) (h3 : a3.IsWhole) (h4 : a4.IsWhole) (h5 : a5.IsWhole) (h6 : a6.IsWhole) (h7 : a7.IsWhole)
    (h8 : a8.IsWhole) (h9 : a9.IsWhole) (h10 : a10.IsWhole) (h11 : a11.IsWhole)
    (σ : St F) (X : Vec F S1x8x128x512 .bf16) {Φ : PUnit → sProp 𝕄} :
    iprop(Held c a2 a3 a4 a6 a7 a8 a9 a10 a11 Q Kb V B σ ∗ owns (c : Thread nD τ) a5 fullShare X : sProp 𝕄)
      ⊢ iprop((∀ σ' : St F, Held c a2 a3 a4 a6 a7 a8 a9 a10 a11 Q Kb V (maskSt B) σ' ∗ owns (c : Thread nD τ) a5 fullShare (outAll Q Kb V) -∗ Φ ⟨⟩)
        -∗ wpK c (cc0_fox_attn i a2 h2 a3 h3 a4 h4 a5 h5 a6 h6 a7 h7 a8 h8 a9 h9 a10 h10 a11 h11) Φ) := by
  rw [body_eq]
  iintro ⟨Ho, H5⟩ Hk
  iapply (wp_masks c a2 a3 a4 a6 a7 a8 a9 a10 a11 Q Kb V B) $$ Ho; iintro Ho
  unfold Scf.Loop.for
  iapply (Scf.wp_for_bind _ _ _ _ _ _ _ _ _ (fun n (_ : PUnit) => Inv c a2 a3 a4 a5 a6 a7 a8 a9 a10 a11 Q Kb V B n)
    (fun t _ => wp_trip c a2 a3 a4 a5 a6 a7 a8 a9 a10 a11 Q Kb V B h5 t)) $$ [Ho H5]
  · unfold Inv
    iexists _, _
    isplitr
    swap
    · isplitl [Ho]; · iexact Ho
      iexact H5
    ipureintro
    exact fun _ h => absurd h (Nat.not_lt_zero _)
  iintro %_ HI
  unfold Inv
  icases HI with ⟨%σ', %X', %hX, Ho, H5⟩
  iapply (ret_close c)
  have e : X' = outAll Q Kb V := funext fun i => hX i (by
    have h := (i 1).isLt
    have h8 : (i 1).val < 8 := h
    exact h8)
  subst e
  iapply Hk
  isplitl [Ho]; · iexact Ho
  iexact H5

end
end Cert.KernelIdeal.Hand

end
-- ==== Proof.Main.lean ====
/-
  @main: the pipeline's proof data, the body's obligation at every grid point, and the run, over any float values.
-/
module

public import proofs.«01_k».proof.Proof.Run
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block at a point, of the three input blocks there. -/
def outAt (c : Dev nD) (t : Fin cfg0.N) : Vec F S1x8x128x512 .bf16 := outAll (iblk m c 0 t) (iblk m c 1 t) (iblk m c 2 t)

/-- The pipeline's proof data: every input keeps its block, the result's buffer holds `outAt`; the scratch holds
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_in0, after_in1, after_in2, after_out]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (after_in0 m c), before0_1_of m (dats m 0 c) (A_eq m c 1) (after_in1 m c),
    before0_2_of m (dats m 0 c) (A_eq m c 2) (after_in2 m c)]
  simp only [← owns_whole]
  iintro ⟨⟨⟨⟨%s6, S6⟩, ⟨%s7, S7⟩, ⟨%s8, S8⟩, ⟨%s9, S9⟩, ⟨%s10, S10⟩, ⟨%s11, S11⟩⟩, Hr⟩, ⟨%W, -, HW⟩, ⟨%_, H0⟩, ⟨%_, H1⟩, ⟨%_, H2⟩, ⟨%d3, H3⟩⟩
  iapply (wp_body c (st0_0 t) (st0_1 t) (st0_2 t) (st0_3 t) (Memref.whole cc0_scratch0) (Memref.whole cc0_scratch1) (Memref.whole cc0_scratch2)
    (Memref.whole cc0_scratch3) (Memref.whole cc0_scratch4) (Memref.whole cc0_scratch5)
    (iblk m c 0 t) (iblk m c 1 t) (iblk m c 2 t) s6 _ _ _ _ _ _ _ _ _ _ _ ⟨s7, s8, s9, s10, s11⟩ ((dats m 0 c).before 3 t d3)) $$ [H0 H1 H2 H3 S6 S7 S8 S9 S10 S11]
  · unfold Held
    sl_close
  iintro %σ ⟨Ho, H3⟩
  unfold Held outAt
  icases Ho with ⟨H0, H1, H2, S6, S7, S8, S9, S10, S11⟩
  isplitl [S6 S7 S8 S9 S10 S11 Hr]
  · isplitr [Hr]
    · isplitl [S6]; · iexists _; iexact S6
      isplitl [S7]; · iexists _; iexact S7
      isplitl [S8]; · iexists _; iexact S8
      isplitl [S9]; · iexists _; iexact S9
      isplitl [S10]; · iexists _; iexact S10
      iexists _; iexact S11
    iexact Hr
  isplitl [HW]
  · iexists W; isplitr; · ipureintro; exact fun _ _ => Or.inl trivial
    iexact HW
  sl_close

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.KernelIdeal.Hand

end
-- ==== Proof.Column.lean ====
/-
  One query and one row of values, over the extended reals: the running softmax against the plain one.

  A score is a real or `⊥` (a masked key), so each weight `2 ^ (score − μ)` is a real that is not negative, and scaling
  by it goes through a sum of extended reals. Folding key blocks one by one keeps `Inv`; the quotient at the end is the
  softmax of the scores times log 2, weighted with the values.
-/
module

public import Idealize.ShloMosaic.PureOps.Ideal
public import Mathlib.Analysis.SpecialFunctions.Pow.Real

@[expose] public section

noncomputable section

namespace Cert.Column

open Idealize.ShloMosaic

/-- A real that is not negative goes into a sum. -/
theorem coe_mul_sum {ι : Type} (s : Finset ι) (f : ι → EReal) {a : ℝ} (ha : 0 ≤ a) :
    (a : EReal) * ∑ k ∈ s, f k = ∑ k ∈ s, (a : EReal) * f k := by
  classical
  induction s using Finset.induction_on with
  | empty => simp
  | insert x s hx ih =>
    rw [Finset.sum_insert hx, Finset.sum_insert hx,
      EReal.left_distrib_of_nonneg_of_ne_top (EReal.coe_nonneg.2 ha) (EReal.coe_ne_top a), ih]

theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- The weight of a score. -/
def W (x : EReal) : ℝ := (Ideal.exp2 x).toReal

theorem W_bot : W ⊥ = 0 := EReal.toReal_zero
theorem W_coe (r : ℝ) : W (r : EReal) = (2 : ℝ) ^ r := rfl
theorem W_nonneg (x : EReal) : 0 ≤ W x := by
  induction x using EReal.rec with
  | bot => rw [W_bot]
  | coe r => rw [W_coe]; positivity
  | top => exact (EReal.toReal_top).ge
theorem W_pos (r : ℝ) : 0 < W (r : EReal) := by rw [W_coe]; positivity

/-- The weight of a score relative to `μ`. -/
theorem exp2_sub {x : EReal} (hx : x ≠ ⊤) (μ : ℝ) : Ideal.exp2 (x - (μ : EReal)) = ((W x * (2 : ℝ) ^ (-μ) : ℝ) : EReal) := by
  induction x using EReal.rec with
  | bot => rw [W_bot, zero_mul, EReal.bot_sub]; rfl
  | coe r =>
    rw [W_coe, ← EReal.coe_sub, ← Real.rpow_add (by norm_num), ← sub_eq_add_neg]; rfl
  | top => exact absurd rfl hx

/-- The same to base e, of the score times log 2. -/
theorem exp_sub {x : EReal} (hx : x ≠ ⊤) (M : ℝ) :
    Ideal.exp (x * ((Real.log 2 : ℝ) : EReal) - (M : EReal)) = ((W x * Real.exp (-M) : ℝ) : EReal) := by
  induction x using EReal.rec with
  | bot =>
    rw [W_bot, zero_mul, EReal.bot_mul_coe_of_pos (Real.log_pos (by norm_num)), EReal.bot_sub]; rfl
  | coe r =>
    have h : (2 : ℝ) ^ r * Real.exp (-M) = Real.exp (r * Real.log 2 - M) := by
      rw [Real.rpow_def_of_pos (by norm_num), ← Real.exp_add, mul_comm, ← sub_eq_add_neg]
    rw [W_coe, ← EReal.coe_mul, ← EReal.coe_sub, h]; rfl
  | top => exact absurd rfl hx

/-- After the first `n` keys: the maximum is some real, the denominator and the weighted sum are relative to it. -/
def Inv (S v : ℕ → EReal) (n : ℕ) (m l a : EReal) : Prop :=
  ∃ μ : ℝ, m = (μ : EReal) ∧ l = ∑ k ∈ Finset.range n, Ideal.exp2 (S k - (μ : EReal))
    ∧ a = ∑ k ∈ Finset.range n, v k * Ideal.exp2 (S k - (μ : EReal))

theorem Inv.start (S v : ℕ → EReal) (μ : ℝ) : Inv S v 0 (μ : EReal) 0 0 := ⟨μ, rfl, by simp, by simp⟩

theorem rescale {x : EReal} (hx : x ≠ ⊤) (μ μ' : ℝ) :
    Ideal.exp2 ((μ : EReal) - (μ' : EReal)) * Ideal.exp2 (x - (μ : EReal)) = Ideal.exp2 (x - (μ' : EReal)) := by
  rw [exp2_sub hx, exp2_sub hx, exp2_sub (EReal.coe_ne_top μ), W_coe, ← EReal.coe_mul]
  have e : (2 : ℝ) ^ μ * (2 : ℝ) ^ (-μ) = 1 := by rw [← Real.rpow_add (by norm_num), add_neg_cancel, Real.rpow_zero]
  congr 1
  calc (2 : ℝ) ^ μ * (2 : ℝ) ^ (-μ') * (W x * (2 : ℝ) ^ (-μ)) = ((2 : ℝ) ^ μ * (2 : ℝ) ^ (-μ)) * (W x * (2 : ℝ) ^ (-μ')) := by ring
    _ = W x * (2 : ℝ) ^ (-μ') := by rw [e, one_mul]

/-- One block of `B` keys, whose maximum is anything but `⊤`. -/
theorem Inv.step {S v : ℕ → EReal} (hS : ∀ k, S k ≠ ⊤) {n : ℕ} {m l a : EReal} (h : Inv S v n m l a) (B : ℕ) {x : EReal} (hx : x ≠ ⊤) :
    Inv S v (n + B) (max m x)
      (Ideal.exp2 (m - max m x) * l + ∑ r : Fin B, Ideal.exp2 (S (n + r.val) - max m x))
      (Ideal.exp2 (m - max m x) * a + ∑ r : Fin B, v (n + r.val) * Ideal.exp2 (S (n + r.val) - max m x)) := by
  obtain ⟨μ, rfl, rfl, rfl⟩ := h
  obtain ⟨μ', e⟩ : ∃ μ' : ℝ, max (μ : EReal) x = (μ' : EReal) := by
    induction x using EReal.rec with
    | bot => exact ⟨μ, max_eq_left bot_le⟩
    | coe r => exact ⟨max μ r, rfl⟩
    | top => exact absurd rfl hx
  rw [e]
  have pos : (0 : ℝ) ≤ W (μ : EReal) * (2 : ℝ) ^ (-μ') := mul_nonneg (W_nonneg _) (by positivity)
  refine ⟨μ', rfl, ?_, ?_⟩
  · rw [exp2_sub (EReal.coe_ne_top μ), coe_mul_sum _ _ pos, Finset.sum_range_add,
      Finset.sum_range (fun r => Ideal.exp2 (S (n + r) - (μ' : EReal)))]
    refine congrArg (· + _) (Finset.sum_congr rfl fun k _ => ?_)
    rw [← exp2_sub (EReal.coe_ne_top μ), rescale (hS k)]
  · rw [exp2_sub (EReal.coe_ne_top μ), coe_mul_sum _ _ pos, Finset.sum_range_add,
      Finset.sum_range (fun r => v (n + r) * Ideal.exp2 (S (n + r) - (μ' : EReal)))]
    refine congrArg (· + _) (Finset.sum_congr rfl fun k _ => ?_)
    rw [← exp2_sub (EReal.coe_ne_top μ), mul_left_comm, rescale (hS k)]

/-- The softmax weights of the scores times log 2 are the weights over their sum, whatever real is subtracted. -/
theorem softmax_weight {ι : Type} [Fintype ι] {S : ι → EReal} (hS : ∀ k, S k ≠ ⊤) {k₀ : ι} {r₀ : ℝ} (h₀ : S k₀ = (r₀ : EReal)) (M : ℝ) (k : ι) :
    Ideal.div (Ideal.exp (S k * ((Real.log 2 : ℝ) : EReal) - (M : EReal)))
        (∑ k', Ideal.exp (S k' * ((Real.log 2 : ℝ) : EReal) - (M : EReal)))
      = ((W (S k) / ∑ k', W (S k') : ℝ) : EReal) := by
  have hL : 0 < ∑ k', W (S k') :=
    Finset.sum_pos' (fun k _ => W_nonneg _) ⟨k₀, Finset.mem_univ _, by rw [h₀]; exact W_pos r₀⟩
  have hE : 0 < Real.exp (-M) := Real.exp_pos _
  rw [Finset.sum_congr rfl fun k' _ => exp_sub (hS k') M, ← coe_sum, exp_sub (hS k), ← Finset.sum_mul]
  have hne : ((∑ k', W (S k')) * Real.exp (-M)) ≠ 0 := (mul_pos hL hE).ne'
  unfold Ideal.div
  rw [if_neg (by exact_mod_cast hne), ← EReal.coe_inv, ← EReal.coe_mul]
  congr 1
  field_simp

/-- The kernel's quotient is the softmax of the scores times log 2, weighted with the values. -/
theorem Inv.quotient {S v : ℕ → EReal} (hS : ∀ k, S k ≠ ⊤) {n N : ℕ} (hn : n ≤ N) {m l a : EReal} (h : Inv S v n m l a)
    (hout : ∀ k, n ≤ k → S k = ⊥) {k₀ : Fin N} {r₀ : ℝ} (h₀ : S k₀.val = (r₀ : EReal)) (M : ℝ) :
    Ideal.div a l = ∑ k : Fin N, v k.val * Ideal.div (Ideal.exp (S k.val * ((Real.log 2 : ℝ) : EReal) - (M : EReal)))
        (∑ k' : Fin N, Ideal.exp (S k'.val * ((Real.log 2 : ℝ) : EReal) - (M : EReal))) := by
  obtain ⟨μ, rfl, rfl, rfl⟩ := h
  have hE : (0 : ℝ) < (2 : ℝ) ^ (-μ) := by positivity
  have hL : 0 < ∑ k : Fin N, W (S k.val) :=
    Finset.sum_pos' (fun k _ => W_nonneg _) ⟨k₀, Finset.mem_univ _, by rw [h₀]; exact W_pos r₀⟩
  have ext : ∀ f : ℕ → EReal, (∀ k, n ≤ k → f k = 0) → ∑ k ∈ Finset.range n, f k = ∑ k : Fin N, f k.val := fun f hf => by
    rw [← Finset.sum_range f]
    exact Finset.sum_subset (Finset.range_subset_range.2 hn) fun k _ hk => hf k (by simpa using hk)
  have z : ∀ k, n ≤ k → Ideal.exp2 (S k - (μ : EReal)) = 0 := fun k hk => by rw [hout k hk, EReal.bot_sub]; rfl
  rw [ext _ z, ext (fun k => v k * Ideal.exp2 (S k - (μ : EReal))) fun k hk => by rw [z k hk, mul_zero]]
  rw [Finset.sum_congr rfl fun (k : Fin N) _ => exp2_sub (hS k.val) μ, ← coe_sum, ← Finset.sum_mul]
  have hne : ((∑ k : Fin N, W (S k.val)) * (2 : ℝ) ^ (-μ)) ≠ 0 := (mul_pos hL hE).ne'
  unfold Ideal.div
  rw [if_neg (by exact_mod_cast hne), ← EReal.coe_inv, mul_comm, coe_mul_sum _ _ (inv_nonneg.2 (mul_pos hL hE).le)]
  refine Finset.sum_congr rfl fun k _ => ?_
  rw [show (if (∑ k' : Fin N, Ideal.exp (S k'.val * ((Real.log 2 : ℝ) : EReal) - (M : EReal))) = 0 then
      (if 0 < Ideal.exp (S k.val * ((Real.log 2 : ℝ) : EReal) - (M : EReal)) then ⊤ else ⊥)
      else Ideal.exp (S k.val * ((Real.log 2 : ℝ) : EReal) - (M : EReal)) * (∑ k' : Fin N, Ideal.exp (S k'.val * ((Real.log 2 : ℝ) : EReal) - (M : EReal)))⁻¹)
      = Ideal.div (Ideal.exp (S k.val * ((Real.log 2 : ℝ) : EReal) - (M : EReal)))
        (∑ k' : Fin N, Ideal.exp (S k'.val * ((Real.log 2 : ℝ) : EReal) - (M : EReal))) from rfl,
    softmax_weight (S := fun k : Fin N => S k.val) (fun k => hS k.val) h₀ M k, exp2_sub (hS k.val), mul_left_comm, ← EReal.coe_mul]
  congr 2
  field_simp

end Cert.Column

end
-- ==== Proof.Elem.lean ====
/-
  The kernel's steps read at an element, over the extended reals, and from them one column of one head: the running
  softmax of Proof/Column.lean over that query's scores.
-/
module

public import proofs.«01_k».proof.Proof.Sim
public import proofs.«01_k».proof.Proof.Column
public import Idealize.ShloMosaic.Lib.Pointwise
public import Idealize.ShloMosaic.Lib.WordCmp

@[expose] public section

set_option maxRecDepth 16384

noncomputable section

namespace Cert.KernelIdeal.Hand

open Cert.KernelIdeal Facts₀ Facts
open Idealize.ShloMosaic Idealize.ShloMosaic.TcCoe Idealize.SL.Sem
open Idealize.ShloMosaic.VecWindow
open Cert.Column

/-! ## Constants -/

theorem ofBits_bot : Ideal.ofBits .f32 0xFF800000#32 = (⊥ : EReal) := by
  simp [Ideal.ofBits, Ideal.ieee]
theorem ofBits_start : ∃ μ : ℝ, Ideal.ofBits .f32 0xF149F2CA#32 = (μ : EReal) := by
  simp only [Ideal.ofBits, Ideal.ieee]
  norm_num
  exact ⟨_, rfl⟩

/-! ## The steps -/

section
variable (s : FVec Ideal S256x512 .f32) (m : Vec Ideal S1x1x512 .f32) (x : FVec Ideal S1x512 .f32) (c : Fin 512)

theorem scoreV_apply (kb : Vec Ideal S1x256x128 .bf16) (qb : Vec Ideal S1x1x1x128x512 .bf16) (r : Fin 256) :
    scoreV kb qb (ix2 r c) = ∑ e : Fin 128, kb (ix3 0 r e) * qb (ix5 0 0 0 e c) := by pointwise [scoreV]
theorem maxV_apply : maxV s (ix2 0 c) = Finset.univ.fold max (Ideal.ofBits .f32 0xFF800000#32) (fun r : Fin 256 => s (ix2 r c)) := by
  pointwise [maxV]
theorem newM_apply : newM m x (ix2 0 c) = max (m (ix3 0 0 c)) (x (ix2 0 c)) := by pointwise [newM]
theorem newL_apply (l : Vec Ideal S1x1x512 .f32) : newL s m x l (ix2 0 c)
    = Ideal.exp2 (m (ix3 0 0 c) - max (m (ix3 0 0 c)) (x (ix2 0 c))) * l (ix3 0 0 c)
      + ∑ r : Fin 256, Ideal.exp2 (s (ix2 r c) - max (m (ix3 0 0 c)) (x (ix2 0 c))) := by
  pointwise [newL, alphaV, newM, pV]; rfl
theorem newA_apply (a : Vec Ideal S1x64x512 .f32) (v : Vec Ideal S1x1x64x256 .bf16) (d : Fin 64) : newA s m x a v (ix2 d c)
    = Ideal.exp2 (m (ix3 0 0 c) - max (m (ix3 0 0 c)) (x (ix2 0 c))) * a (ix3 0 d c)
      + ∑ r : Fin 256, v (ix4 0 0 d r) * Ideal.exp2 (s (ix2 r c) - max (m (ix3 0 0 c)) (x (ix2 0 c))) := by
  pointwise [newA, alphaV, newM, pV]; rfl
end

section
variable (s : FVec Ideal S256x256 .f32) (m : Vec Ideal S1x1x256 .f32) (x : FVec Ideal S1x256 .f32) (c : Fin 256)

theorem scoreVH_apply (kb : Vec Ideal S1x256x128 .bf16) (qb : Vec Ideal S1x1x1x128x256 .bf16) (r : Fin 256) :
    scoreVH kb qb (ix2 r c) = ∑ e : Fin 128, kb (ix3 0 r e) * qb (ix5 0 0 0 e c) := by pointwise [scoreVH]
theorem maxVH_apply : maxVH s (ix2 0 c) = Finset.univ.fold max (Ideal.ofBits .f32 0xFF800000#32) (fun r : Fin 256 => s (ix2 r c)) := by
  pointwise [maxVH]
theorem newMH_apply : newMH m x (ix2 0 c) = max (m (ix3 0 0 c)) (x (ix2 0 c)) := by pointwise [newMH]
theorem newLH_apply (l : Vec Ideal S1x1x256 .f32) : newLH s m x l (ix2 0 c)
    = Ideal.exp2 (m (ix3 0 0 c) - max (m (ix3 0 0 c)) (x (ix2 0 c))) * l (ix3 0 0 c)
      + ∑ r : Fin 256, Ideal.exp2 (s (ix2 r c) - max (m (ix3 0 0 c)) (x (ix2 0 c))) := by
  pointwise [newLH, alphaVH, newMH, pVH]; rfl
theorem newAH_apply (a : Vec Ideal S1x64x256 .f32) (v : Vec Ideal S1x1x64x256 .bf16) (d : Fin 64) : newAH s m x a v (ix2 d c)
    = Ideal.exp2 (m (ix3 0 0 c) - max (m (ix3 0 0 c)) (x (ix2 0 c))) * a (ix3 0 d c)
      + ∑ r : Fin 256, v (ix4 0 0 d r) * Ideal.exp2 (s (ix2 r c) - max (m (ix3 0 0 c)) (x (ix2 0 c))) := by
  pointwise [newAH, alphaVH, newMH, pVH]; rfl
end

/-- Nothing is after the top of a block of scores that are not `⊤`. -/
theorem foldMax_ne_top {n : ℕ} (f : Fin n → EReal) (h : ∀ r, f r ≠ ⊤) :
    Finset.univ.fold max (Ideal.ofBits .f32 0xFF800000#32) f ≠ ⊤ := by
  rw [← lt_top_iff_ne_top, ofBits_bot, Finset.fold_max_lt]
  exact ⟨bot_lt_top, fun r _ => lt_top_iff_ne_top.2 (h r)⟩

/-! ## The masks -/

theorem biasV_apply (d : ℕ) (hd : d ≤ 256) (r : Fin 256) (c : Fin 512) :
    biasV (F := Ideal) (BitVec.ofNat 32 d) (ix3 0 r c) = if d + r.val ≤ c.val then (0 : EReal) else ⊥ := by
  pointwise [biasV]
  have e : IntOp.addi (BitVec.ofNat 32 d) (BitVec.ofNat 32 r.val) = BitVec.ofNat 32 (d + r.val) := by
    unfold IntOp.addi; rw [← BitVec.ofNat_add]
  rw [e, ofBits_bot]
  have h := WordCmp.cmpi_sle_ofNat_eq_one_iff (w := 32) (a := d + r.val) (b := c.val) (by omega) (by omega)
  unfold Scalar.select
  by_cases hc : d + r.val ≤ c.val
  · rw [if_pos hc]; exact if_pos (h.2 hc)
  · rw [if_neg hc]; exact if_neg (fun k => hc (h.1 k))

/-! ## Positions -/

variable (Q : Vec Ideal S1x8x2x128x512 .bf16) (Kb : Vec Ideal S1x4096x256 .bf16) (V : Vec Ideal S1x16x128x256 .bf16)

/-- The score of key `k` for query `q` of tile `t`, head `j`, and the value of key `k` in row `d`. -/
def sk (t : Fin 8) (j : Fin 2) (q : Fin 512) (k : ℕ) : EReal :=
  ∑ e : Fin 128, Kb (ix3 0 ⟨k % 4096, Nat.mod_lt _ (by decide)⟩ ⟨128 * j.val + e.val, by omega⟩) * Q (ix5 0 t j e q)
def vk (j : Fin 2) (d : Fin 64) (k : ℕ) : EReal :=
  V (ix4 0 ⟨k / 256 % 16, Nat.mod_lt _ (by decide)⟩ ⟨64 * j.val + d.val, by omega⟩ ⟨k % 256, Nat.mod_lt _ (by decide)⟩)
/-- The masked score. -/
def Sk (t : Fin 8) (j : Fin 2) (q : Fin 512) (k : ℕ) : EReal := if k ≤ 512 * t.val + q.val then sk Q Kb t j q k else ⊥

theorem sc_apply (t : Fin 8) (j : Fin 2) (c : ℕ) (r : Fin 256) (q : Fin 512) :
    sc Q Kb t j c (ix2 r q) = sk Q Kb t j q (256 * c + r.val) := by
  unfold sc sk
  rw [scoreV_apply]
  refine Finset.sum_congr rfl fun e _ => congrArg₂ (· * ·) (congrArg Kb (funext fun a => Fin.ext ?_)) (congrArg Q (funext fun a => Fin.ext ?_))
  · match a with
    | ⟨0, _⟩ => rfl
    | ⟨1, _⟩ => show c % 16 * 256 + 1 * r.val = (256 * c + r.val) % 4096; omega
    | ⟨2, _⟩ => show 128 * j.val + 1 * e.val = 128 * j.val + e.val; omega
  · match a with
    | ⟨0, _⟩ => rfl
    | ⟨1, _⟩ => show t.val + 1 * 0 = t.val; omega
    | ⟨2, _⟩ => show j.val + 1 * 0 = j.val; omega
    | ⟨3, _⟩ => show 0 + 1 * e.val = e.val; omega
    | ⟨4, _⟩ => show 0 + 1 * q.val = q.val; omega

theorem scH_apply (t : Fin 8) (j : Fin 2) (c : ℕ) (r : Fin 256) (q : Fin 512) (h : Fin 256) (hq : q.val = 256 + h.val) :
    scH Q Kb t j c (ix2 r h) = sk Q Kb t j q (256 * c + r.val) := by
  unfold scH sk
  rw [scoreVH_apply]
  refine Finset.sum_congr rfl fun e _ => congrArg₂ (· * ·) (congrArg Kb (funext fun a => Fin.ext ?_)) (congrArg Q (funext fun a => Fin.ext ?_))
  · match a with
    | ⟨0, _⟩ => rfl
    | ⟨1, _⟩ => show c % 16 * 256 + 1 * r.val = (256 * c + r.val) % 4096; omega
    | ⟨2, _⟩ => show 128 * j.val + 1 * e.val = 128 * j.val + e.val; omega
  · match a with
    | ⟨0, _⟩ => rfl
    | ⟨1, _⟩ => show t.val + 1 * 0 = t.val; omega
    | ⟨2, _⟩ => show j.val + 1 * 0 = j.val; omega
    | ⟨3, _⟩ => show 0 + 1 * e.val = e.val; omega
    | ⟨4, _⟩ => show 256 + 1 * h.val = q.val; omega

theorem vAt_apply (j : Fin 2) (c : ℕ) (d : Fin 64) (r : Fin 256) : vAt V (valAt j c) (ix4 0 0 d r) = vk V j d (256 * c + r.val) := by
  unfold vk
  refine congrArg V (funext fun a => Fin.ext ?_)
  match a with
  | ⟨0, _⟩ => rfl
  | ⟨1, _⟩ => show c % 16 + 1 * 0 = (256 * c + r.val) / 256 % 16; omega
  | ⟨2, _⟩ => show 64 * j.val + 1 * d.val = 64 * j.val + d.val; omega
  | ⟨3, _⟩ => show 0 + 1 * r.val = (256 * c + r.val) % 256; omega

/-! ## One column -/

/-- What a head holds in column `q`, row `d`. -/
def InvMl (S v : ℕ → EReal) (n : ℕ) (μ : Ml Ideal) (d : Fin 64) (q : Fin 512) : Prop :=
  Inv S v n (μ.m (ix3 0 0 q)) (μ.l (ix3 0 0 q)) (μ.a (ix3 0 d q))

theorem InvMl.fold {S w : ℕ → EReal} (hS : ∀ k, S k ≠ ⊤) {n : ℕ} {μ : Ml Ideal} {d : Fin 64} {q : Fin 512} (h : InvMl S w n μ d q)
    {s : FVec Ideal S256x512 .f32} {v : Vec Ideal S1x1x64x256 .bf16}
    (hs : ∀ r : Fin 256, s (ix2 r q) = S (n + r.val)) (hv : ∀ r : Fin 256, v (ix4 0 0 d r) = w (n + r.val)) :
    InvMl S w (n + 256) (foldMl s (maxV s) v μ) d q := by
  have hx : maxV s (ix2 0 q) ≠ ⊤ := by
    rw [maxV_apply]; exact foldMax_ne_top _ fun r => by rw [hs]; exact hS _
  have H := Inv.step hS h 256 hx
  have em : (foldMl s (maxV s) v μ).m (ix3 0 0 q) = newM μ.m (maxV s) (ix2 0 q) := by
    unfold foldMl; pointwise []
  have el : (foldMl s (maxV s) v μ).l (ix3 0 0 q) = newL s μ.m (maxV s) μ.l (ix2 0 q) := by
    unfold foldMl; pointwise []
  have ea : (foldMl s (maxV s) v μ).a (ix3 0 d q) = newA s μ.m (maxV s) μ.a v (ix2 d q) := by
    unfold foldMl; pointwise []
  unfold InvMl
  rw [em, el, ea, newM_apply, newL_apply, newA_apply]
  simp only [hs, hv]
  exact H

theorem InvMl.foldH {S w : ℕ → EReal} (hS : ∀ k, S k ≠ ⊤) {n : ℕ} {μ : Ml Ideal} {d : Fin 64} {q : Fin 512} (h : InvMl S w n μ d q)
    {s : FVec Ideal S256x256 .f32} {v : Vec Ideal S1x1x64x256 .bf16} {c : Fin 256} (hq : q.val = 256 + c.val)
    (hs : ∀ r : Fin 256, s (ix2 r c) = S (n + r.val)) (hv : ∀ r : Fin 256, v (ix4 0 0 d r) = w (n + r.val)) :
    InvMl S w (n + 256) (foldMlH s (maxVH s) v μ) d q := by
  have hx : maxVH s (ix2 0 c) ≠ ⊤ := by
    rw [maxVH_apply]; exact foldMax_ne_top _ fun r => by rw [hs]; exact hS _
  have H := Inv.step hS h 256 hx
  have rd : ∀ X : Vec Ideal S1x1x512 .f32, rowH X (ix3 0 0 c) = X (ix3 0 0 q) := fun X => congrArg X (funext fun a => Fin.ext (by
    match a with
    | ⟨0, _⟩ => rfl
    | ⟨1, _⟩ => rfl
    | ⟨2, _⟩ => show 256 + 1 * c.val = q.val; omega))
  have rda : ∀ X : Vec Ideal S1x64x512 .f32, accH X (ix3 0 d c) = X (ix3 0 d q) := fun X => congrArg X (funext fun a => Fin.ext (by
    match a with
    | ⟨0, _⟩ => rfl
    | ⟨1, _⟩ => show 0 + 1 * d.val = d.val; omega
    | ⟨2, _⟩ => show 256 + 1 * c.val = q.val; omega))
  have pt : ∀ (X : Vec Ideal S1x1x512 .f32) (Y : Vec Ideal S1x1x256 .f32), put X ![0, 0, 256] S1x1x256.size Y (ix3 0 0 q) = Y (ix3 0 0 c) := fun X Y =>
    (rd _).symm.trans (congrFun (window_put_same X ![0, 0, 256] S1x1x256.size (by decide) Y) (ix3 0 0 c))
  have pta : ∀ (X : Vec Ideal S1x64x512 .f32) (Y : Vec Ideal S1x64x256 .f32), put X ![0, 0, 256] S1x64x256.size Y (ix3 0 d q) = Y (ix3 0 d c) := fun X Y =>
    (rda _).symm.trans (congrFun (window_put_same X ![0, 0, 256] S1x64x256.size (by decide) Y) (ix3 0 d c))
  have em : (foldMlH s (maxVH s) v μ).m (ix3 0 0 q) = newMH (rowH μ.m) (maxVH s) (ix2 0 c) := by
    unfold foldMlH; refine (pt _ _).trans ?_; pointwise []
  have el : (foldMlH s (maxVH s) v μ).l (ix3 0 0 q) = newLH s (rowH μ.m) (maxVH s) (rowH μ.l) (ix2 0 c) := by
    unfold foldMlH; refine (pt _ _).trans ?_; pointwise []
  have ea : (foldMlH s (maxVH s) v μ).a (ix3 0 d q) = newAH s (rowH μ.m) (maxVH s) (accH μ.a) v (ix2 d c) := by
    unfold foldMlH; refine (pta _ _).trans ?_; pointwise []
  unfold InvMl
  rw [em, el, ea, newMH_apply, newLH_apply, newAH_apply, rd, rd, rda]
  simp only [hs, hv]
  exact H

/-- The columns of the left half keep what they hold. -/
theorem InvMl.foldH_left {S w : ℕ → EReal} {n : ℕ} {μ : Ml Ideal} {d : Fin 64} {q : Fin 512} (h : InvMl S w n μ d q)
    {s : FVec Ideal S256x256 .f32} {x : FVec Ideal S1x256 .f32} {v : Vec Ideal S1x1x64x256 .bf16} (hq : q.val < 256) :
    InvMl S w n (foldMlH s x v μ) d q := by
  have no : ∀ (off size : Fin 3 → ℕ) (y : Fin 3 → ℕ), off 2 = 256 → y 2 = q.val → ¬ ∀ a, off a ≤ y a ∧ y a < off a + size a := by
    intro off size y h1 h2 hh; have := (hh 2).1; omega
  have pt : ∀ (X : Vec Ideal S1x1x512 .f32) (Y : Vec Ideal S1x1x256 .f32), put X ![0, 0, 256] S1x1x256.size Y (ix3 0 0 q) = X (ix3 0 0 q) := fun X Y =>
    dif_neg (no ![0, 0, 256] S1x1x256.size (fun a => (ix3 (n0 := 1) (n1 := 1) (n2 := 512) 0 0 q a).val) rfl rfl)
  have pta : ∀ (X : Vec Ideal S1x64x512 .f32) (Y : Vec Ideal S1x64x256 .f32), put X ![0, 0, 256] S1x64x256.size Y (ix3 0 d q) = X (ix3 0 d q) := fun X Y =>
    dif_neg (no ![0, 0, 256] S1x64x256.size (fun a => (ix3 (n0 := 1) (n1 := 64) (n2 := 512) 0 d q a).val) rfl rfl)
  unfold InvMl foldMlH
  dsimp only
  rw [pt, pt, pta]
  exact h

end Cert.KernelIdeal.Hand

end
-- ==== Proof.Tile.lean ====
/-
  One column of a tile: after its blocks a head holds the softmax of that query's scores, and the tile's result is the
  weighted sum of the values.
-/
module

public import proofs.«01_k».proof.Proof.Elem

@[expose] public section

set_option maxRecDepth 16384

noncomputable section

namespace Cert.KernelIdeal.Hand

open Cert.KernelIdeal Facts₀ Facts
open Idealize.ShloMosaic Idealize.ShloMosaic.TcCoe Idealize.SL.Sem
open Idealize.ShloMosaic.VecWindow
open Cert.Column

variable (Q : Vec Ideal S1x8x2x128x512 .bf16) (Kb : Vec Ideal S1x4096x256 .bf16) (V : Vec Ideal S1x16x128x256 .bf16)
variable (t : Fin 8) (j : Fin 2) (d : Fin 64) (q : Fin 512)

/-- Before the first block. -/
theorem mlN_zero (S : ℕ → EReal) : InvMl S (vk V j d) 0 (mlN Q Kb V t j 0) d q := by
  obtain ⟨μ, hμ⟩ := ofBits_start
  have e := Inv.start S (vk V j d) μ
  rw [← hμ] at e
  have hz : Ideal.ofBits .f32 0x00000000#32 = (0 : EReal) := by simp [Ideal.ofBits, Ideal.ieee]
  have hm : (mlN Q Kb V t j 0).m (ix3 0 0 q) = Ideal.ofBits .f32 0xF149F2CA#32 := by
    unfold mlN m0V; rfl
  have hl : (mlN Q Kb V t j 0).l (ix3 0 0 q) = 0 := by
    refine Eq.trans ?_ hz; unfold mlN l0V; rfl
  have ha : (mlN Q Kb V t j 0).a (ix3 0 d q) = 0 := by
    refine Eq.trans ?_ hz; unfold mlN a0V; rfl
  unfold InvMl
  rw [hm, hl, ha]
  exact e

section
variable (hr : ∀ k, ∃ r : ℝ, sk Q Kb t j q k = (r : EReal))
include hr

theorem Sk_ne_top (k : ℕ) : Sk Q Kb t j q k ≠ ⊤ := by
  unfold Sk
  split
  · obtain ⟨r, h⟩ := hr k; rw [h]; exact EReal.coe_ne_top r
  · exact bot_ne_top

theorem mlN_inv (n : ℕ) (hn : n ≤ 2 * t.val) : InvMl (Sk Q Kb t j q) (vk V j d) (256 * n) (mlN Q Kb V t j n) d q := by
  induction n with
  | zero => exact mlN_zero Q Kb V t j d q _
  | succ n ih =>
    refine InvMl.fold (Sk_ne_top Q Kb t j q hr) (ih (by omega)) (fun r => ?_) (fun r => vAt_apply V j n d r)
    rw [sc_apply]; unfold Sk; rw [if_pos (by omega)]

theorem scM_apply (r : Fin 256) : scM Q Kb t j (2 * t.val) (ix2 r q) = Sk Q Kb t j q (256 * (2 * t.val) + r.val) := by
  have e : scM Q Kb t j (2 * t.val) (ix2 r q) = sc Q Kb t j (2 * t.val) (ix2 r q) + biasV (F := Ideal) (BitVec.ofNat 32 0) (ix3 0 r q) := by
    unfold scM; pointwise []
  rw [e, biasV_apply 0 (by decide), sc_apply]
  unfold Sk
  by_cases h : r.val ≤ q.val
  · rw [if_pos (by omega), if_pos (by omega), add_zero]
  · rw [if_neg (by omega), if_neg (by omega), EReal.add_bot]

theorem scMH_apply (r h : Fin 256) (hq : q.val = 256 + h.val) :
    scMH Q Kb t j (2 * t.val + 1) (ix2 r h) = Sk Q Kb t j q (256 * (2 * t.val + 1) + r.val) := by
  have e : scMH Q Kb t j (2 * t.val + 1) (ix2 r h) = scH Q Kb t j (2 * t.val + 1) (ix2 r h) + biasH (F := Ideal) (ix3 0 r h) := by
    unfold scMH; pointwise []
  have e2 : biasH (F := Ideal) (ix3 0 r h) = biasV (F := Ideal) (BitVec.ofNat 32 256) (ix3 0 r q) :=
    congrArg (biasV (F := Ideal) (BitVec.ofNat 32 256)) (funext fun a => Fin.ext (by
      match a with
      | ⟨0, _⟩ => rfl
      | ⟨1, _⟩ => show 0 + 1 * r.val = r.val; omega
      | ⟨2, _⟩ => show 256 + 1 * h.val = q.val; omega))
  rw [e, e2, biasV_apply 256 (by decide), scH_apply Q Kb t j _ r q h hq]
  unfold Sk
  by_cases hc : 256 + r.val ≤ q.val
  · rw [if_pos (by omega), if_pos (by omega), add_zero]
  · rw [if_neg (by omega), if_neg (by omega), EReal.add_bot]

/-- At the end of the tile the head holds the softmax over the keys up to the query. -/
theorem mlEnd_inv : ∃ n, n ≤ 4096 ∧ (∀ k, n ≤ k → Sk Q Kb t j q k = ⊥) ∧
    InvMl (Sk Q Kb t j q) (vk V j d) n (mlEnd Q Kb V t j (2 * t.val)) d q := by
  have hS := Sk_ne_top Q Kb t j q hr
  have h1 := InvMl.fold hS (mlN_inv Q Kb V t j d q hr (2 * t.val) le_rfl) (fun r => scM_apply Q Kb t j q hr r)
    (fun r => vAt_apply V j (2 * t.val) d r)
  by_cases hq : q.val < 256
  · refine ⟨_, ?_, ?_, InvMl.foldH_left h1 hq⟩
    · omega
    · intro k hk; unfold Sk; exact if_neg (by omega)
  · have hh : q.val = 256 + (⟨q.val - 256, by omega⟩ : Fin 256).val := by show q.val = 256 + (q.val - 256); omega
    refine ⟨_, ?_, ?_, InvMl.foldH hS h1 hh (fun r => scMH_apply Q Kb t j q hr r _ hh) (fun r => vAt_apply V j (2 * t.val + 1) d r)⟩
    · omega
    · intro k hk; unfold Sk; exact if_neg (by omega)

/-- The quotient a tile stores: the values weighted by the softmax, whatever maximum is taken off. -/
theorem mlEnd_quotient (M : ℝ) :
    Ideal.div ((mlEnd Q Kb V t j (2 * t.val)).a (ix3 0 d q)) ((mlEnd Q Kb V t j (2 * t.val)).l (ix3 0 0 q))
      = ∑ k : Fin 4096, vk V j d k * Ideal.div (Ideal.exp (Sk Q Kb t j q k * ((Real.log 2 : ℝ) : EReal) - M))
          (∑ k' : Fin 4096, Ideal.exp (Sk Q Kb t j q k' * ((Real.log 2 : ℝ) : EReal) - M)) := by
  obtain ⟨n, hn, hout, h⟩ := mlEnd_inv Q Kb V t j d q hr
  obtain ⟨r₀, h₀⟩ := hr 0
  refine Inv.quotient (Sk_ne_top Q Kb t j q hr) hn h hout (k₀ := (0 : Fin 4096)) (r₀ := r₀) ?_ M
  unfold Sk
  exact (if_pos (Nat.zero_le _)).trans h₀

end

/-- A tile's result at head `j`, row `d`, query `q`. -/
theorem tileOut_apply (i : Fin 128) (hi : i.val = 64 * j.val + d.val) :
    tileOut Q Kb V t (ix2 i q)
      = Ideal.div ((mlEnd Q Kb V t j (2 * t.val)).a (ix3 0 d q)) ((mlEnd Q Kb V t j (2 * t.val)).l (ix3 0 0 q)) := by
  unfold tileOut
  generalize hA : mlEnd Q Kb V t = E
  pointwise [outV]
  match j, hi with
  | ⟨0, _⟩, hi =>
    rw [dif_pos (by simp at hi; omega)]
    congr 3; exact Fin.ext (by simp at hi; exact hi)
  | ⟨1, _⟩, hi =>
    rw [dif_neg (by simp at hi; omega)]
    congr 3; exact Fin.ext (by simp at hi ⊢; omega)

end Cert.KernelIdeal.Hand

end
-- ==== Proof.Plain.lean ====
/-
  The reference read at an element, in three stages: the masked scores, their softmax, the weighted sum of the values.
-/
module

public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

/-- The masked scores, in the natural logarithm's units. -/
def scores (Q : FVec Ideal S8x8x16x128x512 .bf16) (K : FVec Ideal S8x4096x2048 .bf16) : FVec Ideal S8x16x4096x4096 .f32 :=
  select (broadcastInDim S8x16x4096x4096 ![2, 3] bcast_S4096x4096_S8x16x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (Host.dotGeneral dot_S8x4096x16x128_S8x4096x16x128_S8x16x4096x4096_3_3_1_1_02_02 none
        (shapeCast _ (transpose S8x8x512x16x128 [0, 1, 4, 2, 3] (extf .f32 Q bitsLt_bf16_f32) transposes_S8x8x16x128x512_S8x8x512x16x128_0_1_4_2_3) shapeCasts_S8x8x512x16x128_S8x4096x16x128)
        (shapeCast _ (extf .f32 K bitsLt_bf16_f32) shapeCasts_S8x4096x2048_S8x4096x16x128))
      (broadcastInDim S8x16x4096x4096 ![] bcast_S_S8x16x4096x4096 (Host.log (constant S_ .f32 0x40000000#32))))
    (broadcastInDim S8x16x4096x4096 ![] bcast_S_S8x16x4096x4096 (constant S_ .f32 0xFF800000#32))

/-- The greatest score of a query. -/
def tops (s : FVec Ideal S8x16x4096x4096 .f32) : FVec Ideal S8x16x4096 .f32 :=
  maximumf (broadcastInDim S8x16x4096 ![] bcast_S_S8x16x4096 (constant S_ .f32 0xFF800000#32))
    (Host.reduce FloatOps.maximumf s (constant S_ .f32 0xFF800000#32) reducesTo_S8x16x4096x4096_S8x16x4096_d3 h_S_)

/-- The exponentials of the scores less the greatest one. -/
def exps (s : FVec Ideal S8x16x4096x4096 .f32) (u : FVec Ideal S8x16x4096 .f32) : FVec Ideal S8x16x4096x4096 .f32 :=
  Host.exp (subf s (broadcastInDim S8x16x4096x4096 ![0, 1, 2, 3] bcast_S8x16x4096x1_S8x16x4096x4096_0_1_2_3
    (broadcastInDim S8x16x4096x1 ![0, 1, 2] bcast_S8x16x4096_S8x16x4096x1_0_1_2 u)))

/-- The weights: each exponential by their sum. -/
def weights (e : FVec Ideal S8x16x4096x4096 .f32) : FVec Ideal S8x16x4096x4096 .f32 :=
  Host.divf e (broadcastInDim S8x16x4096x4096 ![0, 1, 2, 3] bcast_S8x16x4096x1_S8x16x4096x4096_0_1_2_3
    (broadcastInDim S8x16x4096x1 ![0, 1, 2] bcast_S8x16x4096_S8x16x4096x1_0_1_2
      (Host.reduceAdd e (constant S_ .f32 0x00000000#32) reducesTo_S8x16x4096x4096_S8x16x4096_d3 h_S_)))

/-- The values weighted, in the result's layout. -/
def weighted (V : FVec Ideal S8x16x1024x256 .bf16) (p : FVec Ideal S8x16x4096x4096 .f32) : FVec Ideal S8x8x1024x512 .bf16 :=
  truncf .bf16 (transpose S8x8x1024x512 [0, 1, 3, 2] (shapeCast S8x8x512x1024 (transpose S8x4096x16x64 [0, 3, 1, 2]
    (Host.dotGeneral dot_S8x4096x16x64_S8x16x4096x4096_S8x16x64x4096_1_3_3_2_02_01 none
      (shapeCast _ (transpose S8x16x256x1024 [0, 1, 3, 2] (extf .f32 V bitsLt_bf16_f32) transposes_S8x16x1024x256_S8x16x256x1024_0_1_3_2) shapeCasts_S8x16x256x1024_S8x4096x16x64) p)
    transposes_S8x16x64x4096_S8x4096x16x64_0_3_1_2) shapeCasts_S8x4096x16x64_S8x8x512x1024) transposes_S8x8x512x1024_S8x8x1024x512_0_1_3_2) bitsLt_bf16_f32

/-- The reference's result, stage by stage. -/
def attention (Q : FVec Ideal S8x8x16x128x512 .bf16) (K : FVec Ideal S8x4096x2048 .bf16) (V : FVec Ideal S8x16x1024x256 .bf16) : FVec Ideal S8x8x1024x512 .bf16 :=
  weighted V (weights (exps (scores Q K) (tops (scores Q K))))

theorem res_eq (m : (ℓ : Loc nD τ sig) → Buf (Elt Ideal) ℓ) (c : Dev nD) :
    Value.res_main_v35 (F := Ideal) m c = attention (m ((c.tc : Thread nD τ).loc main_arg0)) (m ((c.tc : Thread nD τ).loc main_arg1)) (m ((c.tc : Thread nD τ).loc main_arg2)) := by
  unfold Value.res_main_v35 attention weighted weights exps tops scores
  rfl

theorem weighted_apply (V : FVec Ideal S8x16x1024x256 .bf16) (p : FVec Ideal S8x16x4096x4096 .f32) (b t : Fin 8) (i : Fin 1024) (q : Fin 512) :
    weighted V p (ix4 b t i q) = ∑ k : Fin 4096, V (ix4 b ⟨k.val / 256, by omega⟩ i ⟨k.val % 256, by omega⟩)
      * p (ix4 b ⟨i.val / 64, by omega⟩ ⟨t.val * 512 + q.val, by omega⟩ k) := by
  pointwise [weighted]
theorem weights_apply (e : FVec Ideal S8x16x4096x4096 .f32) (b : Fin 8) (h : Fin 16) (q k : Fin 4096) :
    weights e (ix4 b h q k) = Ideal.div (e (ix4 b h q k)) (∑ k' : Fin 4096, e (ix4 b h q k')) := by
  pointwise [weights]
theorem exps_apply (s : FVec Ideal S8x16x4096x4096 .f32) (u : FVec Ideal S8x16x4096 .f32) (b : Fin 8) (h : Fin 16) (q k : Fin 4096) :
    exps s u (ix4 b h q k) = Ideal.exp (s (ix4 b h q k) - u (ix3 b h q)) := by
  pointwise [exps]
theorem scores_apply (Q : FVec Ideal S8x8x16x128x512 .bf16) (K : FVec Ideal S8x4096x2048 .bf16) (b : Fin 8) (h : Fin 16) (q k : Fin 4096) :
    scores Q K (ix4 b h q k) = Scalar.select (IntOp.cmpi .sle (BitVec.ofNat 32 k.val) (BitVec.ofNat 32 q.val))
      ((∑ e : Fin 128, Q (ix5 b ⟨q.val / 512, by omega⟩ h e ⟨q.val % 512, by omega⟩) * K (ix3 b k ⟨h.val * 128 + e.val, by omega⟩))
        * Ideal.log (Ideal.ofBits .f32 0x40000000#32)) (Ideal.ofBits .f32 0xFF800000#32) := by
  pointwise [scores]

/-- A maximum from `⊥` of elements none of which is `⊤` and one of which is not `⊥` is a real. -/
theorem reduceMax_real {s t u : Shape} {axes : List (Fin s.rank)} (x : s.Idx → EReal) (init : u.Idx → EReal) (h : s.ReducesTo axes t) (hu : 0 < u.numel)
    (j : t.Idx) (h0 : init (Shape.Idx.first hu) = ⊥) (ht : ∀ i, x i ≠ ⊤) (i : s.Idx) (hd : h.drop i = j) (hb : x i ≠ ⊥) :
    ∃ M : ℝ, Host.reduce (FloatOps.maximumf (F := Ideal) (φ := .f32)) x init h hu j = (M : EReal) := by
  rw [Host.reduce_eq_fold, h0]
  show ∃ M : ℝ, (Finset.univ.filter fun i => h.drop i = j).fold max (⊥ : EReal) x = (M : EReal)
  have h1 : (Finset.univ.filter fun i => h.drop i = j).fold max (⊥ : EReal) x ≠ ⊤ := by
    rw [← lt_top_iff_ne_top, Finset.fold_max_lt]
    exact ⟨bot_lt_top, fun i _ => lt_top_iff_ne_top.2 (ht i)⟩
  have h2 : (Finset.univ.filter fun i => h.drop i = j).fold max (⊥ : EReal) x ≠ ⊥ := by
    have hle := (Finset.le_fold_max (b := (⊥ : EReal)) (f := x) (s := Finset.univ.filter fun i => h.drop i = j)
      (x i)).2 (Or.inr ⟨i, by simp [hd], le_rfl⟩)
    exact fun hz => hb (le_bot_iff.1 (hz ▸ hle))
  exact ⟨_, (EReal.coe_toReal h1 h2).symm⟩

theorem drop_eq (b : Fin 8) (h : Fin 16) (q k : Fin 4096) : (reducesTo_S8x16x4096x4096_S8x16x4096_d3).drop (ix4 b h q k) = ix3 b h q := by
  funext a
  match a with
  | ⟨0, _⟩ => rfl
  | ⟨1, _⟩ => rfl
  | ⟨2, _⟩ => rfl

theorem max_real {s : Shape} (A R : FVec Ideal s .f32) (i : s.Idx) (hA : A i = (⊥ : EReal)) (M : ℝ) (hR : R i = (M : EReal)) :
    maximumf A R i = (M : EReal) := by
  show max (A i : EReal) (R i) = _
  rw [hA, hR, bot_sup_eq]

/-- The greatest score is a real as soon as no score is `⊤` and one is not `⊥`. -/
theorem tops_real (s : FVec Ideal S8x16x4096x4096 .f32) (b : Fin 8) (h : Fin 16) (q : Fin 4096) (ht : ∀ i, s i ≠ (⊤ : EReal))
    (k : Fin 4096) (hb : s (ix4 b h q k) ≠ (⊥ : EReal)) : ∃ M : ℝ, tops s (ix3 b h q) = (M : EReal) := by
  have hbot : Ideal.ofBits .f32 0xFF800000#32 = (⊥ : EReal) := by simp [Ideal.ofBits, Ideal.ieee]
  obtain ⟨M, hM⟩ := reduceMax_real s (constant (F := Ideal) S_ .f32 0xFF800000#32) reducesTo_S8x16x4096x4096_S8x16x4096_d3 h_S_ (ix3 b h q) hbot ht
    (ix4 b h q k) (drop_eq b h q k) hb
  unfold tops
  exact ⟨M, max_real _ _ _ hbot M hM⟩

end Cert.ReferenceIdeal.Hand

end
-- ==== Proof.Value.lean ====
/-
  The kernel's result array is the reference's: block by block, each element the softmax-weighted sum of the values.
-/
module

public import proofs.«01_k».proof.Proof.Tile
public import proofs.«01_k».proof.Proof.Plain
public import proofs.«01_k».proof.Proof.Main
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic Idealize.SL.Sem

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  exact if_neg (by norm_num)

variable (Q : FVec Ideal S8x8x16x128x512 .bf16) (K : FVec Ideal S8x4096x2048 .bf16) (V : FVec Ideal S8x16x1024x256 .bf16)

/-- The score of key `k` for query `q`, before the mask. -/
def dotQK (b : Fin 8) (h : Fin 16) (q k : Fin 4096) : EReal :=
  ∑ e : Fin 128, Q (ix5 b ⟨q.val / 512, by omega⟩ h e ⟨q.val % 512, by omega⟩) * K (ix3 b k ⟨h.val * 128 + e.val, by omega⟩)

theorem scores_if (b : Fin 8) (h : Fin 16) (q k : Fin 4096) :
    scores Q K (ix4 b h q k) = if k.val ≤ q.val then dotQK Q K b h q k * ((Real.log 2 : ℝ) : EReal) else ⊥ := by
  rw [scores_apply, log_two]
  have c := WordCmp.cmpi_sle_ofNat_eq_one_iff (w := 32) (a := k.val) (b := q.val) (by omega) (by omega)
  have hbot : Ideal.ofBits .f32 0xFF800000#32 = (⊥ : EReal) := by simp [Ideal.ofBits, Ideal.ieee]
  unfold Scalar.select dotQK
  by_cases hc : k.val ≤ q.val
  · rw [if_pos hc]; exact if_pos (c.2 hc)
  · rw [if_neg hc]; exact (if_neg (fun k => hc (c.1 k))).trans hbot

variable (hQ : ∀ i, ∃ r : ℝ, Q i = (r : EReal)) (hK : ∀ i, ∃ r : ℝ, K i = (r : EReal))
include hQ hK

theorem dotQK_real (b : Fin 8) (h : Fin 16) (q k : Fin 4096) : ∃ r : ℝ, dotQK Q K b h q k = (r : EReal) := by
  choose f hf using hQ
  choose g hg using hK
  unfold dotQK
  simp only [hf, hg, ← EReal.coe_mul]
  exact ⟨_, (Cert.Column.coe_sum _ _).symm⟩

theorem scores_ne_top (i : S8x16x4096x4096.Idx) : scores Q K i ≠ (⊤ : EReal) := by
  obtain ⟨b, h', q, k, rfl⟩ : ∃ (b : Fin 8) (h' : Fin 16) (q k : Fin 4096), i = ix4 b h' q k := ⟨i 0, i 1, i 2, i 3, eq_ix4 i⟩
  rw [scores_if]
  split
  · obtain ⟨r, h⟩ := dotQK_real Q K hQ hK b h' q k
    rw [h, ← EReal.coe_mul]; exact EReal.coe_ne_top _
  · exact bot_ne_top

/-- An element of the result, with the real that the softmax takes off. -/
theorem attention_apply (b t : Fin 8) (i : Fin 1024) (q : Fin 512) : ∃ M : ℝ,
    attention Q K V (ix4 b t i q) = ∑ k : Fin 4096, V (ix4 b ⟨k.val / 256, by omega⟩ i ⟨k.val % 256, by omega⟩)
      * Ideal.div (Ideal.exp (scores Q K (ix4 b ⟨i.val / 64, by omega⟩ ⟨t.val * 512 + q.val, by omega⟩ k) - M))
          (∑ k' : Fin 4096, Ideal.exp (scores Q K (ix4 b ⟨i.val / 64, by omega⟩ ⟨t.val * 512 + q.val, by omega⟩ k') - M)) := by
  obtain ⟨M, hM⟩ := tops_real (scores Q K) b ⟨i.val / 64, by omega⟩ ⟨t.val * 512 + q.val, by omega⟩ (scores_ne_top Q K hQ hK) 0 (by
    obtain ⟨r, h⟩ := dotQK_real Q K hQ hK b ⟨i.val / 64, by omega⟩ ⟨t.val * 512 + q.val, by omega⟩ 0
    rw [scores_if, if_pos (show ((0 : Fin 4096) : ℕ) ≤ t.val * 512 + q.val from Nat.zero_le _), h, ← EReal.coe_mul]
    exact EReal.coe_ne_bot _)
  refine ⟨M, ?_⟩
  unfold attention
  rw [weighted_apply]
  simp only [weights_apply, exps_apply, hM]

end Cert.ReferenceIdeal.Hand

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- A point's batch element and head pair. -/
def gb (t : Fin cfg0.N) : Fin 8 := cfg0.grid.coords t 0
def gp (t : Fin cfg0.N) : Fin 8 := cfg0.grid.coords t 1

theorem word_small (x : Fin 8) : (BitVec.ofNat 32 x.val).toNat = x.val := by
  rw [BitVec.toNat_ofNat]; exact Nat.mod_eq_of_lt (by omega)

theorem block_q (c : Dev nD) (t : Fin cfg0.N) (tt : Fin 8) (j : Fin 2) (e : Fin 128) (q : Fin 512) :
    (iblk m c 0 t (ix5 0 tt j e q) : EReal)
      = m ((c.tc : Thread nD τ).loc main_arg0) (ix5 (gb t) tt ⟨2 * (gp t).val + j.val, by omega⟩ e q) := by
  unfold iblk
  blk_simp
  rw [V_main_arg0]
  refine congrArg (m ((c.tc : Thread nD τ).loc main_arg0)) (funext fun a => Fin.ext ?_)
  refine (Pipeline.Window.rect_emb_val win0_0 t _ a).trans ?_
  match a with
  | ⟨0, _⟩ => show (BitVec.ofNat 32 (gb t).val).toNat * 1 + 0 = (gb t).val; rw [word_small]; omega
  | ⟨1, _⟩ => show 0 * 8 + tt.val = tt.val; omega
  | ⟨2, _⟩ => show (BitVec.ofNat 32 (gp t).val).toNat * 2 + j.val = 2 * (gp t).val + j.val; rw [word_small]; omega
  | ⟨3, _⟩ => show 0 * 128 + e.val = e.val; omega
  | ⟨4, _⟩ => show 0 * 512 + q.val = q.val; omega

theorem block_k (c : Dev nD) (t : Fin cfg0.N) (k : Fin 4096) (e : Fin 256) :
    (iblk m c 1 t (ix3 0 k e) : EReal)
      = m ((c.tc : Thread nD τ).loc main_arg1) (ix3 (gb t) k ⟨256 * (gp t).val + e.val, by omega⟩) := by
  unfold iblk
  blk_simp
  rw [V_main_arg1]
  refine congrArg (m ((c.tc : Thread nD τ).loc main_arg1)) (funext fun a => Fin.ext ?_)
  refine (Pipeline.Window.rect_emb_val win0_1 t _ a).trans ?_
  match a with
  | ⟨0, _⟩ => show (BitVec.ofNat 32 (gb t).val).toNat * 1 + 0 = (gb t).val; rw [word_small]; omega
  | ⟨1, _⟩ => show 0 * 4096 + k.val = k.val; omega
  | ⟨2, _⟩ => show (BitVec.ofNat 32 (gp t).val).toNat * 256 + e.val = 256 * (gp t).val + e.val; rw [word_small]; omega

theorem block_v (c : Dev nD) (t : Fin cfg0.N) (u : Fin 16) (d : Fin 128) (r : Fin 256) :
    (iblk m c 2 t (ix4 0 u d r) : EReal)
      = m ((c.tc : Thread nD τ).loc main_arg2) (ix4 (gb t) u ⟨128 * (gp t).val + d.val, by omega⟩ r) := by
  unfold iblk
  blk_simp
  rw [V_main_arg2]
  refine congrArg (m ((c.tc : Thread nD τ).loc main_arg2)) (funext fun a => Fin.ext ?_)
  refine (Pipeline.Window.rect_emb_val win0_2 t _ a).trans ?_
  match a with
  | ⟨0, _⟩ => show (BitVec.ofNat 32 (gb t).val).toNat * 1 + 0 = (gb t).val; rw [word_small]; omega
  | ⟨1, _⟩ => show 0 * 16 + u.val = u.val; omega
  | ⟨2, _⟩ => show (BitVec.ofNat 32 (gp t).val).toNat * 128 + d.val = 128 * (gp t).val + d.val; rw [word_small]; omega
  | ⟨3, _⟩ => show 0 * 256 + r.val = r.val; omega

theorem block_o (t : Fin cfg0.N) (tt : Fin 8) (d : Fin 128) (q : Fin 512) :
    (win0_3.blk t).view.emb (ix4 0 tt d q) = (ix4 (gb t) tt ⟨128 * (gp t).val + d.val, by omega⟩ q : S8x8x1024x512.Idx) := by
  refine funext fun a => Fin.ext ?_
  refine (Pipeline.Window.rect_emb_val win0_3 t _ a).trans ?_
  match a with
  | ⟨0, _⟩ => show (BitVec.ofNat 32 (gb t).val).toNat * 1 + 0 = (gb t).val; rw [word_small]; omega
  | ⟨1, _⟩ => show 0 * 8 + tt.val = tt.val; omega
  | ⟨2, _⟩ => show (BitVec.ofNat 32 (gp t).val).toNat * 128 + d.val = 128 * (gp t).val + d.val; rw [word_small]; omega
  | ⟨3, _⟩ => show 0 * 512 + q.val = q.val; omega

/-- The kernel's score of a key is the reference's. -/
theorem sk_eq (c : Dev nD) (t : Fin cfg0.N) (tt : Fin 8) (j : Fin 2) (q : Fin 512) (k : ℕ) :
    sk (iblk m c 0 t) (iblk m c 1 t) tt j q k
      = Cert.ReferenceIdeal.Hand.dotQK (m ((c.tc : Thread nD τ).loc main_arg0)) (m ((c.tc : Thread nD τ).loc main_arg1)) (gb t)
          ⟨2 * (gp t).val + j.val, by omega⟩ ⟨tt.val * 512 + q.val, by omega⟩ ⟨k % 4096, Nat.mod_lt _ (by decide)⟩ := by
  unfold sk Cert.ReferenceIdeal.Hand.dotQK
  refine Finset.sum_congr rfl fun e _ => ?_
  rw [mul_comm]
  refine congrArg₂ (· * ·) ((block_q m c t tt j e q).trans ?_) ((block_k m c t _ _).trans ?_)
  · congr 2
    · exact Fin.ext (by show tt.val = (tt.val * 512 + q.val) / 512; omega)
    · exact Fin.ext (by show q.val = (tt.val * 512 + q.val) % 512; omega)
  · congr 2
    exact Fin.ext (by show 256 * (gp t).val + (128 * j.val + e.val) = (2 * (gp t).val + j.val) * 128 + e.val; omega)

/-- The masked one too, in the natural logarithm's units. -/
theorem Sk_eq (c : Dev nD) (t : Fin cfg0.N) (tt : Fin 8) (j : Fin 2) (q : Fin 512) (k : Fin 4096) :
    Sk (iblk m c 0 t) (iblk m c 1 t) tt j q k * ((Real.log 2 : ℝ) : EReal)
      = Cert.ReferenceIdeal.Hand.scores (m ((c.tc : Thread nD τ).loc main_arg0)) (m ((c.tc : Thread nD τ).loc main_arg1))
          (ix4 (gb t) ⟨2 * (gp t).val + j.val, by omega⟩ ⟨tt.val * 512 + q.val, by omega⟩ k) := by
  rw [Cert.ReferenceIdeal.Hand.scores_if]
  unfold Sk
  have hk : (⟨k.val % 4096, Nat.mod_lt _ (by decide)⟩ : Fin 4096) = k := Fin.ext (Nat.mod_eq_of_lt k.isLt)
  by_cases h : k.val ≤ 512 * tt.val + q.val
  · rw [if_pos h, if_pos (by show k.val ≤ tt.val * 512 + q.val; omega), sk_eq, hk]
  · rw [if_neg h, if_neg (by show ¬ k.val ≤ tt.val * 512 + q.val; omega)]
    exact EReal.bot_mul_coe_of_pos (Real.log_pos (by norm_num))

variable (hQ : ∀ c : Dev nD, ∀ i, ∃ r : ℝ, m ((c.tc : Thread nD τ).loc main_arg0) i = (r : EReal))
variable (hK : ∀ c : Dev nD, ∀ i, ∃ r : ℝ, m ((c.tc : Thread nD τ).loc main_arg1) i = (r : EReal))
include hQ hK

theorem out_value (c : Dev nD) (t : Fin cfg0.N) (tt : Fin 8) (d : Fin 128) (q : Fin 512) :
    outAll (iblk m c 0 t) (iblk m c 1 t) (iblk m c 2 t) (ix4 0 tt d q)
      = Cert.ReferenceIdeal.Hand.attention (m ((c.tc : Thread nD τ).loc main_arg0)) (m ((c.tc : Thread nD τ).loc main_arg1)) (m ((c.tc : Thread nD τ).loc main_arg2))
          (ix4 (gb t) tt ⟨128 * (gp t).val + d.val, by omega⟩ q) := by
  obtain ⟨M, hM⟩ := Cert.ReferenceIdeal.Hand.attention_apply _ _ (m ((c.tc : Thread nD τ).loc main_arg2)) (hQ c) (hK c) (gb t) tt
    ⟨128 * (gp t).val + d.val, by omega⟩ q
  rw [hM]
  have erc : rc d q = ix2 d q := by
    funext a
    match a with
    | ⟨0, _⟩ => rfl
    | ⟨1, _⟩ => rfl
  show tileOut (iblk m c 0 t) (iblk m c 1 t) (iblk m c 2 t) tt (rc d q) = _
  obtain ⟨j, dd, hd⟩ : ∃ (j : Fin 2) (dd : Fin 64), d.val = 64 * j.val + dd.val :=
    ⟨⟨d.val / 64, by omega⟩, ⟨d.val % 64, by omega⟩, by show d.val = 64 * (d.val / 64) + d.val % 64; omega⟩
  rw [erc, tileOut_apply _ _ _ tt j dd q d hd,
    mlEnd_quotient _ _ _ tt j dd q (fun k => by rw [sk_eq]; exact Cert.ReferenceIdeal.Hand.dotQK_real _ _ (hQ c) (hK c) _ _ _ _) M]
  have hh : (⟨(128 * (gp t).val + d.val) / 64, by omega⟩ : Fin 16) = ⟨2 * (gp t).val + j.val, by omega⟩ :=
    Fin.ext (by show (128 * (gp t).val + d.val) / 64 = 2 * (gp t).val + j.val; omega)
  simp only [Sk_eq]
  rw [hh]
  refine Finset.sum_congr rfl fun k _ => congrArg (· * _) ?_
  unfold vk
  refine (block_v m c t _ _ _).trans ?_
  congr 2
  · exact Fin.ext (by show k.val / 256 % 16 = k.val / 256; omega)
  · exact Fin.ext (by show 128 * (gp t).val + (64 * j.val + dd.val) = 128 * (gp t).val + d.val; omega)

/-- The array the kernel leaves is the reference's result. -/
theorem array_value (c : Dev nD) : (dats m 0 c).arrAt 3 cfg0.N
    = Cert.ReferenceIdeal.Hand.attention (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after_out]
  unfold outAt
  obtain ⟨a, tt, d, q, rfl⟩ : ∃ (a : Fin 1) (tt : Fin 8) (d : Fin 128) (q : Fin 512), y = ix4 a tt d q := ⟨y 0, y 1, y 2, y 3, eq_ix4 y⟩
  obtain rfl : a = 0 := Subsingleton.elim _ _
  exact (out_value m hQ hK c t tt d q).trans (congrArg _ (block_o t tt d q).symm)

/-- The run, with the result's value. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = Cert.ReferenceIdeal.Hand.attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (array_value m hQ hK c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩) (run_main m ρ)

end Cert.KernelIdeal.Hand

end
-- ==== Proof.Same.lean ====
/- The two prints of the kernel have one text: their body tables are the same function. The label is taken apart
first, since each table's own case analysis is a constant of its own. -/
module

public import proofs.«01_k».proof.Defs
public import proofs.«01_k».proof.Proof.Gen.Kernel
public import proofs.«01_k».proof.Proof.Gen.KernelIdeal

@[expose] public section

namespace Cert.Same

open Idealize.ShloMosaic Idealize.SL.Sem

variable {F : FTy → Type} [FloatOps F]

theorem bodies_eq : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) => rfl

theorem defs_eq : @Cert.Kernel.defs F _ _ = @Cert.KernelIdeal.defs F _ _ :=
  congrArg (Pipeline.defs (Cert.KernelIdeal.pcfgs (F := F))) bodies_eq

end Cert.Same

end
-- ==== Proof.FfnBlock.lean ====
/-
  One block of the feed-forward kernels: the normed rows, a chunk of 256 hidden units, and the closing sum, each read at an
  element; eleven chunks are the sum over all 2816 hidden units.
-/
module

public import proofs.«01_k».proof.Proof.Gen.Kernel2Ideal.Frame
public import Idealize.ShloMosaic.Lib.Pipeline.ValueKit.Tiles
public import Idealize.ShloMosaic.Lib.Pointwise

@[expose] public section

set_option maxRecDepth 16384

noncomputable section

namespace Cert.Ffn

open Cert.Kernel2Ideal Cert.Kernel2Ideal.Gen
open Idealize.ShloMosaic Idealize.SL.Sem

/-- The reciprocal root mean square of a row. -/
def rowScale (x : Fin 1024 → EReal) : EReal :=
  Ideal.rsqrt (Ideal.div (∑ j : Fin 1024, x j * x j) (Ideal.ofBits .f32 0x44800000#32) + Ideal.ofBits .f32 0x358637BD#32)

/-- A row normed and multiplied by the gain. -/
def normRow (x g : Fin 1024 → EReal) (j : Fin 1024) : EReal := x j * rowScale x * g j

/-- A hidden unit's share of the output, from its gate and up columns and its down entry. -/
def unit (h wg wu : Fin 1024 → EReal) (wd : EReal) : EReal :=
  (∑ j : Fin 1024, h j * wg j) * Ideal.logistic (∑ j : Fin 1024, h j * wg j) * (∑ j : Fin 1024, h j * wu j) * wd

/-- A row through the feed-forward layer: the row plus half of the sum over the hidden units. -/
def ffnRow (x g : Fin 1024 → EReal) (wg wu : Fin 1024 → Fin 2816 → EReal) (wd : Fin 2816 → Fin 1024 → EReal) (c : Fin 1024) : EReal :=
  x c + Ideal.ofBits .f32 0x3F000000#32 * ∑ f : Fin 2816, unit (normRow x g) (fun j => wg j f) (fun j => wu j f) (wd f c)

/-- The rows normed, as the kernel computes them. -/
def normed (x : FVec Ideal S1024x1024 .f32) (g : Vec Ideal S1x1x1024 .f32) : FVec Ideal S1024x1024 .bf16 :=
  truncf .bf16 (mulf (mulf x (broadcastTo S1024x1024 (rsqrt (addf (divf (shapeCast S1024x1 (multiReduction .add [1] S1024 (mulf x x) 0x00000000#32 reduces_S1024x1024_S1024 (.inl rfl) rfl) shapeCasts_S1024_S1024x1)
      (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1x1024_S1x1024) broadcasts_S1x1024_S1024x1024)) bitsLt_bf16_f32

/-- The product with a chunk of 256 columns. -/
def proj (h : FVec Ideal S1024x1024 .bf16) (w : Vec Ideal S1x1024x256 .bf16) : FVec Ideal S1024x256 .f32 :=
  matmul dot_S1024x1024_S1024x256_S1024x256_1_0_0_1_n_n none h (shapeCast S1024x256 w shapeCasts_S1x1024x256_S1024x256 : FVec Ideal S1024x256 .bf16) (constant S1024x256 .f32 0x00000000#32)

/-- A chunk of 256 hidden units added to the sum. -/
def chunk (h : FVec Ideal S1024x1024 .bf16) (wg wu : Vec Ideal S1x1024x256 .bf16) (wd : Vec Ideal S1x256x1024 .bf16) (acc : FVec Ideal S1024x1024 .f32) : FVec Ideal S1024x1024 .f32 :=
  addf acc (matmul dot_S1024x256_S256x1024_S1024x1024_1_0_0_1_n_n none
    (truncf .bf16 (mulf (mulf (proj h wg) (logistic (proj h wg))) (proj h wu)) bitsLt_bf16_f32)
    (shapeCast S256x1024 wd shapeCasts_S1x256x1024_S256x1024 : FVec Ideal S256x1024 .bf16) (constant S1024x1024 .f32 0x00000000#32))

/-- The rows plus half of the sum. -/
def close (x acc : FVec Ideal S1024x1024 .f32) : FVec Ideal S1024x1024 .f32 :=
  addf x (mulf (broadcast S1024x1024 (Scalar.ofBits .f32 0x3F000000#32)) acc)

theorem normed_apply (x : FVec Ideal S1024x1024 .f32) (g : Vec Ideal S1x1x1024 .f32) (r c : Fin 1024) :
    normed x g (ix2 r c) = normRow (fun j => x (ix2 r j)) (fun j => g (ix3 0 0 j)) c := by
  pointwise [normed, normRow, rowScale]
theorem proj_apply (h : FVec Ideal S1024x1024 .bf16) (w : Vec Ideal S1x1024x256 .bf16) (r : Fin 1024) (f : Fin 256) :
    proj h w (ix2 r f) = ∑ j : Fin 1024, h (ix2 r j) * w (ix3 0 j f) := by
  pointwise [proj]
theorem chunk_apply (h : FVec Ideal S1024x1024 .bf16) (wg wu : Vec Ideal S1x1024x256 .bf16) (wd : Vec Ideal S1x256x1024 .bf16) (acc : FVec Ideal S1024x1024 .f32) (r c : Fin 1024) :
    (chunk h wg wu wd acc (ix2 r c) : EReal) = acc (ix2 r c)
      + ∑ f : Fin 256, unit (fun j => h (ix2 r j)) (fun j => wg (ix3 0 j f)) (fun j => wu (ix3 0 j f)) (wd (ix3 0 f c)) := by
  unfold unit
  simp only [← proj_apply]
  pointwise [chunk]
theorem close_apply (x acc : FVec Ideal S1024x1024 .f32) (r c : Fin 1024) :
    (close x acc (ix2 r c) : EReal) = x (ix2 r c) + Ideal.ofBits .f32 0x3F000000#32 * acc (ix2 r c) := by
  pointwise [close]

/-- A sum over 2816 hidden units, in eleven chunks of 256. -/
theorem sum_chunks (u : Fin 2816 → EReal) :
    ∑ f : Fin 2816, u f = ∑ k : Fin 11, ∑ f : Fin 256, u ⟨k.val * 256 + f.val, by omega⟩ := by
  rw [← Fintype.sum_prod_type']
  refine (Fintype.sum_equiv (finProdFinEquiv (m := 11) (n := 256)) _ _ fun p => ?_).symm
  exact congrArg u (Fin.ext (by show p.1.val * 256 + p.2.val = p.2.val + 256 * p.1.val; omega))

/-- A block of 1024 rows through the layer: the eleven chunks in order, then the closing sum. -/
def block (x : Vec Ideal S1024x1024 .f32) (g : Vec Ideal S1x1x1024 .f32) (wg wu : Vec Ideal S1x1024x2816 .bf16) (wd : Vec Ideal S1x2816x1024 .bf16) : Vec Ideal S1024x1024 .f32 :=
  close x
      (chunk (normed x g) (View.ld wg r0_22) (View.ld wu r0_22) (View.ld wd r0_23)
      (chunk (normed x g) (View.ld wg r0_20) (View.ld wu r0_20) (View.ld wd r0_21)
      (chunk (normed x g) (View.ld wg r0_18) (View.ld wu r0_18) (View.ld wd r0_19)
      (chunk (normed x g) (View.ld wg r0_16) (View.ld wu r0_16) (View.ld wd r0_17)
      (chunk (normed x g) (View.ld wg r0_14) (View.ld wu r0_14) (View.ld wd r0_15)
      (chunk (normed x g) (View.ld wg r0_12) (View.ld wu r0_12) (View.ld wd r0_13)
      (chunk (normed x g) (View.ld wg r0_10) (View.ld wu r0_10) (View.ld wd r0_11)
      (chunk (normed x g) (View.ld wg r0_8) (View.ld wu r0_8) (View.ld wd r0_9)
      (chunk (normed x g) (View.ld wg r0_6) (View.ld wu r0_6) (View.ld wd r0_7)
      (chunk (normed x g) (View.ld wg r0_4) (View.ld wu r0_4) (View.ld wd r0_5)
      (chunk (normed x g) (View.ld wg r0_2) (View.ld wu r0_2) (View.ld wd r0_3)
        (broadcast S1024x1024 (Scalar.ofBits .f32 0x00000000#32)))))))))))))

theorem ld_cols (w : Vec Ideal S1x1024x2816 .bf16) (o : ℕ) (inb) (ho : o + 256 ≤ 2816) (j : Fin 1024) (f : Fin 256) :
    View.ld (Val := Elt Ideal) (e' := .bf16) w (Rect.unit (s := S1x1024x2816) ![0, 0, o] S1x1024x256.size inb) (ix3 0 j f) = w (ix3 0 j ⟨o + f.val, by omega⟩) :=
  View.ld_unit_apply_of (Val := Elt Ideal) (e := .bf16) w _ _ _ _ _ fun a => by
    match a with
    | ⟨0, _⟩ => rfl
    | ⟨1, _⟩ => exact (Nat.zero_add _).symm
    | ⟨2, _⟩ => rfl

theorem ld_rows (w : Vec Ideal S1x2816x1024 .bf16) (o : ℕ) (inb) (ho : o + 256 ≤ 2816) (f : Fin 256) (c : Fin 1024) :
    View.ld (Val := Elt Ideal) (e' := .bf16) w (Rect.unit (s := S1x2816x1024) ![0, o, 0] S1x256x1024.size inb) (ix3 0 f c) = w (ix3 0 ⟨o + f.val, by omega⟩ c) :=
  View.ld_unit_apply_of (Val := Elt Ideal) (e := .bf16) w _ _ _ _ _ fun a => by
    match a with
    | ⟨0, _⟩ => rfl
    | ⟨1, _⟩ => rfl
    | ⟨2, _⟩ => exact (Nat.zero_add _).symm

/-- A chunk read off the resident weights, from hidden unit `o` on. -/
theorem chunk_at (h : FVec Ideal S1024x1024 .bf16) (wg wu : Vec Ideal S1x1024x2816 .bf16) (wd : Vec Ideal S1x2816x1024 .bf16) (acc : FVec Ideal S1024x1024 .f32)
    (o : ℕ) (ho : o + 256 ≤ 2816) (i1 i2 i3) (r c : Fin 1024) :
    (chunk h (View.ld wg (Rect.unit (s := S1x1024x2816) ![0, 0, o] S1x1024x256.size i1)) (View.ld wu (Rect.unit (s := S1x1024x2816) ![0, 0, o] S1x1024x256.size i2))
        (View.ld wd (Rect.unit (s := S1x2816x1024) ![0, o, 0] S1x256x1024.size i3)) acc (ix2 r c) : EReal)
      = acc (ix2 r c) + ∑ f : Fin 256, (fun p : Fin 2816 => unit (fun j => h (ix2 r j)) (fun j => wg (ix3 0 j p)) (fun j => wu (ix3 0 j p)) (wd (ix3 0 p c))) ⟨o + f.val, by omega⟩ := by
  rw [chunk_apply]
  refine congrArg (acc (ix2 r c) + ·) (Finset.sum_congr rfl fun f _ => ?_)
  exact congr (congr (congrArg (unit fun j => h (ix2 r j)) (funext fun j => ld_cols wg o i1 ho j f)) (funext fun j => ld_cols wu o i2 ho j f))
    (ld_rows wd o i3 ho f c)

theorem sum_eleven (F : Fin 11 → EReal) :
    ∑ k : Fin 11, F k = 0 + F 0 + F 1 + F 2 + F 3 + F 4 + F 5 + F 6 + F 7 + F 8 + F 9 + F 10 := by
  simp only [Fin.sum_univ_castSucc, Finset.univ_eq_empty, Finset.sum_empty]
  rfl

/-- An element of a block. -/
theorem block_apply (x : Vec Ideal S1024x1024 .f32) (g : Vec Ideal S1x1x1024 .f32) (wg wu : Vec Ideal S1x1024x2816 .bf16) (wd : Vec Ideal S1x2816x1024 .bf16) (r c : Fin 1024) :
    (block x g wg wu wd (ix2 r c) : EReal) = ffnRow (fun j => x (ix2 r j)) (fun j => g (ix3 0 0 j)) (fun j f => wg (ix3 0 j f)) (fun j f => wu (ix3 0 j f))
      (fun f c => wd (ix3 0 f c)) c := by
  have hz : Ideal.ofBits .f32 0x00000000#32 = (0 : EReal) := by simp [Ideal.ofBits, Ideal.ieee]
  have hn : (fun j => (normed x g (ix2 r j) : EReal)) = normRow (fun j => x (ix2 r j)) (fun j => g (ix3 0 0 j)) := funext fun j => normed_apply x g r j
  unfold block ffnRow
  rw [close_apply, sum_chunks, sum_eleven]
  iterate 11 rw [chunk_at _ _ _ _ _ _ (by decide)]
  rw [hn, show (broadcast S1024x1024 (Scalar.ofBits (F := Ideal) .f32 0x00000000#32) (ix2 r c) : EReal) = 0 from hz]
  rfl

end Cert.Ffn

end
-- ==== Proof.Ffn2.lean ====
/-
  The plain feed-forward kernel's result array: each row through the feed-forward layer.
-/
module

public import proofs.«01_k».proof.Proof.FfnBlock
public import proofs.«01_k».proof.Proof.Gen.Kernel2Ideal.Value
public import Idealize.ShloMosaic.Lib.Pipeline.ValueKit.Geometry

@[expose] public section

set_option maxRecDepth 16384

noncomputable section

namespace Cert.Kernel2Ideal.Hand

open Cert.Kernel2Ideal Cert.Kernel2Ideal.Gen Cert.Ffn
open Idealize.ShloMosaic Idealize.ShloMosaic.TcCoe Idealize.SL.Sem

theorem out_eq (x : Vec Ideal S1024x1024 .f32) (g : Vec Ideal S1x1x1024 .f32) (wg wu : Vec Ideal S1x1024x2816 .bf16) (wd : Vec Ideal S1x2816x1024 .bf16) :
    out0_5 x g wg wu wd = block x g wg wu wd := by
  have hx : View.ld x r0_0 = x := View.ld_unit_zero (by funext a; match a with | ⟨0, _⟩ => rfl | ⟨1, _⟩ => rfl) _ _
  have hg : View.ld g r0_1 = g := View.ld_unit_zero (by funext a; match a with | ⟨0, _⟩ => rfl | ⟨1, _⟩ => rfl | ⟨2, _⟩ => rfl) _ _
  have e2 : k0_pay2 x = x := by
    unfold k0_pay2; funext i; exact congrFun (shapeCast_id x _) i
  have e3 : k0_pay15 x g wg wu wd = normed x g := by
    unfold k0_pay15 k0_pay3
    simp only [hx, hg, e2]
    rfl
  unfold out0_5
  refine (View.canon_unit_zero (by funext a; match a with | ⟨0, _⟩ => rfl | ⟨1, _⟩ => rfl) _ _).trans ?_
  rw [hx, hg, e2, e3]
  unfold k0_pay4
  have e3' : k0_pay3 x g = normed x g := by
    unfold k0_pay3
    simp only [e2]
    rfl
  rw [e3']
  unfold k0_pay1 k0_pay12 k0_pay11 k0_pay9 k0_pay6 k0_pay5 k0_pay7 k0_pay8 k0_pay10 k0_pay13 k0_pay14 block close chunk proj
  rfl

variable (m : (ℓ : Loc nD τ sig) → Buf (Elt Ideal) ℓ)

theorem V_rows (c : Dev nD) : V m c main_v0 = shapeCast S32768x1024 (m ((c : Thread nD τ).loc main_arg0)) shapeCasts_S8x4096x1024_S32768x1024 := by
  show StableHlo.after hostOps0 _ _ = _
  simp only [hostOps0]
  after_results_simp <;> rfl
theorem V_gain (c : Dev nD) : V m c main_v1 = broadcastInDim S4x1x1024 ![0, 2] bcast_S4x1024_S4x1x1024_0_2 (m ((c : Thread nD τ).loc main_arg1)) := by
  show StableHlo.after hostOps0 _ _ = _
  simp only [hostOps0]
  after_results_simp <;> rfl
theorem V_gate (c : Dev nD) : (V m c main_v2 : S4x1024x2816.Idx → EReal) = (m ((c : Thread nD τ).loc main_arg2) : S4x1024x2816.Idx → EReal) := by
  show StableHlo.after hostOps0 _ _ = _
  simp only [hostOps0]
  after_results_simp <;> rfl
theorem V_up (c : Dev nD) : (V m c main_v3 : S4x1024x2816.Idx → EReal) = (m ((c : Thread nD τ).loc main_arg3) : S4x1024x2816.Idx → EReal) := by
  show StableHlo.after hostOps0 _ _ = _
  simp only [hostOps0]
  after_results_simp <;> rfl
theorem V_down (c : Dev nD) : (V m c main_v4 : S4x2816x1024.Idx → EReal) = (m ((c : Thread nD τ).loc main_arg4) : S4x2816x1024.Idx → EReal) := by
  show StableHlo.after hostOps0 _ _ = _
  simp only [hostOps0]
  after_results_simp <;> rfl

/-- A point's block of rows. -/
def gr (t : Fin cfg0.N) : Fin 32 := cfg0.grid.coords t 0

theorem word_row (x : Fin 32) : (BitVec.ofNat 32 x.val).toNat = x.val := by
  rw [BitVec.toNat_ofNat]; exact Nat.mod_eq_of_lt (by omega)

/-- The result as a function of the arguments: row `4096 b + s` of the result is row `s` of batch element `b` through the layer. -/
def rows (x : S8x4096x1024.Idx → EReal) (g : S4x1024.Idx → EReal) (wg wu : S4x1024x2816.Idx → EReal) (wd : S4x2816x1024.Idx → EReal) : S32768x1024.Idx → EReal :=
  fun i => ffnRow (fun j => x (ix3 ⟨(i 0).val / 4096, by have := (i 0).isLt; change _ < 32768 at this; omega⟩ ⟨(i 0).val % 4096, by omega⟩ j)) (fun j => g (ix2 0 j))
    (fun j f => wg (ix3 0 j f)) (fun j f => wu (ix3 0 j f)) (fun f c => wd (ix3 0 f c)) (i 1)

theorem flat_apply (X : FVec Ideal S8x4096x1024 .f32) (n : Fin 32768) (j : Fin 1024) :
    shapeCast S32768x1024 X shapeCasts_S8x4096x1024_S32768x1024 (ix2 n j) = X (ix3 ⟨n.val / 4096, by omega⟩ ⟨n.val % 4096, by omega⟩ j) := by
  pointwise []

theorem block_x (c : Dev nD) (t : Fin cfg0.N) (r j : Fin 1024) :
    (iblk m c 0 t (ix2 r j) : EReal) = m ((c : Thread nD τ).loc main_arg0)
      (ix3 ⟨((gr t).val * 1024 + r.val) / 4096, by omega⟩ ⟨((gr t).val * 1024 + r.val) % 4096, by omega⟩ j) := by
  unfold iblk
  blk_simp
  rw [V_rows]
  have e : (win0_0.blk t).view.emb (ix2 r j) = (ix2 ⟨(gr t).val * 1024 + r.val, by omega⟩ j : S32768x1024.Idx) := by
    refine funext fun a => Fin.ext ?_
    refine (Pipeline.Window.rect_emb_val win0_0 t _ a).trans ?_
    match a with
    | ⟨0, _⟩ => show (BitVec.ofNat 32 (gr t).val).toNat * 1024 + r.val = (gr t).val * 1024 + r.val; rw [word_row]
    | ⟨1, _⟩ => show 0 * 1024 + j.val = j.val; omega
  exact (congrArg _ e).trans (flat_apply _ _ _)

theorem block_g (c : Dev nD) (t : Fin cfg0.N) (j : Fin 1024) :
    (iblk m c 1 t (ix3 0 0 j) : EReal) = m ((c : Thread nD τ).loc main_arg1) (ix2 0 j) := by
  unfold iblk
  blk_simp
  rw [V_gain]
  have e : (win0_1.blk t).view.emb (ix3 0 0 j) = (ix3 0 0 j : S4x1x1024.Idx) := by
    refine funext fun a => Fin.ext ?_
    refine (Pipeline.Window.rect_emb_val win0_1 t _ a).trans ?_
    match a with
    | ⟨0, _⟩ => rfl
    | ⟨1, _⟩ => rfl
    | ⟨2, _⟩ => show 0 * 1024 + j.val = j.val; omega
  refine (congrArg _ e).trans ?_
  pointwise []

theorem block_wg (c : Dev nD) (t : Fin cfg0.N) (j : Fin 1024) (f : Fin 2816) :
    (iblk m c 2 t (ix3 0 j f) : EReal) = m ((c : Thread nD τ).loc main_arg2) (ix3 0 j f) := by
  unfold iblk
  blk_simp
  refine (congrFun (V_gate m c) _).trans ?_
  refine congrArg (m ((c : Thread nD τ).loc main_arg2)) (funext fun a => Fin.ext ?_)
  refine (Pipeline.Window.rect_emb_val win0_2 t _ a).trans ?_
  match a with
  | ⟨0, _⟩ => rfl
  | ⟨1, _⟩ => show 0 * 1024 + j.val = j.val; omega
  | ⟨2, _⟩ => show 0 * 2816 + f.val = f.val; omega

theorem block_wu (c : Dev nD) (t : Fin cfg0.N) (j : Fin 1024) (f : Fin 2816) :
    (iblk m c 3 t (ix3 0 j f) : EReal) = m ((c : Thread nD τ).loc main_arg3) (ix3 0 j f) := by
  unfold iblk
  blk_simp
  refine (congrFun (V_up m c) _).trans ?_
  refine congrArg (m ((c : Thread nD τ).loc main_arg3)) (funext fun a => Fin.ext ?_)
  refine (Pipeline.Window.rect_emb_val win0_3 t _ a).trans ?_
  match a with
  | ⟨0, _⟩ => rfl
  | ⟨1, _⟩ => show 0 * 1024 + j.val = j.val; omega
  | ⟨2, _⟩ => show 0 * 2816 + f.val = f.val; omega

theorem block_wd (c : Dev nD) (t : Fin cfg0.N) (f : Fin 2816) (j : Fin 1024) :
    (iblk m c 4 t (ix3 0 f j) : EReal) = m ((c : Thread nD τ).loc main_arg4) (ix3 0 f j) := by
  unfold iblk
  blk_simp
  refine (congrFun (V_down m c) _).trans ?_
  refine congrArg (m ((c : Thread nD τ).loc main_arg4)) (funext fun a => Fin.ext ?_)
  refine (Pipeline.Window.rect_emb_val win0_4 t _ a).trans ?_
  match a with
  | ⟨0, _⟩ => rfl
  | ⟨1, _⟩ => show 0 * 2816 + f.val = f.val; omega
  | ⟨2, _⟩ => show 0 * 1024 + j.val = j.val; omega

theorem block_o (t : Fin cfg0.N) (r j : Fin 1024) :
    (win0_5.blk t).view.emb (ix2 r j) = (ix2 ⟨(gr t).val * 1024 + r.val, by omega⟩ j : S32768x1024.Idx) := by
  refine funext fun a => Fin.ext ?_
  refine (Pipeline.Window.rect_emb_val win0_5 t _ a).trans ?_
  match a with
  | ⟨0, _⟩ => show (BitVec.ofNat 32 (gr t).val).toNat * 1024 + r.val = (gr t).val * 1024 + r.val; rw [word_row]
  | ⟨1, _⟩ => show 0 * 1024 + j.val = j.val; omega

/-- The array the kernel leaves. -/
theorem array_value (c : Dev nD) : ((dats m 0 c).arrAt 5 cfg0.N : S32768x1024.Idx → EReal)
    = rows (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp
  rw [after0_5, out_eq]
  obtain ⟨r, j, rfl⟩ : ∃ (r j : Fin 1024), y = ix2 r j := ⟨y 0, y 1, eq_ix2 y⟩
  refine (block_apply _ _ _ _ _ r j).trans ?_
  refine Eq.trans ?_ (congrArg (rows _ _ _ _ _) (block_o t r j)).symm
  simp only [block_x, block_g, block_wg, block_wu, block_wd]
  rfl

end Cert.Kernel2Ideal.Hand

end
-- ==== Proof.FfnPlain.lean ====
/-
  The feed-forward layer as the references write it, read at an element: the same row function as the kernels' blocks, with the
  sigmoid written out.
-/
module

public import proofs.«01_k».proof.Proof.Ffn2
public import proofs.«01_k».proof.Proof.Gen.Reference2Ideal
public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen Cert.Ffn
open Idealize.ShloMosaic Idealize.ShloMosaic.TcCoe Idealize.SL.Sem Idealize.ShloMosaic.StableHlo

/-- The rows normed by their root mean square, times the gain of layer 0. -/
def normedRows (x : FVec Ideal S8x4096x1024 .f32) (g : FVec Ideal S4x1024 .f32) : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast _ (extractStridedSlice S1x1024 ![0, 0] g slices_S4x1024_S1x1024_0_0) shapeCasts_S1x1024_S1024)))

/-- The product with the weights of layer 0. -/
def hidden (h : FVec Ideal S8x4096x1024 .f32) (w : FVec Ideal S4x1024x2816 .f32) : FVec Ideal S8x4096x2816 .f32 :=
  Host.dotGeneral dot_S8x4096x1024_S1024x2816_S8x4096x2816_2_0_01_1_n_n none h
    (shapeCast _ (extractStridedSlice S1x1024x2816 ![0, 0, 0] w slices_S4x1024x2816_S1x1024x2816_0_0_0) shapeCasts_S1x1024x2816_S1024x2816)

/-- The gate times its sigmoid, times the other half. -/
def gated (a u : FVec Ideal S8x4096x2816 .f32) : FVec Ideal S8x4096x2816 .f32 :=
  mulf (mulf a (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf a))))) u

/-- The rows plus half of the product with the down weights of layer 0, flattened. -/
def closed (x : FVec Ideal S8x4096x1024 .f32) (p : FVec Ideal S8x4096x2816 .f32) (wd : FVec Ideal S4x2816x1024 .f32) : FVec Ideal S32768x1024 .f32 :=
  shapeCast _ (addf x (mulf (broadcastInDim S8x4096x1024 ![] bcast_S_S8x4096x1024 (constant S_ .f32 0x3F000000#32))
    (Host.dotGeneral dot_S8x4096x2816_S2816x1024_S8x4096x1024_2_0_01_1_n_n none p
      (shapeCast _ (extractStridedSlice S1x2816x1024 ![0, 0, 0] wd slices_S4x2816x1024_S1x2816x1024_0_0_0) shapeCasts_S1x2816x1024_S2816x1024)))) shapeCasts_S8x4096x1024_S32768x1024

/-- The layer, stage by stage. -/
def layer (x : FVec Ideal S8x4096x1024 .f32) (g : FVec Ideal S4x1024 .f32) (wg wu : FVec Ideal S4x1024x2816 .f32) (wd : FVec Ideal S4x2816x1024 .f32) : FVec Ideal S32768x1024 .f32 :=
  closed x (gated (hidden (normedRows x g) wg) (hidden (normedRows x g) wu)) wd

theorem normedRows_apply (x : FVec Ideal S8x4096x1024 .f32) (g : FVec Ideal S4x1024 .f32) (b : Fin 8) (s : Fin 4096) (c : Fin 1024) :
    normedRows x g (ix3 b s c) = normRow (fun j => x (ix3 b s j)) (fun j => g (ix2 0 j)) c := by
  pointwise [normedRows, normRow, rowScale]

theorem hidden_apply (h : FVec Ideal S8x4096x1024 .f32) (w : FVec Ideal S4x1024x2816 .f32) (b : Fin 8) (s : Fin 4096) (f : Fin 2816) :
    hidden h w (ix3 b s f) = ∑ j : Fin 1024, h (ix3 b s j) * w (ix3 0 j f) := by
  pointwise [hidden]

theorem one_bits : Ideal.ofBits .f32 0x3F800000#32 = 1 := by
  simp [Ideal.ofBits, Ideal.ieee]
  rw [← EReal.coe_mul]
  norm_num

theorem gated_apply (a u : FVec Ideal S8x4096x2816 .f32) (b : Fin 8) (s : Fin 4096) (f : Fin 2816) :
    gated a u (ix3 b s f) = a (ix3 b s f) * Ideal.logistic (a (ix3 b s f)) * u (ix3 b s f) := by
  unfold Ideal.logistic
  rw [← one_bits]
  pointwise [gated]

theorem closed_apply (x : FVec Ideal S8x4096x1024 .f32) (p : FVec Ideal S8x4096x2816 .f32) (wd : FVec Ideal S4x2816x1024 .f32) (n : Fin 32768) (c : Fin 1024) :
    closed x p wd (ix2 n c) = x (ix3 ⟨n.val / 4096, by omega⟩ ⟨n.val % 4096, by omega⟩ c) + Ideal.ofBits .f32 0x3F000000#32
      * ∑ f : Fin 2816, p (ix3 ⟨n.val / 4096, by omega⟩ ⟨n.val % 4096, by omega⟩ f) * wd (ix3 0 f c) := by
  pointwise [closed]

/-- The layer's rows are the kernel's. -/
theorem layer_eq (x : FVec Ideal S8x4096x1024 .f32) (g : FVec Ideal S4x1024 .f32) (wg wu : FVec Ideal S4x1024x2816 .f32) (wd : FVec Ideal S4x2816x1024 .f32) :
    layer x g wg wu wd = Cert.Kernel2Ideal.Hand.rows x g wg wu wd := by
  funext i
  obtain ⟨n, c, rfl⟩ : ∃ (n : Fin 32768) (c : Fin 1024), i = ix2 n c := ⟨i 0, i 1, eq_ix2 i⟩
  refine (closed_apply _ _ _ n c).trans ?_
  simp only [gated_apply, hidden_apply, normedRows_apply]
  rfl

end Cert.Reference2Ideal.Hand

end
-- ==== Proof.Ffn3.lean ====
/-
  The kernel of the output projection and the feed-forward layer: the rows plus their projection, each through the layer.
-/
module

public import proofs.«01_k».proof.Proof.Ffn2
public import proofs.«01_k».proof.Proof.Gen.Kernel3Ideal.Value
public import Idealize.ShloMosaic.Lib.Pipeline.ValueKit.Geometry

@[expose] public section

set_option maxRecDepth 16384

noncomputable section

namespace Cert.Kernel3Ideal.Hand

open Cert.Kernel3Ideal Cert.Kernel3Ideal.Gen Cert.Ffn
open Idealize.ShloMosaic Idealize.ShloMosaic.TcCoe Idealize.SL.Sem

/-- A tile of 512 columns through the projection. -/
def half (o : Vec Ideal S1x1x1024x512 .bf16) (w : Vec Ideal S1x1024x1024 .bf16) : FVec Ideal S512x1024 .f32 :=
  matmul dot_S1024x512_S1024x1024_S512x1024_0_0_1_1_n_n none (shapeCast S1024x512 o shapeCasts_S1x1x1024x512_S1024x512 : FVec Ideal S1024x512 .bf16)
    (shapeCast S1024x1024 w shapeCasts_S1x1024x1024_S1024x1024 : FVec Ideal S1024x1024 .bf16) (constant S512x1024 .f32 0x00000000#32)

theorem half_apply (o : Vec Ideal S1x1x1024x512 .bf16) (w : Vec Ideal S1x1024x1024 .bf16) (q : Fin 512) (c : Fin 1024) :
    half o w (ix2 q c) = ∑ k : Fin 1024, o (ix4 0 0 k q) * w (ix3 0 k c) := by
  pointwise [half]

/-- The rows plus the projections of two tiles, one below the other. -/
def added (o o' : Vec Ideal S1x1x1024x512 .bf16) (w : Vec Ideal S1x1024x1024 .bf16) (x : Vec Ideal S1024x1024 .f32) : FVec Ideal S1024x1024 .f32 :=
  addf x (concatenate S1024x1024 0 [⟨S512x1024, half o w⟩, ⟨S512x1024, half o' w⟩] concatenates_S512x1024_S512x1024_S1024x1024_d0)

theorem added_apply (o o' : Vec Ideal S1x1x1024x512 .bf16) (w : Vec Ideal S1x1024x1024 .bf16) (x : Vec Ideal S1024x1024 .f32) (r c : Fin 1024) :
    (added o o' w x (ix2 r c) : EReal) = x (ix2 r c)
      + if h : r.val < 512 then (half o w (ix2 ⟨r.val, h⟩ c) : EReal) else half o' w (ix2 ⟨r.val - 512, by omega⟩ c) := by
  pointwise [added]

theorem out_eq (o : Vec Ideal S1x2x1024x512 .bf16) (w : Vec Ideal S1x1024x1024 .bf16) (x : Vec Ideal S1024x1024 .f32) (g : Vec Ideal S1x1x1024 .f32)
    (wg wu : Vec Ideal S1x1024x2816 .bf16) (wd : Vec Ideal S1x2816x1024 .bf16) :
    out0_7 o w x g wg wu wd = block (added (View.ld o r0_0) (View.ld o r0_2) w x) g wg wu wd := by
  have hw : View.ld w r0_1 = w := View.ld_unit_zero (by funext a; match a with | ⟨0, _⟩ => rfl | ⟨1, _⟩ => rfl | ⟨2, _⟩ => rfl) _ _
  have hx : View.ld x r0_3 = x := View.ld_unit_zero (by funext a; match a with | ⟨0, _⟩ => rfl | ⟨1, _⟩ => rfl) _ _
  have hg : View.ld g r0_4 = g := View.ld_unit_zero (by funext a; match a with | ⟨0, _⟩ => rfl | ⟨1, _⟩ => rfl | ⟨2, _⟩ => rfl) _ _
  have e2 : k0_pay2 (View.ld o r0_0) w (View.ld o r0_2) w x = added (View.ld o r0_0) (View.ld o r0_2) w x := by
    unfold k0_pay2 added half
    have ex : shapeCast S1024x1024 x shapeCasts_S1024x1024_S1024x1024 = x := by
      funext i; exact congrFun (shapeCast_id x _) i
    simp only [ex]
  have e3 : k0_pay13 o w x g wg wu wd = normed (added (View.ld o r0_0) (View.ld o r0_2) w x) g := by
    unfold k0_pay13 k0_pay3
    simp only [hw, hx, hg, e2]
    rfl
  unfold out0_7
  refine (View.canon_unit_zero (by funext a; match a with | ⟨0, _⟩ => rfl | ⟨1, _⟩ => rfl) _ _).trans ?_
  rw [hw, hx, e2, e3]
  generalize added (View.ld o r0_0) (View.ld o r0_2) w x = y
  unfold k0_pay1 k0_pay12 k0_pay11 k0_pay9 k0_pay6 k0_pay5 k0_pay7 k0_pay8 k0_pay10 k0_pay4 block close chunk proj
  rfl

/-- The projection of the mixing at an element: the mixing of row `s` is in tile `s / 512`, column `s % 512`. -/
def projected (o : S8x8x1024x512.Idx → EReal) (w : S2x1024x1024.Idx → EReal) (b : Fin 8) (s : Fin 4096) (j : Fin 1024) : EReal :=
  ∑ k : Fin 1024, o (ix4 b ⟨s.val / 512, by omega⟩ k ⟨s.val % 512, by omega⟩) * w (ix3 0 k j)

/-- The rows with the projected mixing added. -/
def mixed (x : S8x4096x1024.Idx → EReal) (o : S8x8x1024x512.Idx → EReal) (w : S2x1024x1024.Idx → EReal) : S8x4096x1024.Idx → EReal :=
  fun i => x i + projected o w (i 0) (i 1) (i 2)

variable (m : (ℓ : Loc nD τ sig) → Buf (Elt Ideal) ℓ)

theorem V_rows (c : Dev nD) : V m c main_v0 = shapeCast S32768x1024 (m ((c : Thread nD τ).loc main_arg0)) shapeCasts_S8x4096x1024_S32768x1024 := by
  show StableHlo.after hostOps0 _ _ = _
  simp only [hostOps0]
  after_results_simp <;> rfl
theorem V_gain (c : Dev nD) : V m c main_v1 = broadcastInDim S4x1x1024 ![0, 2] bcast_S4x1024_S4x1x1024_0_2 (m ((c : Thread nD τ).loc main_arg3)) := by
  show StableHlo.after hostOps0 _ _ = _
  simp only [hostOps0]
  after_results_simp <;> rfl
theorem V_gate (c : Dev nD) : (V m c main_v2 : S4x1024x2816.Idx → EReal) = (m ((c : Thread nD τ).loc main_arg4) : S4x1024x2816.Idx → EReal) := by
  show StableHlo.after hostOps0 _ _ = _
  simp only [hostOps0]
  after_results_simp <;> rfl
theorem V_up (c : Dev nD) : (V m c main_v3 : S4x1024x2816.Idx → EReal) = (m ((c : Thread nD τ).loc main_arg5) : S4x1024x2816.Idx → EReal) := by
  show StableHlo.after hostOps0 _ _ = _
  simp only [hostOps0]
  after_results_simp <;> rfl
theorem V_down (c : Dev nD) : (V m c main_v4 : S4x2816x1024.Idx → EReal) = (m ((c : Thread nD τ).loc main_arg6) : S4x2816x1024.Idx → EReal) := by
  show StableHlo.after hostOps0 _ _ = _
  simp only [hostOps0]
  after_results_simp <;> rfl
theorem V_proj (c : Dev nD) : (V m c main_v5 : S2x1024x1024.Idx → EReal) = (m ((c : Thread nD τ).loc main_arg2) : S2x1024x1024.Idx → EReal) := by
  show StableHlo.after hostOps0 _ _ = _
  simp only [hostOps0]
  after_results_simp <;> rfl
theorem V_mix (c : Dev nD) : V m c main_arg1 = m ((c : Thread nD τ).loc main_arg1) := V_main_arg1 m c

/-- A point's block of rows. -/
def gr (t : Fin cfg0.N) : Fin 32 := cfg0.grid.coords t 0

theorem block_x (c : Dev nD) (t : Fin cfg0.N) (r j : Fin 1024) :
    (iblk m c 2 t (ix2 r j) : EReal) = m ((c : Thread nD τ).loc main_arg0)
      (ix3 ⟨((gr t).val * 1024 + r.val) / 4096, by omega⟩ ⟨((gr t).val * 1024 + r.val) % 4096, by omega⟩ j) := by
  unfold iblk
  blk_simp
  rw [V_rows]
  have e : (win0_2.blk t).view.emb (ix2 r j) = (ix2 ⟨(gr t).val * 1024 + r.val, by omega⟩ j : S32768x1024.Idx) := by
    refine funext fun a => Fin.ext ?_
    refine (Pipeline.Window.rect_emb_val win0_2 t _ a).trans ?_
    match a with
    | ⟨0, _⟩ => show (BitVec.ofNat 32 (gr t).val).toNat * 1024 + r.val = (gr t).val * 1024 + r.val; rw [Cert.Kernel2Ideal.Hand.word_row]
    | ⟨1, _⟩ => show 0 * 1024 + j.val = j.val; omega
  exact (congrArg _ e).trans (Cert.Kernel2Ideal.Hand.flat_apply _ _ _)

theorem block_g (c : Dev nD) (t : Fin cfg0.N) (j : Fin 1024) :
    (iblk m c 3 t (ix3 0 0 j) : EReal) = m ((c : Thread nD τ).loc main_arg3) (ix2 0 j) := by
  unfold iblk
  blk_simp
  rw [V_gain]
  have e : (win0_3.blk t).view.emb (ix3 0 0 j) = (ix3 0 0 j : S4x1x1024.Idx) := by
    refine funext fun a => Fin.ext ?_
    refine (Pipeline.Window.rect_emb_val win0_3 t _ a).trans ?_
    match a with
    | ⟨0, _⟩ => rfl
    | ⟨1, _⟩ => rfl
    | ⟨2, _⟩ => show 0 * 1024 + j.val = j.val; omega
  refine (congrArg _ e).trans ?_
  pointwise []

theorem block_wg (c : Dev nD) (t : Fin cfg0.N) (j : Fin 1024) (f : Fin 2816) :
    (iblk m c 4 t (ix3 0 j f) : EReal) = m ((c : Thread nD τ).loc main_arg4) (ix3 0 j f) := by
  unfold iblk
  blk_simp
  refine (congrFun (V_gate m c) _).trans ?_
  refine congrArg (m ((c : Thread nD τ).loc main_arg4)) (funext fun a => Fin.ext ?_)
  refine (Pipeline.Window.rect_emb_val win0_4 t _ a).trans ?_
  match a with
  | ⟨0, _⟩ => rfl
  | ⟨1, _⟩ => show 0 * 1024 + j.val = j.val; omega
  | ⟨2, _⟩ => show 0 * 2816 + f.val = f.val; omega

theorem block_wu (c : Dev nD) (t : Fin cfg0.N) (j : Fin 1024) (f : Fin 2816) :
    (iblk m c 5 t (ix3 0 j f) : EReal) = m ((c : Thread nD τ).loc main_arg5) (ix3 0 j f) := by
  unfold iblk
  blk_simp
  refine (congrFun (V_up m c) _).trans ?_
  refine congrArg (m ((c : Thread nD τ).loc main_arg5)) (funext fun a => Fin.ext ?_)
  refine (Pipeline.Window.rect_emb_val win0_5 t _ a).trans ?_
  match a with
  | ⟨0, _⟩ => rfl
  | ⟨1, _⟩ => show 0 * 1024 + j.val = j.val; omega
  | ⟨2, _⟩ => show 0 * 2816 + f.val = f.val; omega

theorem block_wd (c : Dev nD) (t : Fin cfg0.N) (f : Fin 2816) (j : Fin 1024) :
    (iblk m c 6 t (ix3 0 f j) : EReal) = m ((c : Thread nD τ).loc main_arg6) (ix3 0 f j) := by
  unfold iblk
  blk_simp
  refine (congrFun (V_down m c) _).trans ?_
  refine congrArg (m ((c : Thread nD τ).loc main_arg6)) (funext fun a => Fin.ext ?_)
  refine (Pipeline.Window.rect_emb_val win0_6 t _ a).trans ?_
  match a with
  | ⟨0, _⟩ => rfl
  | ⟨1, _⟩ => show 0 * 2816 + f.val = f.val; omega
  | ⟨2, _⟩ => show 0 * 1024 + j.val = j.val; omega

theorem block_o (t : Fin cfg0.N) (r j : Fin 1024) :
    (win0_7.blk t).view.emb (ix2 r j) = (ix2 ⟨(gr t).val * 1024 + r.val, by omega⟩ j : S32768x1024.Idx) := by
  refine funext fun a => Fin.ext ?_
  refine (Pipeline.Window.rect_emb_val win0_7 t _ a).trans ?_
  match a with
  | ⟨0, _⟩ => show (BitVec.ofNat 32 (gr t).val).toNat * 1024 + r.val = (gr t).val * 1024 + r.val; rw [Cert.Kernel2Ideal.Hand.word_row]
  | ⟨1, _⟩ => show 0 * 1024 + j.val = j.val; omega

/-- The block of the mixing at a point: the two tiles from `2 (t % 4)` on, of batch element `t / 4`. -/
theorem index_mix : ∀ t : Fin cfg0.N, cc0_transform_0 (cfg0.grid.coords t) 0 = (gr t).val / 4 ∧ cc0_transform_0 (cfg0.grid.coords t) 1 = (gr t).val % 4
    ∧ cc0_transform_0 (cfg0.grid.coords t) 2 = 0 ∧ cc0_transform_0 (cfg0.grid.coords t) 3 = 0 :=
  (by decide +kernel : ∀ t : Fin grid0.N, cc0_transform_0 (grid0.coords t) 0 = (grid0.coords t 0).val / 4 ∧ cc0_transform_0 (grid0.coords t) 1 = (grid0.coords t 0).val % 4
    ∧ cc0_transform_0 (grid0.coords t) 2 = 0 ∧ cc0_transform_0 (grid0.coords t) 3 = 0)

theorem block_mix (c : Dev nD) (t : Fin cfg0.N) (e : Fin 2) (k : Fin 1024) (q : Fin 512) :
    (iblk m c 0 t (ix4 0 e k q) : EReal) = m ((c : Thread nD τ).loc main_arg1) (ix4 ⟨(gr t).val / 4, by omega⟩ ⟨(gr t).val % 4 * 2 + e.val, by omega⟩ k q) := by
  unfold iblk
  blk_simp
  obtain ⟨h0, h1, h2, h3⟩ := index_mix t
  refine (congrFun (V_mix m c) _).trans ?_
  refine congrArg (m ((c : Thread nD τ).loc main_arg1)) (funext fun a => Fin.ext ?_)
  refine (Pipeline.Window.rect_emb_val win0_0 t _ a).trans ?_
  match a with
  | ⟨0, _⟩ => show cc0_transform_0 (cfg0.grid.coords t) 0 * 1 + 0 = (gr t).val / 4; omega
  | ⟨1, _⟩ => show cc0_transform_0 (cfg0.grid.coords t) 1 * 2 + e.val = (gr t).val % 4 * 2 + e.val; omega
  | ⟨2, _⟩ => show cc0_transform_0 (cfg0.grid.coords t) 2 * 1024 + k.val = k.val; omega
  | ⟨3, _⟩ => show cc0_transform_0 (cfg0.grid.coords t) 3 * 512 + q.val = q.val; omega

theorem block_proj (c : Dev nD) (t : Fin cfg0.N) (k j : Fin 1024) :
    (iblk m c 1 t (ix3 0 k j) : EReal) = m ((c : Thread nD τ).loc main_arg2) (ix3 0 k j) := by
  unfold iblk
  blk_simp
  refine (congrFun (V_proj m c) _).trans ?_
  refine congrArg (m ((c : Thread nD τ).loc main_arg2)) (funext fun a => Fin.ext ?_)
  refine (Pipeline.Window.rect_emb_val win0_1 t _ a).trans ?_
  match a with
  | ⟨0, _⟩ => rfl
  | ⟨1, _⟩ => show 0 * 1024 + k.val = k.val; omega
  | ⟨2, _⟩ => show 0 * 1024 + j.val = j.val; omega

theorem ld_tile (o : Vec Ideal S1x2x1024x512 .bf16) (e : Fin 2) (inb) (k : Fin 1024) (q : Fin 512) :
    View.ld (Val := Elt Ideal) (e' := .bf16) o (Rect.unit (s := S1x2x1024x512) ![0, e.val, 0, 0] S1x1x1024x512.size inb) (ix4 0 0 k q) = o (ix4 0 e k q) :=
  View.ld_unit_apply_of (Val := Elt Ideal) (e := .bf16) o _ _ _ _ _ fun a => by
    match a with
    | ⟨0, _⟩ => rfl
    | ⟨1, _⟩ => rfl
    | ⟨2, _⟩ => exact (Nat.zero_add _).symm
    | ⟨3, _⟩ => exact (Nat.zero_add _).symm

/-- A point's rows, with their projection added. -/
theorem block_mixed (c : Dev nD) (t : Fin cfg0.N) (r j : Fin 1024) :
    (added (View.ld (Val := Elt Ideal) (e' := .bf16) (iblk m c 0 t) r0_0) (View.ld (Val := Elt Ideal) (e' := .bf16) (iblk m c 0 t) r0_2) (iblk m c 1 t) (iblk m c 2 t) (ix2 r j) : EReal)
      = mixed (m ((c : Thread nD τ).loc main_arg0)) (m ((c : Thread nD τ).loc main_arg1)) (m ((c : Thread nD τ).loc main_arg2))
          (ix3 ⟨((gr t).val * 1024 + r.val) / 4096, by omega⟩ ⟨((gr t).val * 1024 + r.val) % 4096, by omega⟩ j) := by
  refine (added_apply _ _ _ _ r j).trans ?_
  refine congr (congrArg _ (block_x m c t r j)) ?_
  have tile : ∀ (e : Fin 2) (q : Fin 512) (hr : r.val = e.val * 512 + q.val) (inb),
      (half (View.ld (Val := Elt Ideal) (e' := .bf16) (iblk m c 0 t) (Rect.unit (s := S1x2x1024x512) ![0, e.val, 0, 0] S1x1x1024x512.size inb)) (iblk m c 1 t) (ix2 q j) : EReal)
        = projected (m ((c : Thread nD τ).loc main_arg1)) (m ((c : Thread nD τ).loc main_arg2)) ⟨((gr t).val * 1024 + r.val) / 4096, by omega⟩
            ⟨((gr t).val * 1024 + r.val) % 4096, by omega⟩ j := fun e q hr inb => by
    refine (half_apply _ _ q j).trans (Finset.sum_congr rfl fun k _ => ?_)
    refine congr (congrArg _ ?_) (block_proj m c t k j)
    refine (ld_tile _ e inb k q).trans ((block_mix m c t e k q).trans (congrArg _ ?_))
    have := e.isLt
    have := q.isLt
    congr 1 <;> exact Fin.ext (by dsimp only; omega)
  split
  · next h => exact tile 0 ⟨r.val, h⟩ (by simp) _
  · next h => exact tile 1 ⟨r.val - 512, by omega⟩ (by dsimp only; show r.val = 1 * 512 + (r.val - 512); omega) _

/-- The array the kernel leaves. -/
theorem array_value (c : Dev nD) : ((dats m 0 c).arrAt 7 cfg0.N : S32768x1024.Idx → EReal)
    = Cert.Kernel2Ideal.Hand.rows (mixed (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, out_eq]
  obtain ⟨r, j, rfl⟩ : ∃ (r j : Fin 1024), y = ix2 r j := ⟨y 0, y 1, eq_ix2 y⟩
  refine (block_apply _ _ _ _ _ r j).trans ?_
  refine Eq.trans ?_ (congrArg (Cert.Kernel2Ideal.Hand.rows _ _ _ _ _) (block_o t r j)).symm
  simp only [block_g, block_wg, block_wu, block_wd]
  exact congrArg (fun x => ffnRow x _ _ _ _ j) (funext fun k => block_mixed m c t r k)

end Cert.Kernel3Ideal.Hand

end
-- ==== Proof.FfnPlain3.lean ====
/-
  The reference of the output projection and the feed-forward layer: the projected mixing read at an element, then the layer.
-/
module

public import proofs.«01_k».proof.Proof.FfnPlain
public import proofs.«01_k».proof.Proof.Ffn3
public import proofs.«01_k».proof.Proof.Gen.Reference3Ideal
public import proofs.«01_k».proof.Proof.Gen.Reference3Ideal.Run

@[expose] public section

set_option maxRecDepth 16384

noncomputable section

namespace Cert.Reference3Ideal.Hand

open Cert.Reference3Ideal Cert.Reference3Ideal.Gen
open Idealize.ShloMosaic Idealize.ShloMosaic.TcCoe Idealize.SL.Sem Idealize.ShloMosaic.StableHlo

/-- The rows with the projected mixing added, the mixing turned back to rows. -/
def mixedRows (x : FVec Ideal S8x4096x1024 .f32) (o : FVec Ideal S8x8x1024x512 .bf16) (w : FVec Ideal S2x1024x1024 .f32) : FVec Ideal S8x4096x1024 .f32 :=
  addf x (Host.dotGeneral dot_S8x4096x1024_S1024x1024_S8x4096x1024_2_0_01_1_n_n none
    (shapeCast _ (transpose S8x8x512x1024 [0, 1, 3, 2] (extf .f32 o bitsLt_bf16_f32) transposes_S8x8x1024x512_S8x8x512x1024_0_1_3_2) shapeCasts_S8x8x512x1024_S8x4096x1024)
    (shapeCast _ (extractStridedSlice S1x1024x1024 ![0, 0, 0] w slices_S2x1024x1024_S1x1024x1024_0_0_0) shapeCasts_S1x1024x1024_S1024x1024))

theorem mixedRows_apply (x : FVec Ideal S8x4096x1024 .f32) (o : FVec Ideal S8x8x1024x512 .bf16) (w : FVec Ideal S2x1024x1024 .f32) (b : Fin 8) (s : Fin 4096) (c : Fin 1024) :
    (mixedRows x o w (ix3 b s c) : EReal) = x (ix3 b s c)
      + ∑ k : Fin 1024, o (ix4 b ⟨s.val / 512, by omega⟩ k ⟨s.val % 512, by omega⟩) * w (ix3 0 k c) := by
  pointwise [mixedRows]

theorem mixedRows_eq (x : FVec Ideal S8x4096x1024 .f32) (o : FVec Ideal S8x8x1024x512 .bf16) (w : FVec Ideal S2x1024x1024 .f32) :
    mixedRows x o w = Cert.Kernel3Ideal.Hand.mixed x o w := by
  funext i
  obtain ⟨b, s, c, rfl⟩ : ∃ (b : Fin 8) (s : Fin 4096) (c : Fin 1024), i = ix3 b s c := ⟨i 0, i 1, i 2, eq_ix3 i⟩
  exact mixedRows_apply x o w b s c

theorem res_eq (m : (ℓ : Loc nD τ sig) → Buf (Elt Ideal) ℓ) (c : Dev nD) :
    Value.res_main_v36 m c = Cert.Kernel2Ideal.Hand.rows (Cert.Kernel3Ideal.Hand.mixed (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) (m ((c : Thread nD τ).loc main_arg6)) := by
  rw [← mixedRows_eq, ← Cert.Reference2Ideal.Hand.layer_eq]
  rfl

end Cert.Reference3Ideal.Hand

end
-- ==== Proof.DiffBlock.lean ====
/-
  One block of the differential attention's projection: the normed rows, their products with the weights, and each half-head of 64
  rows normed and turned by the rotary angles, each read at an element.
-/
module

public import proofs.«01_k».proof.Proof.FfnBlock
public import proofs.«01_k».proof.Proof.Gen.Kernel4Ideal.Frame
public import Idealize.ShloMosaic.Lib.Pipeline.ValueKit.Tiles
public import Idealize.ShloMosaic.Lib.Pipeline.Value
public import Idealize.ShloMosaic.Lib.Pointwise

@[expose] public section

set_option maxRecDepth 16384

noncomputable section

namespace Cert.Kernel4Ideal.Hand

open Cert.Kernel4Ideal Cert.Kernel4Ideal.Gen Cert.Ffn
open Idealize.ShloMosaic Idealize.SL.Sem

/-- A head's 64 entries normed by their root mean square, times the gain. -/
def headNorm (v g : Fin 64 → EReal) (d : Fin 64) : EReal :=
  v d * Ideal.rsqrt (Ideal.div (∑ e : Fin 64, v e * v e) (Ideal.ofBits .f32 0x42800000#32) + Ideal.ofBits .f32 0x358637BD#32) * g d

/-- The rotary turn of the first sixteen entries: entry `d` with entry `d + 8`. -/
def turn (v : Fin 64 → EReal) (cs sn : Fin 8 → EReal) (d : Fin 64) : EReal :=
  if h : d.val < 8 then v d * cs ⟨d.val, h⟩ - v ⟨d.val + 8, by omega⟩ * sn ⟨d.val, h⟩
  else if h : d.val < 16 then v d * cs ⟨d.val - 8, by omega⟩ + v ⟨d.val - 8, by omega⟩ * sn ⟨d.val - 8, by omega⟩
  else v d

/-- The products of the rows with 1024 of the weights' rows, transposed. -/
def prod (w : Vec Ideal S1x1024x1024 .bf16) (h : FVec Ideal S512x1024 .bf16) : FVec Ideal S1024x512 .f32 :=
  matmul dot_S1024x1024_S512x1024_S1024x512_1_1_0_0_n_n none (shapeCast S1024x1024 w shapeCasts_S1x1024x1024_S1024x1024 : FVec Ideal S1024x1024 .bf16) h
    (constant S1024x512 .f32 0x00000000#32)

/-- A half-head: the 64 rows from `o` on, normed along the rows' axis. -/
def headRows (X : FVec Ideal S1024x512 .f32) (o : ℕ) (h : S1024x512.Slices ![o, 0] S64x512) (g : Vec Ideal S1x64x1 .f32) : FVec Ideal S64x512 .f32 :=
  mulf (mulf (extractStridedSlice S64x512 ![o, 0] X h) (broadcastTo S64x512 (rsqrt (addf (divf
      (shapeCast S1x512 (multiReduction .add [0] S512 (mulf (extractStridedSlice S64x512 ![o, 0] X h) (extractStridedSlice S64x512 ![o, 0] X h)) 0x00000000#32 reduces_S64x512_S512 (.inl rfl) rfl) shapeCasts_S512_S1x512)
      (broadcast S1x512 (Scalar.ofBits .f32 0x42800000#32))) (broadcast S1x512 (Scalar.ofBits .f32 0x358637BD#32)))) broadcasts_S1x512_S64x512))
    (broadcastTo S64x512 (shapeCast S64x1 g shapeCasts_S1x64x1_S64x1) broadcasts_S64x1_S64x512)

/-- The rotary turn, as the kernel computes it. -/
def turnRows (Y : FVec Ideal S64x512 .f32) (cs sn : FVec Ideal S8x512 .f32) : FVec Ideal S64x512 .f32 :=
  concatenate S64x512 0 [
    ⟨S8x512, subf (mulf (extractStridedSlice S8x512 ![0, 0] Y slices_S64x512_o0_0_S8x512) cs) (mulf (extractStridedSlice S8x512 ![8, 0] Y slices_S64x512_o8_0_S8x512) sn)⟩,
    ⟨S8x512, addf (mulf (extractStridedSlice S8x512 ![8, 0] Y slices_S64x512_o8_0_S8x512) cs) (mulf (extractStridedSlice S8x512 ![0, 0] Y slices_S64x512_o0_0_S8x512) sn)⟩,
    ⟨S48x512, extractStridedSlice S48x512 ![16, 0] Y slices_S64x512_o16_0_S48x512⟩] concatenates_S8x512_S8x512_S48x512_S64x512_d0

/-- A head: two half-heads, one below the other. -/
def head (X : FVec Ideal S1024x512 .f32) (o o' : ℕ) (h : S1024x512.Slices ![o, 0] S64x512) (h' : S1024x512.Slices ![o', 0] S64x512)
    (g : Vec Ideal S1x64x1 .f32) (cs sn : FVec Ideal S8x512 .f32) : FVec Ideal S128x512 .f32 :=
  concatenate S128x512 0 [⟨S64x512, turnRows (headRows X o h g) cs sn⟩, ⟨S64x512, turnRows (headRows X o' h' g) cs sn⟩] concatenates_S64x512_S64x512_S128x512_d0

theorem rows_apply (x : Vec Ideal S1x512x1024 .f32) (g : Vec Ideal S1x1x1024 .f32) (s : Fin 512) (c : Fin 1024) :
    k0_pay2 x g (ix2 s c) = normRow (fun j => x (ix3 0 s j)) (fun j => g (ix3 0 0 j)) c := by
  pointwise [k0_pay2, normRow, rowScale]

theorem prod_apply (w : Vec Ideal S1x1024x1024 .bf16) (h : FVec Ideal S512x1024 .bf16) (n : Fin 1024) (s : Fin 512) :
    prod w h (ix2 n s) = ∑ j : Fin 1024, w (ix3 0 n j) * h (ix2 s j) := by
  pointwise [prod]

theorem headRows_apply (X : FVec Ideal S1024x512 .f32) (o : ℕ) (ho : o + 64 ≤ 1024) (h : S1024x512.Slices ![o, 0] S64x512) (g : Vec Ideal S1x64x1 .f32) (d : Fin 64) (s : Fin 512) :
    headRows X o h g (ix2 d s) = headNorm (fun e => X (ix2 ⟨o + e.val, by omega⟩ s)) (fun e => g (ix3 0 e 0)) d := by
  have e : ∀ d : Fin 64, extractStridedSlice S64x512 ![o, 0] X h (ix2 d s) = X (ix2 ⟨o + d.val, by omega⟩ s) := fun d => by
    pointwise []
  unfold headNorm
  simp only [← e]
  unfold headRows
  generalize extractStridedSlice S64x512 ![o, 0] X h = Y
  pointwise []

/-- The turn with its coordinates as a row of three pieces has them. -/
theorem turn_pieces (v : Fin 64 → EReal) (cs sn : Fin 8 → EReal) (d : Fin 64) :
    (if h : d.val < 8 then v d * cs ⟨d.val, h⟩ - v ⟨8 + d.val, by omega⟩ * sn ⟨d.val, h⟩
      else if h : d.val - 8 < 8 then v ⟨8 + (d.val - 8), by omega⟩ * cs ⟨d.val - 8, h⟩ + v ⟨d.val - 8, by omega⟩ * sn ⟨d.val - 8, h⟩
      else v ⟨16 + (d.val - 8 - 8), by omega⟩) = turn v cs sn d := by
  unfold turn
  by_cases h₀ : d.val < 8
  · have e : (⟨8 + d.val, by omega⟩ : Fin 64) = ⟨d.val + 8, by omega⟩ := Fin.ext (Nat.add_comm _ _)
    simp only [h₀, dite_true, e]
  · by_cases h₁ : d.val < 16
    · have e : (⟨8 + (d.val - 8), by omega⟩ : Fin 64) = d := Fin.ext (show 8 + (d.val - 8) = d.val by omega)
      simp only [h₀, h₁, (by omega : d.val - 8 < 8), dite_true, dite_false, e]
    · have e : (⟨16 + (d.val - 8 - 8), by omega⟩ : Fin 64) = d := Fin.ext (show 16 + (d.val - 8 - 8) = d.val by omega)
      have h₂ : ¬ d.val - 8 < 8 := by omega
      simp only [h₀, h₁, h₂, dite_false, e]

theorem turnRows_apply (Y : FVec Ideal S64x512 .f32) (cs sn : FVec Ideal S8x512 .f32) (d : Fin 64) (s : Fin 512) :
    turnRows Y cs sn (ix2 d s) = turn (fun e => Y (ix2 e s)) (fun e => cs (ix2 e s)) (fun e => sn (ix2 e s)) d := by
  rw [← turn_pieces]
  pointwise [turnRows]

theorem head_apply (X : FVec Ideal S1024x512 .f32) (o o' : ℕ) (h : S1024x512.Slices ![o, 0] S64x512) (h' : S1024x512.Slices ![o', 0] S64x512)
    (g : Vec Ideal S1x64x1 .f32) (cs sn : FVec Ideal S8x512 .f32) (e : Fin 128) (s : Fin 512) :
    head X o o' h h' g cs sn (ix2 e s) = if h₀ : e.val < 64 then turnRows (headRows X o h g) cs sn (ix2 ⟨e.val, h₀⟩ s)
      else turnRows (headRows X o' h' g) cs sn (ix2 ⟨e.val - 64, by omega⟩ s) := by
  pointwise [head]

/-- A head's tile of the keys: its rows as columns. -/
def keyTile (X : FVec Ideal S1024x512 .f32) (o : ℕ) (h : S1024x512.Slices ![o, 0] S64x512) (h' : S1024x512.Slices ![o + 64, 0] S64x512)
    (g : Vec Ideal S1x64x1 .f32) (cs sn : FVec Ideal S8x512 .f32) : Vec Ideal S1x512x128 .bf16 :=
  shapeCast S1x512x128 (truncf .bf16 (transpose S512x128 [1, 0] (head X o (o + 64) h h' g cs sn) transposes_S128x512_p1_0_S512x128) bitsLt_bf16_f32) shapeCasts_S512x128_S1x512x128

/-- A head's tile of the queries: scaled. -/
def queryTile (X : FVec Ideal S1024x512 .f32) (o : ℕ) (h : S1024x512.Slices ![o, 0] S64x512) (h' : S1024x512.Slices ![o + 64, 0] S64x512)
    (g : Vec Ideal S1x64x1 .f32) (cs sn : FVec Ideal S8x512 .f32) : Vec Ideal S1x1x1x128x512 .bf16 :=
  shapeCast S1x1x1x128x512 (truncf .bf16 (mulf (head X o (o + 64) h h' g cs sn) (broadcast S128x512 (Scalar.ofBits .f32 0x3E38AA3B#32))) bitsLt_bf16_f32) shapeCasts_S128x512_S1x1x1x128x512

variable (x : Vec Ideal S1x512x1024 .f32) (p : Vec Ideal S1x1x512 .i32) (g : Vec Ideal S1x1x1024 .f32) (w : Vec Ideal S1x3072x1024 .bf16)
  (gq gk : Vec Ideal S1x64x1 .f32) (f : Vec Ideal S8x1 .f32)

theorem keys_eq : out0_8 x p g w gq gk f = View.canon
    [⟨r0_13, keyTile (prod (View.ld w r0_4) (k0_pay2 x g)) 896 slices_S1024x512_o896_0_S64x512 slices_S1024x512_o960_0_S64x512 gk (k0_pay4 f p) (k0_pay5 f p)⟩,
     ⟨r0_12, keyTile (prod (View.ld w r0_4) (k0_pay2 x g)) 768 slices_S1024x512_o768_0_S64x512 slices_S1024x512_o832_0_S64x512 gk (k0_pay4 f p) (k0_pay5 f p)⟩,
     ⟨r0_11, keyTile (prod (View.ld w r0_4) (k0_pay2 x g)) 640 slices_S1024x512_o640_0_S64x512 slices_S1024x512_o704_0_S64x512 gk (k0_pay4 f p) (k0_pay5 f p)⟩,
     ⟨r0_10, keyTile (prod (View.ld w r0_4) (k0_pay2 x g)) 512 slices_S1024x512_o512_0_S64x512 slices_S1024x512_o576_0_S64x512 gk (k0_pay4 f p) (k0_pay5 f p)⟩,
     ⟨r0_9, keyTile (prod (View.ld w r0_4) (k0_pay2 x g)) 384 slices_S1024x512_o384_0_S64x512 slices_S1024x512_o448_0_S64x512 gk (k0_pay4 f p) (k0_pay5 f p)⟩,
     ⟨r0_8, keyTile (prod (View.ld w r0_4) (k0_pay2 x g)) 256 slices_S1024x512_o256_0_S64x512 slices_S1024x512_o320_0_S64x512 gk (k0_pay4 f p) (k0_pay5 f p)⟩,
     ⟨r0_7, keyTile (prod (View.ld w r0_4) (k0_pay2 x g)) 128 slices_S1024x512_o128_0_S64x512 slices_S1024x512_o192_0_S64x512 gk (k0_pay4 f p) (k0_pay5 f p)⟩,
     ⟨r0_6, keyTile (prod (View.ld w r0_4) (k0_pay2 x g)) 0 slices_S1024x512_o0_0_S64x512 slices_S1024x512_o64_0_S64x512 gk (k0_pay4 f p) (k0_pay5 f p)⟩] := by
  have hx : View.ld x r0_0 = x := View.ld_unit_zero (by funext a; match a with | ⟨0, _⟩ => rfl | ⟨1, _⟩ => rfl | ⟨2, _⟩ => rfl) _ _
  have hg : View.ld g r0_1 = g := View.ld_unit_zero (by funext a; match a with | ⟨0, _⟩ => rfl | ⟨1, _⟩ => rfl | ⟨2, _⟩ => rfl) _ _
  have hf : View.ld f r0_2 = f := View.ld_unit_zero (by funext a; match a with | ⟨0, _⟩ => rfl | ⟨1, _⟩ => rfl) _ _
  have hp : View.ld p r0_3 = p := View.ld_unit_zero (by funext a; match a with | ⟨0, _⟩ => rfl | ⟨1, _⟩ => rfl | ⟨2, _⟩ => rfl) _ _
  have hk : View.ld gk r0_5 = gk := View.ld_unit_zero (by funext a; match a with | ⟨0, _⟩ => rfl | ⟨1, _⟩ => rfl | ⟨2, _⟩ => rfl) _ _
  unfold_out out0_8
  simp only [hx, hg, hf, hp, hk]
  rfl

theorem queries_eq : out0_7 x p g w gq gk f = View.canon
    [⟨r0_22, queryTile (prod (View.ld w r0_14) (k0_pay2 x g)) 896 slices_S1024x512_o896_0_S64x512 slices_S1024x512_o960_0_S64x512 gq (k0_pay4 f p) (k0_pay5 f p)⟩,
     ⟨r0_21, queryTile (prod (View.ld w r0_14) (k0_pay2 x g)) 768 slices_S1024x512_o768_0_S64x512 slices_S1024x512_o832_0_S64x512 gq (k0_pay4 f p) (k0_pay5 f p)⟩,
     ⟨r0_20, queryTile (prod (View.ld w r0_14) (k0_pay2 x g)) 640 slices_S1024x512_o640_0_S64x512 slices_S1024x512_o704_0_S64x512 gq (k0_pay4 f p) (k0_pay5 f p)⟩,
     ⟨r0_19, queryTile (prod (View.ld w r0_14) (k0_pay2 x g)) 512 slices_S1024x512_o512_0_S64x512 slices_S1024x512_o576_0_S64x512 gq (k0_pay4 f p) (k0_pay5 f p)⟩,
     ⟨r0_18, queryTile (prod (View.ld w r0_14) (k0_pay2 x g)) 384 slices_S1024x512_o384_0_S64x512 slices_S1024x512_o448_0_S64x512 gq (k0_pay4 f p) (k0_pay5 f p)⟩,
     ⟨r0_17, queryTile (prod (View.ld w r0_14) (k0_pay2 x g)) 256 slices_S1024x512_o256_0_S64x512 slices_S1024x512_o320_0_S64x512 gq (k0_pay4 f p) (k0_pay5 f p)⟩,
     ⟨r0_16, queryTile (prod (View.ld w r0_14) (k0_pay2 x g)) 128 slices_S1024x512_o128_0_S64x512 slices_S1024x512_o192_0_S64x512 gq (k0_pay4 f p) (k0_pay5 f p)⟩,
     ⟨r0_15, queryTile (prod (View.ld w r0_14) (k0_pay2 x g)) 0 slices_S1024x512_o0_0_S64x512 slices_S1024x512_o64_0_S64x512 gq (k0_pay4 f p) (k0_pay5 f p)⟩] := by
  have hx : View.ld x r0_0 = x := View.ld_unit_zero (by funext a; match a with | ⟨0, _⟩ => rfl | ⟨1, _⟩ => rfl | ⟨2, _⟩ => rfl) _ _
  have hg : View.ld g r0_1 = g := View.ld_unit_zero (by funext a; match a with | ⟨0, _⟩ => rfl | ⟨1, _⟩ => rfl | ⟨2, _⟩ => rfl) _ _
  have hf : View.ld f r0_2 = f := View.ld_unit_zero (by funext a; match a with | ⟨0, _⟩ => rfl | ⟨1, _⟩ => rfl) _ _
  have hp : View.ld p r0_3 = p := View.ld_unit_zero (by funext a; match a with | ⟨0, _⟩ => rfl | ⟨1, _⟩ => rfl | ⟨2, _⟩ => rfl) _ _
  have hk : View.ld gq r0_5 = gq := View.ld_unit_zero (by funext a; match a with | ⟨0, _⟩ => rfl | ⟨1, _⟩ => rfl | ⟨2, _⟩ => rfl) _ _
  unfold_out out0_7
  simp only [hx, hg, hf, hp, hk]
  rfl

/-- Column `c` of the projected rows, within its half-head of 64 columns: normed and turned. -/
def headAt (X : Fin 1024 → EReal) (g : Fin 64 → EReal) (cs sn : Fin 8 → EReal) (c : Fin 1024) : EReal :=
  turn (headNorm (fun e => X ⟨c.val / 64 * 64 + e.val, by omega⟩) g) cs sn ⟨c.val % 64, by omega⟩

theorem head_at (X : FVec Ideal S1024x512 .f32) (a : ℕ) (ha : a < 8) (o : ℕ) (ho : o = 128 * a) (h : S1024x512.Slices ![o, 0] S64x512) (h' : S1024x512.Slices ![o + 64, 0] S64x512)
    (g : Vec Ideal S1x64x1 .f32) (cs sn : FVec Ideal S8x512 .f32) (e : Fin 128) (s : Fin 512) :
    head X o (o + 64) h h' g cs sn (ix2 e s)
      = headAt (fun n => X (ix2 n s)) (fun d => g (ix3 0 d 0)) (fun d => cs (ix2 d s)) (fun d => sn (ix2 d s)) ⟨o + e.val, by omega⟩ := by
  have he := e.isLt
  have half : ∀ (q : ℕ) (hq : S1024x512.Slices ![q, 0] S64x512) (d : Fin 64) (hb : q = (o + e.val) / 64 * 64) (hd : d.val = (o + e.val) % 64),
      turnRows (headRows X q hq g) cs sn (ix2 d s)
        = headAt (fun n => X (ix2 n s)) (fun d => g (ix3 0 d 0)) (fun d => cs (ix2 d s)) (fun d => sn (ix2 d s)) ⟨o + e.val, by omega⟩ := fun q hq d hb hd => by
    subst hb
    rw [turnRows_apply]
    simp only [headRows_apply X _ (by omega) hq]
    exact congrArg (turn _ _ _) (Fin.ext hd)
  rw [head_apply]
  split
  · exact half _ _ _ (by omega) (by dsimp only; omega)
  · exact half _ _ _ (by omega) (by dsimp only; omega)

theorem keyTile_apply (X : FVec Ideal S1024x512 .f32) (o : ℕ) (h : S1024x512.Slices ![o, 0] S64x512) (h' : S1024x512.Slices ![o + 64, 0] S64x512)
    (g : Vec Ideal S1x64x1 .f32) (cs sn : FVec Ideal S8x512 .f32) (s : Fin 512) (e : Fin 128) :
    keyTile X o h h' g cs sn (ix3 0 s e) = head X o (o + 64) h h' g cs sn (ix2 e s) := by
  unfold keyTile
  generalize head X o (o + 64) h h' g cs sn = Y
  pointwise []

theorem queryTile_apply (X : FVec Ideal S1024x512 .f32) (o : ℕ) (h : S1024x512.Slices ![o, 0] S64x512) (h' : S1024x512.Slices ![o + 64, 0] S64x512)
    (g : Vec Ideal S1x64x1 .f32) (cs sn : FVec Ideal S8x512 .f32) (e : Fin 128) (s : Fin 512) :
    queryTile X o h h' g cs sn (ix5 0 0 0 e s) = head X o (o + 64) h h' g cs sn (ix2 e s) * Ideal.ofBits .f32 0x3E38AA3B#32 := by
  unfold queryTile
  generalize head X o (o + 64) h h' g cs sn = Y
  pointwise []

/-- A position as a number. -/
def place (v : BitVec 32) : EReal := FloatOps.sitofp (F := Ideal) .f32 v

/-- The cosine and sine of a position's rotary angles. -/
theorem cos_apply (d : Fin 8) (s : Fin 512) : k0_pay4 f p (ix2 d s) = Ideal.cos (f (ix2 d 0) * place (p (ix3 0 0 s))) := by
  pointwise [k0_pay4, k0_pay3, place]
theorem sin_apply (d : Fin 8) (s : Fin 512) : k0_pay5 f p (ix2 d s) = Ideal.sin (f (ix2 d 0) * place (p (ix3 0 0 s))) := by
  pointwise [k0_pay5, k0_pay3, place]

/-- A tile of the weights' rows. -/
theorem ld_weight (o : ℕ) (inb) (n j : Fin 1024) (ho : o + 1024 ≤ 3072) :
    View.ld (Val := Elt Ideal) (e' := .bf16) w (Rect.unit (s := S1x3072x1024) ![0, o, 0] S1x1024x1024.size inb) (ix3 0 n j) = w (ix3 0 ⟨o + n.val, by omega⟩ j) :=
  View.ld_unit_apply_of (Val := Elt Ideal) (e := .bf16) w _ _ _ _ _ fun a => by
    match a with
    | ⟨0, _⟩ => rfl
    | ⟨1, _⟩ => rfl
    | ⟨2, _⟩ => exact (Nat.zero_add _).symm

/-- A row through 1024 rows of the weights. -/
def entry (x g : Fin 1024 → EReal) (w : Fin 1024 → Fin 1024 → EReal) (n : Fin 1024) : EReal :=
  ∑ j : Fin 1024, w n j * normRow x g j

/-- A row's entry `c` of the keys, or of the queries before their scale. -/
def turned (x g : Fin 1024 → EReal) (w : Fin 1024 → Fin 1024 → EReal) (gh : Fin 64 → EReal) (f : Fin 8 → EReal) (v : BitVec 32) (c : Fin 1024) : EReal :=
  headAt (entry x g w) gh (fun d => Ideal.cos (f d * place v)) (fun d => Ideal.sin (f d * place v)) c

theorem prod_entry (o : ℕ) (inb) (ho : o + 1024 ≤ 3072) (n : Fin 1024) (s : Fin 512) :
    prod (View.ld (Val := Elt Ideal) (e' := .bf16) w (Rect.unit (s := S1x3072x1024) ![0, o, 0] S1x1024x1024.size inb)) (k0_pay2 x g) (ix2 n s)
      = entry (fun j => x (ix3 0 s j)) (fun j => g (ix3 0 0 j)) (fun n j => w (ix3 0 ⟨o + n.val, by omega⟩ j)) n := by
  refine (prod_apply _ _ n s).trans (Finset.sum_congr rfl fun j _ => ?_)
  exact congr (congrArg _ (ld_weight w o inb n j ho)) (rows_apply x g s j)

/-- An entry of the block's keys (`o = 1024`), or of its queries before their scale (`o = 0`). -/
def blockEntry (o : ℕ) (ho : o + 1024 ≤ 3072) (gh : Vec Ideal S1x64x1 .f32) (s : Fin 512) (c : Fin 1024) : EReal :=
  turned (fun j => x (ix3 0 s j)) (fun j => g (ix3 0 0 j)) (fun n j => w (ix3 0 ⟨o + n.val, by omega⟩ j)) (fun d => gh (ix3 0 d 0)) (fun d => f (ix2 d 0)) (p (ix3 0 0 s)) c

theorem keys_apply (y : S1x512x1024.Idx) : (out0_8 x p g w gq gk f y : EReal) = blockEntry x p g w f 1024 (by omega) gk (y 1) (y 2) := by
  have tile : ∀ (a : ℕ) (ha : a < 8) (o : ℕ) (ho : o = 128 * a) (h : S1024x512.Slices ![o, 0] S64x512) (h' : S1024x512.Slices ![o + 64, 0] S64x512) (inb)
      (y : S1x512x128.Idx), keyTile (prod (View.ld w r0_4) (k0_pay2 x g)) o h h' gk (k0_pay4 f p) (k0_pay5 f p) y
        = (fun y : S1x512x1024.Idx => blockEntry x p g w f 1024 (by omega) gk (y 1) (y 2) : S1x512x1024.Idx → EReal) ((Rect.unit (s := S1x512x1024) ![0, 0, o] S1x512x128.size inb).idx y) := fun a ha o ho h h' inb y => by
    obtain ⟨z, s, e, rfl⟩ : ∃ (z : Fin 1) (s : Fin 512) (e : Fin 128), y = ix3 z s e := ⟨y 0, y 1, y 2, eq_ix3 y⟩
    obtain rfl : z = 0 := Subsingleton.elim _ _
    have he := e.isLt
    rw [keyTile_apply, head_at _ a ha o ho]
    simp only [prod_entry x g w 1024 _ (by omega), cos_apply, sin_apply]
    show blockEntry x p g w f 1024 (by omega) gk s _ = blockEntry x p g w f 1024 (by omega) gk _ _
    congr 1 <;> exact Fin.ext (by simp)
  rw [keys_eq]
  refine View.canon_apply_of_pieces (Val := Elt Ideal) (e := .bf16) (fun y : S1x512x1024.Idx => (blockEntry x p g w f 1024 (by omega) gk (y 1) (y 2) : EReal)) _ (fun pc hpc => ?_) y (cover0_8 _ _ _ _ _ _ _ _ y)
  rcases List.mem_cons.mp hpc with rfl | hpc
  · exact tile 7 (by omega) 896 rfl _ _ inb_S1x512x1024_S1x512x128_0_0_896
  rcases List.mem_cons.mp hpc with rfl | hpc
  · exact tile 6 (by omega) 768 rfl _ _ inb_S1x512x1024_S1x512x128_0_0_768
  rcases List.mem_cons.mp hpc with rfl | hpc
  · exact tile 5 (by omega) 640 rfl _ _ inb_S1x512x1024_S1x512x128_0_0_640
  rcases List.mem_cons.mp hpc with rfl | hpc
  · exact tile 4 (by omega) 512 rfl _ _ inb_S1x512x1024_S1x512x128_0_0_512
  rcases List.mem_cons.mp hpc with rfl | hpc
  · exact tile 3 (by omega) 384 rfl _ _ inb_S1x512x1024_S1x512x128_0_0_384
  rcases List.mem_cons.mp hpc with rfl | hpc
  · exact tile 2 (by omega) 256 rfl _ _ inb_S1x512x1024_S1x512x128_0_0_256
  rcases List.mem_cons.mp hpc with rfl | hpc
  · exact tile 1 (by omega) 128 rfl _ _ inb_S1x512x1024_S1x512x128_0_0_128
  rcases List.mem_cons.mp hpc with rfl | hpc
  · exact tile 0 (by omega) 0 rfl _ _ inb_S1x512x1024_S1x512x128_0_0_0
  nomatch hpc

theorem queries_apply (y : S1x1x8x128x512.Idx) : (out0_7 x p g w gq gk f y : EReal)
    = blockEntry x p g w f 0 (by omega) gq (y 4) ⟨128 * (y 2).val + (y 3).val, by have h2 : (y 2).val < 8 := (y 2).isLt; have h3 : (y 3).val < 128 := (y 3).isLt; omega⟩
      * Ideal.ofBits .f32 0x3E38AA3B#32 := by
  let G : S1x1x8x128x512.Idx → EReal := fun y => blockEntry x p g w f 0 (by omega) gq (y 4)
    ⟨128 * (y 2).val + (y 3).val, by have h2 : (y 2).val < 8 := (y 2).isLt; have h3 : (y 3).val < 128 := (y 3).isLt; omega⟩ * Ideal.ofBits .f32 0x3E38AA3B#32
  have tile : ∀ (a : ℕ) (ha : a < 8) (o : ℕ) (ho : o = 128 * a) (h : S1024x512.Slices ![o, 0] S64x512) (h' : S1024x512.Slices ![o + 64, 0] S64x512) (inb)
      (y : S1x1x1x128x512.Idx), (queryTile (prod (View.ld w r0_14) (k0_pay2 x g)) o h h' gq (k0_pay4 f p) (k0_pay5 f p) y : EReal)
        = G ((Rect.unit (s := S1x1x8x128x512) ![0, 0, a, 0, 0] S1x1x1x128x512.size inb).idx y) := fun a ha o ho h h' inb y => by
    obtain ⟨z, z', z'', e, s, rfl⟩ : ∃ (z z' z'' : Fin 1) (e : Fin 128) (s : Fin 512), y = ix5 z z' z'' e s := ⟨y 0, y 1, y 2, y 3, y 4, eq_ix5 y⟩
    obtain rfl : z = 0 := Subsingleton.elim _ _
    obtain rfl : z' = 0 := Subsingleton.elim _ _
    obtain rfl : z'' = 0 := Subsingleton.elim _ _
    have he := e.isLt
    rw [queryTile_apply, head_at _ a ha o ho]
    simp only [prod_entry x g w 0 _ (by omega), cos_apply, sin_apply]
    show blockEntry x p g w f 0 (by omega) gq s _ * _ = blockEntry x p g w f 0 (by omega) gq _ _ * _
    congr 2 <;> exact Fin.ext (by simp [ho])
  rw [queries_eq]
  refine View.canon_apply_of_pieces (Val := Elt Ideal) (e := .bf16) G _ (fun pc hpc => ?_) y (cover0_7 _ _ _ _ _ _ _ _ y)
  rcases List.mem_cons.mp hpc with rfl | hpc
  · exact tile 7 (by omega) 896 rfl _ _ inb_S1x1x8x128x512_S1x1x1x128x512_0_0_7_0_0
  rcases List.mem_cons.mp hpc with rfl | hpc
  · exact tile 6 (by omega) 768 rfl _ _ inb_S1x1x8x128x512_S1x1x1x128x512_0_0_6_0_0
  rcases List.mem_cons.mp hpc with rfl | hpc
  · exact tile 5 (by omega) 640 rfl _ _ inb_S1x1x8x128x512_S1x1x1x128x512_0_0_5_0_0
  rcases List.mem_cons.mp hpc with rfl | hpc
  · exact tile 4 (by omega) 512 rfl _ _ inb_S1x1x8x128x512_S1x1x1x128x512_0_0_4_0_0
  rcases List.mem_cons.mp hpc with rfl | hpc
  · exact tile 3 (by omega) 384 rfl _ _ inb_S1x1x8x128x512_S1x1x1x128x512_0_0_3_0_0
  rcases List.mem_cons.mp hpc with rfl | hpc
  · exact tile 2 (by omega) 256 rfl _ _ inb_S1x1x8x128x512_S1x1x1x128x512_0_0_2_0_0
  rcases List.mem_cons.mp hpc with rfl | hpc
  · exact tile 1 (by omega) 128 rfl _ _ inb_S1x1x8x128x512_S1x1x1x128x512_0_0_1_0_0
  rcases List.mem_cons.mp hpc with rfl | hpc
  · exact tile 0 (by omega) 0 rfl _ _ inb_S1x1x8x128x512_S1x1x1x128x512_0_0_0_0_0
  nomatch hpc

theorem values_apply (y : S1x2x1024x256.Idx) : (out0_9 x p g w gq gk f y : EReal)
    = entry (fun j => x (ix3 0 ⟨256 * (y 1).val + (y 3).val, by have h1 : (y 1).val < 2 := (y 1).isLt; have h3 : (y 3).val < 256 := (y 3).isLt; omega⟩ j))
        (fun j => g (ix3 0 0 j)) (fun n j => w (ix3 0 ⟨2048 + n.val, by omega⟩ j)) (y 2) := by
  have hx : View.ld x r0_0 = x := View.ld_unit_zero (by funext a; match a with | ⟨0, _⟩ => rfl | ⟨1, _⟩ => rfl | ⟨2, _⟩ => rfl) _ _
  have hg : View.ld g r0_1 = g := View.ld_unit_zero (by funext a; match a with | ⟨0, _⟩ => rfl | ⟨1, _⟩ => rfl | ⟨2, _⟩ => rfl) _ _
  let G : S1x2x1024x256.Idx → EReal := fun y =>
    entry (fun j => x (ix3 0 ⟨256 * (y 1).val + (y 3).val, by have h1 : (y 1).val < 2 := (y 1).isLt; have h3 : (y 3).val < 256 := (y 3).isLt; omega⟩ j))
        (fun j => g (ix3 0 0 j)) (fun n j => w (ix3 0 ⟨2048 + n.val, by omega⟩ j)) (y 2)
  have first : ∀ y : S1x1x1024x256.Idx, (k0_pay89 (k0_pay2 x g) (View.ld w r0_23) y : EReal) = G (r0_24.idx y) := fun y => by
    obtain ⟨z, z', n, q, rfl⟩ : ∃ (z z' : Fin 1) (n : Fin 1024) (q : Fin 256), y = ix4 z z' n q := ⟨y 0, y 1, y 2, y 3, eq_ix4 y⟩
    obtain rfl : z = 0 := Subsingleton.elim _ _
    obtain rfl : z' = 0 := Subsingleton.elim _ _
    have e : (k0_pay89 (k0_pay2 x g) (View.ld w r0_23) (ix4 0 0 n q) : EReal) = prod (View.ld w r0_23) (k0_pay2 x g) (ix2 n ⟨q.val, by omega⟩) := by
      have : k0_pay88 (k0_pay2 x g) (View.ld w r0_23) = prod (View.ld w r0_23) (k0_pay2 x g) := rfl
      unfold k0_pay89
      rw [this]
      generalize prod (View.ld w r0_23) (k0_pay2 x g) = Y
      pointwise []
    refine (e.trans (prod_entry x g w 2048 _ (by omega) _ _)).trans ?_
    show entry _ _ _ _ = entry _ _ _ _
    congr 1
    · funext j; congr 2; exact Fin.ext (by simp)
    · exact Fin.ext (by simp)
  have second : ∀ y : S1x1x1024x256.Idx, (k0_pay1 (k0_pay90 (k0_pay2 x g) (View.ld w r0_23)) y : EReal) = G (r0_25.idx y) := fun y => by
    obtain ⟨z, z', n, q, rfl⟩ : ∃ (z z' : Fin 1) (n : Fin 1024) (q : Fin 256), y = ix4 z z' n q := ⟨y 0, y 1, y 2, y 3, eq_ix4 y⟩
    obtain rfl : z = 0 := Subsingleton.elim _ _
    obtain rfl : z' = 0 := Subsingleton.elim _ _
    have e : (k0_pay1 (k0_pay90 (k0_pay2 x g) (View.ld w r0_23)) (ix4 0 0 n q) : EReal) = prod (View.ld w r0_23) (k0_pay2 x g) (ix2 n ⟨256 + q.val, by omega⟩) := by
      have : k0_pay88 (k0_pay2 x g) (View.ld w r0_23) = prod (View.ld w r0_23) (k0_pay2 x g) := rfl
      unfold k0_pay1 k0_pay90
      rw [this]
      generalize prod (View.ld w r0_23) (k0_pay2 x g) = Y
      pointwise []
    refine (e.trans (prod_entry x g w 2048 _ (by omega) _ _)).trans ?_
    show entry _ _ _ _ = entry _ _ _ _
    congr 1
    · funext j; congr 2; exact Fin.ext (by simp)
    · exact Fin.ext (by simp)
  unfold_out out0_9
  simp only [hx, hg]
  refine View.canon_apply_of_pieces (Val := Elt Ideal) (e := .bf16) G _ (fun pc hpc => ?_) y (cover0_9 _ _ y)
  rcases List.mem_cons.mp hpc with rfl | hpc
  · exact second
  rcases List.mem_cons.mp hpc with rfl | hpc
  · exact first
  nomatch hpc

end Cert.Kernel4Ideal.Hand

end
-- ==== Proof.Diff.lean ====
/-
  The kernel of the differential attention's projection: the three arrays it leaves, as functions of its arguments.
-/
module

public import proofs.«01_k».proof.Proof.DiffBlock
public import proofs.«01_k».proof.Proof.Gen.Kernel4Ideal.Value
public import Idealize.ShloMosaic.Lib.Pipeline.ValueKit.Geometry

@[expose] public section

set_option maxRecDepth 16384

noncomputable section

namespace Cert.Kernel4Ideal.Hand

open Cert.Kernel4Ideal Cert.Kernel4Ideal.Gen Cert.Ffn
open Idealize.ShloMosaic Idealize.ShloMosaic.TcCoe Idealize.SL.Sem

section Arrays

variable (x : S8x4096x1024.Idx → EReal) (p : S8x4096.Idx → BitVec 32) (f : S8.Idx → EReal) (g : S4x1024.Idx → EReal) (w : S1x1024x3072.Idx → EReal) (gh : S1x64.Idx → EReal)

/-- Entry `c` of row `s` of batch element `b`: of the keys (`o = 1024`), or of the queries before their scale (`o = 0`). -/
def layerEntry (o : ℕ) (ho : o + 1024 ≤ 3072) (b : Fin 8) (s : Fin 4096) (c : Fin 1024) : EReal :=
  turned (fun j => x (ix3 b s j)) (fun j => g (ix2 2 j)) (fun n j => w (ix3 0 j ⟨o + n.val, by omega⟩)) (fun d => gh (ix2 0 d)) (fun d => f (ix1 d)) (p (ix2 b s)) c

/-- The keys. -/
def keys : S8x4096x1024.Idx → EReal := fun i => layerEntry x p f g w gh 1024 (by omega) (i 0) (i 1) (i 2)

/-- The queries, in tiles of 512 rows, each head's rows as columns. -/
def queries : S8x8x8x128x512.Idx → EReal := fun i =>
  layerEntry x p f g w gh 0 (by omega) (i 0)
    ⟨512 * (i 1).val + (i 4).val, by have h1 : (i 1).val < 8 := (i 1).isLt; have h4 : (i 4).val < 512 := (i 4).isLt; omega⟩
    ⟨128 * (i 2).val + (i 3).val, by have h2 : (i 2).val < 8 := (i 2).isLt; have h3 : (i 3).val < 128 := (i 3).isLt; omega⟩
  * Ideal.ofBits .f32 0x3E38AA3B#32

/-- The values, in tiles of 256 rows, rows as columns. -/
def values : S8x16x1024x256.Idx → EReal := fun i =>
  entry (fun j => x (ix3 (i 0) ⟨256 * (i 1).val + (i 3).val, by have h1 : (i 1).val < 16 := (i 1).isLt; have h3 : (i 3).val < 256 := (i 3).isLt; omega⟩ j))
    (fun j => g (ix2 2 j)) (fun n j => w (ix3 0 j ⟨2048 + n.val, by omega⟩)) (i 2)

end Arrays

variable (m : (ℓ : Loc nD τ sig) → Buf (Elt Ideal) ℓ)

theorem V_pos (c : Dev nD) : V m c main_v0 = broadcastInDim S8x1x4096 ![0, 2] bcast_S8x4096_S8x1x4096_0_2 (m ((c : Thread nD τ).loc main_arg1)) := by
  show StableHlo.after hostOps0 _ _ = _
  simp only [hostOps0]
  after_results_simp <;> rfl
theorem V_gain (c : Dev nD) : V m c main_v1 = broadcastInDim S4x1x1024 ![0, 2] bcast_S4x1024_S4x1x1024_0_2 (m ((c : Thread nD τ).loc main_arg3)) := by
  show StableHlo.after hostOps0 _ _ = _
  simp only [hostOps0]
  after_results_simp <;> rfl
theorem V_weights (c : Dev nD) : V m c main_v3 = truncf (F := Ideal) .bf16 (transpose S1x3072x1024 [0, 2, 1] (m ((c : Thread nD τ).loc main_arg4)) transposes_S1x1024x3072_S1x3072x1024_0_2_1) bitsLt_bf16_f32 := by
  show StableHlo.after hostOps0 _ _ = _
  simp only [hostOps0]
  after_results_simp <;> rfl
theorem V_gq (c : Dev nD) : V m c main_v4 = broadcastInDim S1x64x1 ![0, 1] bcast_S1x64_S1x64x1_0_1 (m ((c : Thread nD τ).loc main_arg5)) := by
  show StableHlo.after hostOps0 _ _ = _
  simp only [hostOps0]
  after_results_simp <;> rfl
theorem V_gk (c : Dev nD) : V m c main_v5 = broadcastInDim S1x64x1 ![0, 1] bcast_S1x64_S1x64x1_0_1 (m ((c : Thread nD τ).loc main_arg6)) := by
  show StableHlo.after hostOps0 _ _ = _
  simp only [hostOps0]
  after_results_simp <;> rfl
theorem V_freq (c : Dev nD) : V m c main_v6 = broadcastInDim S8x1 ![0] bcast_S8_S8x1_0 (m ((c : Thread nD τ).loc main_arg2)) := by
  show StableHlo.after hostOps0 _ _ = _
  simp only [hostOps0]
  after_results_simp <;> rfl

/-- A point's batch element and its tile of 512 rows. -/
def gb (t : Fin cfg0.N) : Fin 8 := cfg0.grid.coords t 0
def gs (t : Fin cfg0.N) : Fin 8 := cfg0.grid.coords t 1

theorem word (a : Fin 8) : (BitVec.ofNat 32 a.val).toNat = a.val := by
  rw [BitVec.toNat_ofNat]; exact Nat.mod_eq_of_lt (by omega)

theorem block_x (c : Dev nD) (t : Fin cfg0.N) (s : Fin 512) (j : Fin 1024) :
    (iblk m c 0 t (ix3 0 s j) : EReal) = m ((c : Thread nD τ).loc main_arg0) (ix3 (gb t) ⟨(gs t).val * 512 + s.val, by omega⟩ j) := by
  unfold iblk
  blk_simp
  refine (congrFun (V_main_arg0 m c) _).trans ?_
  refine congrArg (m ((c : Thread nD τ).loc main_arg0)) (funext fun a => Fin.ext ?_)
  refine (Pipeline.Window.rect_emb_val win0_0 t _ a).trans ?_
  match a with
  | ⟨0, _⟩ => show (BitVec.ofNat 32 (gb t).val).toNat * 1 + 0 = (gb t).val; rw [word]; omega
  | ⟨1, _⟩ => show (BitVec.ofNat 32 (gs t).val).toNat * 512 + s.val = (gs t).val * 512 + s.val; rw [word]
  | ⟨2, _⟩ => show 0 * 1024 + j.val = j.val; omega

theorem block_p (c : Dev nD) (t : Fin cfg0.N) (s : Fin 512) :
    (iblk m c 1 t (ix3 0 0 s) : BitVec 32) = m ((c : Thread nD τ).loc main_arg1) (ix2 (gb t) ⟨(gs t).val * 512 + s.val, by omega⟩) := by
  unfold iblk
  blk_simp
  rw [V_pos]
  have e : (win0_1.blk t).view.emb (ix3 0 0 s) = (ix3 (gb t) 0 ⟨(gs t).val * 512 + s.val, by omega⟩ : S8x1x4096.Idx) := by
    refine funext fun a => Fin.ext ?_
    refine (Pipeline.Window.rect_emb_val win0_1 t _ a).trans ?_
    match a with
    | ⟨0, _⟩ => show (BitVec.ofNat 32 (gb t).val).toNat * 1 + 0 = (gb t).val; rw [word]; omega
    | ⟨1, _⟩ => rfl
    | ⟨2, _⟩ => show (BitVec.ofNat 32 (gs t).val).toNat * 512 + s.val = (gs t).val * 512 + s.val; rw [word]
  refine (congrArg _ e).trans ?_
  pointwise []

theorem block_g (c : Dev nD) (t : Fin cfg0.N) (j : Fin 1024) :
    (iblk m c 2 t (ix3 0 0 j) : EReal) = m ((c : Thread nD τ).loc main_arg3) (ix2 2 j) := by
  unfold iblk
  blk_simp
  rw [V_gain]
  have e : (win0_2.blk t).view.emb (ix3 0 0 j) = (ix3 2 0 j : S4x1x1024.Idx) := by
    refine funext fun a => Fin.ext ?_
    refine (Pipeline.Window.rect_emb_val win0_2 t _ a).trans ?_
    match a with
    | ⟨0, _⟩ => rfl
    | ⟨1, _⟩ => rfl
    | ⟨2, _⟩ => show 0 * 1024 + j.val = j.val; omega
  refine (congrArg _ e).trans ?_
  pointwise []

theorem block_w (c : Dev nD) (t : Fin cfg0.N) (n : Fin 3072) (j : Fin 1024) :
    (iblk m c 3 t (ix3 0 n j) : EReal) = m ((c : Thread nD τ).loc main_arg4) (ix3 0 j n) := by
  unfold iblk
  blk_simp
  rw [V_weights]
  have e : (win0_3.blk t).view.emb (ix3 0 n j) = (ix3 0 n j : S1x3072x1024.Idx) := by
    refine funext fun a => Fin.ext ?_
    refine (Pipeline.Window.rect_emb_val win0_3 t _ a).trans ?_
    match a with
    | ⟨0, _⟩ => rfl
    | ⟨1, _⟩ => show 0 * 3072 + n.val = n.val; omega
    | ⟨2, _⟩ => show 0 * 1024 + j.val = j.val; omega
  refine (congrArg _ e).trans ?_
  pointwise []

theorem block_gq (c : Dev nD) (t : Fin cfg0.N) (d : Fin 64) :
    (iblk m c 4 t (ix3 0 d 0) : EReal) = m ((c : Thread nD τ).loc main_arg5) (ix2 0 d) := by
  unfold iblk
  blk_simp
  rw [V_gq]
  have e : (win0_4.blk t).view.emb (ix3 0 d 0) = (ix3 0 d 0 : S1x64x1.Idx) := by
    refine funext fun a => Fin.ext ?_
    refine (Pipeline.Window.rect_emb_val win0_4 t _ a).trans ?_
    match a with
    | ⟨0, _⟩ => rfl
    | ⟨1, _⟩ => show 0 * 64 + d.val = d.val; omega
    | ⟨2, _⟩ => rfl
  refine (congrArg _ e).trans ?_
  pointwise []

theorem block_gk (c : Dev nD) (t : Fin cfg0.N) (d : Fin 64) :
    (iblk m c 5 t (ix3 0 d 0) : EReal) = m ((c : Thread nD τ).loc main_arg6) (ix2 0 d) := by
  unfold iblk
  blk_simp
  rw [V_gk]
  have e : (win0_5.blk t).view.emb (ix3 0 d 0) = (ix3 0 d 0 : S1x64x1.Idx) := by
    refine funext fun a => Fin.ext ?_
    refine (Pipeline.Window.rect_emb_val win0_5 t _ a).trans ?_
    match a with
    | ⟨0, _⟩ => rfl
    | ⟨1, _⟩ => show 0 * 64 + d.val = d.val; omega
    | ⟨2, _⟩ => rfl
  refine (congrArg _ e).trans ?_
  pointwise []

theorem block_f (c : Dev nD) (t : Fin cfg0.N) (d : Fin 8) :
    (iblk m c 6 t (ix2 d 0) : EReal) = m ((c : Thread nD τ).loc main_arg2) (ix1 d) := by
  unfold iblk
  blk_simp
  rw [V_freq]
  have e : (win0_6.blk t).view.emb (ix2 d 0) = (ix2 d 0 : S8x1.Idx) := by
    refine funext fun a => Fin.ext ?_
    refine (Pipeline.Window.rect_emb_val win0_6 t _ a).trans ?_
    match a with
    | ⟨0, _⟩ => show 0 * 8 + d.val = d.val; omega
    | ⟨1, _⟩ => rfl
  refine (congrArg _ e).trans ?_
  pointwise []

theorem block_k (t : Fin cfg0.N) (s : Fin 512) (j : Fin 1024) :
    (win0_8.blk t).view.emb (ix3 0 s j) = (ix3 (gb t) ⟨(gs t).val * 512 + s.val, by omega⟩ j : S8x4096x1024.Idx) := by
  refine funext fun a => Fin.ext ?_
  refine (Pipeline.Window.rect_emb_val win0_8 t _ a).trans ?_
  match a with
  | ⟨0, _⟩ => show (BitVec.ofNat 32 (gb t).val).toNat * 1 + 0 = (gb t).val; rw [word]; omega
  | ⟨1, _⟩ => show (BitVec.ofNat 32 (gs t).val).toNat * 512 + s.val = (gs t).val * 512 + s.val; rw [word]
  | ⟨2, _⟩ => show 0 * 1024 + j.val = j.val; omega

theorem block_q (t : Fin cfg0.N) (a : Fin 8) (e : Fin 128) (s : Fin 512) :
    (win0_7.blk t).view.emb (ix5 0 0 a e s) = (ix5 (gb t) (gs t) a e s : S8x8x8x128x512.Idx) := by
  refine funext fun b => Fin.ext ?_
  refine (Pipeline.Window.rect_emb_val win0_7 t _ b).trans ?_
  match b with
  | ⟨0, _⟩ => show (BitVec.ofNat 32 (gb t).val).toNat * 1 + 0 = (gb t).val; rw [word]; omega
  | ⟨1, _⟩ => show (BitVec.ofNat 32 (gs t).val).toNat * 1 + 0 = (gs t).val; rw [word]; omega
  | ⟨2, _⟩ => show 0 * 8 + a.val = a.val; omega
  | ⟨3, _⟩ => show 0 * 128 + e.val = e.val; omega
  | ⟨4, _⟩ => show 0 * 512 + s.val = s.val; omega

theorem block_v (t : Fin cfg0.N) (a : Fin 2) (n : Fin 1024) (q : Fin 256) :
    (win0_9.blk t).view.emb (ix4 0 a n q) = (ix4 (gb t) ⟨(gs t).val * 2 + a.val, by omega⟩ n q : S8x16x1024x256.Idx) := by
  refine funext fun b => Fin.ext ?_
  refine (Pipeline.Window.rect_emb_val win0_9 t _ b).trans ?_
  match b with
  | ⟨0, _⟩ => show (BitVec.ofNat 32 (gb t).val).toNat * 1 + 0 = (gb t).val; rw [word]; omega
  | ⟨1, _⟩ => show (BitVec.ofNat 32 (gs t).val).toNat * 2 + a.val = (gs t).val * 2 + a.val; rw [word]
  | ⟨2, _⟩ => show 0 * 1024 + n.val = n.val; omega
  | ⟨3, _⟩ => show 0 * 256 + q.val = q.val; omega

/-- The array of the keys. -/
theorem keys_value (c : Dev nD) : ((dats m 0 c).arrAt 8 cfg0.N : S8x4096x1024.Idx → EReal)
    = keys (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg6)) := by
  refine (dats m 0 c).arrAt_eq_of_covers 8 _ (by decide +kernel) fun t hf y => ?_
  blk_simp
  rw [after0_8]
  obtain ⟨z, s, j, rfl⟩ : ∃ (z : Fin 1) (s : Fin 512) (j : Fin 1024), y = ix3 z s j := ⟨y 0, y 1, y 2, eq_ix3 y⟩
  obtain rfl : z = 0 := Subsingleton.elim _ _
  refine (keys_apply _ _ _ _ _ _ _ _).trans ?_
  refine Eq.trans ?_ (congrArg (keys _ _ _ _ _ _) (block_k t s j)).symm
  show blockEntry _ _ _ _ _ 1024 _ _ s j = layerEntry _ _ _ _ _ _ 1024 _ (gb t) ⟨(gs t).val * 512 + s.val, _⟩ j
  unfold blockEntry layerEntry
  simp only [block_x, block_p, block_g, block_w, block_gk, block_f]

/-- The array of the queries. -/
theorem queries_value (c : Dev nD) : ((dats m 0 c).arrAt 7 cfg0.N : S8x8x8x128x512.Idx → EReal)
    = queries (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  blk_simp
  rw [after0_7]
  obtain ⟨z, z', a, e, s, rfl⟩ : ∃ (z z' : Fin 1) (a : Fin 8) (e : Fin 128) (s : Fin 512), y = ix5 z z' a e s := ⟨y 0, y 1, y 2, y 3, y 4, eq_ix5 y⟩
  obtain rfl : z = 0 := Subsingleton.elim _ _
  obtain rfl : z' = 0 := Subsingleton.elim _ _
  refine (queries_apply _ _ _ _ _ _ _ _).trans ?_
  refine Eq.trans ?_ (congrArg (queries _ _ _ _ _ _) (block_q t a e s)).symm
  show blockEntry _ _ _ _ _ 0 _ _ s _ * _ = layerEntry _ _ _ _ _ _ 0 _ (gb t) ⟨512 * (gs t).val + s.val, _⟩ ⟨128 * a.val + e.val, _⟩ * _
  unfold blockEntry layerEntry
  simp only [block_x, block_p, block_g, block_w, block_gq, block_f, Nat.mul_comm 512]
  rfl

/-- The array of the values. -/
theorem values_value (c : Dev nD) : ((dats m 0 c).arrAt 9 cfg0.N : S8x16x1024x256.Idx → EReal)
    = values (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨z, a, n, q, rfl⟩ : ∃ (z : Fin 1) (a : Fin 2) (n : Fin 1024) (q : Fin 256), y = ix4 z a n q := ⟨y 0, y 1, y 2, y 3, eq_ix4 y⟩
  obtain rfl : z = 0 := Subsingleton.elim _ _
  refine (values_apply _ _ _ _ _ _ _ _).trans ?_
  refine Eq.trans ?_ (congrArg (values _ _ _) (block_v t a n q)).symm
  show entry (fun j => iblk m c 0 t (ix3 0 ⟨256 * a.val + q.val, _⟩ j)) _ _ n
    = entry (fun j => m ((c : Thread nD τ).loc main_arg0) (ix3 (gb t) ⟨256 * ((gs t).val * 2 + a.val) + q.val, _⟩ j)) _ _ n
  simp only [block_x, block_g, block_w]
  have e : (gs t).val * 512 + (256 * a.val + q.val) = 256 * ((gs t).val * 2 + a.val) + q.val := by omega
  simp only [e]

end Cert.Kernel4Ideal.Hand

end
-- ==== Proof.DiffPlain.lean ====
/-
  The differential attention's projection as the reference writes it, read at an element: the same functions of a row as the kernel's
  blocks.
-/
module

public import proofs.«01_k».proof.Proof.Diff
public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen Cert.Ffn
open Cert.Kernel4Ideal.Hand (headNorm turn headAt place entry turned layerEntry keys queries values)
open Idealize.ShloMosaic Idealize.ShloMosaic.TcCoe Idealize.SL.Sem Idealize.ShloMosaic.StableHlo

/-- The rows normed by their root mean square, times the gain of row 2. -/
def normedRows (x : FVec Ideal S8x4096x1024 .f32) (g : FVec Ideal S4x1024 .f32) : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast _ (extractStridedSlice S1x1024 ![2, 0] g slices_S4x1024_S1x1024_2_0) shapeCasts_S1x1024_S1024)))

/-- The product with the weights. -/
def projected (h : FVec Ideal S8x4096x1024 .f32) (w : FVec Ideal S1x1024x3072 .f32) : FVec Ideal S8x4096x3072 .f32 :=
  Host.dotGeneral dot_S8x4096x1024_S1024x3072_S8x4096x3072_2_0_01_1_n_n none h (shapeCast _ w shapeCasts_S1x1024x3072_S1024x3072)

/-- The rotary angles. -/
def angles (p : Vec Ideal S8x4096 .i32) (f : FVec Ideal S8 .f32) : FVec Ideal S8x4096x1x1x8 .f32 :=
  mulf (broadcastInDim S8x4096x1x1x8 ![0, 1, 2, 3, 4] bcast_S8x4096x1x1x1_S8x4096x1x1x8_0_1_2_3_4
      (broadcastInDim S8x4096x1x1x1 ![0, 1] bcast_S8x4096_S8x4096x1x1x1_0_1 (sitofp .f32 p : FVec Ideal S8x4096 .f32)))
    (broadcastInDim S8x4096x1x1x8 ![0, 1, 2, 3, 4] bcast_S1x1x1x1x8_S8x4096x1x1x8_0_1_2_3_4 (broadcastInDim S1x1x1x1x8 ![4] bcast_S8_S1x1x1x1x8_4 f))

/-- The half-heads normed by their root mean square, times the gain. -/
def normedHeads (q : FVec Ideal S8x4096x8x2x64 .f32) (g : FVec Ideal S1x64 .f32) : FVec Ideal S8x4096x8x2x64 .f32 :=
  mulf (mulf q (broadcastInDim S8x4096x8x2x64 ![0, 1, 2, 3, 4] bcast_S8x4096x8x2x1_S8x4096x8x2x64_0_1_2_3_4 (Host.rsqrt (addf
      (Host.divf (broadcastInDim S8x4096x8x2x1 ![0, 1, 2, 3] bcast_S8x4096x8x2_S8x4096x8x2x1_0_1_2_3
          (Host.reduceAdd (mulf q q) (constant S_ .f32 0x00000000#32) reducesTo_S8x4096x8x2x64_S8x4096x8x2_d4 h_S_))
        (broadcastInDim S8x4096x8x2x1 ![] bcast_S_S8x4096x8x2x1 (constant S_ .f32 0x42800000#32)))
      (broadcastInDim S8x4096x8x2x1 ![] bcast_S_S8x4096x8x2x1 (constant S_ .f32 0x358637BD#32))))))
    (broadcastInDim S8x4096x8x2x64 ![0, 1, 2, 3, 4] bcast_S1x1x1x1x64_S8x4096x8x2x64_0_1_2_3_4 (broadcastInDim S1x1x1x1x64 ![4] bcast_S64_S1x1x1x1x64_4
      (shapeCast _ g shapeCasts_S1x64_S64)))

/-- The half-heads turned by the angles. -/
def turnedHeads (q : FVec Ideal S8x4096x8x2x64 .f32) (a : FVec Ideal S8x4096x1x1x8 .f32) : FVec Ideal S8x4096x8x2x64 .f32 :=
  concatenate S8x4096x8x2x64 4 [
    ⟨S8x4096x8x2x8, subf
      (mulf (extractStridedSlice S8x4096x8x2x8 ![0, 0, 0, 0, 0] q slices_S8x4096x8x2x64_S8x4096x8x2x8_0_0_0_0_0)
        (broadcastInDim S8x4096x8x2x8 ![0, 1, 2, 3, 4] bcast_S8x4096x1x1x8_S8x4096x8x2x8_0_1_2_3_4 (Host.cos a)))
      (mulf (extractStridedSlice S8x4096x8x2x8 ![0, 0, 0, 0, 8] q slices_S8x4096x8x2x64_S8x4096x8x2x8_0_0_0_0_8)
        (broadcastInDim S8x4096x8x2x8 ![0, 1, 2, 3, 4] bcast_S8x4096x1x1x8_S8x4096x8x2x8_0_1_2_3_4 (Host.sin a)))⟩,
    ⟨S8x4096x8x2x8, addf
      (mulf (extractStridedSlice S8x4096x8x2x8 ![0, 0, 0, 0, 8] q slices_S8x4096x8x2x64_S8x4096x8x2x8_0_0_0_0_8)
        (broadcastInDim S8x4096x8x2x8 ![0, 1, 2, 3, 4] bcast_S8x4096x1x1x8_S8x4096x8x2x8_0_1_2_3_4 (Host.cos a)))
      (mulf (extractStridedSlice S8x4096x8x2x8 ![0, 0, 0, 0, 0] q slices_S8x4096x8x2x64_S8x4096x8x2x8_0_0_0_0_0)
        (broadcastInDim S8x4096x8x2x8 ![0, 1, 2, 3, 4] bcast_S8x4096x1x1x8_S8x4096x8x2x8_0_1_2_3_4 (Host.sin a)))⟩,
    ⟨S8x4096x8x2x48, extractStridedSlice S8x4096x8x2x48 ![0, 0, 0, 0, 16] q slices_S8x4096x8x2x64_S8x4096x8x2x48_0_0_0_0_16⟩]
    concatenates_S8x4096x8x2x8_S8x4096x8x2x8_S8x4096x8x2x48_S8x4096x8x2x64_d4

/-- A third of the projected columns, from `o` on, as half-heads. -/
def heads (r : FVec Ideal S8x4096x3072 .f32) (o : ℕ) (h : S8x4096x3072.Slices ![0, 0, o] S8x4096x1024) : FVec Ideal S8x4096x8x2x64 .f32 :=
  shapeCast _ (extractStridedSlice S8x4096x1024 ![0, 0, o] r h) shapeCasts_S8x4096x1024_S8x4096x8x2x64

/-- The keys' or the queries' half-heads. -/
def headsOf (x : FVec Ideal S8x4096x1024 .f32) (p : Vec Ideal S8x4096 .i32) (f : FVec Ideal S8 .f32) (g : FVec Ideal S4x1024 .f32) (w : FVec Ideal S1x1024x3072 .f32) (gh : FVec Ideal S1x64 .f32)
    (o : ℕ) (h : S8x4096x3072.Slices ![0, 0, o] S8x4096x1024) : FVec Ideal S8x4096x8x2x64 .f32 :=
  turnedHeads (normedHeads (heads (projected (normedRows x g) w) o h) gh) (angles p f)

/-- The keys' array. -/
def keyArray (q : FVec Ideal S8x4096x8x2x64 .f32) : FVec Ideal S8x4096x1024 .bf16 :=
  truncf .bf16 (shapeCast S8x4096x1024 q shapeCasts_S8x4096x8x2x64_S8x4096x1024) bitsLt_bf16_f32

/-- The queries' array. -/
def queryArray (q : FVec Ideal S8x4096x8x2x64 .f32) : FVec Ideal S8x8x8x128x512 .bf16 :=
  truncf .bf16 (transpose S8x8x8x128x512 [0, 1, 3, 4, 2] (shapeCast S8x8x512x8x128
    (mulf q (broadcastInDim S8x4096x8x2x64 ![] bcast_S_S8x4096x8x2x64 (constant S_ .f32 0x3E38AA3B#32)))
    shapeCasts_S8x4096x8x2x64_S8x8x512x8x128) transposes_S8x8x512x8x128_S8x8x8x128x512_0_1_3_4_2) bitsLt_bf16_f32

/-- The values' array. -/
def valueArray (r : FVec Ideal S8x4096x3072 .f32) : FVec Ideal S8x16x1024x256 .bf16 :=
  truncf .bf16 (transpose S8x16x1024x256 [0, 1, 3, 2] (shapeCast S8x16x256x1024
    (extractStridedSlice S8x4096x1024 ![0, 0, 2048] r slices_S8x4096x3072_S8x4096x1024_0_0_2048)
    shapeCasts_S8x4096x1024_S8x16x256x1024) transposes_S8x16x256x1024_S8x16x1024x256_0_1_3_2) bitsLt_bf16_f32

theorem normedRows_apply (x : FVec Ideal S8x4096x1024 .f32) (g : FVec Ideal S4x1024 .f32) (b : Fin 8) (s : Fin 4096) (c : Fin 1024) :
    normedRows x g (ix3 b s c) = normRow (fun j => x (ix3 b s j)) (fun j => g (ix2 2 j)) c := by
  pointwise [normedRows, normRow, rowScale]

theorem projected_apply (h : FVec Ideal S8x4096x1024 .f32) (w : FVec Ideal S1x1024x3072 .f32) (b : Fin 8) (s : Fin 4096) (n : Fin 3072) :
    projected h w (ix3 b s n) = ∑ j : Fin 1024, h (ix3 b s j) * w (ix3 0 j n) := by
  pointwise [projected]

theorem angles_apply (p : Vec Ideal S8x4096 .i32) (f : FVec Ideal S8 .f32) (b : Fin 8) (s : Fin 4096) (d : Fin 8) :
    angles p f (ix5 b s 0 0 d) = place (p (ix2 b s)) * f (ix1 d) := by
  pointwise [angles, place]

theorem heads_apply (r : FVec Ideal S8x4096x3072 .f32) (o : ℕ) (ho : o + 1024 ≤ 3072) (h : S8x4096x3072.Slices ![0, 0, o] S8x4096x1024) (b : Fin 8) (s : Fin 4096) (a : Fin 8) (e : Fin 2) (d : Fin 64) :
    heads r o h (ix5 b s a e d) = r (ix3 b s ⟨o + (a.val * 128 + e.val * 64 + d.val), by omega⟩) := by
  pointwise [heads]

theorem normedHeads_apply (q : FVec Ideal S8x4096x8x2x64 .f32) (g : FVec Ideal S1x64 .f32) (b : Fin 8) (s : Fin 4096) (a : Fin 8) (e : Fin 2) (d : Fin 64) :
    normedHeads q g (ix5 b s a e d) = headNorm (fun d => q (ix5 b s a e d)) (fun d => g (ix2 0 d)) d := by
  pointwise [normedHeads, headNorm]

theorem turnedHeads_apply (q : FVec Ideal S8x4096x8x2x64 .f32) (t : FVec Ideal S8x4096x1x1x8 .f32) (b : Fin 8) (s : Fin 4096) (a : Fin 8) (e : Fin 2) (d : Fin 64) :
    turnedHeads q t (ix5 b s a e d) = turn (fun d => q (ix5 b s a e d)) (fun d => Ideal.cos (t (ix5 b s 0 0 d))) (fun d => Ideal.sin (t (ix5 b s 0 0 d))) d := by
  rw [← Cert.Kernel4Ideal.Hand.turn_pieces]
  pointwise [turnedHeads]

theorem keyArray_apply (q : FVec Ideal S8x4096x8x2x64 .f32) (b : Fin 8) (s : Fin 4096) (c : Fin 1024) :
    keyArray q (ix3 b s c) = q (ix5 b s ⟨c.val / 128, by omega⟩ ⟨c.val / 64 % 2, by omega⟩ ⟨c.val % 64, by omega⟩) := by
  pointwise [keyArray]

theorem queryArray_apply (q : FVec Ideal S8x4096x8x2x64 .f32) (b t a : Fin 8) (e : Fin 128) (s : Fin 512) :
    queryArray q (ix5 b t a e s) = q (ix5 b ⟨t.val * 512 + s.val, by omega⟩ a ⟨e.val / 64, by omega⟩ ⟨e.val % 64, by omega⟩) * Ideal.ofBits .f32 0x3E38AA3B#32 := by
  pointwise [queryArray]

theorem valueArray_apply (r : FVec Ideal S8x4096x3072 .f32) (b : Fin 8) (t : Fin 16) (n : Fin 1024) (q : Fin 256) :
    valueArray r (ix4 b t n q) = r (ix3 b ⟨t.val * 256 + q.val, by omega⟩ ⟨2048 + n.val, by omega⟩) := by
  pointwise [valueArray]

variable (x : FVec Ideal S8x4096x1024 .f32) (p : Vec Ideal S8x4096 .i32) (f : FVec Ideal S8 .f32) (g : FVec Ideal S4x1024 .f32) (w : FVec Ideal S1x1024x3072 .f32)

theorem projected_entry (b : Fin 8) (s : Fin 4096) (o : ℕ) (ho : o + 1024 ≤ 3072) (n : Fin 1024) :
    projected (normedRows x g) w (ix3 b s ⟨o + n.val, by omega⟩)
      = entry (fun j => x (ix3 b s j)) (fun j => g (ix2 2 j)) (fun n j => w (ix3 0 j ⟨o + n.val, by omega⟩)) n := by
  refine (projected_apply _ _ _ _ _).trans (Finset.sum_congr rfl fun j _ => ?_)
  rw [normedRows_apply]
  exact mul_comm _ _

/-- A half-head's entry is the kernel's. -/
theorem headsOf_apply (gh : FVec Ideal S1x64 .f32) (o : ℕ) (ho : o + 1024 ≤ 3072) (h : S8x4096x3072.Slices ![0, 0, o] S8x4096x1024)
    (b : Fin 8) (s : Fin 4096) (a : Fin 8) (e : Fin 2) (d : Fin 64) (c : Fin 1024) (hc : c.val = a.val * 128 + e.val * 64 + d.val) :
    headsOf x p f g w gh o h (ix5 b s a e d) = layerEntry x p f g w gh o ho b s c := by
  have hd : d = ⟨c.val % 64, by omega⟩ := Fin.ext (show d.val = c.val % 64 by omega)
  have hr : ∀ d : Fin 64, heads (projected (normedRows x g) w) o h (ix5 b s a e d)
      = entry (fun j => x (ix3 b s j)) (fun j => g (ix2 2 j)) (fun n j => w (ix3 0 j ⟨o + n.val, by omega⟩)) ⟨c.val / 64 * 64 + d.val, by omega⟩ := fun d => by
    rw [heads_apply _ o ho h, ← projected_entry x g w b s o ho]
    exact congrArg (fun n => projected (normedRows x g) w (ix3 b s n)) (Fin.ext (by dsimp only; omega))
  unfold headsOf layerEntry turned headAt
  rw [turnedHeads_apply]
  simp only [normedHeads_apply, angles_apply, hr, mul_comm (place _)]
  exact congrArg (turn _ _ _) hd

theorem keyArray_eq (gh : FVec Ideal S1x64 .f32) : keyArray (headsOf x p f g w gh 1024 slices_S8x4096x3072_S8x4096x1024_0_0_1024) = keys x p f g w gh := by
  funext i
  obtain ⟨b, s, c, rfl⟩ : ∃ (b : Fin 8) (s : Fin 4096) (c : Fin 1024), i = ix3 b s c := ⟨i 0, i 1, i 2, eq_ix3 i⟩
  rw [keyArray_apply]
  exact headsOf_apply x p f g w gh 1024 (by omega) _ b s _ _ _ c (by dsimp only; omega)

theorem queryArray_eq (gh : FVec Ideal S1x64 .f32) : queryArray (headsOf x p f g w gh 0 slices_S8x4096x3072_S8x4096x1024_0_0_0) = queries x p f g w gh := by
  funext i
  obtain ⟨b, t, a, e, s, rfl⟩ : ∃ (b t a : Fin 8) (e : Fin 128) (s : Fin 512), i = ix5 b t a e s := ⟨i 0, i 1, i 2, i 3, i 4, eq_ix5 i⟩
  rw [queryArray_apply, headsOf_apply x p f g w gh 0 (by omega) _ b _ a _ _ ⟨128 * a.val + e.val, by omega⟩ (by dsimp only; omega)]
  simp only [Nat.mul_comm t.val 512]
  rfl

theorem valueArray_eq : valueArray (projected (normedRows x g) w) = values x g w := by
  funext i
  obtain ⟨b, t, n, q, rfl⟩ : ∃ (b : Fin 8) (t : Fin 16) (n : Fin 1024) (q : Fin 256), i = ix4 b t n q := ⟨i 0, i 1, i 2, i 3, eq_ix4 i⟩
  rw [valueArray_apply, projected_entry x g w b _ 2048 (by omega) n]
  simp only [Nat.mul_comm t.val 256]
  rfl

variable (m : (ℓ : Loc nD τ sig) → Buf (Elt Ideal) ℓ)

theorem key_result (c : Dev nD) : (Value.res_main_v94 m c : S8x4096x1024.Idx → EReal)
    = keys (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg6)) := by
  rw [← keyArray_eq]; rfl

theorem query_result (c : Dev nD) : (Value.res_main_v92 m c : S8x8x8x128x512.Idx → EReal)
    = queries (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  rw [← queryArray_eq]; rfl

end Cert.Reference4Ideal.Hand

end
-- ==== Proof.FoxBlock.lean ====
/-
  One block of the forgetting attention's projection: the normed rows, their products with the weights, each head of 64 rows normed, the
  running sums of the log gates, and the sixteen rows that carry those sums beside each head.
-/
module

public import proofs.«01_k».proof.Proof.DiffBlock
public import proofs.«01_k».proof.Proof.Gen.Kernel5Ideal.Value
public import Idealize.ShloMosaic.Lib.Pipeline.ValueKit.Tiles
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel5Ideal.Hand

open Cert.Kernel5Ideal Cert.Kernel5Ideal.Gen Cert.Ffn
open Cert.Kernel4Ideal.Hand (headNorm entry)
open Idealize.ShloMosaic Idealize.ShloMosaic.TcCoe Idealize.SL.Sem

/-- The products of the rows with 1024 of the weights' rows, transposed. -/
def prod (w : Vec Ideal S1x1024x1024 .bf16) (h : FVec Ideal S512x1024 .bf16) : FVec Ideal S1024x512 .f32 :=
  matmul dot_S1024x1024_S512x1024_S1024x512_1_1_0_0_n_n none (shapeCast S1024x1024 w shapeCasts_S1x1024x1024_S1024x1024 : FVec Ideal S1024x1024 .bf16) h
    (constant S1024x512 .f32 0x00000000#32)

/-- A head: the 64 rows from `o` on, normed along the rows' axis. -/
def headRows (X : FVec Ideal S1024x512 .f32) (o : ℕ) (h : S1024x512.Slices ![o, 0] S64x512) (g : Vec Ideal S1x64x1 .f32) : FVec Ideal S64x512 .f32 :=
  mulf (mulf (extractStridedSlice S64x512 ![o, 0] X h) (broadcastTo S64x512 (rsqrt (addf (divf
      (shapeCast S1x512 (multiReduction .add [0] S512 (mulf (extractStridedSlice S64x512 ![o, 0] X h) (extractStridedSlice S64x512 ![o, 0] X h)) 0x00000000#32 reduces_S64x512_S512 (.inl rfl) rfl) shapeCasts_S512_S1x512)
      (broadcast S1x512 (Scalar.ofBits .f32 0x42800000#32))) (broadcast S1x512 (Scalar.ofBits .f32 0x358637BD#32)))) broadcasts_S1x512_S64x512))
    (broadcastTo S64x512 (shapeCast S64x1 g shapeCasts_S1x64x1_S64x1) broadcasts_S64x1_S64x512)

/-- A head's row of the running sums, in the base of two. -/
def bias (S : FVec Ideal S16x512 .f32) (a : ℕ) (h : S16x512.Slices ![a, 0] S1x512) : FVec Ideal S1x512 .f32 :=
  mulf (extractStridedSlice S1x512 ![a, 0] S h) (broadcast S1x512 (Scalar.ofBits .f32 0x3FB8AA3B#32))

/-- The three parts of a row: its rounding, the rounding of what is left, and the rounding of what is left then. -/
def hi (c : FVec Ideal S1x512 .f32) : FVec Ideal S1x512 .f32 := extf .f32 (truncf .bf16 c bitsLt_bf16_f32) bitsLt_bf16_f32
def mid (c : FVec Ideal S1x512 .f32) : FVec Ideal S1x512 .f32 := extf .f32 (truncf .bf16 (subf c (hi c)) bitsLt_bf16_f32) bitsLt_bf16_f32
def lo (c : FVec Ideal S1x512 .f32) : FVec Ideal S1x512 .f32 := extf .f32 (truncf .bf16 (subf (subf c (hi c)) (mid c)) bitsLt_bf16_f32) bitsLt_bf16_f32

/-- The rows' numbers. -/
def rowOf : IVec S16x512 32 := iota .tc S16x512 32 [0] iota_S16x512_d0_w32

/-- A row at each of sixteen. -/
def spread (c : FVec Ideal S1x512 .f32) : FVec Ideal S16x512 .f32 := broadcastTo S16x512 (shapeCast S1x512 c shapeCasts_S1x512_S1x512) broadcasts_S1x512_S16x512

/-- The zero of which a row is taken away. -/
def neg (c : FVec Ideal S1x512 .f32) : FVec Ideal S1x512 .f32 := subf (broadcast S1x512 (Scalar.ofBits .f32 0x00000000#32)) c

/-- The sixteen rows beside a head's keys. -/
def keyAug (c : FVec Ideal S1x512 .f32) : FVec Ideal S16x512 .f32 :=
  select (cmpi .eq rowOf (broadcast S16x512 0#32)) (spread (neg (hi c)))
    (select (cmpi .eq rowOf (broadcast S16x512 1#32)) (spread (neg (mid c)))
      (select (cmpi .eq rowOf (broadcast S16x512 2#32)) (spread (neg (lo c)))
        (select (cmpi .slt rowOf (broadcast S16x512 6#32)) (broadcast S16x512 (Scalar.ofBits .f32 0x3F800000#32)) (broadcast S16x512 (Scalar.ofBits .f32 0x00000000#32)))))

/-- The sixteen rows beside a head's queries. -/
def queryAug (c : FVec Ideal S1x512 .f32) : FVec Ideal S16x512 .f32 :=
  select (cmpi .slt rowOf (broadcast S16x512 3#32)) (broadcast S16x512 (Scalar.ofBits .f32 0x3F800000#32))
    (select (cmpi .eq rowOf (broadcast S16x512 3#32)) (spread (hi c))
      (select (cmpi .eq rowOf (broadcast S16x512 4#32)) (spread (mid c))
        (select (cmpi .eq rowOf (broadcast S16x512 5#32)) (spread (lo c)) (broadcast S16x512 (Scalar.ofBits .f32 0x00000000#32)))))

/-- A head's tile of the keys: the head, its sixteen rows and zeros, rows as columns. -/
def keyTile (X : FVec Ideal S1024x512 .f32) (c : FVec Ideal S1x512 .f32) (o : ℕ) (h : S1024x512.Slices ![o, 0] S64x512) (g : Vec Ideal S1x64x1 .f32) : Vec Ideal S1x512x128 .bf16 :=
  shapeCast S1x512x128 (truncf .bf16 (transpose S512x128 [1, 0] (concatenate S128x512 0
    [⟨S64x512, headRows X o h g⟩, ⟨S16x512, keyAug c⟩, ⟨S48x512, broadcast S48x512 (Scalar.ofBits .f32 0x00000000#32)⟩] concatenates_S64x512_S16x512_S48x512_S128x512_d0)
    transposes_S128x512_p1_0_S512x128) bitsLt_bf16_f32) shapeCasts_S512x128_S1x512x128

/-- A head's queries, scaled, and the sixteen rows below them. -/
def queryTile (X : FVec Ideal S1024x512 .f32) (o : ℕ) (h : S1024x512.Slices ![o, 0] S64x512) (g : Vec Ideal S1x64x1 .f32) : Vec Ideal S1x1x1x64x512 .bf16 :=
  shapeCast S1x1x1x64x512 (truncf .bf16 (mulf (headRows X o h g) (broadcast S64x512 (Scalar.ofBits .f32 0x3E38AA3B#32))) bitsLt_bf16_f32) shapeCasts_S64x512_S1x1x1x64x512
def queryRows (c : FVec Ideal S1x512 .f32) : Vec Ideal S1x1x1x16x512 .bf16 :=
  shapeCast S1x1x1x16x512 (truncf .bf16 (queryAug c) bitsLt_bf16_f32) shapeCasts_S16x512_S1x1x1x16x512

/-- The block's running sums of the log gates, on top of the carried ones. -/
def sums (x : Vec Ideal S1x512x1024 .f32) (g : Vec Ideal S1x1x1024 .f32) (wf : Vec Ideal S1x16x1024 .bf16) (bf : Vec Ideal S1x16x1 .f32) (tri : Vec Ideal S512x512 .bf16)
    (cr : Vec Ideal S16x1 .f32) : FVec Ideal S16x512 .f32 :=
  k0_pay9 (k0_pay7 x g wf bf) (FloatOps.ofBits .f32 0x00000000#32) k0_pay8 tri cr

/-- The last of them, carried on. -/
def carried (x : Vec Ideal S1x512x1024 .f32) (g : Vec Ideal S1x1x1024 .f32) (wf : Vec Ideal S1x16x1024 .bf16) (bf : Vec Ideal S1x16x1 .f32) (tri : Vec Ideal S512x512 .bf16)
    (cr : Vec Ideal S16x1 .f32) : Vec Ideal S16x1 .f32 :=
  k0_pay10 (k0_pay7 x g wf bf) (FloatOps.ofBits .f32 0x00000000#32) k0_pay8 tri cr

/-- Nothing carried yet. -/
def none0 : Vec Ideal S16x1 .f32 := k0_pay4 (F := Ideal)

theorem slices_head (a : Fin 16) : S1024x512.Slices ![64 * a.val, 0] S64x512 := by
  revert a; decide
theorem slices_row (a : Fin 16) : S16x512.Slices ![a.val, 0] S1x512 := by
  revert a; decide

/-- The heads, last first. -/
def headsDown : List (Fin 16) := [15, 14, 13, 12, 11, 10, 9, 8, 7, 6, 5, 4, 3, 2, 1, 0]

theorem inb_key (a : Fin 16) : ∀ b, (![0, 0, 128 * a.val] : Fin 3 → ℕ) b + S1x512x128.size b ≤ S1x512x2048.size b := by
  revert a; decide
theorem inb_query (a : Fin 16) : ∀ b, (![0, 0, a.val, 0, 0] : Fin 5 → ℕ) b + S1x1x1x64x512.size b ≤ S1x1x16x128x512.size b := by
  revert a; decide
theorem inb_rows (a : Fin 16) : ∀ b, (![0, 0, a.val, 64, 0] : Fin 5 → ℕ) b + S1x1x1x16x512.size b ≤ S1x1x16x128x512.size b := by
  revert a; decide
theorem inb_rest (a : Fin 16) : ∀ b, (![0, 0, a.val, 80, 0] : Fin 5 → ℕ) b + S1x1x1x48x512.size b ≤ S1x1x16x128x512.size b := by
  revert a; decide

section Blocks

variable (x : Vec Ideal S1x512x1024 .f32) (g : Vec Ideal S1x1x1024 .f32) (w : Vec Ideal S1x3072x1024 .bf16) (wf : Vec Ideal S1x16x1024 .bf16) (bf : Vec Ideal S1x16x1 .f32)
  (gh : Vec Ideal S1x64x1 .f32) (tri : Vec Ideal S512x512 .bf16) (cr : Vec Ideal S16x1 .f32)

/-- The block's keys. -/
def keyBlock : Vec Ideal S1x512x2048 .bf16 :=
  View.canon (headsDown.map fun a => ⟨Rect.unit (s := S1x512x2048) ![0, 0, 128 * a.val] S1x512x128.size (inb_key a),
    keyTile (prod (View.ld w (Rect.unit (s := S1x3072x1024) ![0, 1024, 0] S1x1024x1024.size inb_S1x3072x1024_S1x1024x1024_0_1024_0)) (k0_pay5 x g))
      (bias (sums x g wf bf tri cr) a.val (slices_row a)) (64 * a.val) (slices_head a) gh⟩)

/-- The block's queries. -/
def queryBlock : Vec Ideal S1x1x16x128x512 .bf16 :=
  View.canon (headsDown.flatMap fun a => [
    ⟨Rect.unit (s := S1x1x16x128x512) ![0, 0, a.val, 80, 0] S1x1x1x48x512.size (inb_rest a), k0_pay161 (F := Ideal)⟩,
    ⟨Rect.unit (s := S1x1x16x128x512) ![0, 0, a.val, 64, 0] S1x1x1x16x512.size (inb_rows a), queryRows (bias (sums x g wf bf tri cr) a.val (slices_row a))⟩,
    ⟨Rect.unit (s := S1x1x16x128x512) ![0, 0, a.val, 0, 0] S1x1x1x64x512.size (inb_query a),
      queryTile (prod (View.ld w (Rect.unit (s := S1x3072x1024) ![0, 0, 0] S1x1024x1024.size inb_S1x3072x1024_S1x1024x1024_0_0_0)) (k0_pay5 x g)) (64 * a.val) (slices_head a) gh⟩])

/-- The block's values. -/
def valueBlock : Vec Ideal S1x2x1024x256 .bf16 :=
  View.canon [
    ⟨Rect.unit (s := S1x2x1024x256) ![0, 1, 0, 0] S1x1x1024x256.size inb_S1x2x1024x256_S1x1x1024x256_0_1_0_0, k0_pay3 (k0_pay5 x g) (View.ld w (Rect.unit (s := S1x3072x1024) ![0, 2048, 0] S1x1024x1024.size inb_S1x3072x1024_S1x1024x1024_0_2048_0))⟩,
    ⟨Rect.unit (s := S1x2x1024x256) ![0, 0, 0, 0] S1x1x1024x256.size inb_S1x2x1024x256_S1x1x1024x256_0_0_0_0, k0_pay2 (k0_pay5 x g) (View.ld w (Rect.unit (s := S1x3072x1024) ![0, 2048, 0] S1x1024x1024.size inb_S1x3072x1024_S1x1024x1024_0_2048_0))⟩]

end Blocks

variable (m : (ℓ : Loc nD τ sig) → Buf (Elt Ideal) ℓ)

/-- What a point finds carried: nothing at the first point of a batch element, else what the point before leaves. -/
def carryIn (c : Dev nD) (t : Fin cfg0.N) : Vec Ideal S16x1 .f32 :=
  if t.val % 8 = 0 then none0 else (outsAt0 m c (t.val - 1) (by omega)).2.2.2

theorem keys_block (c : Dev nD) (t : Fin cfg0.N) : (outsAt0 m c t.val t.isLt).2.1
    = keyBlock (iblk m c 0 t) (iblk m c 1 t) (iblk m c 2 t) (iblk m c 3 t) (iblk m c 4 t) (iblk m c 6 t) (iblk m c 7 t) (carryIn m c t) := by
  unfold carryIn
  split
  next h0 => rw [outsAt0_A m c t h0]; dsimp only; frame_out; rfl
  next h0 => rw [outsAt0_B m c t h0]; dsimp only; frame_out; simp only [read_unread_whole]; rfl

theorem queries_block (c : Dev nD) (t : Fin cfg0.N) : (outsAt0 m c t.val t.isLt).1
    = queryBlock (iblk m c 0 t) (iblk m c 1 t) (iblk m c 2 t) (iblk m c 3 t) (iblk m c 4 t) (iblk m c 5 t) (iblk m c 7 t) (carryIn m c t) := by
  unfold carryIn
  split
  next h0 => rw [outsAt0_A m c t h0]; dsimp only; frame_out; rfl
  next h0 => rw [outsAt0_B m c t h0]; dsimp only; frame_out; simp only [read_unread_whole]; rfl

theorem values_block (c : Dev nD) (t : Fin cfg0.N) : (outsAt0 m c t.val t.isLt).2.2.1 = valueBlock (iblk m c 0 t) (iblk m c 1 t) (iblk m c 2 t) := by
  by_cases h0 : t.val % 8 = 0
  · rw [outsAt0_A m c t h0]; dsimp only; frame_out <;> rfl
  · rw [outsAt0_B m c t h0]; dsimp only; frame_out <;> rfl

theorem carry_block (c : Dev nD) (t : Fin cfg0.N) : (outsAt0 m c t.val t.isLt).2.2.2
    = carried (iblk m c 0 t) (iblk m c 1 t) (iblk m c 3 t) (iblk m c 4 t) (iblk m c 7 t) (carryIn m c t) := by
  unfold carryIn
  split
  next h0 => rw [outsAt0_A m c t h0]; dsimp only; frame_out <;> rfl
  next h0 => rw [outsAt0_B m c t h0]; dsimp only; frame_out; simp only [read_unread_whole]; rfl

end Cert.Kernel5Ideal.Hand

end
-- ==== Proof.FoxTile.lean ====
/-
  One block of the forgetting attention's projection, read at an element.
-/
module

public import proofs.«01_k».proof.Proof.FoxBlock

@[expose] public section

set_option maxRecDepth 16384

noncomputable section

namespace Cert.Kernel5Ideal.Hand

open Cert.Kernel5Ideal Cert.Kernel5Ideal.Gen Cert.Ffn
open Cert.Kernel4Ideal.Hand (headNorm entry)
open Idealize.ShloMosaic Idealize.ShloMosaic.TcCoe Idealize.SL.Sem

theorem rows_apply (x : Vec Ideal S1x512x1024 .f32) (g : Vec Ideal S1x1x1024 .f32) (s : Fin 512) (c : Fin 1024) :
    k0_pay5 x g (ix2 s c) = normRow (fun j => x (ix3 0 s j)) (fun j => g (ix3 0 0 j)) c := by
  pointwise [k0_pay5, normRow, rowScale]

theorem prod_apply (w : Vec Ideal S1x1024x1024 .bf16) (h : FVec Ideal S512x1024 .bf16) (n : Fin 1024) (s : Fin 512) :
    prod w h (ix2 n s) = ∑ j : Fin 1024, w (ix3 0 n j) * h (ix2 s j) := by
  pointwise [prod]

theorem headRows_apply (X : FVec Ideal S1024x512 .f32) (o : ℕ) (ho : o + 64 ≤ 1024) (h : S1024x512.Slices ![o, 0] S64x512) (g : Vec Ideal S1x64x1 .f32) (d : Fin 64) (s : Fin 512) :
    headRows X o h g (ix2 d s) = headNorm (fun e => X (ix2 ⟨o + e.val, by omega⟩ s)) (fun e => g (ix3 0 e 0)) d := by
  have e : ∀ d : Fin 64, extractStridedSlice S64x512 ![o, 0] X h (ix2 d s) = X (ix2 ⟨o + d.val, by omega⟩ s) := fun d => by
    pointwise []
  unfold headNorm
  simp only [← e]
  unfold headRows
  generalize extractStridedSlice S64x512 ![o, 0] X h = Y
  pointwise []

theorem gate_apply (x : Vec Ideal S1x512x1024 .f32) (g : Vec Ideal S1x1x1024 .f32) (wf : Vec Ideal S1x16x1024 .bf16) (bf : Vec Ideal S1x16x1 .f32) (a : Fin 16) (s : Fin 512) :
    k0_pay7 x g wf bf (ix2 a s) = 0 - (∑ j : Fin 1024, wf (ix3 0 a j) * k0_pay5 x g (ix2 s j) + bf (ix3 0 a 0)) := by
  unfold k0_pay7
  generalize k0_pay5 x g = h
  pointwise []

theorem bias_apply (S : FVec Ideal S16x512 .f32) (a : ℕ) (ha : a < 16) (h : S16x512.Slices ![a, 0] S1x512) (s : Fin 512) :
    bias S a h (ix2 0 s) = S (ix2 ⟨a, ha⟩ s) * Ideal.ofBits .f32 0x3FB8AA3B#32 := by
  pointwise [bias]

/-- The number is real. -/
def Re (e : EReal) : Prop := ∃ r : ℝ, e = (r : EReal)

theorem Re.sub_self {e : EReal} (h : Re e) : e - e = 0 := by
  obtain ⟨r, rfl⟩ := h
  rw [← EReal.coe_sub, _root_.sub_self, EReal.coe_zero]

/-- The rows beside a head's keys, and those beside its queries: the running sum once, its remainders nothing. -/
def keyRow (c : EReal) (r : ℕ) : EReal := if r = 0 then -c else if r < 3 then 0 else if r < 6 then 1 else 0
def queryRow (c : EReal) (r : ℕ) : EReal := if r < 3 then 1 else if r = 3 then c else 0

theorem keyAug_apply (c : FVec Ideal S1x512 .f32) (r : Fin 16) (s : Fin 512) (hc : Re (c (ix2 0 s))) : keyAug c (ix2 r s) = keyRow (c (ix2 0 s)) r.val := by
  pointwise [keyAug, spread, neg, hi, mid, lo, rowOf]
  simp only [hc.sub_self, _root_.sub_self, zero_sub, neg_zero]
  fin_cases r <;> rfl

theorem queryAug_apply (c : FVec Ideal S1x512 .f32) (r : Fin 16) (s : Fin 512) (hc : Re (c (ix2 0 s))) : queryAug c (ix2 r s) = queryRow (c (ix2 0 s)) r.val := by
  pointwise [queryAug, spread, neg, hi, mid, lo, rowOf]
  simp only [hc.sub_self, _root_.sub_self, zero_sub, neg_zero]
  fin_cases r <;> rfl

/-- A gate's logarithm, from minus its logit. -/
def logGate (n : EReal) : EReal := -(max n 0 + Ideal.log1p (Ideal.exp (-max n (-n))))

/-- The log gates. -/
def logs (n : FVec Ideal S16x512 .f32) : FVec Ideal S16x512 .f32 :=
  subf (broadcast S16x512 (Scalar.ofBits .f32 0x00000000#32)) (select (cmpf .one (subf n (broadcast S16x512 (FloatOps.ofBits .f32 0x00000000#32))) (subf n (broadcast S16x512 (FloatOps.ofBits .f32 0x00000000#32))))
    (addf n (broadcast S16x512 (FloatOps.ofBits .f32 0x00000000#32)))
    (addf (maximumf n k0_pay8) (log1p (exp (subf (broadcast S16x512 (Scalar.ofBits .f32 0x00000000#32)) (absf (subf n (broadcast S16x512 (FloatOps.ofBits .f32 0x00000000#32)))))))))

theorem logs_apply (n : FVec Ideal S16x512 .f32) (a : Fin 16) (s : Fin 512) : logs n (ix2 a s) = logGate (n (ix2 a s)) := by
  pointwise [logs, k0_pay8]
  rw [if_neg (fun h => h rfl), zero_sub, zero_sub]
  rfl

/-- The log gates in three parts, one below the other. -/
def parts (l : FVec Ideal S16x512 .f32) : FVec Ideal S48x512 .bf16 :=
  truncf .bf16 (concatenate S48x512 0 [⟨S16x512, extf .f32 (truncf .bf16 l bitsLt_bf16_f32) bitsLt_bf16_f32⟩,
    ⟨S16x512, extf .f32 (truncf .bf16 (subf l (extf .f32 (truncf .bf16 l bitsLt_bf16_f32) bitsLt_bf16_f32)) bitsLt_bf16_f32) bitsLt_bf16_f32⟩,
    ⟨S16x512, extf .f32 (truncf .bf16 (subf (subf l (extf .f32 (truncf .bf16 l bitsLt_bf16_f32) bitsLt_bf16_f32))
      (extf .f32 (truncf .bf16 (subf l (extf .f32 (truncf .bf16 l bitsLt_bf16_f32) bitsLt_bf16_f32)) bitsLt_bf16_f32) bitsLt_bf16_f32)) bitsLt_bf16_f32) bitsLt_bf16_f32⟩]
    concatenates_S16x512_S16x512_S16x512_S48x512_d0) bitsLt_bf16_f32

/-- The sums of the parts along the rows, on top of the carried ones. -/
def sumOf (p : FVec Ideal S48x512 .bf16) (tri : Vec Ideal S512x512 .bf16) (cr : Vec Ideal S16x1 .f32) : FVec Ideal S16x512 .f32 :=
  let v61 : FVec Ideal S48x512 .f32 := matmul dot_S48x512_S512x512_S48x512_1_0_0_1_n_n none p (shapeCast S512x512 tri shapeCasts_S512x512_S512x512 : FVec Ideal S512x512 .bf16) (constant S48x512 .f32 0x00000000#32)
  addf (addf (addf (broadcastTo S16x512 cr broadcasts_S16x1_S16x512) (extractStridedSlice S16x512 ![0, 0] v61 slices_S48x512_o0_0_S16x512))
    (extractStridedSlice S16x512 ![16, 0] v61 slices_S48x512_o16_0_S16x512)) (extractStridedSlice S16x512 ![32, 0] v61 slices_S48x512_o32_0_S16x512)

theorem sums_eq (x : Vec Ideal S1x512x1024 .f32) (g : Vec Ideal S1x1x1024 .f32) (wf : Vec Ideal S1x16x1024 .bf16) (bf : Vec Ideal S1x16x1 .f32) (tri : Vec Ideal S512x512 .bf16)
    (cr : Vec Ideal S16x1 .f32) : sums x g wf bf tri cr = sumOf (parts (logs (k0_pay7 x g wf bf))) tri cr := rfl

/-- Of real log gates the first part is all, the others are nothing. -/
theorem parts_first (l : FVec Ideal S16x512 .f32) (a : Fin 16) (s : Fin 512) : parts l (ix2 ⟨a.val, by omega⟩ s) = l (ix2 a s) := by
  pointwise [parts]
theorem parts_second (l : FVec Ideal S16x512 .f32) (a : Fin 16) (s : Fin 512) (h : Re (l (ix2 a s))) : parts l (ix2 ⟨16 + a.val, by omega⟩ s) = 0 := by
  have e : (⟨16 + a.val - 16, by omega⟩ : Fin 16) = a := Fin.ext (show 16 + a.val - 16 = a.val by omega)
  pointwise [parts]
  all_goals simp [e, h.sub_self]
theorem parts_third (l : FVec Ideal S16x512 .f32) (a : Fin 16) (s : Fin 512) (h : Re (l (ix2 a s))) : parts l (ix2 ⟨32 + a.val, by omega⟩ s) = 0 := by
  have h₁ : ¬ 32 + a.val < 16 := by omega
  have h₂ : ¬ 32 + a.val - 16 < 16 := by omega
  have e : (⟨32 + a.val - 16 - 16, by omega⟩ : Fin 16) = a := Fin.ext (show 32 + a.val - 16 - 16 = a.val by omega)
  pointwise [parts]
  all_goals simp [h₁, h₂, e, h.sub_self]

theorem sumOf_apply (p : FVec Ideal S48x512 .bf16) (tri : Vec Ideal S512x512 .bf16) (cr : Vec Ideal S16x1 .f32) (a : Fin 16) (s : Fin 512) :
    sumOf p tri cr (ix2 a s) = cr (ix2 a 0) + (∑ j : Fin 512, p (ix2 ⟨a.val, by omega⟩ j) * tri (ix2 j s)) + (∑ j : Fin 512, p (ix2 ⟨16 + a.val, by omega⟩ j) * tri (ix2 j s))
      + ∑ j : Fin 512, p (ix2 ⟨32 + a.val, by omega⟩ j) * tri (ix2 j s) := by
  pointwise [sumOf]

theorem carried_apply (x : Vec Ideal S1x512x1024 .f32) (g : Vec Ideal S1x1x1024 .f32) (wf : Vec Ideal S1x16x1024 .bf16) (bf : Vec Ideal S1x16x1 .f32) (tri : Vec Ideal S512x512 .bf16)
    (cr : Vec Ideal S16x1 .f32) (a : Fin 16) : carried x g wf bf tri cr (ix2 a 0) = sums x g wf bf tri cr (ix2 a 511) := by
  unfold carried k0_pay10 sums
  generalize (k0_pay9 (k0_pay7 x g wf bf) (FloatOps.ofBits .f32 0x00000000#32) k0_pay8 tri cr : FVec Ideal S16x512 .f32) = S
  pointwise []

theorem keyTile_apply (X : FVec Ideal S1024x512 .f32) (c : FVec Ideal S1x512 .f32) (o : ℕ) (h : S1024x512.Slices ![o, 0] S64x512) (g : Vec Ideal S1x64x1 .f32) (s : Fin 512) (e : Fin 128) :
    keyTile X c o h g (ix3 0 s e) = if h₀ : e.val < 64 then headRows X o h g (ix2 ⟨e.val, h₀⟩ s)
      else if h₁ : e.val - 64 < 16 then keyAug c (ix2 ⟨e.val - 64, h₁⟩ s) else 0 := by
  unfold keyTile
  generalize headRows X o h g = Y
  generalize keyAug c = Z
  pointwise []

theorem queryTile_apply (X : FVec Ideal S1024x512 .f32) (o : ℕ) (h : S1024x512.Slices ![o, 0] S64x512) (g : Vec Ideal S1x64x1 .f32) (d : Fin 64) (s : Fin 512) :
    queryTile X o h g (ix5 0 0 0 d s) = headRows X o h g (ix2 d s) * Ideal.ofBits .f32 0x3E38AA3B#32 := by
  unfold queryTile
  generalize headRows X o h g = Y
  pointwise []

theorem queryRows_apply (c : FVec Ideal S1x512 .f32) (r : Fin 16) (s : Fin 512) : queryRows c (ix5 0 0 0 r s) = queryAug c (ix2 r s) := by
  unfold queryRows
  generalize queryAug c = Z
  pointwise []

theorem queryRest_apply (r : Fin 48) (s : Fin 512) : k0_pay161 (F := Ideal) (ix5 0 0 0 r s) = (0 : EReal) := by
  pointwise [k0_pay161]

theorem none0_apply (a : Fin 16) : (none0 (ix2 a 0) : EReal) = 0 := by
  pointwise [none0, k0_pay4]

section Blocks

variable (x : Vec Ideal S1x512x1024 .f32) (g : Vec Ideal S1x1x1024 .f32) (w : Vec Ideal S1x3072x1024 .bf16) (wf : Vec Ideal S1x16x1024 .bf16) (bf : Vec Ideal S1x16x1 .f32)
  (gh : Vec Ideal S1x64x1 .f32) (tri : Vec Ideal S512x512 .bf16) (cr : Vec Ideal S16x1 .f32)

/-- A row's log gate, of one head. -/
def gateRow (x g w : Fin 1024 → EReal) (b : EReal) : EReal := logGate (-(∑ j : Fin 1024, w j * normRow x g j + b))

/-- The block's log gates. -/
def blockGate (a : Fin 16) (s : Fin 512) : EReal :=
  gateRow (fun j => x (ix3 0 s j)) (fun j => g (ix3 0 0 j)) (fun j => wf (ix3 0 a j)) (bf (ix3 0 a 0))

theorem gates_at (a : Fin 16) (s : Fin 512) : logs (k0_pay7 x g wf bf) (ix2 a s) = blockGate x g wf bf a s := by
  rw [logs_apply, gate_apply, zero_sub]
  simp only [rows_apply]
  rfl

/-- The block's running sums: what is carried and the gates of the rows up to this one. -/
theorem sums_apply (htri : ∀ j s : Fin 512, (tri (ix2 j s) : EReal) = if j.val ≤ s.val then 1 else 0) (hg : ∀ a s, Re (blockGate x g wf bf a s)) (a : Fin 16) (s : Fin 512) :
    sums x g wf bf tri cr (ix2 a s) = cr (ix2 a 0) + ∑ j : Fin 512, if j.val ≤ s.val then blockGate x g wf bf a j else 0 := by
  have hl : ∀ a s, Re (logs (k0_pay7 x g wf bf) (ix2 a s)) := fun a s => by rw [gates_at]; exact hg a s
  rw [sums_eq, sumOf_apply]
  simp only [parts_first, parts_second _ _ _ (hl _ _), parts_third _ _ _ (hl _ _), zero_mul, htri, gates_at, mul_ite, mul_one, mul_zero, ite_self, Finset.sum_const_zero, add_zero]

/-- A tile of the weights' rows. -/
theorem ld_weight (o : ℕ) (inb) (n j : Fin 1024) (ho : o + 1024 ≤ 3072) :
    View.ld (Val := Elt Ideal) (e' := .bf16) w (Rect.unit (s := S1x3072x1024) ![0, o, 0] S1x1024x1024.size inb) (ix3 0 n j) = w (ix3 0 ⟨o + n.val, by omega⟩ j) :=
  View.ld_unit_apply_of (Val := Elt Ideal) (e := .bf16) w _ _ _ _ _ fun a => by
    match a with
    | ⟨0, _⟩ => rfl
    | ⟨1, _⟩ => rfl
    | ⟨2, _⟩ => exact (Nat.zero_add _).symm

theorem prod_entry (o : ℕ) (inb) (ho : o + 1024 ≤ 3072) (n : Fin 1024) (s : Fin 512) :
    prod (View.ld (Val := Elt Ideal) (e' := .bf16) w (Rect.unit (s := S1x3072x1024) ![0, o, 0] S1x1024x1024.size inb)) (k0_pay5 x g) (ix2 n s)
      = entry (fun j => x (ix3 0 s j)) (fun j => g (ix3 0 0 j)) (fun n j => w (ix3 0 ⟨o + n.val, by omega⟩ j)) n := by
  refine (prod_apply _ _ n s).trans (Finset.sum_congr rfl fun j _ => ?_)
  exact congr (congrArg _ (ld_weight w o inb n j ho)) (rows_apply x g s j)

/-- Entry `d` of head `a` of a row. -/
def headEntry (x g : Fin 1024 → EReal) (w : Fin 1024 → Fin 1024 → EReal) (gh : Fin 64 → EReal) (a : Fin 16) (d : Fin 64) : EReal :=
  headNorm (fun d => entry x g w ⟨64 * a.val + d.val, by omega⟩) gh d

/-- A head's entry, or below the head one of the further rows. -/
def withRows (h : Fin 64 → EReal) (r : ℕ → EReal) (e : ℕ) : EReal := if h₀ : e < 64 then h ⟨e, h₀⟩ else r (e - 64)

def blockHead (o : ℕ) (ho : o + 1024 ≤ 3072) (s : Fin 512) (a : Fin 16) : Fin 64 → EReal :=
  headEntry (fun j => x (ix3 0 s j)) (fun j => g (ix3 0 0 j)) (fun n j => w (ix3 0 ⟨o + n.val, by omega⟩ j)) (fun d => gh (ix3 0 d 0)) a

theorem head_at (o : ℕ) (inb) (ho : o + 1024 ≤ 3072) (a : Fin 16) (d : Fin 64) (s : Fin 512) :
    headRows (prod (View.ld (Val := Elt Ideal) (e' := .bf16) w (Rect.unit (s := S1x3072x1024) ![0, o, 0] S1x1024x1024.size inb)) (k0_pay5 x g)) (64 * a.val) (slices_head a) gh (ix2 d s)
      = blockHead x g w gh o ho s a d := by
  rw [headRows_apply _ _ (by omega)]
  simp only [prod_entry x g w o inb ho]
  rfl

/-- A head's running sum at a row, in the base of two. -/
def inTwo (c : EReal) : EReal := c * Ideal.ofBits .f32 0x3FB8AA3B#32

theorem keys_apply (C : Fin 16 → Fin 512 → EReal) (hC : ∀ a s, sums x g wf bf tri cr (ix2 a s) = C a s) (hr : ∀ a s, Re (inTwo (C a s))) (y : S1x512x2048.Idx) :
    (keyBlock x g w wf bf gh tri cr y : EReal)
      = withRows (blockHead x g w gh 1024 (by omega) (y 1) ⟨(y 2).val / 128, by have h2 : (y 2).val < 2048 := (y 2).isLt; omega⟩)
          (keyRow (inTwo (C ⟨(y 2).val / 128, by have h2 : (y 2).val < 2048 := (y 2).isLt; omega⟩ (y 1)))) ((y 2).val % 128) := by
  let F : Fin 16 → Fin 512 → ℕ → EReal := fun a s e => withRows (blockHead x g w gh 1024 (by omega) s a) (keyRow (inTwo (C a s))) e
  let G : S1x512x2048.Idx → EReal := fun y => F ⟨(y 2).val / 128, by have h2 : (y 2).val < 2048 := (y 2).isLt; omega⟩ (y 1) ((y 2).val % 128)
  unfold keyBlock
  refine View.canon_apply_of_pieces (Val := Elt Ideal) (e := .bf16) G _ (fun pc hpc => ?_) y ?_
  rotate_left
  · exact View.cover_of_tiledL (s := S1x512x2048) _ S1x512x128.size (by sl_kernel_rfl) y
  obtain ⟨a, -, rfl⟩ := List.mem_map.mp hpc
  intro z
  obtain ⟨z₀, s, e, rfl⟩ : ∃ (z₀ : Fin 1) (s : Fin 512) (e : Fin 128), z = ix3 z₀ s e := ⟨z 0, z 1, z 2, eq_ix3 z⟩
  obtain rfl : z₀ = 0 := Subsingleton.elim _ _
  have he := e.isLt
  have hi : (Rect.unit (s := S1x512x2048) ![0, 0, 128 * a.val] S1x512x128.size (inb_key a)).emb (ix3 0 s e) = (ix3 0 s ⟨128 * a.val + e.val, by omega⟩ : S1x512x2048.Idx) :=
    funext fun b => Fin.ext ((Rect.idx_unit_val _ _ _ _ b).trans (by
      match b with
      | ⟨0, _⟩ => rfl
      | ⟨1, _⟩ => exact Nat.zero_add _
      | ⟨2, _⟩ => rfl))
  have h1 : (⟨(128 * a.val + e.val) / 128, by omega⟩ : Fin 16) = a := Fin.ext (show (128 * a.val + e.val) / 128 = a.val by omega)
  have h2 : (128 * a.val + e.val) % 128 = e.val := by omega
  refine Eq.trans ?_ (congrArg G hi).symm
  show keyTile _ _ _ _ _ (ix3 0 s e) = F ⟨(128 * a.val + e.val) / 128, _⟩ s ((128 * a.val + e.val) % 128)
  rw [h1, h2, keyTile_apply]
  have hb : bias (sums x g wf bf tri cr) a.val (slices_row a) (ix2 0 s) = inTwo (C a s) := by
    rw [bias_apply _ _ a.isLt, hC]; rfl
  simp only [F, withRows]
  split
  · exact head_at x g w gh 1024 _ (by omega) a _ s
  · split
    · rw [keyAug_apply _ _ _ (by rw [hb]; exact hr a s), hb]
    · have h3 : ¬ e.val - 64 = 0 := by omega
      have h4 : ¬ e.val - 64 < 3 := by omega
      have h5 : ¬ e.val - 64 < 6 := by omega
      simp only [keyRow, h3, h4, h5, if_false]

theorem queries_apply (C : Fin 16 → Fin 512 → EReal) (hC : ∀ a s, sums x g wf bf tri cr (ix2 a s) = C a s) (hr : ∀ a s, Re (inTwo (C a s))) (y : S1x1x16x128x512.Idx) :
    (queryBlock x g w wf bf gh tri cr y : EReal)
      = withRows (fun d => blockHead x g w gh 0 (by omega) (y 4) (y 2) d * Ideal.ofBits .f32 0x3E38AA3B#32) (queryRow (inTwo (C (y 2) (y 4)))) (y 3).val := by
  let F : Fin 16 → Fin 512 → ℕ → EReal := fun a s e =>
    withRows (fun d => blockHead x g w gh 0 (by omega) s a d * Ideal.ofBits .f32 0x3E38AA3B#32) (queryRow (inTwo (C a s))) e
  let G : S1x1x16x128x512.Idx → EReal := fun y => F (y 2) (y 4) (y 3).val
  unfold queryBlock
  refine View.canon_apply_of_pieces (Val := Elt Ideal) (e := .bf16) G _ (fun pc hpc => ?_) y ?_
  rotate_left
  · exact View.cover_of_tiledBy _ ![1, 1, 1, 16, 512] (by sl_kernel_rfl) y
  obtain ⟨a, -, hpc⟩ := List.mem_flatMap.mp hpc
  have hb : ∀ s, bias (sums x g wf bf tri cr) a.val (slices_row a) (ix2 0 s) = inTwo (C a s) := fun s => by
    rw [bias_apply _ _ a.isLt, hC]; rfl
  have hi : ∀ (o n : ℕ) (ho : o + n ≤ 128) (inb) (r : Fin n) (s : Fin 512),
      (Rect.unit (s := S1x1x16x128x512) ![0, 0, a.val, o, 0] ![1, 1, 1, n, 512] inb).emb (ix5 0 0 0 r s) = (ix5 0 0 a ⟨o + r.val, by omega⟩ s : S1x1x16x128x512.Idx) := fun o n ho inb r s =>
    funext fun b => Fin.ext ((Rect.idx_unit_val _ _ _ _ b).trans (by
      match b with
      | ⟨0, _⟩ => rfl
      | ⟨1, _⟩ => rfl
      | ⟨2, _⟩ => rfl
      | ⟨3, _⟩ => rfl
      | ⟨4, _⟩ => exact Nat.zero_add _))
  rcases List.mem_cons.mp hpc with rfl | hpc
  · intro z
    obtain ⟨z₀, z₁, z₂, r, s, rfl⟩ : ∃ (z₀ z₁ z₂ : Fin 1) (r : Fin 48) (s : Fin 512), z = ix5 z₀ z₁ z₂ r s := ⟨z 0, z 1, z 2, z 3, z 4, eq_ix5 z⟩
    obtain rfl : z₀ = 0 := Subsingleton.elim _ _
    obtain rfl : z₁ = 0 := Subsingleton.elim _ _
    obtain rfl : z₂ = 0 := Subsingleton.elim _ _
    refine (queryRest_apply r s).trans (Eq.trans ?_ (congrArg G (hi 80 48 (by omega) (inb_rest a) r s)).symm)
    show 0 = F a s (80 + r.val)
    have h3 : ¬ 80 + r.val < 64 := by omega
    have h4 : ¬ 80 + r.val - 64 < 3 := by omega
    have h5 : ¬ 80 + r.val - 64 = 3 := by omega
    simp only [F, withRows, queryRow, h3, h4, h5, dite_false, if_false]
  rcases List.mem_cons.mp hpc with rfl | hpc
  · intro z
    obtain ⟨z₀, z₁, z₂, r, s, rfl⟩ : ∃ (z₀ z₁ z₂ : Fin 1) (r : Fin 16) (s : Fin 512), z = ix5 z₀ z₁ z₂ r s := ⟨z 0, z 1, z 2, z 3, z 4, eq_ix5 z⟩
    obtain rfl : z₀ = 0 := Subsingleton.elim _ _
    obtain rfl : z₁ = 0 := Subsingleton.elim _ _
    obtain rfl : z₂ = 0 := Subsingleton.elim _ _
    refine (queryRows_apply _ r s).trans (Eq.trans ?_ (congrArg G (hi 64 16 (by omega) (inb_rows a) r s)).symm)
    rw [queryAug_apply _ _ _ (by rw [hb]; exact hr a s), hb]
    show _ = F a s (64 + r.val)
    have h3 : ¬ 64 + r.val < 64 := by omega
    simp only [F, withRows, h3, dite_false, Nat.add_sub_cancel_left]
  rcases List.mem_cons.mp hpc with rfl | hpc
  · intro z
    obtain ⟨z₀, z₁, z₂, d, s, rfl⟩ : ∃ (z₀ z₁ z₂ : Fin 1) (d : Fin 64) (s : Fin 512), z = ix5 z₀ z₁ z₂ d s := ⟨z 0, z 1, z 2, z 3, z 4, eq_ix5 z⟩
    obtain rfl : z₀ = 0 := Subsingleton.elim _ _
    obtain rfl : z₁ = 0 := Subsingleton.elim _ _
    obtain rfl : z₂ = 0 := Subsingleton.elim _ _
    refine (queryTile_apply _ _ _ _ d s).trans (Eq.trans ?_ (congrArg G (hi 0 64 (by omega) (inb_query a) d s)).symm)
    rw [head_at x g w gh 0 _ (by omega) a d s]
    show _ = F a s (0 + d.val)
    have h3 : d.val < 64 := d.isLt
    simp only [F, withRows, Nat.zero_add, h3, dite_true]
  nomatch hpc

theorem values_apply (y : S1x2x1024x256.Idx) : (valueBlock x g w y : EReal)
    = entry (fun j => x (ix3 0 ⟨256 * (y 1).val + (y 3).val, by have h1 : (y 1).val < 2 := (y 1).isLt; have h3 : (y 3).val < 256 := (y 3).isLt; omega⟩ j))
        (fun j => g (ix3 0 0 j)) (fun n j => w (ix3 0 ⟨2048 + n.val, by omega⟩ j)) (y 2) := by
  let G : S1x2x1024x256.Idx → EReal := fun y =>
    entry (fun j => x (ix3 0 ⟨256 * (y 1).val + (y 3).val, by have h1 : (y 1).val < 2 := (y 1).isLt; have h3 : (y 3).val < 256 := (y 3).isLt; omega⟩ j))
        (fun j => g (ix3 0 0 j)) (fun n j => w (ix3 0 ⟨2048 + n.val, by omega⟩ j)) (y 2)
  have halves : ∀ (W : Vec Ideal S1x1024x1024 .bf16) (X : FVec Ideal S512x1024 .bf16) (n : Fin 1024) (q : Fin 256),
      (k0_pay2 X W (ix4 0 0 n q) : EReal) = prod W X (ix2 n ⟨q.val, by omega⟩) ∧ (k0_pay3 X W (ix4 0 0 n q) : EReal) = prod W X (ix2 n ⟨256 + q.val, by omega⟩) := fun W X n q => by
    have : k0_pay1 X W = prod W X := rfl
    unfold k0_pay2 k0_pay3
    rw [this]
    generalize prod W X = Y
    constructor <;> pointwise []
  unfold valueBlock
  refine View.canon_apply_of_pieces (Val := Elt Ideal) (e := .bf16) G _ (fun pc hpc => ?_) y ?_
  rotate_left
  · exact View.cover_of_tiledL (s := S1x2x1024x256) _ S1x1x1024x256.size (by sl_kernel_rfl) y
  rcases List.mem_cons.mp hpc with rfl | hpc
  · intro z
    obtain ⟨z₀, z₁, n, q, rfl⟩ : ∃ (z₀ z₁ : Fin 1) (n : Fin 1024) (q : Fin 256), z = ix4 z₀ z₁ n q := ⟨z 0, z 1, z 2, z 3, eq_ix4 z⟩
    obtain rfl : z₀ = 0 := Subsingleton.elim _ _
    obtain rfl : z₁ = 0 := Subsingleton.elim _ _
    refine ((halves _ _ n q).2.trans (prod_entry x g w 2048 _ (by omega) _ _)).trans ?_
    show entry _ _ _ _ = entry _ _ _ _
    congr 1
    · funext j; congr 2; exact Fin.ext (by simp)
    · exact Fin.ext (by simp)
  rcases List.mem_cons.mp hpc with rfl | hpc
  · intro z
    obtain ⟨z₀, z₁, n, q, rfl⟩ : ∃ (z₀ z₁ : Fin 1) (n : Fin 1024) (q : Fin 256), z = ix4 z₀ z₁ n q := ⟨z 0, z 1, z 2, z 3, eq_ix4 z⟩
    obtain rfl : z₀ = 0 := Subsingleton.elim _ _
    obtain rfl : z₁ = 0 := Subsingleton.elim _ _
    refine ((halves _ _ n q).1.trans (prod_entry x g w 2048 _ (by omega) _ _)).trans ?_
    show entry _ _ _ _ = entry _ _ _ _
    congr 1
    · funext j; congr 2; exact Fin.ext (by simp)
    · exact Fin.ext (by simp)
  nomatch hpc

end Blocks

end Cert.Kernel5Ideal.Hand

end
-- ==== Proof.FoxReal.lean ====
/-
  The forget gate of finite gains, weights and biases is a real number.
-/
module

public import proofs.«01_k».proof.Proof.FoxTile

@[expose] public section

noncomputable section

namespace Cert.Kernel5Ideal.Hand

open Cert.Kernel5Ideal Cert.Ffn
open Idealize.ShloMosaic

theorem Re.zero : Re 0 := ⟨0, rfl⟩
theorem Re.neg {a : EReal} : Re a → Re (-a) := fun ⟨r, h⟩ => ⟨-r, by rw [h]; rfl⟩
theorem Re.add {a b : EReal} : Re a → Re b → Re (a + b) := fun ⟨r, h⟩ ⟨q, k⟩ => ⟨r + q, by rw [h, k]; rfl⟩
theorem Re.mul {a b : EReal} : Re a → Re b → Re (a * b) := fun ⟨r, h⟩ ⟨q, k⟩ => ⟨r * q, by rw [h, k]; rfl⟩
theorem Re.max {a b : EReal} (ha : Re a) (hb : Re b) : Re (a ⊔ b) := by
  rcases le_total a b with h | h
  · rw [sup_eq_right.mpr h]; exact hb
  · rw [sup_eq_left.mpr h]; exact ha
theorem Re.sum {ι : Type} (s : Finset ι) {f : ι → EReal} (h : ∀ i, Re (f i)) : Re (∑ i ∈ s, f i) := by
  classical
  induction s using Finset.induction_on with
  | empty => exact Re.zero
  | insert a s ha ih => rw [Finset.sum_insert ha]; exact (h a).add ih

/-- A product of a row with itself, summed, is a real that is not negative. -/
theorem square_sum {ι : Type} (s : Finset ι) {f : ι → EReal} (h : ∀ i, Re (f i)) : ∃ r : ℝ, 0 ≤ r ∧ ∑ i ∈ s, f i * f i = (r : EReal) := by
  classical
  induction s using Finset.induction_on with
  | empty => exact ⟨0, le_refl _, rfl⟩
  | insert a s ha ih =>
    obtain ⟨r, hr, e⟩ := ih
    obtain ⟨q, k⟩ := h a
    exact ⟨q * q + r, add_nonneg (mul_self_nonneg q) hr, by rw [Finset.sum_insert ha, e, k]; rfl⟩

theorem word_width : Ideal.ofBits .f32 0x44800000#32 = ((1024 : ℝ) : EReal) := by
  simp [Ideal.ofBits, Ideal.ieee, -EReal.coe_mul]; norm_num
theorem word_eps : ∃ r : ℝ, 0 < r ∧ Ideal.ofBits .f32 0x358637BD#32 = (r : EReal) := by
  simp only [Ideal.ofBits, Ideal.ieee]
  refine ⟨_, ?_, rfl⟩
  exact mul_pos (mul_pos one_pos (Nat.cast_pos.mpr (by positivity))) (zpow_pos (by norm_num) _)
theorem word_log2e : Re (Ideal.ofBits .f32 0x3FB8AA3B#32) := by
  simp only [Ideal.ofBits, Ideal.ieee]
  exact ⟨_, rfl⟩

theorem Re.rowScale {x : Fin 1024 → EReal} (h : ∀ j, Re (x j)) : Re (rowScale x) := by
  obtain ⟨r, hr, e⟩ := square_sum Finset.univ h
  obtain ⟨q, hq, k⟩ := word_eps
  have hp : 0 < r * (1024 : ℝ)⁻¹ + q := by positivity
  refine ⟨(√(r * (1024 : ℝ)⁻¹ + q))⁻¹, ?_⟩
  unfold Cert.Ffn.rowScale
  rw [e, k, word_width]
  have hd : Ideal.div (r : EReal) ((1024 : ℝ) : EReal) = ((r * (1024 : ℝ)⁻¹ : ℝ) : EReal) := by
    unfold Ideal.div
    rw [if_neg (by exact_mod_cast (by norm_num : (1024 : ℝ) ≠ 0))]
    rfl
  rw [hd, ← EReal.coe_add]
  show (if r * (1024 : ℝ)⁻¹ + q < 0 then (⊥ : EReal) else if r * (1024 : ℝ)⁻¹ + q = 0 then ⊤ else _) = _
  rw [if_neg (not_lt.mpr hp.le), if_neg hp.ne']

theorem Re.logGate {n : EReal} (h : Re n) : Re (logGate n) := by
  refine ((h.max Re.zero).add ?_).neg
  obtain ⟨r, hr⟩ := (h.max h.neg).neg
  rw [hr]
  refine ⟨Real.log (1 + Real.exp r), ?_⟩
  have hp : 0 < 1 + Real.exp r := by positivity
  show Ideal.log (1 + ((Real.exp r : ℝ) : EReal)) = _
  rw [show (1 : EReal) + ((Real.exp r : ℝ) : EReal) = ((1 + Real.exp r : ℝ) : EReal) from rfl]
  show (if 1 + Real.exp r ≤ 0 then (⊥ : EReal) else _) = _
  rw [if_neg (not_le.mpr hp)]

theorem square_nonneg (a : EReal) : 0 ≤ a * a := by
  rcases le_total 0 a with h | h
  · exact mul_nonneg h h
  · rw [← neg_mul_neg]; exact mul_nonneg (EReal.neg_nonneg.mpr h) (EReal.neg_nonneg.mpr h)

/-- A normed row is real whatever the row is: a row with an infinite entry is normed to zero. -/
theorem Re.normed (x : Fin 1024 → EReal) (j : Fin 1024) : Re (x j * Cert.Ffn.rowScale x) := by
  by_cases h : ∀ j, Re (x j)
  · exact (h j).mul (Re.rowScale h)
  · obtain ⟨i, hi⟩ := not_forall.mp h
    have ht : x i * x i = ⊤ := by
      generalize x i = a at hi
      induction a with
      | bot => rfl
      | top => rfl
      | coe r => exact absurd ⟨r, rfl⟩ hi
    have hs : ∑ j : Fin 1024, x j * x j = ⊤ :=
      top_le_iff.mp (ht ▸ Finset.single_le_sum (f := fun j => x j * x j) (fun j _ => square_nonneg (x j)) (Finset.mem_univ i))
    have hz : Cert.Ffn.rowScale x = 0 := by
      obtain ⟨q, _, k⟩ := word_eps
      unfold Cert.Ffn.rowScale
      rw [hs, k, word_width]
      have hd : Ideal.div ⊤ ((1024 : ℝ) : EReal) = ⊤ := by
        unfold Ideal.div
        rw [if_neg (by exact_mod_cast (by norm_num : (1024 : ℝ) ≠ 0))]
        exact EReal.top_mul_coe_of_pos (by norm_num : (0 : ℝ) < (1024 : ℝ)⁻¹)
      rw [hd, EReal.top_add_coe]
      rfl
    rw [hz, mul_zero]
    exact Re.zero

theorem Re.gateRow {x g w : Fin 1024 → EReal} {b : EReal} (hg : ∀ j, Re (g j)) (hw : ∀ j, Re (w j)) (hb : Re b) : Re (gateRow x g w b) :=
  (((Re.sum Finset.univ fun j => (hw j).mul ((Re.normed x j).mul (hg j))).add hb).neg).logGate

end Cert.Kernel5Ideal.Hand

end
-- ==== Proof.Fox.lean ====
/-
  The kernel of the forgetting attention's projection: the three arrays it leaves, as functions of its arguments.
-/
module

public import proofs.«01_k».proof.Proof.FoxReal
public import proofs.«01_k».proof.Proof.Gen.Kernel5Ideal.Value
public import Idealize.ShloMosaic.Lib.Pipeline.ValueKit.Geometry
public import Idealize.ShloMosaic.Lib.WordCmp

@[expose] public section

set_option maxRecDepth 16384

noncomputable section

namespace Cert.Kernel5Ideal.Hand

open Cert.Kernel5Ideal Cert.Kernel5Ideal.Gen Cert.Ffn
open Cert.Kernel4Ideal.Hand (headNorm entry)
open Idealize.ShloMosaic Idealize.ShloMosaic.TcCoe Idealize.SL.Sem

section Arrays

variable (x : S8x4096x1024.Idx → EReal) (g : S4x1024.Idx → EReal) (w : S2x1024x3088.Idx → EReal) (bf : S2x16.Idx → EReal) (gh : S2x64.Idx → EReal)

/-- The log gate of head `a` at row `n` of batch element `b`. -/
def gateAt (b : Fin 8) (a : Fin 16) (n : Fin 4096) : EReal :=
  gateRow (fun j => x (ix3 b n j)) (fun j => g (ix2 0 j)) (fun j => w (ix3 0 j ⟨3072 + a.val, by omega⟩)) (bf (ix2 0 a))

def gateNat (b : Fin 8) (a : Fin 16) (n : ℕ) : EReal := if h : n < 4096 then gateAt x g w bf b a ⟨n, h⟩ else 0

/-- The log gates of the first `k` rows, summed. -/
def cum (b : Fin 8) (a : Fin 16) (k : ℕ) : EReal := ∑ n ∈ Finset.range k, gateNat x g w bf b a n

/-- Entry `d` of head `a` at row `s` of batch element `b`: of the queries before their scale (`o = 0`), or of the keys (`o = 1024`). -/
def headAt (o : ℕ) (ho : o + 1024 ≤ 3072) (b : Fin 8) (s : Fin 4096) (a : Fin 16) : Fin 64 → EReal :=
  headEntry (fun j => x (ix3 b s j)) (fun j => g (ix2 0 j)) (fun n j => w (ix3 0 j ⟨o + n.val, by omega⟩)) (fun d => gh (ix2 0 d)) a

/-- A head's keys and the rows beside them, at a row of a batch element. -/
def keyEntry (b : Fin 8) (s : Fin 4096) (a : Fin 16) (e : ℕ) : EReal :=
  withRows (headAt x g w gh 1024 (by omega) b s a) (keyRow (inTwo (cum x g w bf b a (s.val + 1)))) e

def queryEntry (b : Fin 8) (s : Fin 4096) (a : Fin 16) (e : ℕ) : EReal :=
  withRows (fun d => headAt x g w gh 0 (by omega) b s a d * Ideal.ofBits .f32 0x3E38AA3B#32) (queryRow (inTwo (cum x g w bf b a (s.val + 1)))) e

def keys : S8x4096x2048.Idx → EReal := fun i =>
  keyEntry x g w bf gh (i 0) (i 1) ⟨(i 2).val / 128, by have h2 : (i 2).val < 2048 := (i 2).isLt; omega⟩ ((i 2).val % 128)

/-- The queries, in tiles of 512 rows, each head's rows as columns. -/
def queries : S8x8x16x128x512.Idx → EReal := fun i =>
  queryEntry x g w bf gh (i 0) ⟨(i 1).val * 512 + (i 4).val, by have h1 : (i 1).val < 8 := (i 1).isLt; have h4 : (i 4).val < 512 := (i 4).isLt; omega⟩ (i 2) (i 3).val

/-- The values, in tiles of 256 rows, rows as columns. -/
def values : S8x16x1024x256.Idx → EReal := fun i =>
  entry (fun j => x (ix3 (i 0) ⟨256 * (i 1).val + (i 3).val, by have h1 : (i 1).val < 16 := (i 1).isLt; have h3 : (i 3).val < 256 := (i 3).isLt; omega⟩ j))
    (fun j => g (ix2 0 j)) (fun n j => w (ix3 0 j ⟨2048 + n.val, by omega⟩)) (i 2)

variable {x g w bf} in
theorem Re.gateAt (hg : ∀ j, Re (g (ix2 0 j))) (hw : ∀ (j : Fin 1024) (a : Fin 16), Re (w (ix3 0 j ⟨3072 + a.val, by omega⟩)))
    (hb : ∀ a, Re (bf (ix2 0 a))) (b : Fin 8) (a : Fin 16) (n : Fin 4096) : Re (gateAt x g w bf b a n) :=
  Re.gateRow hg (fun j => hw j a) (hb a)

variable {x g w bf} in
theorem Re.cum (hg : ∀ j, Re (g (ix2 0 j))) (hw : ∀ (j : Fin 1024) (a : Fin 16), Re (w (ix3 0 j ⟨3072 + a.val, by omega⟩)))
    (hb : ∀ a, Re (bf (ix2 0 a))) (b : Fin 8) (a : Fin 16) (k : ℕ) : Re (inTwo (cum x g w bf b a k)) := by
  refine (Re.sum _ fun n => ?_).mul word_log2e
  unfold gateNat
  split
  · exact Re.gateAt hg hw hb b a _
  · exact Re.zero

/-- The sum up to a row is the sum up to its tile and the sum within. -/
theorem cum_tile (b : Fin 8) (a : Fin 16) (t : Fin 8) (s : Fin 512) :
    cum x g w bf b a (t.val * 512) + ∑ j : Fin 512, (if j.val ≤ s.val then gateAt x g w bf b a ⟨t.val * 512 + j.val, by omega⟩ else 0) = cum x g w bf b a (t.val * 512 + s.val + 1) := by
  unfold cum
  rw [Nat.add_assoc (t.val * 512), Finset.sum_range_add _ (t.val * 512)]
  congr 1
  have e : ∀ j : Fin 512, (if j.val ≤ s.val then gateAt x g w bf b a ⟨t.val * 512 + j.val, by omega⟩ else 0)
      = (fun n : ℕ => if n ≤ s.val then gateNat x g w bf b a (t.val * 512 + n) else 0) j.val := fun j => by
    have h : t.val * 512 + j.val < 4096 := by omega
    simp only [gateNat, h, dite_true]
  rw [Finset.sum_congr rfl fun j _ => e j, Fin.sum_univ_eq_sum_range (fun n : ℕ => if n ≤ s.val then gateNat x g w bf b a (t.val * 512 + n) else 0) 512, ← Finset.sum_filter]
  refine Finset.sum_congr (Finset.ext fun n => ?_) fun _ _ => rfl
  simp only [Finset.mem_filter, Finset.mem_range]
  omega

end Arrays

variable (m : (ℓ : Loc nD τ sig) → Buf (Elt Ideal) ℓ)

theorem V_tri (c : Dev nD) : V m c main_v7 = uitofp (F := Ideal) .bf16 (cmpi .sle (broadcastInDim S512x512 ![0,1] bcast_S512x1_S512x512_0_1 (broadcastInDim S512x1 ![0] bcast_S512_S512x1_0 (iotaInDim S512 32 0)))
      (broadcastInDim S512x512 ![0,1] bcast_S1x512_S512x512_0_1 (broadcastInDim S1x512 ![1] bcast_S512_S1x512_1 (iotaInDim S512 32 0)))) := by
  show StableHlo.after hostOps0 _ _ = _
  simp only [hostOps0]
  after_results_simp <;> rfl
theorem V_gain (c : Dev nD) : V m c main_v8 = broadcastInDim S4x1x1024 ![0, 2] bcast_S4x1024_S4x1x1024_0_2 (m ((c : Thread nD τ).loc main_arg1)) := by
  show StableHlo.after hostOps0 _ _ = _
  simp only [hostOps0]
  after_results_simp <;> rfl
theorem V_weights (c : Dev nD) : V m c main_v11 = truncf (F := Ideal) .bf16 (transpose S2x3072x1024 [0, 2, 1] (extractStridedSlice S2x1024x3072 ![0, 0, 0] (m ((c : Thread nD τ).loc main_arg2)) slices_S2x1024x3088_S2x1024x3072_0_0_0) transposes_S2x1024x3072_S2x3072x1024_0_2_1) bitsLt_bf16_f32 := by
  show StableHlo.after hostOps0 _ _ = _
  simp only [hostOps0]
  after_results_simp <;> rfl
theorem V_gateWeights (c : Dev nD) : V m c main_v14 = truncf (F := Ideal) .bf16 (transpose S2x16x1024 [0, 2, 1] (extractStridedSlice S2x1024x16 ![0, 0, 3072] (m ((c : Thread nD τ).loc main_arg2)) slices_S2x1024x3088_S2x1024x16_0_0_3072) transposes_S2x1024x16_S2x16x1024_0_2_1) bitsLt_bf16_f32 := by
  show StableHlo.after hostOps0 _ _ = _
  simp only [hostOps0]
  after_results_simp <;> rfl
theorem V_gateBias (c : Dev nD) : V m c main_v15 = broadcastInDim S2x16x1 ![0, 1] bcast_S2x16_S2x16x1_0_1 (m ((c : Thread nD τ).loc main_arg3)) := by
  show StableHlo.after hostOps0 _ _ = _
  simp only [hostOps0]
  after_results_simp <;> rfl
theorem V_gq (c : Dev nD) : V m c main_v16 = broadcastInDim S2x64x1 ![0, 1] bcast_S2x64_S2x64x1_0_1 (m ((c : Thread nD τ).loc main_arg4)) := by
  show StableHlo.after hostOps0 _ _ = _
  simp only [hostOps0]
  after_results_simp <;> rfl
theorem V_gk (c : Dev nD) : V m c main_v17 = broadcastInDim S2x64x1 ![0, 1] bcast_S2x64_S2x64x1_0_1 (m ((c : Thread nD τ).loc main_arg5)) := by
  show StableHlo.after hostOps0 _ _ = _
  simp only [hostOps0]
  after_results_simp <;> rfl

/-- A point's batch element and its tile of 512 rows. -/
def gb (t : Fin cfg0.N) : Fin 8 := cfg0.grid.coords t 0
def gs (t : Fin cfg0.N) : Fin 8 := cfg0.grid.coords t 1

theorem gb_val : ∀ t : Fin cfg0.N, (gb t).val = t.val / 8 := (by decide +kernel : ∀ t : Fin grid0.N, (grid0.coords t 0).val = t.val / 8)
theorem gs_val : ∀ t : Fin cfg0.N, (gs t).val = t.val % 8 := (by decide +kernel : ∀ t : Fin grid0.N, (grid0.coords t 1).val = t.val % 8)

/-- A word of one bit that is not one is zero. -/
theorem eq_zero_of_ne_one (b : BitVec 1) (h : b ≠ 1#1) : b = 0#1 := by
  revert b; decide

theorem word (a : Fin 8) : (BitVec.ofNat 32 a.val).toNat = a.val := by
  rw [BitVec.toNat_ofNat]; exact Nat.mod_eq_of_lt (by omega)

theorem block_x (c : Dev nD) (t : Fin cfg0.N) (s : Fin 512) (j : Fin 1024) :
    (iblk m c 0 t (ix3 0 s j) : EReal) = m ((c : Thread nD τ).loc main_arg0) (ix3 (gb t) ⟨(gs t).val * 512 + s.val, by omega⟩ j) := by
  unfold iblk
  blk_simp
  refine (congrFun (V_main_arg0 m c) _).trans ?_
  refine congrArg (m ((c : Thread nD τ).loc main_arg0)) (funext fun a => Fin.ext ?_)
  refine (Pipeline.Window.rect_emb_val win0_0 t _ a).trans ?_
  match a with
  | ⟨0, _⟩ => show (BitVec.ofNat 32 (gb t).val).toNat * 1 + 0 = (gb t).val; rw [word]; omega
  | ⟨1, _⟩ => show (BitVec.ofNat 32 (gs t).val).toNat * 512 + s.val = (gs t).val * 512 + s.val; rw [word]
  | ⟨2, _⟩ => show 0 * 1024 + j.val = j.val; omega

theorem block_g (c : Dev nD) (t : Fin cfg0.N) (j : Fin 1024) :
    (iblk m c 1 t (ix3 0 0 j) : EReal) = m ((c : Thread nD τ).loc main_arg1) (ix2 0 j) := by
  unfold iblk
  blk_simp
  rw [V_gain]
  have e : (win0_1.blk t).view.emb (ix3 0 0 j) = (ix3 0 0 j : S4x1x1024.Idx) := by
    refine funext fun a => Fin.ext ?_
    refine (Pipeline.Window.rect_emb_val win0_1 t _ a).trans ?_
    match a with
    | ⟨0, _⟩ => rfl
    | ⟨1, _⟩ => rfl
    | ⟨2, _⟩ => show 0 * 1024 + j.val = j.val; omega
  refine (congrArg _ e).trans ?_
  pointwise []

theorem block_w (c : Dev nD) (t : Fin cfg0.N) (n : Fin 3072) (j : Fin 1024) :
    (iblk m c 2 t (ix3 0 n j) : EReal) = m ((c : Thread nD τ).loc main_arg2) (ix3 0 j ⟨n.val, by omega⟩) := by
  unfold iblk
  blk_simp
  rw [V_weights]
  have e : (win0_2.blk t).view.emb (ix3 0 n j) = (ix3 0 n j : S2x3072x1024.Idx) := by
    refine funext fun a => Fin.ext ?_
    refine (Pipeline.Window.rect_emb_val win0_2 t _ a).trans ?_
    match a with
    | ⟨0, _⟩ => rfl
    | ⟨1, _⟩ => show 0 * 3072 + n.val = n.val; omega
    | ⟨2, _⟩ => show 0 * 1024 + j.val = j.val; omega
  refine (congrArg _ e).trans ?_
  pointwise []

theorem block_wf (c : Dev nD) (t : Fin cfg0.N) (n : Fin 16) (j : Fin 1024) :
    (iblk m c 3 t (ix3 0 n j) : EReal) = m ((c : Thread nD τ).loc main_arg2) (ix3 0 j ⟨3072 + n.val, by omega⟩) := by
  unfold iblk
  blk_simp
  rw [V_gateWeights]
  have e : (win0_3.blk t).view.emb (ix3 0 n j) = (ix3 0 n j : S2x16x1024.Idx) := by
    refine funext fun a => Fin.ext ?_
    refine (Pipeline.Window.rect_emb_val win0_3 t _ a).trans ?_
    match a with
    | ⟨0, _⟩ => rfl
    | ⟨1, _⟩ => show 0 * 16 + n.val = n.val; omega
    | ⟨2, _⟩ => show 0 * 1024 + j.val = j.val; omega
  refine (congrArg _ e).trans ?_
  pointwise []

theorem block_bf (c : Dev nD) (t : Fin cfg0.N) (n : Fin 16) :
    (iblk m c 4 t (ix3 0 n 0) : EReal) = m ((c : Thread nD τ).loc main_arg3) (ix2 0 n) := by
  unfold iblk
  blk_simp
  rw [V_gateBias]
  have e : (win0_4.blk t).view.emb (ix3 0 n 0) = (ix3 0 n 0 : S2x16x1.Idx) := by
    refine funext fun a => Fin.ext ?_
    refine (Pipeline.Window.rect_emb_val win0_4 t _ a).trans ?_
    match a with
    | ⟨0, _⟩ => rfl
    | ⟨1, _⟩ => show 0 * 16 + n.val = n.val; omega
    | ⟨2, _⟩ => rfl
  refine (congrArg _ e).trans ?_
  pointwise []

theorem block_gq (c : Dev nD) (t : Fin cfg0.N) (d : Fin 64) :
    (iblk m c 5 t (ix3 0 d 0) : EReal) = m ((c : Thread nD τ).loc main_arg4) (ix2 0 d) := by
  unfold iblk
  blk_simp
  rw [V_gq]
  have e : (win0_5.blk t).view.emb (ix3 0 d 0) = (ix3 0 d 0 : S2x64x1.Idx) := by
    refine funext fun a => Fin.ext ?_
    refine (Pipeline.Window.rect_emb_val win0_5 t _ a).trans ?_
    match a with
    | ⟨0, _⟩ => rfl
    | ⟨1, _⟩ => show 0 * 64 + d.val = d.val; omega
    | ⟨2, _⟩ => rfl
  refine (congrArg _ e).trans ?_
  pointwise []

theorem block_gk (c : Dev nD) (t : Fin cfg0.N) (d : Fin 64) :
    (iblk m c 6 t (ix3 0 d 0) : EReal) = m ((c : Thread nD τ).loc main_arg5) (ix2 0 d) := by
  unfold iblk
  blk_simp
  rw [V_gk]
  have e : (win0_6.blk t).view.emb (ix3 0 d 0) = (ix3 0 d 0 : S2x64x1.Idx) := by
    refine funext fun a => Fin.ext ?_
    refine (Pipeline.Window.rect_emb_val win0_6 t _ a).trans ?_
    match a with
    | ⟨0, _⟩ => rfl
    | ⟨1, _⟩ => show 0 * 64 + d.val = d.val; omega
    | ⟨2, _⟩ => rfl
  refine (congrArg _ e).trans ?_
  pointwise []

theorem block_tri (c : Dev nD) (t : Fin cfg0.N) (j s : Fin 512) :
    (iblk m c 7 t (ix2 j s) : EReal) = (if j.val ≤ s.val then 1 else 0 : EReal) := by
  unfold iblk
  blk_simp
  rw [V_tri]
  have e : (win0_7.blk t).view.emb (ix2 j s) = (ix2 j s : S512x512.Idx) := by
    refine funext fun a => Fin.ext ?_
    refine (Pipeline.Window.rect_emb_val win0_7 t _ a).trans ?_
    match a with
    | ⟨0, _⟩ => show 0 * 512 + j.val = j.val; omega
    | ⟨1, _⟩ => show 0 * 512 + s.val = s.val; omega
  refine (congrArg _ e).trans ?_
  pointwise []
  have h := WordCmp.cmpi_sle_ofNat_eq_one_iff (w := 32) (a := j.val) (b := s.val) (by omega) (by omega)
  show (((IntOp.cmpi .sle (BitVec.ofNat 32 j.val) (BitVec.ofNat 32 s.val)).toNat : ℝ) : EReal) = _
  by_cases hl : j.val ≤ s.val
  · rw [h.mpr hl, if_pos hl]; simp
  · rw [if_neg hl, eq_zero_of_ne_one _ fun k => hl (h.mp k)]; simp

theorem block_k (t : Fin cfg0.N) (s : Fin 512) (j : Fin 2048) :
    (win0_9.blk t).view.emb (ix3 0 s j) = (ix3 (gb t) ⟨(gs t).val * 512 + s.val, by omega⟩ j : S8x4096x2048.Idx) := by
  refine funext fun a => Fin.ext ?_
  refine (Pipeline.Window.rect_emb_val win0_9 t _ a).trans ?_
  match a with
  | ⟨0, _⟩ => show (BitVec.ofNat 32 (gb t).val).toNat * 1 + 0 = (gb t).val; rw [word]; omega
  | ⟨1, _⟩ => show (BitVec.ofNat 32 (gs t).val).toNat * 512 + s.val = (gs t).val * 512 + s.val; rw [word]
  | ⟨2, _⟩ => show 0 * 2048 + j.val = j.val; omega

theorem block_q (t : Fin cfg0.N) (a : Fin 16) (e : Fin 128) (s : Fin 512) :
    (win0_8.blk t).view.emb (ix5 0 0 a e s) = (ix5 (gb t) (gs t) a e s : S8x8x16x128x512.Idx) := by
  refine funext fun b => Fin.ext ?_
  refine (Pipeline.Window.rect_emb_val win0_8 t _ b).trans ?_
  match b with
  | ⟨0, _⟩ => show (BitVec.ofNat 32 (gb t).val).toNat * 1 + 0 = (gb t).val; rw [word]; omega
  | ⟨1, _⟩ => show (BitVec.ofNat 32 (gs t).val).toNat * 1 + 0 = (gs t).val; rw [word]; omega
  | ⟨2, _⟩ => show 0 * 16 + a.val = a.val; omega
  | ⟨3, _⟩ => show 0 * 128 + e.val = e.val; omega
  | ⟨4, _⟩ => show 0 * 512 + s.val = s.val; omega

theorem block_v (t : Fin cfg0.N) (a : Fin 2) (n : Fin 1024) (q : Fin 256) :
    (win0_10.blk t).view.emb (ix4 0 a n q) = (ix4 (gb t) ⟨(gs t).val * 2 + a.val, by omega⟩ n q : S8x16x1024x256.Idx) := by
  refine funext fun b => Fin.ext ?_
  refine (Pipeline.Window.rect_emb_val win0_10 t _ b).trans ?_
  match b with
  | ⟨0, _⟩ => show (BitVec.ofNat 32 (gb t).val).toNat * 1 + 0 = (gb t).val; rw [word]; omega
  | ⟨1, _⟩ => show (BitVec.ofNat 32 (gs t).val).toNat * 2 + a.val = (gs t).val * 2 + a.val; rw [word]
  | ⟨2, _⟩ => show 0 * 1024 + n.val = n.val; omega
  | ⟨3, _⟩ => show 0 * 256 + q.val = q.val; omega

/-- The log gate at a row of a point's block. -/
theorem gate_block (c : Dev nD) (t : Fin cfg0.N) (a : Fin 16) (s : Fin 512) :
    blockGate (iblk m c 0 t) (iblk m c 1 t) (iblk m c 3 t) (iblk m c 4 t) a s
      = gateAt (m ((c : Thread nD τ).loc main_arg0)) (m ((c : Thread nD τ).loc main_arg1)) (m ((c : Thread nD τ).loc main_arg2)) (m ((c : Thread nD τ).loc main_arg3))
          (gb t) a ⟨(gs t).val * 512 + s.val, by omega⟩ := by
  unfold blockGate gateAt
  simp only [block_x, block_g, block_wf, block_bf]

section Finite

variable (hg : ∀ (c : Dev nD) j, Re (m ((c : Thread nD τ).loc main_arg1) (ix2 0 j)))
  (hw : ∀ (c : Dev nD) (j : Fin 1024) (a : Fin 16), Re (m ((c : Thread nD τ).loc main_arg2) (ix3 0 j ⟨3072 + a.val, by omega⟩)))
  (hb : ∀ (c : Dev nD) a, Re (m ((c : Thread nD τ).loc main_arg3) (ix2 0 a)))

/-- The running sum of the log gates, over the kernel's arguments. -/
def run (c : Dev nD) : Fin 8 → Fin 16 → ℕ → EReal :=
  cum (m ((c : Thread nD τ).loc main_arg0)) (m ((c : Thread nD τ).loc main_arg1)) (m ((c : Thread nD τ).loc main_arg2)) (m ((c : Thread nD τ).loc main_arg3))

include hg hw hb in
/-- Where a point finds the sum of the tiles before it, its sums go on from there. -/
theorem sums_point (c : Dev nD) (t : Fin cfg0.N) (cr : Vec Ideal S16x1 .f32) (hcr : ∀ a, (cr (ix2 a 0) : EReal) = run m c (gb t) a ((gs t).val * 512)) (a : Fin 16) (s : Fin 512) :
    sums (iblk m c 0 t) (iblk m c 1 t) (iblk m c 3 t) (iblk m c 4 t) (iblk m c 7 t) cr (ix2 a s) = run m c (gb t) a ((gs t).val * 512 + s.val + 1) := by
  refine (sums_apply _ _ _ _ _ _ (fun j s => block_tri m c t j s) (fun a s => ?_) a s).trans ?_
  · rw [gate_block]; exact Re.gateAt (hg c) (hw c) (hb c) _ _ _
  · simp only [gate_block]
    exact (congrArg (· + _) (hcr a)).trans (cum_tile _ _ _ _ (gb t) a (gs t) s)

include hg hw hb in
/-- What is carried into a point is the sum of the tiles before it. -/
theorem carry_value (c : Dev nD) : ∀ (n : ℕ) (hn : n < cfg0.N) (a : Fin 16), (carryIn m c ⟨n, hn⟩ (ix2 a 0) : EReal) = run m c (gb ⟨n, hn⟩) a ((gs ⟨n, hn⟩).val * 512) := by
  intro n
  induction n with
  | zero =>
    intro hn a
    unfold carryIn
    rw [if_pos (show (0 : ℕ) % 8 = 0 from rfl), gs_val]
    exact none0_apply a
  | succ n ih =>
    intro hn a
    unfold carryIn
    split
    next h0 =>
      have h0 : (n + 1) % 8 = 0 := h0
      rw [gs_val]
      show _ = run m c _ a ((n + 1) % 8 * 512)
      rw [h0]
      exact none0_apply a
    next h0 =>
      have h0 : ¬ (n + 1) % 8 = 0 := h0
      have hn' : n < cfg0.N := by omega
      have e : (gb ⟨n, hn'⟩) = gb ⟨n + 1, hn⟩ := Fin.ext (by rw [gb_val, gb_val]; show n / 8 = (n + 1) / 8; omega)
      have k : (gs ⟨n, hn'⟩).val * 512 + (511 : Fin 512).val + 1 = (gs ⟨n + 1, hn⟩).val * 512 := by
        rw [gs_val, gs_val]; show n % 8 * 512 + 511 + 1 = (n + 1) % 8 * 512; omega
      refine (congrFun (carry_block m c ⟨n, hn'⟩) _).trans ?_
      rw [carried_apply, sums_point m hg hw hb c ⟨n, hn'⟩ _ (ih hn') a 511, k, e]

include hg hw hb in
theorem sums_value (c : Dev nD) (t : Fin cfg0.N) (a : Fin 16) (s : Fin 512) :
    sums (iblk m c 0 t) (iblk m c 1 t) (iblk m c 3 t) (iblk m c 4 t) (iblk m c 7 t) (carryIn m c t) (ix2 a s) = run m c (gb t) a ((gs t).val * 512 + s.val + 1) :=
  sums_point m hg hw hb c t _ (carry_value m hg hw hb c t.val t.isLt) a s

include hg hw hb in
/-- The array of the keys. -/
theorem keys_value (c : Dev nD) : ((dats m 0 c).arrAt 9 cfg0.N : S8x4096x2048.Idx → EReal)
    = keys (m ((c : Thread nD τ).loc main_arg0)) (m ((c : Thread nD τ).loc main_arg1)) (m ((c : Thread nD τ).loc main_arg2)) (m ((c : Thread nD τ).loc main_arg3))
        (m ((c : Thread nD τ).loc main_arg5)) := by
  refine (dats m 0 c).arrAt_eq_of_covers 9 _ (by decide +kernel) fun t hf y => ?_
  blk_simp
  rw [after0_9, keys_block]
  obtain ⟨z, s, j, rfl⟩ : ∃ (z : Fin 1) (s : Fin 512) (j : Fin 2048), y = ix3 z s j := ⟨y 0, y 1, y 2, eq_ix3 y⟩
  obtain rfl : z = 0 := Subsingleton.elim _ _
  refine (keys_apply _ _ _ _ _ _ _ _ _ (sums_value m hg hw hb c t) (fun a s => Re.cum (hg c) (hw c) (hb c) _ _ _) _).trans ?_
  refine Eq.trans ?_ (congrArg (keys _ _ _ _ _) (block_k t s j)).symm
  show withRows (blockHead _ _ _ _ 1024 _ s ⟨j.val / 128, _⟩) (keyRow (inTwo (run m c (gb t) ⟨j.val / 128, _⟩ ((gs t).val * 512 + s.val + 1)))) (j.val % 128)
    = withRows (headAt _ _ _ _ 1024 _ (gb t) ⟨(gs t).val * 512 + s.val, _⟩ ⟨j.val / 128, _⟩) (keyRow (inTwo (run m c (gb t) ⟨j.val / 128, _⟩ ((gs t).val * 512 + s.val + 1)))) (j.val % 128)
  unfold blockHead headAt
  simp only [block_x, block_g, block_w, block_gk]

include hg hw hb in
/-- The array of the queries. -/
theorem queries_value (c : Dev nD) : ((dats m 0 c).arrAt 8 cfg0.N : S8x8x16x128x512.Idx → EReal)
    = queries (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 8 _ (by decide +kernel) fun t hf y => ?_
  blk_simp
  rw [after0_8, queries_block]
  obtain ⟨z, z', a, e, s, rfl⟩ : ∃ (z z' : Fin 1) (a : Fin 16) (e : Fin 128) (s : Fin 512), y = ix5 z z' a e s := ⟨y 0, y 1, y 2, y 3, y 4, eq_ix5 y⟩
  obtain rfl : z = 0 := Subsingleton.elim _ _
  obtain rfl : z' = 0 := Subsingleton.elim _ _
  refine (queries_apply _ _ _ _ _ _ _ _ _ (sums_value m hg hw hb c t) (fun a s => Re.cum (hg c) (hw c) (hb c) _ _ _) _).trans ?_
  refine Eq.trans ?_ (congrArg (queries _ _ _ _ _) (block_q t a e s)).symm
  show withRows (fun d => blockHead _ _ _ _ 0 _ s a d * _) (queryRow (inTwo (run m c (gb t) a ((gs t).val * 512 + s.val + 1)))) e.val
    = withRows (fun d => headAt _ _ _ _ 0 _ (gb t) ⟨(gs t).val * 512 + s.val, _⟩ a d * _) (queryRow (inTwo (run m c (gb t) a ((gs t).val * 512 + s.val + 1)))) e.val
  unfold blockHead headAt
  simp only [block_x, block_g, block_w, block_gq]

end Finite

/-- The array of the values. -/
theorem values_value (c : Dev nD) : ((dats m 0 c).arrAt 10 cfg0.N : S8x16x1024x256.Idx → EReal)
    = values (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10, values_block]
  obtain ⟨z, a, n, q, rfl⟩ : ∃ (z : Fin 1) (a : Fin 2) (n : Fin 1024) (q : Fin 256), y = ix4 z a n q := ⟨y 0, y 1, y 2, y 3, eq_ix4 y⟩
  obtain rfl : z = 0 := Subsingleton.elim _ _
  refine (values_apply _ _ _ _).trans ?_
  refine Eq.trans ?_ (congrArg (values _ _ _) (block_v t a n q)).symm
  show entry (fun j => iblk m c 0 t (ix3 0 ⟨256 * a.val + q.val, _⟩ j)) _ _ n
    = entry (fun j => m ((c : Thread nD τ).loc main_arg0) (ix3 (gb t) ⟨256 * ((gs t).val * 2 + a.val) + q.val, _⟩ j)) _ _ n
  simp only [block_x, block_g, block_w]
  have e : (gs t).val * 512 + (256 * a.val + q.val) = 256 * ((gs t).val * 2 + a.val) + q.val := by omega
  simp only [e]

end Cert.Kernel5Ideal.Hand

end
-- ==== Proof.FoxPlain.lean ====
/-
  The forgetting attention's projection as the reference writes it, read at an element: the same functions of the arguments as the kernel's
  arrays.
-/
module

public import proofs.«01_k».proof.Proof.Fox
public import proofs.«01_k».proof.Proof.Gen.Reference5Ideal
public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen Cert.Ffn
open Cert.Kernel4Ideal.Hand (headNorm entry)
open Cert.Kernel5Ideal.Hand (logGate gateRow gateAt gateNat cum headEntry headAt withRows keyRow queryRow inTwo keyEntry queryEntry keys queries values)
open Idealize.ShloMosaic Idealize.ShloMosaic.TcCoe Idealize.SL.Sem Idealize.ShloMosaic.StableHlo

/-- The rows normed by their root mean square, times the gain of row 0. -/
def normedRows (x : FVec Ideal S8x4096x1024 .f32) (g : FVec Ideal S4x1024 .f32) : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast _ (extractStridedSlice S1x1024 ![0, 0] g slices_S4x1024_S1x1024_0_0) shapeCasts_S1x1024_S1024)))

/-- The product with the weights. -/
def projected (h : FVec Ideal S8x4096x1024 .f32) (w : FVec Ideal S2x1024x3088 .f32) : FVec Ideal S8x4096x3088 .f32 :=
  Host.dotGeneral dot_S8x4096x1024_S1024x3088_S8x4096x3088_2_0_01_1_n_n none h
    (shapeCast _ (extractStridedSlice S1x1024x3088 ![0, 0, 0] w slices_S2x1024x3088_S1x1024x3088_0_0_0) shapeCasts_S1x1024x3088_S1024x3088)

/-- The gates' logits. -/
def logits (r : FVec Ideal S8x4096x3088 .f32) (b : FVec Ideal S2x16 .f32) : FVec Ideal S8x4096x16 .f32 :=
  addf (extractStridedSlice S8x4096x16 ![0, 0, 3072] r slices_S8x4096x3088_S8x4096x16_0_0_3072)
    (broadcastInDim S8x4096x16 ![0, 1, 2] bcast_S1x1x16_S8x4096x16_0_1_2 (broadcastInDim S1x1x16 ![2] bcast_S16_S1x1x16_2
      (shapeCast _ (extractStridedSlice S1x16 ![0, 0] b slices_S2x16_S1x16_0_0) shapeCasts_S1x16_S16)))

def noneOf : FVec Ideal S8x4096x16 .f32 := broadcastInDim S8x4096x16 ![] bcast_S_S8x4096x16 (constant S_ .f32 0x00000000#32)

/-- The log gates. -/
def logGates (l : FVec Ideal S8x4096x16 .f32) : FVec Ideal S8x4096x16 .f32 :=
  Host.negf (select (cmpf .une (subf (Host.negf l) noneOf) (subf (Host.negf l) noneOf)) (addf (Host.negf l) noneOf)
    (addf (maximumf (Host.negf l) noneOf) (Host.log1p (Host.exp (Host.negf (Host.absf (subf (Host.negf l) noneOf)))))))

/-- The running sums along the rows. -/
def runningSums (l : FVec Ideal S8x4096x16 .f32) : FVec Ideal S8x4096x16 .f32 :=
  Host.reduceWindowAdd ![1, 4096, 1] ![1, 1, 1] ![0, 4095, 0] ![0, 0, 0] l (broadcastInDim S_ ![] bcast_S_S_ (constant S_ .f32 0x00000000#32))
    reduceWindows_S8x4096x16_S8x4096x16_w1s1p0_0_w4096s1p4095_0_w1s1p0_0 h_S_

/-- The running sums in the base of two, as one further column. -/
def column (c : FVec Ideal S8x4096x16 .f32) : FVec Ideal S8x4096x16x1 .f32 :=
  mulf (broadcastInDim S8x4096x16x1 ![0, 1, 2] bcast_S8x4096x16_S8x4096x16x1_0_1_2 c) (broadcastInDim S8x4096x16x1 ![] bcast_S_S8x4096x16x1 (constant S_ .f32 0x3FB8AA3B#32))

/-- A third of the projected columns, from `o` on, as heads. -/
def heads (r : FVec Ideal S8x4096x3088 .f32) (o : ℕ) (h : S8x4096x3088.Slices ![0, 0, o] S8x4096x1024) : FVec Ideal S8x4096x16x64 .f32 :=
  shapeCast _ (extractStridedSlice S8x4096x1024 ![0, 0, o] r h) shapeCasts_S8x4096x1024_S8x4096x16x64

/-- The heads normed by their root mean square, times the gain. -/
def normedHeads (q : FVec Ideal S8x4096x16x64 .f32) (g : FVec Ideal S2x64 .f32) : FVec Ideal S8x4096x16x64 .f32 :=
  mulf (mulf q (broadcastInDim S8x4096x16x64 ![0, 1, 2, 3] bcast_S8x4096x16x1_S8x4096x16x64_0_1_2_3 (Host.rsqrt (addf
      (Host.divf (broadcastInDim S8x4096x16x1 ![0, 1, 2] bcast_S8x4096x16_S8x4096x16x1_0_1_2
          (Host.reduceAdd (mulf q q) (constant S_ .f32 0x00000000#32) reducesTo_S8x4096x16x64_S8x4096x16_d3 h_S_))
        (broadcastInDim S8x4096x16x1 ![] bcast_S_S8x4096x16x1 (constant S_ .f32 0x42800000#32)))
      (broadcastInDim S8x4096x16x1 ![] bcast_S_S8x4096x16x1 (constant S_ .f32 0x358637BD#32))))))
    (broadcastInDim S8x4096x16x64 ![0, 1, 2, 3] bcast_S1x1x1x64_S8x4096x16x64_0_1_2_3 (broadcastInDim S1x1x1x64 ![3] bcast_S64_S1x1x1x64_3
      (shapeCast _ (extractStridedSlice S1x64 ![0, 0] g slices_S2x64_S1x64_0_0) shapeCasts_S1x64_S64)))

/-- The keys and the columns beside them. -/
def keyColumns (k : FVec Ideal S8x4096x16x64 .f32) (c : FVec Ideal S8x4096x16x1 .f32) : FVec Ideal S8x4096x16x128 .f32 :=
  concatenate S8x4096x16x128 3 [⟨S8x4096x16x64, k⟩, ⟨S8x4096x16x1, Host.negf c⟩,
    ⟨S8x4096x16x2, broadcastInDim S8x4096x16x2 ![] bcast_S_S8x4096x16x2 (constant S_ .f32 0x00000000#32)⟩,
    ⟨S8x4096x16x3, broadcastInDim S8x4096x16x3 ![] bcast_S_S8x4096x16x3 (constant S_ .f32 0x3F800000#32)⟩,
    ⟨S8x4096x16x58, broadcastInDim S8x4096x16x58 ![] bcast_S_S8x4096x16x58 (constant S_ .f32 0x00000000#32)⟩]
    concatenates_S8x4096x16x64_S8x4096x16x1_S8x4096x16x2_S8x4096x16x3_S8x4096x16x58_S8x4096x16x128_d3

/-- The scaled queries and the columns beside them. -/
def queryColumns (q : FVec Ideal S8x4096x16x64 .f32) (c : FVec Ideal S8x4096x16x1 .f32) : FVec Ideal S8x4096x16x128 .f32 :=
  concatenate S8x4096x16x128 3 [⟨S8x4096x16x64, mulf q (broadcastInDim S8x4096x16x64 ![] bcast_S_S8x4096x16x64 (constant S_ .f32 0x3E38AA3B#32))⟩,
    ⟨S8x4096x16x3, broadcastInDim S8x4096x16x3 ![] bcast_S_S8x4096x16x3 (constant S_ .f32 0x3F800000#32)⟩, ⟨S8x4096x16x1, c⟩,
    ⟨S8x4096x16x60, broadcastInDim S8x4096x16x60 ![] bcast_S_S8x4096x16x60 (constant S_ .f32 0x00000000#32)⟩]
    concatenates_S8x4096x16x64_S8x4096x16x3_S8x4096x16x1_S8x4096x16x60_S8x4096x16x128_d3

/-- The keys' array. -/
def keyArray (k : FVec Ideal S8x4096x16x128 .f32) : FVec Ideal S8x4096x2048 .bf16 :=
  truncf .bf16 (shapeCast S8x4096x2048 k shapeCasts_S8x4096x16x128_S8x4096x2048) bitsLt_bf16_f32

/-- The queries' array. -/
def queryArray (q : FVec Ideal S8x4096x16x128 .f32) : FVec Ideal S8x8x16x128x512 .bf16 :=
  truncf .bf16 (transpose S8x8x16x128x512 [0, 1, 3, 4, 2] (shapeCast S8x8x512x16x128 q shapeCasts_S8x4096x16x128_S8x8x512x16x128)
    transposes_S8x8x512x16x128_S8x8x16x128x512_0_1_3_4_2) bitsLt_bf16_f32

/-- The values' array. -/
def valueArray (r : FVec Ideal S8x4096x3088 .f32) : FVec Ideal S8x16x1024x256 .bf16 :=
  truncf .bf16 (transpose S8x16x1024x256 [0, 1, 3, 2] (shapeCast S8x16x256x1024
    (extractStridedSlice S8x4096x1024 ![0, 0, 2048] r slices_S8x4096x3088_S8x4096x1024_0_0_2048)
    shapeCasts_S8x4096x1024_S8x16x256x1024) transposes_S8x16x256x1024_S8x16x1024x256_0_1_3_2) bitsLt_bf16_f32

theorem normedRows_apply (x : FVec Ideal S8x4096x1024 .f32) (g : FVec Ideal S4x1024 .f32) (b : Fin 8) (s : Fin 4096) (c : Fin 1024) :
    normedRows x g (ix3 b s c) = normRow (fun j => x (ix3 b s j)) (fun j => g (ix2 0 j)) c := by
  pointwise [normedRows, normRow, rowScale]

theorem projected_apply (h : FVec Ideal S8x4096x1024 .f32) (w : FVec Ideal S2x1024x3088 .f32) (b : Fin 8) (s : Fin 4096) (n : Fin 3088) :
    projected h w (ix3 b s n) = ∑ j : Fin 1024, h (ix3 b s j) * w (ix3 0 j n) := by
  pointwise [projected]

theorem logits_apply (r : FVec Ideal S8x4096x3088 .f32) (bf : FVec Ideal S2x16 .f32) (b : Fin 8) (s : Fin 4096) (a : Fin 16) :
    logits r bf (ix3 b s a) = r (ix3 b s ⟨3072 + a.val, by omega⟩) + bf (ix2 0 a) := by
  pointwise [logits]

theorem logGates_apply (l : FVec Ideal S8x4096x16 .f32) (b : Fin 8) (s : Fin 4096) (a : Fin 16) : logGates l (ix3 b s a) = logGate (-(l (ix3 b s a))) := by
  pointwise [logGates, noneOf]
  rw [if_neg (fun h => h rfl)]
  rfl

theorem heads_apply (r : FVec Ideal S8x4096x3088 .f32) (o : ℕ) (ho : o + 1024 ≤ 3072) (h : S8x4096x3088.Slices ![0, 0, o] S8x4096x1024) (b : Fin 8) (s : Fin 4096) (a : Fin 16) (d : Fin 64) :
    heads r o h (ix4 b s a d) = r (ix3 b s ⟨o + (a.val * 64 + d.val), by omega⟩) := by
  pointwise [heads]

theorem normedHeads_apply (q : FVec Ideal S8x4096x16x64 .f32) (g : FVec Ideal S2x64 .f32) (b : Fin 8) (s : Fin 4096) (a : Fin 16) (d : Fin 64) :
    normedHeads q g (ix4 b s a d) = headNorm (fun d => q (ix4 b s a d)) (fun d => g (ix2 0 d)) d := by
  pointwise [normedHeads, headNorm]

theorem column_apply (c : FVec Ideal S8x4096x16 .f32) (b : Fin 8) (s : Fin 4096) (a : Fin 16) : column c (ix4 b s a 0) = inTwo (c (ix3 b s a)) := by
  pointwise [column, inTwo]

theorem keyColumns_apply (k : FVec Ideal S8x4096x16x64 .f32) (c : FVec Ideal S8x4096x16x1 .f32) (b : Fin 8) (s : Fin 4096) (a : Fin 16) (e : Fin 128) :
    keyColumns k c (ix4 b s a e) = withRows (fun d => k (ix4 b s a d)) (keyRow (c (ix4 b s a 0))) e.val := by
  have z : ∀ i : Fin 1, c (ix4 b s a i) = c (ix4 b s a 0) := fun i => by rw [Subsingleton.elim i 0]
  pointwise [keyColumns, withRows, keyRow]
  split_ifs <;> first | rfl | (simp only [z]; rw [if_pos (by omega)]) | (exfalso; omega)

theorem queryColumns_apply (q : FVec Ideal S8x4096x16x64 .f32) (c : FVec Ideal S8x4096x16x1 .f32) (b : Fin 8) (s : Fin 4096) (a : Fin 16) (e : Fin 128) :
    queryColumns q c (ix4 b s a e) = withRows (fun d => q (ix4 b s a d) * Ideal.ofBits .f32 0x3E38AA3B#32) (queryRow (c (ix4 b s a 0))) e.val := by
  have z : ∀ i : Fin 1, c (ix4 b s a i) = c (ix4 b s a 0) := fun i => by rw [Subsingleton.elim i 0]
  pointwise [queryColumns, withRows, queryRow]
  split_ifs <;> first | rfl | (simp only [z]; rw [if_pos (by omega)]) | (exfalso; omega)

theorem keyArray_apply (k : FVec Ideal S8x4096x16x128 .f32) (b : Fin 8) (s : Fin 4096) (c : Fin 2048) :
    keyArray k (ix3 b s c) = k (ix4 b s ⟨c.val / 128, by omega⟩ ⟨c.val % 128, by omega⟩) := by
  pointwise [keyArray]

theorem queryArray_apply (q : FVec Ideal S8x4096x16x128 .f32) (b t : Fin 8) (a : Fin 16) (e : Fin 128) (s : Fin 512) :
    queryArray q (ix5 b t a e s) = q (ix4 b ⟨t.val * 512 + s.val, by omega⟩ a e) := by
  pointwise [queryArray]

theorem valueArray_apply (r : FVec Ideal S8x4096x3088 .f32) (b : Fin 8) (t : Fin 16) (n : Fin 1024) (q : Fin 256) :
    valueArray r (ix4 b t n q) = r (ix3 b ⟨t.val * 256 + q.val, by omega⟩ ⟨2048 + n.val, by omega⟩) := by
  pointwise [valueArray]

/-! ## The running sum -/

/-- Summing a list from nothing on is its sum. -/
theorem foldl_sum (n : ℕ) (f : Fin n → EReal) : (List.finRange n).foldl (fun r k => r + f k) 0 = ∑ k, f k := by
  rw [Fin.sum_univ_def, List.sum_eq_foldl, List.foldl_map]

/-- What holds at each of three axes holds at all. -/
theorem three {p : Fin 3 → Prop} (h₀ : p 0) (h₁ : p 1) (h₂ : p 2) : ∀ i, p i
  | ⟨0, _⟩ => h₀
  | ⟨1, _⟩ => h₁
  | ⟨2, _⟩ => h₂

/-- A sum over a window from nothing on, its positions read off by their number. -/
theorem window_sum {s t u : Shape} (window strides lo hi : Fin s.rank → ℕ) (h : s.ReduceWindows window strides lo hi t) (x : FVec Ideal s .f32) (init : u.Idx → Ideal .f32) (hu : 0 < u.numel)
    (hi₀ : (init (Shape.Idx.first hu) : EReal) = 0) (j : t.Idx) (G : ℕ → EReal)
    (hG₁ : ∀ (n : Fin (⟨s.rank, window⟩ : Shape).numel) (hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a),
      (x (fun a => ⟨(j (a.cast h.1.symm)).val * strides a + ((⟨s.rank, window⟩ : Shape).rowMajor.symm n a).val - lo a, (hin a).2⟩) : EReal) = G n.val)
    (hG₀ : ∀ n : Fin (⟨s.rank, window⟩ : Shape).numel, (¬ ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a) → G n.val = 0) :
    (Host.reduceWindowAdd window strides lo hi x init h hu j : EReal) = ∑ k : Fin (⟨s.rank, window⟩ : Shape).numel, G k.val := by
  rw [← foldl_sum]
  show Ideal.hostReduceWindowAdd window strides lo hi h x (init (Shape.Idx.first hu)) j = _
  rw [hi₀]
  unfold Ideal.hostReduceWindowAdd Host.reduceWindow
  refine congrArg (fun f => List.foldl f 0 _) (funext fun r => funext fun n => congrArg (r + ·) ?_)
  split
  next hin => exact hG₁ n hin
  next hin => exact (hG₀ n hin).symm

theorem runningSums_apply (l : FVec Ideal S8x4096x16 .f32) (b : Fin 8) (s : Fin 4096) (a : Fin 16) :
    runningSums l (ix3 b s a) = ∑ n ∈ Finset.range (s.val + 1), (if h : n < 4096 then (l (ix3 b ⟨n, h⟩ a) : EReal) else 0) := by
  let W : Shape := ⟨3, ![1, 4096, 1]⟩
  let F : ℕ → EReal := fun n => if h : n < 4096 then (l (ix3 b ⟨n, h⟩ a) : EReal) else 0
  let G : ℕ → EReal := fun k => if 4095 ≤ s.val + k then F (s.val + k - 4095) else 0
  have hz : (Ideal.ofBits .f32 0x00000000#32 : EReal) = 0 := by simp [Ideal.ofBits, Ideal.ieee]
  have hn : W.numel = 4096 := by decide
  -- a position of the window is its middle coordinate
  have hp : ∀ k : Fin W.numel, ((W.rowMajor.symm k) 0).val = 0 ∧ ((W.rowMajor.symm k) 1).val = k.val ∧ ((W.rowMajor.symm k) 2).val = 0 := fun k => by
    have e : (W.rowMajor (W.rowMajor.symm k)).val = k.val := by rw [Equiv.apply_symm_apply]
    have h0 : ((W.rowMajor.symm k) 0).val < 1 := ((W.rowMajor.symm k) 0).isLt
    have h2 : ((W.rowMajor.symm k) 2).val < 1 := ((W.rowMajor.symm k) 2).isLt
    rw [Shape.rowMajor_val_three] at e
    have e : (((W.rowMajor.symm k) 0).val * 4096 + ((W.rowMajor.symm k) 1).val) * 1 + ((W.rowMajor.symm k) 2).val = k.val := e
    omega
  have step : runningSums l (ix3 b s a) = ∑ k : Fin W.numel, G k.val := by
    refine window_sum (s := S8x4096x16) ![1, 4096, 1] ![1, 1, 1] ![0, 4095, 0] ![0, 0, 0] reduceWindows_S8x4096x16_S8x4096x16_w1s1p0_0_w4096s1p4095_0_w1s1p0_0 l _ h_S_ hz (ix3 b s a) G
      (fun n hin => ?_) fun n hin => ?_
    · obtain ⟨p0, p1, p2⟩ := hp n
      have h1 : 4095 ≤ s.val * 1 + ((W.rowMajor.symm n) 1).val := (hin 1).1
      have hk : n.val < 4096 := lt_of_lt_of_eq n.isLt hn
      have hc : 4095 ≤ s.val + n.val := by omega
      have hl : s.val + n.val - 4095 < 4096 := by omega
      show _ = if 4095 ≤ s.val + n.val then (if h : s.val + n.val - 4095 < 4096 then (l (ix3 b ⟨s.val + n.val - 4095, h⟩ a) : EReal) else 0) else 0
      rw [if_pos hc, dif_pos hl]
      refine congrArg l (funext (three (Fin.ext ?_) (Fin.ext ?_) (Fin.ext ?_)))
      · show b.val * 1 + ((W.rowMajor.symm n) 0).val - 0 = b.val; omega
      · show s.val * 1 + ((W.rowMajor.symm n) 1).val - 4095 = s.val + n.val - 4095; omega
      · show a.val * 1 + ((W.rowMajor.symm n) 2).val - 0 = a.val; omega
    · obtain ⟨p0, p1, p2⟩ := hp n
      have hk : n.val < 4096 := lt_of_lt_of_eq n.isLt hn
      refine if_neg fun hc => hin (three ?_ ?_ ?_)
      · show 0 ≤ b.val * 1 + ((W.rowMajor.symm n) 0).val ∧ b.val * 1 + ((W.rowMajor.symm n) 0).val - 0 < 8; omega
      · show 4095 ≤ s.val * 1 + ((W.rowMajor.symm n) 1).val ∧ s.val * 1 + ((W.rowMajor.symm n) 1).val - 4095 < 4096; omega
      · show 0 ≤ a.val * 1 + ((W.rowMajor.symm n) 2).val ∧ a.val * 1 + ((W.rowMajor.symm n) 2).val - 0 < 16; omega
  rw [step, Fin.sum_univ_eq_sum_range G W.numel, hn]
  have hs : 4096 = (4095 - s.val) + (s.val + 1) := by omega
  rw [show Finset.range 4096 = Finset.range ((4095 - s.val) + (s.val + 1)) from congrArg _ hs, Finset.sum_range_add, Finset.sum_eq_zero, zero_add]
  · refine Finset.sum_congr rfl fun n hn => ?_
    show (if 4095 ≤ s.val + (4095 - s.val + n) then F (s.val + (4095 - s.val + n) - 4095) else 0) = F n
    rw [if_pos (by omega), show s.val + (4095 - s.val + n) - 4095 = n by omega]
  · intro k hk
    have hk : k < 4095 - s.val := Finset.mem_range.mp hk
    exact if_neg (by omega)

section Results

variable (x : FVec Ideal S8x4096x1024 .f32) (g : FVec Ideal S4x1024 .f32) (w : FVec Ideal S2x1024x3088 .f32) (bf : FVec Ideal S2x16 .f32) (gh : FVec Ideal S2x64 .f32)

theorem projected_entry (b : Fin 8) (s : Fin 4096) (n : Fin 3088) :
    projected (normedRows x g) w (ix3 b s n) = ∑ j : Fin 1024, w (ix3 0 j n) * normRow (fun j => x (ix3 b s j)) (fun j => g (ix2 0 j)) j := by
  refine (projected_apply _ _ _ _ _).trans (Finset.sum_congr rfl fun j _ => ?_)
  rw [normedRows_apply]
  exact mul_comm _ _

theorem sums_entry (b : Fin 8) (s : Fin 4096) (a : Fin 16) :
    runningSums (logGates (logits (projected (normedRows x g) w) bf)) (ix3 b s a) = cum x g w bf b a (s.val + 1) := by
  rw [runningSums_apply]
  refine Finset.sum_congr rfl fun n _ => ?_
  simp only [logGates_apply, logits_apply, projected_entry]
  rfl

theorem heads_entry (o : ℕ) (ho : o + 1024 ≤ 3072) (h : S8x4096x3088.Slices ![0, 0, o] S8x4096x1024) (b : Fin 8) (s : Fin 4096) (a : Fin 16) (d : Fin 64) :
    normedHeads (heads (projected (normedRows x g) w) o h) gh (ix4 b s a d) = headAt x g w gh o ho b s a d := by
  rw [normedHeads_apply]
  simp only [heads_apply _ o ho, projected_entry, Nat.mul_comm _ 64]
  rfl

theorem keyArray_eq : keyArray (keyColumns (normedHeads (heads (projected (normedRows x g) w) 1024 slices_S8x4096x3088_S8x4096x1024_0_0_1024) gh)
    (column (runningSums (logGates (logits (projected (normedRows x g) w) bf))))) = keys x g w bf gh := by
  funext i
  obtain ⟨b, s, c, rfl⟩ : ∃ (b : Fin 8) (s : Fin 4096) (c : Fin 2048), i = ix3 b s c := ⟨i 0, i 1, i 2, eq_ix3 i⟩
  rw [keyArray_apply, keyColumns_apply]
  simp only [heads_entry x g w gh 1024 (by omega), column_apply, sums_entry]
  rfl

theorem queryArray_eq : queryArray (queryColumns (normedHeads (heads (projected (normedRows x g) w) 0 slices_S8x4096x3088_S8x4096x1024_0_0_0) gh)
    (column (runningSums (logGates (logits (projected (normedRows x g) w) bf))))) = queries x g w bf gh := by
  funext i
  obtain ⟨b, t, a, e, s, rfl⟩ : ∃ (b t : Fin 8) (a : Fin 16) (e : Fin 128) (s : Fin 512), i = ix5 b t a e s := ⟨i 0, i 1, i 2, i 3, i 4, eq_ix5 i⟩
  rw [queryArray_apply, queryColumns_apply]
  simp only [heads_entry x g w gh 0 (by omega), column_apply, sums_entry]
  rfl

theorem valueArray_eq : valueArray (projected (normedRows x g) w) = values x g w := by
  funext i
  obtain ⟨b, t, n, q, rfl⟩ : ∃ (b : Fin 8) (t : Fin 16) (n : Fin 1024) (q : Fin 256), i = ix4 b t n q := ⟨i 0, i 1, i 2, i 3, eq_ix4 i⟩
  rw [valueArray_apply, projected_entry]
  simp only [Nat.mul_comm t.val 256]
  rfl

end Results

variable (m : (ℓ : Loc nD τ sig) → Buf (Elt Ideal) ℓ)

theorem key_result (c : Dev nD) : (Value.res_main_v80 m c : S8x4096x2048.Idx → EReal)
    = keys (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg5)) := by
  rw [← keyArray_eq]; rfl

theorem query_result (c : Dev nD) : (Value.res_main_v78 m c : S8x8x16x128x512.Idx → EReal)
    = queries (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) := by
  rw [← queryArray_eq]; rfl

end Cert.Reference5Ideal.Hand

end
-- ==== Proof.ConvTile.lean ====
/-
  One block of the convolution module, and its entries: the gated rows of the block, the last 32 rows before them carried from the block before, the 31 taps of the
  convolution over both, the layer norm, and the second projection.
-/
module

public import proofs.«01_k».proof.Proof.FfnBlock
public import proofs.«01_k».proof.Proof.Gen.Kernel6Ideal.Skeleton
public import Idealize.ShloMosaic.Lib.Pipeline.ValueKit.Tiles
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel6Ideal.Hand

open Cert.Kernel6Ideal Cert.Kernel6Ideal.Gen Cert.Ffn
open Idealize.ShloMosaic Idealize.ShloMosaic.TcCoe Idealize.SL.Sem

/-- The taps, in the order they are added. -/
def taps : List (Fin 31) := [0, 1, 2, 3, 4, 5, 6, 7, 8, 9, 10, 11, 12, 13, 14, 15, 16, 17, 18, 19, 20, 21, 22, 23, 24, 25, 26, 27, 28, 29, 30]

/-- The chunks of 32 rows, last first. -/
def chunksDown : List (Fin 8) := [7, 6, 5, 4, 3, 2, 1, 0]

/-- The shifts, last first; shift `b` is by `b + 1` rows. -/
def shiftsDown : List (Fin 7) := [6, 5, 4, 3, 2, 1, 0]

theorem inb_tap (i : Fin 31) : ∀ b, (![0, i.val, 0] : Fin 3 → ℕ) b + S1x1x1024.size b ≤ S1x31x1024.size b := by
  revert i; decide
theorem inb_chunk (k : Fin 8) : ∀ b, (![32 * k.val, 0] : Fin 2 → ℕ) b + S32x1024.size b ≤ S256x1024.size b := by
  revert k; decide
theorem inb_shift (b : Fin 7) : ∀ a, (![b.val + 1, 0] : Fin 2 → ℕ) a + S280x1024.size a ≤ S288x1024.size a := by
  revert b; decide
theorem inb_copy (b : Fin 7) : ∀ a, (![b.val, 0, 0] : Fin 3 → ℕ) a + S1x280x1024.size a ≤ S7x280x1024.size a := by
  revert b; decide
theorem inb_rows (k : Fin 8) (i : Fin 31) : ∀ a, (![32 * k.val + 2 + i.val, 0] : Fin 2 → ℕ) a + S32x1024.size a ≤ S288x1024.size a := by
  revert k i; decide
theorem inb_copied (k : Fin 8) (i : Fin 31) (h : ¬(2 + i.val) % 8 = 0) : ∀ a, (![(2 + i.val) % 8 - 1, 32 * k.val + 2 + i.val - (2 + i.val) % 8, 0] : Fin 3 → ℕ) a + S1x32x1024.size a ≤ S7x280x1024.size a := by
  revert k i; decide

/-- The gated rows of a block, below the 32 rows before it. -/
def rowsU (x : Vec Ideal S1x256x1024 .f32) (g : Vec Ideal S1x1x1024 .f32) (w1 : Vec Ideal S1x1024x2048 .bf16) (b1 : Vec Ideal S1x1x2048 .f32) (halo : Vec Ideal S32x1024 .f32) :
    Vec Ideal S288x1024 .f32 :=
  View.canon [⟨Rect.unit (s := S288x1024) ![32, 0] S256x1024.size inb_S288x1024_S256x1024_32_0, k0_pay6 (k0_pay5 x g w1 b1)⟩,
    ⟨Rect.unit (s := S288x1024) ![0, 0] S32x1024.size inb_S288x1024_S32x1024_0_0, halo⟩]

/-- The seven copies of the rows, each shifted up by one row more. -/
def copies (U : Vec Ideal S288x1024 .f32) : Vec Ideal S7x280x1024 .f32 :=
  View.canon (shiftsDown.map fun b => ⟨Rect.unit (s := S7x280x1024) ![b.val, 0, 0] S1x280x1024.size (inb_copy b),
    shapeCast S1x280x1024 (View.ld U (Rect.unit (s := S288x1024) ![b.val + 1, 0] S280x1024.size (inb_shift b))) shapeCasts_S280x1024_S1x280x1024⟩)

/-- The 32 rows that tap `i` reads for chunk `k`: of the rows themselves where they start at a multiple of eight, else of the copy that starts at one. -/
def rowsAt (U : Vec Ideal S288x1024 .f32) (us : Vec Ideal S7x280x1024 .f32) (k : Fin 8) (i : Fin 31) : FVec Ideal S32x1024 .f32 :=
  if h : (2 + i.val) % 8 = 0 then View.ld U (Rect.unit (s := S288x1024) ![32 * k.val + 2 + i.val, 0] S32x1024.size (inb_rows k i))
  else shapeCast S32x1024 (View.ld us (Rect.unit (s := S7x280x1024) ![(2 + i.val) % 8 - 1, 32 * k.val + 2 + i.val - (2 + i.val) % 8, 0] S1x32x1024.size (inb_copied k i h)))
    shapeCasts_S1x32x1024_S32x1024

/-- A row at each of 32. -/
def spread (r : Vec Ideal S1x1x1024 .f32) : FVec Ideal S32x1024 .f32 :=
  broadcastTo S32x1024 (shapeCast S1x1024 r shapeCasts_S1x1x1024_S1x1024) broadcasts_S1x1024_S32x1024

/-- The convolution at a chunk. -/
def convolved (wd : Vec Ideal S1x31x1024 .f32) (bd : Vec Ideal S1x1x1024 .f32) (U : Vec Ideal S288x1024 .f32) (us : Vec Ideal S7x280x1024 .f32) (k : Fin 8) : FVec Ideal S32x1024 .f32 :=
  taps.foldl (fun a i => addf a (mulf (spread (View.ld wd (Rect.unit (s := S1x31x1024) ![0, i.val, 0] S1x1x1024.size (inb_tap i)))) (rowsAt U us k i)))
    (broadcastTo S32x1024 (shapeCast S1x1024 (shapeCast S1x1024 bd shapeCasts_S1x1x1024_S1x1024) shapeCasts_S1x1024_S1x1024) broadcasts_S1x1024_S32x1024)

/-- The rows less their means. -/
def centred (a : FVec Ideal S32x1024 .f32) : FVec Ideal S32x1024 .f32 :=
  subf a (broadcastTo S32x1024 (divf (shapeCast S32x1 (multiReduction .add [1] S32 a 0x00000000#32 reduces_S32x1024_S32 (.inl rfl) rfl) shapeCasts_S32_S32x1)
    (broadcast S32x1 (Scalar.ofBits .f32 0x44800000#32))) broadcasts_S32x1_S32x1024)

/-- The layer norm of rows less their means. -/
def layerNorm (cen : FVec Ideal S32x1024 .f32) (lg lb : Vec Ideal S1x1x1024 .f32) : FVec Ideal S32x1024 .f32 :=
  addf (mulf (mulf cen (broadcastTo S32x1024 (rsqrt (addf
    (divf (shapeCast S32x1 (multiReduction .add [1] S32 (mulf cen cen) 0x00000000#32 reduces_S32x1024_S32 (.inl rfl) rfl) shapeCasts_S32_S32x1) (broadcast S32x1 (Scalar.ofBits .f32 0x44800000#32)))
    (broadcast S32x1 (Scalar.ofBits .f32 0x358637BD#32)))) broadcasts_S32x1_S32x1024)) (spread lg)) (spread lb)

/-- A chunk: the layer norm of its convolution, times the logistic of it. -/
def chunk (a : FVec Ideal S32x1024 .f32) (lg lb : Vec Ideal S1x1x1024 .f32) : FVec Ideal S32x1024 .bf16 :=
  shapeCast S32x1024 (truncf .bf16 (mulf (layerNorm (centred a) lg lb) (logistic (layerNorm (centred a) lg lb))) bitsLt_bf16_f32) shapeCasts_S32x1024_S32x1024

/-- The block before the second projection. -/
def activated (wd : Vec Ideal S1x31x1024 .f32) (bd lg lb : Vec Ideal S1x1x1024 .f32) (U : Vec Ideal S288x1024 .f32) : Vec Ideal S256x1024 .bf16 :=
  View.canon (chunksDown.map fun k => ⟨Rect.unit (s := S256x1024) ![32 * k.val, 0] S32x1024.size (inb_chunk k), chunk (convolved wd bd U (copies U) k) lg lb⟩)

/-- The block of the result. -/
def outBlock (x : Vec Ideal S1x256x1024 .f32) (w2 : Vec Ideal S1x1024x1024 .bf16) (b2 : Vec Ideal S1x1x1024 .f32) (a : Vec Ideal S256x1024 .bf16) : Vec Ideal S1x256x1024 .f32 :=
  k0_pay1 (k0_pay124 (k0_pay4 x) a w2 b2)

/-! ## Entries -/

/-- A unit of the gated projection of a row. -/
def gluEntry (x g : Fin 1024 → EReal) (w : Fin 1024 → Fin 2048 → EReal) (b : Fin 2048 → EReal) (c : Fin 1024) : EReal :=
  (∑ j : Fin 1024, normRow x g j * w j ⟨c.val, by omega⟩ + b ⟨c.val, by omega⟩)
    * Ideal.logistic (∑ j : Fin 1024, normRow x g j * w j ⟨1024 + c.val, by omega⟩ + b ⟨1024 + c.val, by omega⟩)

/-- A row less its mean. -/
def cenEntry (a : Fin 1024 → EReal) (c : Fin 1024) : EReal := a c - Ideal.div (∑ j : Fin 1024, a j) (Ideal.ofBits .f32 0x44800000#32)

/-- The layer norm of a row. -/
def lnEntry (a lg lb : Fin 1024 → EReal) (c : Fin 1024) : EReal := cenEntry a c * rowScale (cenEntry a) * lg c + lb c

/-- The layer norm of a row times the logistic of it. -/
def actEntry (a lg lb : Fin 1024 → EReal) (c : Fin 1024) : EReal := lnEntry a lg lb c * Ideal.logistic (lnEntry a lg lb c)

theorem gated_apply (x : Vec Ideal S1x256x1024 .f32) (g : Vec Ideal S1x1x1024 .f32) (w1 : Vec Ideal S1x1024x2048 .bf16) (b1 : Vec Ideal S1x1x2048 .f32) (s : Fin 256) (c : Fin 1024) :
    k0_pay6 (k0_pay5 x g w1 b1) (ix2 s c)
      = gluEntry (fun j => x (ix3 0 s j)) (fun j => g (ix3 0 0 j)) (fun j n => w1 (ix3 0 j n)) (fun n => b1 (ix3 0 0 n)) c := by
  pointwise [k0_pay6, k0_pay5, k0_pay4, gluEntry, normRow, rowScale]

theorem spread_apply (r : Vec Ideal S1x1x1024 .f32) (q : Fin 32) (c : Fin 1024) : spread r (ix2 q c) = r (ix3 0 0 c) := by
  pointwise [spread]

theorem centred_apply (a : FVec Ideal S32x1024 .f32) (q : Fin 32) (c : Fin 1024) : centred a (ix2 q c) = cenEntry (fun j => a (ix2 q j)) c := by
  pointwise [centred, cenEntry]

theorem layerNorm_apply (a : FVec Ideal S32x1024 .f32) (lg lb : Vec Ideal S1x1x1024 .f32) (q : Fin 32) (c : Fin 1024) :
    layerNorm (centred a) lg lb (ix2 q c) = lnEntry (fun j => a (ix2 q j)) (fun j => lg (ix3 0 0 j)) (fun j => lb (ix3 0 0 j)) c := by
  have h : layerNorm (centred a) lg lb (ix2 q c) = centred a (ix2 q c) * rowScale (fun j => centred a (ix2 q j)) * lg (ix3 0 0 c) + lb (ix3 0 0 c) := by
    pointwise [layerNorm, rowScale, spread]
  rw [h]
  simp only [centred_apply]
  rfl

theorem chunk_apply (a : FVec Ideal S32x1024 .f32) (lg lb : Vec Ideal S1x1x1024 .f32) (q : Fin 32) (c : Fin 1024) :
    chunk a lg lb (ix2 q c) = actEntry (fun j => a (ix2 q j)) (fun j => lg (ix3 0 0 j)) (fun j => lb (ix3 0 0 j)) c := by
  have h : chunk a lg lb (ix2 q c) = layerNorm (centred a) lg lb (ix2 q c) * Ideal.logistic (layerNorm (centred a) lg lb (ix2 q c)) := by
    pointwise [chunk]
  rw [h, layerNorm_apply]
  rfl

/-- A tap's row of the weights. -/
theorem ld_tap (wd : Vec Ideal S1x31x1024 .f32) (i : Fin 31) (c : Fin 1024) :
    View.ld (Val := Elt Ideal) (e' := .f32) wd (Rect.unit (s := S1x31x1024) ![0, i.val, 0] S1x1x1024.size (inb_tap i)) (ix3 0 0 c) = wd (ix3 0 i c) :=
  View.ld_unit_apply_of (Val := Elt Ideal) (e := .f32) wd _ _ _ _ _ fun a => by
    match a with
    | ⟨0, _⟩ => rfl
    | ⟨1, _⟩ => rfl
    | ⟨2, _⟩ => show c.val = 0 + c.val; omega

/-- A copy's entry: the rows' own, as many rows down as the copy is shifted. -/
theorem copies_apply (U : Vec Ideal S288x1024 .f32) (b : Fin 7) (r : Fin 280) (c : Fin 1024) :
    copies U (ix3 b r c) = U (ix2 ⟨b.val + 1 + r.val, by omega⟩ c) := by
  let G : S7x280x1024.Idx → EReal := fun y => U (ix2 ⟨(y 0).val + 1 + (y 1).val, by
    have h0 : (y 0).val < 7 := (y 0).isLt
    have h1 : (y 1).val < 280 := (y 1).isLt
    omega⟩ (y 2))
  unfold copies
  refine View.canon_apply_of_pieces (Val := Elt Ideal) (e := .f32) G _ (fun pc hpc => ?_) (ix3 b r c) ?_
  rotate_left
  · exact View.cover_of_tiledL (s := S7x280x1024) _ S1x280x1024.size (by sl_kernel_rfl) (ix3 b r c)
  obtain ⟨a, -, rfl⟩ := List.mem_map.mp hpc
  intro z
  obtain ⟨z₀, r, c, rfl⟩ : ∃ (z₀ : Fin 1) (r : Fin 280) (c : Fin 1024), z = ix3 z₀ r c := ⟨z 0, z 1, z 2, eq_ix3 z⟩
  obtain rfl : z₀ = 0 := Subsingleton.elim _ _
  have hi : (Rect.unit (s := S7x280x1024) ![a.val, 0, 0] S1x280x1024.size (inb_copy a)).emb (ix3 0 r c) = (ix3 a r c : S7x280x1024.Idx) :=
    funext fun b => Fin.ext ((Rect.idx_unit_val _ _ _ _ b).trans (by
      match b with
      | ⟨0, _⟩ => rfl
      | ⟨1, _⟩ => exact Nat.zero_add _
      | ⟨2, _⟩ => exact Nat.zero_add _))
  refine Eq.trans ?_ (congrArg G hi).symm
  have e : ∀ v : Vec Ideal S280x1024 .f32, shapeCast S1x280x1024 v shapeCasts_S280x1024_S1x280x1024 (ix3 0 r c) = v (ix2 r c) := fun v => by pointwise []
  refine (e (View.ld U (Rect.unit (s := S288x1024) ![a.val + 1, 0] S280x1024.size (inb_shift a)))).trans ?_
  exact View.ld_unit_apply_of (Val := Elt Ideal) (e := .f32) U _ _ _ _ _ fun a => by
    match a with
    | ⟨0, _⟩ => rfl
    | ⟨1, _⟩ => show c.val = 0 + c.val; omega

theorem rowsAt_apply (U : Vec Ideal S288x1024 .f32) (k : Fin 8) (i : Fin 31) (q : Fin 32) (c : Fin 1024) :
    rowsAt U (copies U) k i (ix2 q c) = U (ix2 ⟨32 * k.val + 2 + i.val + q.val, by omega⟩ c) := by
  unfold rowsAt
  split
  next h =>
    exact View.ld_unit_apply_of (Val := Elt Ideal) (e := .f32) U _ _ _ _ _ fun a => by
      match a with
      | ⟨0, _⟩ => rfl
      | ⟨1, _⟩ => show c.val = 0 + c.val; omega
  next h =>
    have e : ∀ v : Vec Ideal S1x32x1024 .f32, shapeCast S32x1024 v shapeCasts_S1x32x1024_S32x1024 (ix2 q c) = v (ix3 0 q c) := fun v => by pointwise []
    rw [e]
    have hb : (2 + i.val) % 8 - 1 < 7 := by omega
    have hr : 32 * k.val + 2 + i.val - (2 + i.val) % 8 + q.val < 280 := by omega
    refine (View.ld_unit_apply_of (Val := Elt Ideal) (e := .f32) (copies U) _ _ _ _ (ix3 ⟨(2 + i.val) % 8 - 1, hb⟩ ⟨32 * k.val + 2 + i.val - (2 + i.val) % 8 + q.val, hr⟩ c) fun a => ?_).trans ?_
    · match a with
      | ⟨0, _⟩ => rfl
      | ⟨1, _⟩ => rfl
      | ⟨2, _⟩ => show c.val = 0 + c.val; omega
    · rw [copies_apply]
      refine congrArg (fun n => U (ix2 n c)) (Fin.ext ?_)
      show (2 + i.val) % 8 - 1 + 1 + (32 * k.val + 2 + i.val - (2 + i.val) % 8 + q.val) = 32 * k.val + 2 + i.val + q.val
      omega

/-- The convolution at a chunk, entry by entry: the bias, and what the taps add to it. -/
theorem convolved_apply (wd : Vec Ideal S1x31x1024 .f32) (bd : Vec Ideal S1x1x1024 .f32) (U : Vec Ideal S288x1024 .f32) (k : Fin 8) (q : Fin 32) (c : Fin 1024) :
    convolved wd bd U (copies U) k (ix2 q c)
      = taps.foldl (fun a i => a + wd (ix3 0 i c) * U (ix2 ⟨32 * k.val + 2 + i.val + q.val, by omega⟩ c)) (bd (ix3 0 0 c)) := by
  have h : ∀ (l : List (Fin 31)) (v : FVec Ideal S32x1024 .f32),
      l.foldl (fun a i => addf a (mulf (spread (View.ld wd (Rect.unit (s := S1x31x1024) ![0, i.val, 0] S1x1x1024.size (inb_tap i)))) (rowsAt U (copies U) k i))) v (ix2 q c)
        = l.foldl (fun a i => a + wd (ix3 0 i c) * U (ix2 ⟨32 * k.val + 2 + i.val + q.val, by omega⟩ c)) (v (ix2 q c) : EReal) := by
    intro l
    induction l with
    | nil => exact fun v => rfl
    | cons i l ih =>
      intro v
      rw [List.foldl_cons, List.foldl_cons, ih]
      refine congrArg (fun z => l.foldl _ z) ?_
      have e : ∀ w r : FVec Ideal S32x1024 .f32, (addf v (mulf w r) (ix2 q c) : EReal) = v (ix2 q c) + w (ix2 q c) * r (ix2 q c) := fun w r => by pointwise []
      rw [e, spread_apply, rowsAt_apply, ld_tap]
  unfold convolved
  rw [h]
  refine congrArg (fun z => taps.foldl _ z) ?_
  pointwise []

section Rows

variable (x : Vec Ideal S1x256x1024 .f32) (g : Vec Ideal S1x1x1024 .f32) (w1 : Vec Ideal S1x1024x2048 .bf16) (b1 : Vec Ideal S1x1x2048 .f32) (halo : Vec Ideal S32x1024 .f32)

/-- A row of the rows: of the 32 before the block, or of the block. -/
theorem rowsU_halo (r : Fin 32) (c : Fin 1024) : rowsU x g w1 b1 halo (ix2 ⟨r.val, by omega⟩ c) = halo (ix2 r c) := by
  have hi : (Rect.unit (s := S288x1024) ![0, 0] S32x1024.size inb_S288x1024_S32x1024_0_0).emb (ix2 r c) = (ix2 ⟨r.val, by omega⟩ c : S288x1024.Idx) :=
    funext fun b => Fin.ext ((Rect.idx_unit_val _ _ _ _ b).trans (by
      match b with
      | ⟨0, _⟩ => exact Nat.zero_add _
      | ⟨1, _⟩ => exact Nat.zero_add _))
  unfold rowsU
  rw [View.canon_cons_of_not_mem, ← hi]
  · exact View.canon_cons_emb _ _ _ _
  · intro hm
    obtain ⟨z, hz⟩ := (Rect.unit (s := S288x1024) ![32, 0] S256x1024.size inb_S288x1024_S256x1024_32_0).exists_idx_of_mem hm
    have h0 : ((Rect.unit (s := S288x1024) ![32, 0] S256x1024.size inb_S288x1024_S256x1024_32_0).emb z 0).val = r.val := congrArg (fun y : S288x1024.Idx => (y 0).val) hz
    have h1 := (Rect.idx_unit_val (s := S288x1024) ![32, 0] S256x1024.size inb_S288x1024_S256x1024_32_0 z 0).symm.trans h0
    have h1 : 32 + (z 0).val = r.val := h1
    omega

theorem rowsU_block (s : Fin 256) (c : Fin 1024) : rowsU x g w1 b1 halo (ix2 ⟨32 + s.val, by omega⟩ c)
      = gluEntry (fun j => x (ix3 0 s j)) (fun j => g (ix3 0 0 j)) (fun j n => w1 (ix3 0 j n)) (fun n => b1 (ix3 0 0 n)) c := by
  have hi : (Rect.unit (s := S288x1024) ![32, 0] S256x1024.size inb_S288x1024_S256x1024_32_0).emb (ix2 s c) = (ix2 ⟨32 + s.val, by omega⟩ c : S288x1024.Idx) :=
    funext fun b => Fin.ext ((Rect.idx_unit_val _ _ _ _ b).trans (by
      match b with
      | ⟨0, _⟩ => rfl
      | ⟨1, _⟩ => exact Nat.zero_add _))
  rw [← hi, ← gated_apply]
  exact View.canon_cons_emb _ _ _ _

end Rows

theorem activated_apply (wd : Vec Ideal S1x31x1024 .f32) (bd lg lb : Vec Ideal S1x1x1024 .f32) (U : Vec Ideal S288x1024 .f32) (s : Fin 256) (c : Fin 1024) :
    activated wd bd lg lb U (ix2 s c) = actEntry (fun c => taps.foldl (fun a i => a + wd (ix3 0 i c) * U (ix2 ⟨2 + i.val + s.val, by omega⟩ c)) (bd (ix3 0 0 c)))
      (fun j => lg (ix3 0 0 j)) (fun j => lb (ix3 0 0 j)) c := by
  let F : Fin 256 → Fin 1024 → EReal := fun s c => actEntry (fun c => taps.foldl (fun a i => a + wd (ix3 0 i c) * U (ix2 ⟨2 + i.val + s.val, by omega⟩ c)) (bd (ix3 0 0 c)))
      (fun j => lg (ix3 0 0 j)) (fun j => lb (ix3 0 0 j)) c
  let G : S256x1024.Idx → EReal := fun y => F (y 0) (y 1)
  unfold activated
  refine View.canon_apply_of_pieces (Val := Elt Ideal) (e := .bf16) G _ (fun pc hpc => ?_) (ix2 s c) ?_
  rotate_left
  · exact View.cover_of_tiledL (s := S256x1024) _ S32x1024.size (by sl_kernel_rfl) (ix2 s c)
  obtain ⟨k, -, rfl⟩ := List.mem_map.mp hpc
  intro z
  obtain ⟨q, c, rfl⟩ : ∃ (q : Fin 32) (c : Fin 1024), z = ix2 q c := ⟨z 0, z 1, eq_ix2 z⟩
  have hi : (Rect.unit (s := S256x1024) ![32 * k.val, 0] S32x1024.size (inb_chunk k)).emb (ix2 q c) = (ix2 ⟨32 * k.val + q.val, by omega⟩ c : S256x1024.Idx) :=
    funext fun b => Fin.ext ((Rect.idx_unit_val _ _ _ _ b).trans (by
      match b with
      | ⟨0, _⟩ => rfl
      | ⟨1, _⟩ => exact Nat.zero_add _))
  refine Eq.trans ?_ (congrArg G hi).symm
  refine (chunk_apply _ _ _ _ _).trans ?_
  simp only [convolved_apply]
  have hr : ∀ i : Fin 31, (⟨32 * k.val + 2 + i.val + q.val, by omega⟩ : Fin 288) = ⟨2 + i.val + (32 * k.val + q.val), by omega⟩ := fun i => Fin.ext (by show 32 * k.val + 2 + i.val + q.val = 2 + i.val + (32 * k.val + q.val); omega)
  simp only [hr]
  rfl

theorem outBlock_apply (x : Vec Ideal S1x256x1024 .f32) (w2 : Vec Ideal S1x1024x1024 .bf16) (b2 : Vec Ideal S1x1x1024 .f32) (a : Vec Ideal S256x1024 .bf16) (s : Fin 256) (c : Fin 1024) :
    outBlock x w2 b2 a (ix3 0 s c) = x (ix3 0 s c) + ∑ j : Fin 1024, a (ix2 s j) * w2 (ix3 0 j c) + b2 (ix3 0 0 c) := by
  pointwise [outBlock, k0_pay1, k0_pay124, k0_pay4]

end Cert.Kernel6Ideal.Hand

end
-- ==== Proof.ConvBlock.lean ====
/-
  What a point of the convolution module's kernel leaves: the block of the result, and the rows carried to the next point.
-/
module

public import proofs.«01_k».proof.Proof.ConvTile
public import proofs.«01_k».proof.Proof.Gen.Kernel6Ideal.Value
public import Idealize.ShloMosaic.Lib.Pipeline.Value
public import Idealize.ShloMosaic.Lib.Pipeline.ReadBack

@[expose] public section

set_option maxRecDepth 16384

noncomputable section

namespace Cert.Kernel6Ideal.Hand

open Cert.Kernel6Ideal Cert.Kernel6Ideal.Gen
open Idealize.ShloMosaic Idealize.ShloMosaic.TcCoe Idealize.SL.Sem

/-- A load back of what was stored is the stores' contents, loaded. -/
theorem readCov_canon {sig : RefSig} {κ : Kind} {sp : Space} {s : Shape} {e : EltTy} (v : View sig κ sp s e) (L : List (View.Piece (Elt Ideal) s e)) (r : Rect s) :
    v.readCov L r.toLoadRect = View.ld (View.canon L) r := by
  rw [View.readCov_eq_canon']

/-- The rows as a point stores them. -/
theorem rowsU_stored (x : Vec Ideal S1x256x1024 .f32) (g : Vec Ideal S1x1x1024 .f32) (w1 : Vec Ideal S1x1024x2048 .bf16) (b1 : Vec Ideal S1x1x2048 .f32) (halo : Vec Ideal S32x1024 .f32)
    (h : ∀ a, (![32, 0] : Fin 2 → ℕ) a + (![256, 1024] : Fin 2 → ℕ) a ≤ S288x1024.size a) (h' : ∀ a, (![0, 0] : Fin 2 → ℕ) a + (![32, 1024] : Fin 2 → ℕ) a ≤ S288x1024.size a) (k : S256x1024.ShapeCasts S256x1024) :
    View.canon (Val := Elt Ideal) (e := .f32) [⟨Rect.unit (s := S288x1024) ![32, 0] ![256, 1024] h, shapeCast S256x1024 (k0_pay5 x g w1 b1) k⟩,
      ⟨Rect.unit (s := S288x1024) ![0, 0] ![32, 1024] h', halo⟩] = rowsU x g w1 b1 halo := rfl

/-- The seven copies as a point stores them. -/
theorem copies_stored (U : Vec Ideal S288x1024 .f32) (k : S280x1024.ShapeCasts S1x280x1024)
    (h₁ : ∀ a, (![1, 0] : Fin 2 → ℕ) a + (![280, 1024] : Fin 2 → ℕ) a ≤ S288x1024.size a) (h₂ : ∀ a, (![2, 0] : Fin 2 → ℕ) a + (![280, 1024] : Fin 2 → ℕ) a ≤ S288x1024.size a)
    (h₃ : ∀ a, (![3, 0] : Fin 2 → ℕ) a + (![280, 1024] : Fin 2 → ℕ) a ≤ S288x1024.size a) (h₄ : ∀ a, (![4, 0] : Fin 2 → ℕ) a + (![280, 1024] : Fin 2 → ℕ) a ≤ S288x1024.size a)
    (h₅ : ∀ a, (![5, 0] : Fin 2 → ℕ) a + (![280, 1024] : Fin 2 → ℕ) a ≤ S288x1024.size a) (h₆ : ∀ a, (![6, 0] : Fin 2 → ℕ) a + (![280, 1024] : Fin 2 → ℕ) a ≤ S288x1024.size a)
    (h₇ : ∀ a, (![7, 0] : Fin 2 → ℕ) a + (![280, 1024] : Fin 2 → ℕ) a ≤ S288x1024.size a)
    (k₀ : ∀ a, (![0, 0, 0] : Fin 3 → ℕ) a + (![1, 280, 1024] : Fin 3 → ℕ) a ≤ S7x280x1024.size a) (k₁ : ∀ a, (![1, 0, 0] : Fin 3 → ℕ) a + (![1, 280, 1024] : Fin 3 → ℕ) a ≤ S7x280x1024.size a)
    (k₂ : ∀ a, (![2, 0, 0] : Fin 3 → ℕ) a + (![1, 280, 1024] : Fin 3 → ℕ) a ≤ S7x280x1024.size a) (k₃ : ∀ a, (![3, 0, 0] : Fin 3 → ℕ) a + (![1, 280, 1024] : Fin 3 → ℕ) a ≤ S7x280x1024.size a)
    (k₄ : ∀ a, (![4, 0, 0] : Fin 3 → ℕ) a + (![1, 280, 1024] : Fin 3 → ℕ) a ≤ S7x280x1024.size a) (k₅ : ∀ a, (![5, 0, 0] : Fin 3 → ℕ) a + (![1, 280, 1024] : Fin 3 → ℕ) a ≤ S7x280x1024.size a)
    (k₆ : ∀ a, (![6, 0, 0] : Fin 3 → ℕ) a + (![1, 280, 1024] : Fin 3 → ℕ) a ≤ S7x280x1024.size a) :
    View.canon (Val := Elt Ideal) (e := .f32) [
      ⟨Rect.unit (s := S7x280x1024) ![6, 0, 0] ![1, 280, 1024] k₆, shapeCast S1x280x1024 (View.ld U (Rect.unit (s := S288x1024) ![7, 0] ![280, 1024] h₇)) k⟩,
      ⟨Rect.unit (s := S7x280x1024) ![5, 0, 0] ![1, 280, 1024] k₅, shapeCast S1x280x1024 (View.ld U (Rect.unit (s := S288x1024) ![6, 0] ![280, 1024] h₆)) k⟩,
      ⟨Rect.unit (s := S7x280x1024) ![4, 0, 0] ![1, 280, 1024] k₄, shapeCast S1x280x1024 (View.ld U (Rect.unit (s := S288x1024) ![5, 0] ![280, 1024] h₅)) k⟩,
      ⟨Rect.unit (s := S7x280x1024) ![3, 0, 0] ![1, 280, 1024] k₃, shapeCast S1x280x1024 (View.ld U (Rect.unit (s := S288x1024) ![4, 0] ![280, 1024] h₄)) k⟩,
      ⟨Rect.unit (s := S7x280x1024) ![2, 0, 0] ![1, 280, 1024] k₂, shapeCast S1x280x1024 (View.ld U (Rect.unit (s := S288x1024) ![3, 0] ![280, 1024] h₃)) k⟩,
      ⟨Rect.unit (s := S7x280x1024) ![1, 0, 0] ![1, 280, 1024] k₁, shapeCast S1x280x1024 (View.ld U (Rect.unit (s := S288x1024) ![2, 0] ![280, 1024] h₂)) k⟩,
      ⟨Rect.unit (s := S7x280x1024) ![0, 0, 0] ![1, 280, 1024] k₀, shapeCast S1x280x1024 (View.ld U (Rect.unit (s := S288x1024) ![1, 0] ![280, 1024] h₁)) k⟩] = copies U := rfl

variable (m : (ℓ : Loc nD τ sig) → Buf (Elt Ideal) ℓ)

/-- The 32 rows before a block: zeros at the first block of a batch element, else the last rows that the block before leaves. -/
def haloIn (c : Dev nD) (t : Fin cfg0.N) : Vec Ideal S32x1024 .f32 :=
  if t.val % 16 = 0 then k0_pay2 (F := Ideal)
  else k0_pay3 (View.ld (outsAt0 m c (t.val - 1) (by omega)).2 (Rect.unit (s := S288x1024) ![256, 0] S32x1024.size inb_S288x1024_S32x1024_256_0))

theorem carry_block (c : Dev nD) (t : Fin cfg0.N) : (outsAt0 m c t.val t.isLt).2
    = rowsU (iblk m c 0 t) (iblk m c 1 t) (iblk m c 2 t) (iblk m c 3 t) (haloIn m c t) := by
  unfold haloIn
  split
  next h0 => rw [outsAt0_A m c t h0 (by omega)]; dsimp only; frame_out; rfl
  next h0 => rw [outsAt0_B m c t h0 (by omega)]; dsimp only; frame_out; simp only [read_unread_whole]; rfl

theorem out_block (c : Dev nD) (t : Fin cfg0.N) : (outsAt0 m c t.val t.isLt).1
    = outBlock (iblk m c 0 t) (iblk m c 8 t) (iblk m c 9 t) (activated (iblk m c 4 t) (iblk m c 5 t) (iblk m c 6 t) (iblk m c 7 t)
        (rowsU (iblk m c 0 t) (iblk m c 1 t) (iblk m c 2 t) (iblk m c 3 t) (haloIn m c t))) := by
  unfold haloIn
  split
  next h0 =>
    rw [outsAt0_A m c t h0 (by omega)]
    dsimp only
    generalize hR : outBlock _ _ _ _ = R
    frame_out
    simp only [readCov_canon, k0_pay7, k0_pay8, k0_pay9, k0_pay10, k0_pay11, k0_pay12, k0_pay13]
    rw [rowsU_stored, copies_stored]
    subst hR
    unfold outBlock activated
    refine congrArg (fun a => k0_pay1 (k0_pay124 (k0_pay4 (iblk m c 0 t)) a (iblk m c 8 t) (iblk m c 9 t))) ?_
    refine (View.ld_unit_zero (Val := Elt Ideal) (by decide) _ _).trans ?_
    refine congrArg View.canon ?_
    generalize rowsU _ _ _ _ _ = U
    generalize copies U = us
    generalize iblk m c 4 t = wd
    rfl
  next h0 =>
    rw [outsAt0_B m c t h0 (by omega)]
    dsimp only
    generalize hR : outBlock _ _ _ _ = R
    frame_out
    simp only [read_unread_whole, readCov_canon, k0_pay7, k0_pay8, k0_pay9, k0_pay10, k0_pay11, k0_pay12, k0_pay13]
    rw [rowsU_stored, copies_stored]
    subst hR
    unfold outBlock activated
    refine congrArg (fun a => k0_pay1 (k0_pay124 (k0_pay4 (iblk m c 0 t)) a (iblk m c 8 t) (iblk m c 9 t))) ?_
    refine (View.ld_unit_zero (Val := Elt Ideal) (by decide) _ _).trans ?_
    refine congrArg View.canon ?_
    generalize rowsU _ _ _ _ _ = U
    generalize copies U = us
    generalize iblk m c 4 t = wd
    rfl

end Cert.Kernel6Ideal.Hand

end
-- ==== Proof.Conv.lean ====
/-
  The kernel of the convolution module: the array it leaves, as a function of its arguments.
-/
module

public import proofs.«01_k».proof.Proof.ConvBlock
public import Idealize.ShloMosaic.Lib.Pipeline.ValueKit.Geometry

@[expose] public section

set_option maxRecDepth 16384

noncomputable section

namespace Cert.Kernel6Ideal.Hand

open Cert.Kernel6Ideal Cert.Kernel6Ideal.Gen
open Idealize.ShloMosaic Idealize.ShloMosaic.TcCoe Idealize.SL.Sem

section Arrays

variable (x : S8x4096x1024.Idx → EReal) (g : S4x1024.Idx → EReal) (w1 : S1x1024x2048.Idx → EReal) (b1 : S1x2048.Idx → EReal)
  (wd : S1x31x1024.Idx → EReal) (bd lg lb : S1x1024.Idx → EReal) (w2 : S1x1024x1024.Idx → EReal) (b2 : S1x1024.Idx → EReal)

/-- The gated projection of row `n` of batch element `b`. -/
def gluAt (b : Fin 8) (n : Fin 4096) (c : Fin 1024) : EReal :=
  gluEntry (fun j => x (ix3 b n j)) (fun j => g (ix2 1 j)) (fun j n => w1 (ix3 0 j n)) (fun n => b1 (ix2 0 n)) c

/-- The gated rows below 30 rows of zeros. -/
def past (b : Fin 8) (k : ℕ) (c : Fin 1024) : EReal :=
  if h : 30 ≤ k ∧ k < 4126 then gluAt x g w1 b1 b ⟨k - 30, by omega⟩ c else 0

/-- The convolution: a row and the 30 before it, each times its tap. -/
def convAt (b : Fin 8) (n : Fin 4096) (c : Fin 1024) : EReal :=
  taps.foldl (fun a i => a + wd (ix3 0 i c) * past x g w1 b1 b (n.val + i.val) c) (bd (ix2 0 c))

/-- The row of the result: the argument's, and the second projection of the activated convolution. -/
def outAt (b : Fin 8) (n : Fin 4096) (c : Fin 1024) : EReal :=
  x (ix3 b n c) + ∑ j : Fin 1024, actEntry (convAt x g w1 b1 wd bd b n) (fun j => lg (ix2 0 j)) (fun j => lb (ix2 0 j)) j * w2 (ix3 0 j c) + b2 (ix2 0 c)

def result : S8x4096x1024.Idx → EReal := fun i => outAt x g w1 b1 wd bd lg lb w2 b2 (i 0) (i 1) (i 2)

end Arrays

variable (m : (ℓ : Loc nD τ sig) → Buf (Elt Ideal) ℓ)

theorem V_gain (c : Dev nD) : V m c main_v0 = broadcastInDim S4x1x1024 ![0, 2] bcast_S4x1024_S4x1x1024_0_2 (m ((c : Thread nD τ).loc main_arg1)) := by
  show StableHlo.after hostOps0 _ _ = _
  simp only [hostOps0]
  after_results_simp <;> rfl
theorem V_w1 (c : Dev nD) : V m c main_v1 = truncf (F := Ideal) .bf16 (m ((c : Thread nD τ).loc main_arg2)) bitsLt_bf16_f32 := by
  show StableHlo.after hostOps0 _ _ = _
  simp only [hostOps0]
  after_results_simp <;> rfl
theorem V_b1 (c : Dev nD) : V m c main_v2 = broadcastInDim S1x1x2048 ![0, 2] bcast_S1x2048_S1x1x2048_0_2 (m ((c : Thread nD τ).loc main_arg3)) := by
  show StableHlo.after hostOps0 _ _ = _
  simp only [hostOps0]
  after_results_simp <;> rfl
theorem V_bd (c : Dev nD) : V m c main_v3 = broadcastInDim S1x1x1024 ![0, 2] bcast_S1x1024_S1x1x1024_0_2 (m ((c : Thread nD τ).loc main_arg5)) := by
  show StableHlo.after hostOps0 _ _ = _
  simp only [hostOps0]
  after_results_simp <;> rfl
theorem V_lg (c : Dev nD) : V m c main_v4 = broadcastInDim S1x1x1024 ![0, 2] bcast_S1x1024_S1x1x1024_0_2 (m ((c : Thread nD τ).loc main_arg6)) := by
  show StableHlo.after hostOps0 _ _ = _
  simp only [hostOps0]
  after_results_simp <;> rfl
theorem V_lb (c : Dev nD) : V m c main_v5 = broadcastInDim S1x1x1024 ![0, 2] bcast_S1x1024_S1x1x1024_0_2 (m ((c : Thread nD τ).loc main_arg7)) := by
  show StableHlo.after hostOps0 _ _ = _
  simp only [hostOps0]
  after_results_simp <;> rfl
theorem V_w2 (c : Dev nD) : V m c main_v6 = truncf (F := Ideal) .bf16 (m ((c : Thread nD τ).loc main_arg8)) bitsLt_bf16_f32 := by
  show StableHlo.after hostOps0 _ _ = _
  simp only [hostOps0]
  after_results_simp <;> rfl
theorem V_b2 (c : Dev nD) : V m c main_v7 = broadcastInDim S1x1x1024 ![0, 2] bcast_S1x1024_S1x1x1024_0_2 (m ((c : Thread nD τ).loc main_arg9)) := by
  show StableHlo.after hostOps0 _ _ = _
  simp only [hostOps0]
  after_results_simp <;> rfl

/-- A point's batch element and its block of 256 rows. -/
def gb (t : Fin cfg0.N) : Fin 8 := cfg0.grid.coords t 0
def gs (t : Fin cfg0.N) : Fin 16 := cfg0.grid.coords t 1

theorem gb_val : ∀ t : Fin cfg0.N, (gb t).val = t.val / 16 := (by decide +kernel : ∀ t : Fin grid0.N, (grid0.coords t 0).val = t.val / 16)
theorem gs_val : ∀ t : Fin cfg0.N, (gs t).val = t.val % 16 := (by decide +kernel : ∀ t : Fin grid0.N, (grid0.coords t 1).val = t.val % 16)

theorem word {n : ℕ} (a : Fin n) (h : n ≤ 16) : (BitVec.ofNat 32 a.val).toNat = a.val := by
  rw [BitVec.toNat_ofNat]; exact Nat.mod_eq_of_lt (by omega)

/-- Where the result's block lies in its array. -/
theorem block_out (t : Fin cfg0.N) (s : Fin 256) (j : Fin 1024) :
    (win0_10.blk t).view.emb (ix3 0 s j) = (ix3 (gb t) ⟨(gs t).val * 256 + s.val, by omega⟩ j : S8x4096x1024.Idx) := by
  refine funext fun a => Fin.ext ?_
  refine (Pipeline.Window.rect_emb_val win0_10 t _ a).trans ?_
  match a with
  | ⟨0, _⟩ => show (BitVec.ofNat 32 (gb t).val).toNat * 1 + 0 = (gb t).val; rw [word _ (by decide)]; omega
  | ⟨1, _⟩ => show (BitVec.ofNat 32 (gs t).val).toNat * 256 + s.val = (gs t).val * 256 + s.val; rw [word _ (by decide)]
  | ⟨2, _⟩ => show 0 * 1024 + j.val = j.val; omega

theorem block_x (c : Dev nD) (t : Fin cfg0.N) (s : Fin 256) (j : Fin 1024) :
    (iblk m c 0 t (ix3 0 s j) : EReal) = m ((c : Thread nD τ).loc main_arg0) (ix3 (gb t) ⟨(gs t).val * 256 + s.val, by omega⟩ j) := by
  unfold iblk
  blk_simp
  refine (congrFun (V_main_arg0 m c) _).trans ?_
  refine congrArg (m ((c : Thread nD τ).loc main_arg0)) (funext fun a => Fin.ext ?_)
  refine (Pipeline.Window.rect_emb_val win0_0 t _ a).trans ?_
  match a with
  | ⟨0, _⟩ => show (BitVec.ofNat 32 (gb t).val).toNat * 1 + 0 = (gb t).val; rw [word _ (by decide)]; omega
  | ⟨1, _⟩ => show (BitVec.ofNat 32 (gs t).val).toNat * 256 + s.val = (gs t).val * 256 + s.val; rw [word _ (by decide)]
  | ⟨2, _⟩ => show 0 * 1024 + j.val = j.val; omega

theorem block_g (c : Dev nD) (t : Fin cfg0.N) (j : Fin 1024) :
    (iblk m c 1 t (ix3 0 0 j) : EReal) = m ((c : Thread nD τ).loc main_arg1) (ix2 1 j) := by
  unfold iblk
  blk_simp
  rw [V_gain]
  have e : (win0_1.blk t).view.emb (ix3 0 0 j) = (ix3 1 0 j : S4x1x1024.Idx) := by
    refine funext fun a => Fin.ext ?_
    refine (Pipeline.Window.rect_emb_val win0_1 t _ a).trans ?_
    match a with
    | ⟨0, _⟩ => rfl
    | ⟨1, _⟩ => rfl
    | ⟨2, _⟩ => show 0 * 1024 + j.val = j.val; omega
  refine (congrArg _ e).trans ?_
  pointwise []

theorem block_w1 (c : Dev nD) (t : Fin cfg0.N) (j : Fin 1024) (n : Fin 2048) :
    (iblk m c 2 t (ix3 0 j n) : EReal) = m ((c : Thread nD τ).loc main_arg2) (ix3 0 j n) := by
  unfold iblk
  blk_simp
  rw [V_w1]
  have e : (win0_2.blk t).view.emb (ix3 0 j n) = (ix3 0 j n : S1x1024x2048.Idx) := by
    refine funext fun a => Fin.ext ?_
    refine (Pipeline.Window.rect_emb_val win0_2 t _ a).trans ?_
    match a with
    | ⟨0, _⟩ => rfl
    | ⟨1, _⟩ => show 0 * 1024 + j.val = j.val; omega
    | ⟨2, _⟩ => show 0 * 2048 + n.val = n.val; omega
  refine (congrArg _ e).trans ?_
  pointwise []

theorem block_b1 (c : Dev nD) (t : Fin cfg0.N) (n : Fin 2048) :
    (iblk m c 3 t (ix3 0 0 n) : EReal) = m ((c : Thread nD τ).loc main_arg3) (ix2 0 n) := by
  unfold iblk
  blk_simp
  rw [V_b1]
  have e : (win0_3.blk t).view.emb (ix3 0 0 n) = (ix3 0 0 n : S1x1x2048.Idx) := by
    refine funext fun a => Fin.ext ?_
    refine (Pipeline.Window.rect_emb_val win0_3 t _ a).trans ?_
    match a with
    | ⟨0, _⟩ => rfl
    | ⟨1, _⟩ => rfl
    | ⟨2, _⟩ => show 0 * 2048 + n.val = n.val; omega
  refine (congrArg _ e).trans ?_
  pointwise []

theorem block_wd (c : Dev nD) (t : Fin cfg0.N) (i : Fin 31) (j : Fin 1024) :
    (iblk m c 4 t (ix3 0 i j) : EReal) = m ((c : Thread nD τ).loc main_arg4) (ix3 0 i j) := by
  unfold iblk
  blk_simp
  refine (congrFun (V_main_arg4 m c) _).trans ?_
  refine congrArg (m ((c : Thread nD τ).loc main_arg4)) (funext fun a => Fin.ext ?_)
  refine (Pipeline.Window.rect_emb_val win0_4 t _ a).trans ?_
  match a with
  | ⟨0, _⟩ => rfl
  | ⟨1, _⟩ => show 0 * 31 + i.val = i.val; omega
  | ⟨2, _⟩ => show 0 * 1024 + j.val = j.val; omega

theorem block_bd (c : Dev nD) (t : Fin cfg0.N) (j : Fin 1024) :
    (iblk m c 5 t (ix3 0 0 j) : EReal) = m ((c : Thread nD τ).loc main_arg5) (ix2 0 j) := by
  unfold iblk
  blk_simp
  rw [V_bd]
  have e : (win0_5.blk t).view.emb (ix3 0 0 j) = (ix3 0 0 j : S1x1x1024.Idx) := by
    refine funext fun a => Fin.ext ?_
    refine (Pipeline.Window.rect_emb_val win0_5 t _ a).trans ?_
    match a with
    | ⟨0, _⟩ => rfl
    | ⟨1, _⟩ => rfl
    | ⟨2, _⟩ => show 0 * 1024 + j.val = j.val; omega
  refine (congrArg _ e).trans ?_
  pointwise []

theorem block_lg (c : Dev nD) (t : Fin cfg0.N) (j : Fin 1024) :
    (iblk m c 6 t (ix3 0 0 j) : EReal) = m ((c : Thread nD τ).loc main_arg6) (ix2 0 j) := by
  unfold iblk
  blk_simp
  rw [V_lg]
  have e : (win0_6.blk t).view.emb (ix3 0 0 j) = (ix3 0 0 j : S1x1x1024.Idx) := by
    refine funext fun a => Fin.ext ?_
    refine (Pipeline.Window.rect_emb_val win0_6 t _ a).trans ?_
    match a with
    | ⟨0, _⟩ => rfl
    | ⟨1, _⟩ => rfl
    | ⟨2, _⟩ => show 0 * 1024 + j.val = j.val; omega
  refine (congrArg _ e).trans ?_
  pointwise []

theorem block_lb (c : Dev nD) (t : Fin cfg0.N) (j : Fin 1024) :
    (iblk m c 7 t (ix3 0 0 j) : EReal) = m ((c : Thread nD τ).loc main_arg7) (ix2 0 j) := by
  unfold iblk
  blk_simp
  rw [V_lb]
  have e : (win0_7.blk t).view.emb (ix3 0 0 j) = (ix3 0 0 j : S1x1x1024.Idx) := by
    refine funext fun a => Fin.ext ?_
    refine (Pipeline.Window.rect_emb_val win0_7 t _ a).trans ?_
    match a with
    | ⟨0, _⟩ => rfl
    | ⟨1, _⟩ => rfl
    | ⟨2, _⟩ => show 0 * 1024 + j.val = j.val; omega
  refine (congrArg _ e).trans ?_
  pointwise []

theorem block_w2 (c : Dev nD) (t : Fin cfg0.N) (j n : Fin 1024) :
    (iblk m c 8 t (ix3 0 j n) : EReal) = m ((c : Thread nD τ).loc main_arg8) (ix3 0 j n) := by
  unfold iblk
  blk_simp
  rw [V_w2]
  have e : (win0_8.blk t).view.emb (ix3 0 j n) = (ix3 0 j n : S1x1024x1024.Idx) := by
    refine funext fun a => Fin.ext ?_
    refine (Pipeline.Window.rect_emb_val win0_8 t _ a).trans ?_
    match a with
    | ⟨0, _⟩ => rfl
    | ⟨1, _⟩ => show 0 * 1024 + j.val = j.val; omega
    | ⟨2, _⟩ => show 0 * 1024 + n.val = n.val; omega
  refine (congrArg _ e).trans ?_
  pointwise []

theorem block_b2 (c : Dev nD) (t : Fin cfg0.N) (j : Fin 1024) :
    (iblk m c 9 t (ix3 0 0 j) : EReal) = m ((c : Thread nD τ).loc main_arg9) (ix2 0 j) := by
  unfold iblk
  blk_simp
  rw [V_b2]
  have e : (win0_9.blk t).view.emb (ix3 0 0 j) = (ix3 0 0 j : S1x1x1024.Idx) := by
    refine funext fun a => Fin.ext ?_
    refine (Pipeline.Window.rect_emb_val win0_9 t _ a).trans ?_
    match a with
    | ⟨0, _⟩ => rfl
    | ⟨1, _⟩ => rfl
    | ⟨2, _⟩ => show 0 * 1024 + j.val = j.val; omega
  refine (congrArg _ e).trans ?_
  pointwise []

/-- The gated rows and those above them, at a point. -/
def rowsIn (c : Dev nD) (t : Fin cfg0.N) : Vec Ideal S288x1024 .f32 :=
  rowsU (iblk m c 0 t) (iblk m c 1 t) (iblk m c 2 t) (iblk m c 3 t) (haloIn m c t)

/-- The padded gated rows, over the kernel's arguments. -/
def pastOf (c : Dev nD) : Fin 8 → ℕ → Fin 1024 → EReal :=
  past (m ((c : Thread nD τ).loc main_arg0)) (m ((c : Thread nD τ).loc main_arg1)) (m ((c : Thread nD τ).loc main_arg2)) (m ((c : Thread nD τ).loc main_arg3))

/-- A row of a point's own block. -/
theorem rows_own (c : Dev nD) (t : Fin cfg0.N) (s : Fin 256) (j : Fin 1024) :
    rowsIn m c t (ix2 ⟨32 + s.val, by omega⟩ j) = pastOf m c (gb t) ((gs t).val * 256 + s.val + 30) j := by
  unfold rowsIn pastOf past gluAt
  rw [rowsU_block, dif_pos ⟨by omega, by omega⟩]
  simp only [block_x, block_g, block_w1, block_b1, Nat.add_sub_cancel]

/-- A row that a point reads: the 30 rows above its block are those of the block before, or zeros. -/
theorem rows_value (c : Dev nD) (t : Fin cfg0.N) (r : Fin 288) (hr : 2 ≤ r.val) (j : Fin 1024) :
    rowsIn m c t (ix2 r j) = pastOf m c (gb t) ((gs t).val * 256 + r.val - 2) j := by
  by_cases h : 32 ≤ r.val
  · have e : r = ⟨32 + (⟨r.val - 32, by omega⟩ : Fin 256).val, by show 32 + (r.val - 32) < 288; omega⟩ := Fin.ext (by show r.val = 32 + (r.val - 32); omega)
    have k : (gs t).val * 256 + r.val - 2 = (gs t).val * 256 + (⟨r.val - 32, by omega⟩ : Fin 256).val + 30 := by show _ = (gs t).val * 256 + (r.val - 32) + 30; omega
    rw [k]
    exact (congrArg (fun r => rowsIn m c t (ix2 r j)) e).trans (rows_own m c t _ j)
  · refine (rowsU_halo _ _ _ _ _ ⟨r.val, by omega⟩ j).trans ?_
    have ht : t.val < 128 := t.isLt
    unfold haloIn
    split
    next h0 =>
      have z : (k0_pay2 (F := Ideal) (ix2 (⟨r.val, by omega⟩ : Fin 32) j) : EReal) = 0 := by pointwise [k0_pay2]
      refine z.trans ?_
      unfold pastOf past
      rw [dif_neg (by rw [gs_val, h0]; omega)]
    next h0 =>
      have hp : t.val - 1 < cfg0.N := by show t.val - 1 < 128; omega
      have e : (outsAt0 m c (t.val - 1) hp).2 = rowsIn m c ⟨t.val - 1, hp⟩ := carry_block m c ⟨t.val - 1, hp⟩
      have b : gb ⟨t.val - 1, hp⟩ = gb t := Fin.ext (by rw [gb_val, gb_val]; show (t.val - 1) / 16 = t.val / 16; omega)
      have k : (gs ⟨t.val - 1, hp⟩).val * 256 + (⟨224 + r.val, by omega⟩ : Fin 256).val + 30 = (gs t).val * 256 + r.val - 2 := by
        rw [gs_val, gs_val]; show (t.val - 1) % 16 * 256 + (224 + r.val) + 30 = t.val % 16 * 256 + r.val - 2; omega
      have own := rows_own m c ⟨t.val - 1, hp⟩ ⟨224 + r.val, by omega⟩ j
      rw [b, k] at own
      refine Eq.trans ?_ own
      have p : ∀ v : Vec Ideal S32x1024 .f32, (k0_pay3 v (ix2 (⟨r.val, by omega⟩ : Fin 32) j) : EReal) = v (ix2 (⟨r.val, by omega⟩ : Fin 32) j) := fun v => by pointwise [k0_pay3]
      refine (p _).trans ?_
      rw [e]
      exact View.ld_unit_apply_of (Val := Elt Ideal) (e := .f32) (rowsIn m c ⟨t.val - 1, hp⟩) _ _ _ _ _ fun a => by
        match a with
        | ⟨0, _⟩ => show 32 + (224 + r.val) = 256 + r.val; omega
        | ⟨1, _⟩ => show j.val = 0 + j.val; omega

/-- The array of the result. -/
theorem result_value (c : Dev nD) : ((dats m 0 c).arrAt 10 cfg0.N : S8x4096x1024.Idx → EReal)
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t hf y => ?_
  blk_simp
  rw [after0_10, out_block]
  obtain ⟨z, s, j, rfl⟩ : ∃ (z : Fin 1) (s : Fin 256) (j : Fin 1024), y = ix3 z s j := ⟨y 0, y 1, y 2, eq_ix3 y⟩
  obtain rfl : z = 0 := Subsingleton.elim _ _
  refine (outBlock_apply _ _ _ _ s j).trans ?_
  refine Eq.trans ?_ (congrArg (result _ _ _ _ _ _ _ _ _ _) (block_out t s j)).symm
  show _ = outAt _ _ _ _ _ _ _ _ _ _ (gb t) ⟨(gs t).val * 256 + s.val, _⟩ j
  unfold outAt convAt
  have row : ∀ (i : Fin 31) (k : Fin 1024), rowsU (iblk m c 0 t) (iblk m c 1 t) (iblk m c 2 t) (iblk m c 3 t) (haloIn m c t) (ix2 ⟨2 + i.val + s.val, by omega⟩ k)
      = past (m ((c : Thread nD τ).loc main_arg0)) (m ((c : Thread nD τ).loc main_arg1)) (m ((c : Thread nD τ).loc main_arg2)) (m ((c : Thread nD τ).loc main_arg3))
          (gb t) ((gs t).val * 256 + s.val + i.val) k := fun i k => by
    have e : (gs t).val * 256 + (2 + i.val + s.val) - 2 = (gs t).val * 256 + s.val + i.val := by omega
    exact (rows_value m c t ⟨2 + i.val + s.val, by omega⟩ (by show 2 ≤ 2 + i.val + s.val; omega) k).trans (by
      show pastOf m c (gb t) ((gs t).val * 256 + (2 + i.val + s.val) - 2) k = _; rw [e]; rfl)
  simp only [activated_apply, row, block_x, block_wd, block_bd, block_lg, block_lb, block_w2, block_b2]

end Cert.Kernel6Ideal.Hand

end
-- ==== Proof.ConvPlain.lean ====
/-
  The convolution module as the reference writes it, read at an element: the same function of the arguments as the kernel's array.
-/
module

public import proofs.«01_k».proof.Proof.Conv
public import proofs.«01_k».proof.Proof.FfnPlain
public import proofs.«01_k».proof.Proof.Gen.Reference6Ideal
public import proofs.«01_k».proof.Proof.Gen.Reference6Ideal.Run
public import Idealize.ShloMosaic.Lib.Pointwise
public import Idealize.ShloMosaic.Lib.KernelVsHost

@[expose] public section

set_option maxRecDepth 16384

noncomputable section

namespace Cert.Reference6Ideal.Hand

open Cert.Reference6Ideal Cert.Reference6Ideal.Gen Cert.Ffn
open Cert.Kernel6Ideal.Hand (taps gluEntry cenEntry lnEntry actEntry gluAt past convAt outAt result)
open Idealize.ShloMosaic Idealize.ShloMosaic.TcCoe Idealize.SL.Sem Idealize.ShloMosaic.StableHlo

/-- A row of 1024 at each position. -/
def spread (v : FVec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ v shapeCasts_S1x1024_S1024))

/-- Each row's mean, at each of its positions as one column. -/
def meanOf (v : FVec Ideal S8x4096x1024 .f32) : FVec Ideal S8x4096x1 .f32 :=
  Host.divf (broadcastInDim S8x4096x1 ![0, 1] bcast_S8x4096_S8x4096x1_0_1 (Host.reduceAdd v (constant S_ .f32 0x00000000#32) reducesTo_S8x4096x1024_S8x4096_d2 h_S_))
    (broadcastInDim S8x4096x1 ![] bcast_S_S8x4096x1 (constant S_ .f32 0x44800000#32))

/-- One over the root of the mean square, at each position. -/
def scaleOf (v : FVec Ideal S8x4096x1024 .f32) : FVec Ideal S8x4096x1024 .f32 :=
  broadcastInDim S8x4096x1024 ![0, 1, 2] bcast_S8x4096x1_S8x4096x1024_0_1_2 (Host.rsqrt (addf (meanOf (mulf v v))
    (broadcastInDim S8x4096x1 ![] bcast_S_S8x4096x1 (constant S_ .f32 0x358637BD#32))))

/-- The rows normed by their root mean square, times the gain of row 1. -/
def normedRows (x : FVec Ideal S8x4096x1024 .f32) (g : FVec Ideal S4x1024 .f32) : FVec Ideal S8x4096x1024 .f32 :=
  mulf (mulf x (scaleOf x)) (spread (extractStridedSlice S1x1024 ![1, 0] g slices_S4x1024_S1x1024_1_0))

/-- The first projection. -/
def projected (h : FVec Ideal S8x4096x1024 .f32) (w : FVec Ideal S1x1024x2048 .f32) (b : FVec Ideal S1x2048 .f32) : FVec Ideal S8x4096x2048 .f32 :=
  addf (Host.dotGeneral dot_S8x4096x1024_S1024x2048_S8x4096x2048_2_0_01_1_n_n none h (shapeCast _ w shapeCasts_S1x1024x2048_S1024x2048))
    (broadcastInDim S8x4096x2048 ![0, 1, 2] bcast_S1x1x2048_S8x4096x2048_0_1_2 (broadcastInDim S1x1x2048 ![2] bcast_S2048_S1x1x2048_2 (shapeCast _ b shapeCasts_S1x2048_S2048)))

/-- The logistic, as one over one and an exponential. -/
def logisticOf (v : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf v)))

/-- The first half times the logistic of the second. -/
def gated (r : FVec Ideal S8x4096x2048 .f32) : FVec Ideal S8x4096x1024 .f32 :=
  mulf (extractStridedSlice S8x4096x1024 ![0, 0, 0] r slices_S8x4096x2048_S8x4096x1024_0_0_0)
    (logisticOf (extractStridedSlice S8x4096x1024 ![0, 0, 1024] r slices_S8x4096x2048_S8x4096x1024_0_0_1024))

/-- The rows below 30 rows of zeros. -/
def padded (u : FVec Ideal S8x4096x1024 .f32) : FVec Ideal S8x4126x1024 .f32 :=
  pad S8x4126x1024 ![0, 30, 0] ![0, 0, 0] ![0, 0, 0] u (sitofp .f32 (constantI S_ 32 0#32)) pads_S8x4096x1024_S8x4126x1024_000_3000_000 h_S_

theorem slices_past (i : Fin 31) : S8x4126x1024.Slices ![0, i.val, 0] S8x4096x1024 := by revert i; decide
theorem slices_tap (i : Fin 31) : S31x1024.Slices ![i.val, 0] S1x1024 := by revert i; decide

/-- The padded rows from `i` on, times tap `i`. -/
def tapped (p : FVec Ideal S8x4126x1024 .f32) (w : FVec Ideal S31x1024 .f32) (i : Fin 31) : FVec Ideal S8x4096x1024 .f32 :=
  mulf (extractStridedSlice S8x4096x1024 ![0, i.val, 0] p (slices_past i)) (spread (extractStridedSlice S1x1024 ![i.val, 0] w (slices_tap i)))

/-- The convolution. -/
def convolved (p : FVec Ideal S8x4126x1024 .f32) (w : FVec Ideal S31x1024 .f32) (b : FVec Ideal S1x1024 .f32) : FVec Ideal S8x4096x1024 .f32 :=
  addf (taps.foldl (fun v i => addf v (tapped p w i)) (broadcastInDim S8x4096x1024 ![] bcast_S_S8x4096x1024 (constant S_ .f32 0x00000000#32))) (spread b)

/-- The rows less their means. -/
def centred (v : FVec Ideal S8x4096x1024 .f32) : FVec Ideal S8x4096x1024 .f32 :=
  subf v (broadcastInDim S8x4096x1024 ![0, 1, 2] bcast_S8x4096x1_S8x4096x1024_0_1_2 (meanOf v))

/-- The layer norm of rows less their means. -/
def layerNorm (v : FVec Ideal S8x4096x1024 .f32) (lg lb : FVec Ideal S1x1024 .f32) : FVec Ideal S8x4096x1024 .f32 :=
  addf (mulf (mulf v (scaleOf v)) (spread lg)) (spread lb)

/-- The second projection, added to the rows. -/
def closed (x a : FVec Ideal S8x4096x1024 .f32) (w : FVec Ideal S1x1024x1024 .f32) (b : FVec Ideal S1x1024 .f32) : FVec Ideal S8x4096x1024 .f32 :=
  addf x (addf (Host.dotGeneral dot_S8x4096x1024_S1024x1024_S8x4096x1024_2_0_01_1_n_n none (mulf a (logisticOf a)) (shapeCast _ w shapeCasts_S1x1024x1024_S1024x1024)) (spread b))

/-- The reference, in stages. -/
def layer (x : FVec Ideal S8x4096x1024 .f32) (g : FVec Ideal S4x1024 .f32) (w1 : FVec Ideal S1x1024x2048 .f32) (b1 : FVec Ideal S1x2048 .f32)
    (wd : FVec Ideal S1x31x1024 .f32) (bd lg lb : FVec Ideal S1x1024 .f32) (w2 : FVec Ideal S1x1024x1024 .f32) (b2 : FVec Ideal S1x1024 .f32) : FVec Ideal S8x4096x1024 .f32 :=
  closed x (layerNorm (centred (convolved (padded (gated (projected (normedRows x g) w1 b1))) (shapeCast _ wd shapeCasts_S1x31x1024_S31x1024) bd)) lg lb) w2 b2

/-! ## Entries -/

theorem normedRows_apply (x : FVec Ideal S8x4096x1024 .f32) (g : FVec Ideal S4x1024 .f32) (b : Fin 8) (s : Fin 4096) (c : Fin 1024) :
    normedRows x g (ix3 b s c) = normRow (fun j => x (ix3 b s j)) (fun j => g (ix2 1 j)) c := by
  pointwise [normedRows, scaleOf, meanOf, spread, normRow, rowScale]

theorem projected_apply (h : FVec Ideal S8x4096x1024 .f32) (w : FVec Ideal S1x1024x2048 .f32) (v : FVec Ideal S1x2048 .f32) (b : Fin 8) (s : Fin 4096) (n : Fin 2048) :
    projected h w v (ix3 b s n) = ∑ j : Fin 1024, h (ix3 b s j) * w (ix3 0 j n) + v (ix2 0 n) := by
  pointwise [projected]

theorem logisticOf_apply (v : FVec Ideal S8x4096x1024 .f32) (b : Fin 8) (s : Fin 4096) (c : Fin 1024) : logisticOf v (ix3 b s c) = Ideal.logistic (v (ix3 b s c)) := by
  unfold Ideal.logistic
  rw [← Cert.Reference2Ideal.Hand.one_bits]
  pointwise [logisticOf]

theorem gated_apply (r : FVec Ideal S8x4096x2048 .f32) (b : Fin 8) (s : Fin 4096) (c : Fin 1024) :
    gated r (ix3 b s c) = r (ix3 b s ⟨c.val, by omega⟩) * Ideal.logistic (r (ix3 b s ⟨1024 + c.val, by omega⟩)) := by
  have h : gated r (ix3 b s c) = r (ix3 b s ⟨c.val, by omega⟩) * logisticOf (extractStridedSlice S8x4096x1024 ![0, 0, 1024] r slices_S8x4096x2048_S8x4096x1024_0_0_1024) (ix3 b s c) := by
    pointwise [gated]
  rw [h, logisticOf_apply]
  pointwise []

theorem padded_apply (u : FVec Ideal S8x4096x1024 .f32) (b : Fin 8) (k : Fin 4126) (c : Fin 1024) :
    padded u (ix3 b k c) = if h : 30 ≤ k.val then (u (ix3 b ⟨k.val - 30, by omega⟩ c) : EReal) else 0 := by
  unfold padded
  split
  next h =>
    exact pad_apply_of_inside _ _ _ u _ _ _ (ix3 b k c) (ix3 b ⟨k.val - 30, by omega⟩ c) fun a => by
      match a with
      | ⟨0, _⟩ => show b.val = 0 + b.val * (0 + 1); omega
      | ⟨1, _⟩ => show k.val = 30 + (k.val - 30) * (0 + 1); omega
      | ⟨2, _⟩ => show c.val = 0 + c.val * (0 + 1); omega
  next h =>
    refine (pad_apply_of_not_inside _ _ _ u _ _ _ (ix3 b k c) 1 fun hk => h hk.1).trans ?_
    show (((0#32 : BitVec 32).toInt : ℝ) : EReal) = 0
    simp

theorem tapped_apply (p : FVec Ideal S8x4126x1024 .f32) (w : FVec Ideal S31x1024 .f32) (i : Fin 31) (b : Fin 8) (s : Fin 4096) (c : Fin 1024) :
    tapped p w i (ix3 b s c) = p (ix3 b ⟨i.val + s.val, by omega⟩ c) * w (ix2 i c) := by
  pointwise [tapped, spread]

/-- A sum is the same begun with its last summand. -/
theorem foldl_from (f : Fin 31 → EReal) (z : EReal) : ∀ (l : List (Fin 31)) (a : EReal), l.foldl (fun a i => a + f i) a + z = l.foldl (fun a i => a + f i) (z + a)
  | [], a => add_comm _ _
  | i :: l, a => by
    show l.foldl (fun a i => a + f i) (a + f i) + z = l.foldl (fun a i => a + f i) (z + a + f i)
    rw [foldl_from f z l, add_assoc]

theorem convolved_apply (p : FVec Ideal S8x4126x1024 .f32) (w : FVec Ideal S31x1024 .f32) (v : FVec Ideal S1x1024 .f32) (b : Fin 8) (s : Fin 4096) (c : Fin 1024) :
    convolved p w v (ix3 b s c) = taps.foldl (fun a i => a + w (ix2 i c) * p (ix3 b ⟨s.val + i.val, by omega⟩ c)) (v (ix2 0 c)) := by
  have h : ∀ (l : List (Fin 31)) (u : FVec Ideal S8x4096x1024 .f32), l.foldl (fun v i => addf v (tapped p w i)) u (ix3 b s c)
      = l.foldl (fun a i => a + w (ix2 i c) * p (ix3 b ⟨s.val + i.val, by omega⟩ c)) (u (ix3 b s c) : EReal) := by
    intro l
    induction l with
    | nil => intro u; rfl
    | cons i l ih =>
      intro u
      refine (ih _).trans (congrArg (fun a => List.foldl _ a l) ?_)
      refine (congrArg ((u (ix3 b s c) : EReal) + ·) (tapped_apply p w i b s c)).trans ?_
      simp only [mul_comm (w _), Nat.add_comm i.val]
  have z : (broadcastInDim S8x4096x1024 ![] bcast_S_S8x4096x1024 (constant (F := Ideal) S_ .f32 0x00000000#32) (ix3 b s c) : EReal) = 0 := by
    show Ideal.ofBits .f32 0x00000000#32 = 0
    simp [Ideal.ofBits, Ideal.ieee]
  have hv : (spread v (ix3 b s c) : EReal) = v (ix2 0 c) := by pointwise [spread]
  unfold convolved
  refine (congrArg₂ (· + ·) (h taps _) hv).trans ?_
  rw [z]
  exact (foldl_from _ _ taps 0).trans (by rw [add_zero])

theorem centred_apply (v : FVec Ideal S8x4096x1024 .f32) (b : Fin 8) (s : Fin 4096) (c : Fin 1024) : centred v (ix3 b s c) = cenEntry (fun j => v (ix3 b s j)) c := by
  pointwise [centred, meanOf, cenEntry]

theorem layerNorm_apply (v : FVec Ideal S8x4096x1024 .f32) (lg lb : FVec Ideal S1x1024 .f32) (b : Fin 8) (s : Fin 4096) (c : Fin 1024) :
    layerNorm (centred v) lg lb (ix3 b s c) = lnEntry (fun j => v (ix3 b s j)) (fun j => lg (ix2 0 j)) (fun j => lb (ix2 0 j)) c := by
  have h : layerNorm (centred v) lg lb (ix3 b s c) = centred v (ix3 b s c) * rowScale (fun j => centred v (ix3 b s j)) * lg (ix2 0 c) + lb (ix2 0 c) := by
    pointwise [layerNorm, scaleOf, meanOf, spread, rowScale]
  rw [h]
  simp only [centred_apply]
  rfl

theorem closed_apply (x a : FVec Ideal S8x4096x1024 .f32) (w : FVec Ideal S1x1024x1024 .f32) (v : FVec Ideal S1x1024 .f32) (b : Fin 8) (s : Fin 4096) (c : Fin 1024) :
    closed x a w v (ix3 b s c) = x (ix3 b s c) + ∑ j : Fin 1024, a (ix3 b s j) * Ideal.logistic (a (ix3 b s j)) * w (ix3 0 j c) + v (ix2 0 c) := by
  have h : closed x a w v (ix3 b s c) = x (ix3 b s c) + (∑ j : Fin 1024, a (ix3 b s j) * logisticOf a (ix3 b s j) * w (ix3 0 j c) + v (ix2 0 c)) := by
    pointwise [closed, spread]
  rw [h, ← add_assoc]
  simp only [logisticOf_apply]

section Layer

variable (x : FVec Ideal S8x4096x1024 .f32) (g : FVec Ideal S4x1024 .f32) (w1 : FVec Ideal S1x1024x2048 .f32) (b1 : FVec Ideal S1x2048 .f32)
  (wd : FVec Ideal S1x31x1024 .f32) (bd lg lb : FVec Ideal S1x1024 .f32) (w2 : FVec Ideal S1x1024x1024 .f32) (b2 : FVec Ideal S1x1024 .f32)

theorem past_entry (b : Fin 8) (k : Fin 4126) (c : Fin 1024) :
    padded (gated (projected (normedRows x g) w1 b1)) (ix3 b k c) = past x g w1 b1 b k.val c := by
  rw [padded_apply]
  unfold past gluAt gluEntry
  by_cases h : 30 ≤ k.val
  · rw [dif_pos h, dif_pos ⟨h, k.isLt⟩, gated_apply]
    simp only [projected_apply, normedRows_apply]
  · rw [dif_neg h, dif_neg fun hk => h hk.1]

theorem conv_entry (b : Fin 8) (s : Fin 4096) (c : Fin 1024) :
    convolved (padded (gated (projected (normedRows x g) w1 b1))) (shapeCast _ wd shapeCasts_S1x31x1024_S31x1024) bd (ix3 b s c) = convAt x g w1 b1 wd bd b s c := by
  have e : ∀ i : Fin 31, (shapeCast S31x1024 wd shapeCasts_S1x31x1024_S31x1024 (ix2 i c) : EReal) = wd (ix3 0 i c) := fun i => by pointwise []
  rw [convolved_apply]
  unfold convAt
  simp only [past_entry, e]

/-- The reference's rows are the kernel's. -/
theorem layer_eq : layer x g w1 b1 wd bd lg lb w2 b2 = result x g w1 b1 wd bd lg lb w2 b2 := by
  funext i
  obtain ⟨b, s, c, rfl⟩ : ∃ (b : Fin 8) (s : Fin 4096) (c : Fin 1024), i = ix3 b s c := ⟨i 0, i 1, i 2, eq_ix3 i⟩
  unfold layer
  rw [closed_apply]
  simp only [layerNorm_apply, conv_entry]
  rfl

end Layer

/-! ## The printed program -/

variable (V0 : Valuation τ sig (Elt Ideal))

theorem conv_printed : Value.res_main_v253 V0 = convolved (Value.res_main_v31 V0) (Value.res_main_v30 V0) (V0 (Proc.devRef .tc main_arg5)) := rfl

theorem past_printed : Value.res_main_v31 V0
    = padded (gated (projected (normedRows (V0 (Proc.devRef .tc main_arg0)) (V0 (Proc.devRef .tc main_arg1))) (V0 (Proc.devRef .tc main_arg2)) (V0 (Proc.devRef .tc main_arg3)))) := rfl

theorem norm_printed : Value.res_main_v279 V0 = layerNorm (centred (Value.res_main_v253 V0)) (V0 (Proc.devRef .tc main_arg6)) (V0 (Proc.devRef .tc main_arg7)) := rfl

/-- The result as the program computes it. -/
theorem printed : closed (V0 (Proc.devRef .tc main_arg0)) (Value.res_main_v279 V0) (V0 (Proc.devRef .tc main_arg8)) (V0 (Proc.devRef .tc main_arg9))
    = result (V0 (Proc.devRef .tc main_arg0)) (V0 (Proc.devRef .tc main_arg1)) (V0 (Proc.devRef .tc main_arg2)) (V0 (Proc.devRef .tc main_arg3)) (V0 (Proc.devRef .tc main_arg4))
        (V0 (Proc.devRef .tc main_arg5)) (V0 (Proc.devRef .tc main_arg6)) (V0 (Proc.devRef .tc main_arg7)) (V0 (Proc.devRef .tc main_arg8)) (V0 (Proc.devRef .tc main_arg9)) := by
  rw [← layer_eq, norm_printed, conv_printed, past_printed]
  rfl

end Cert.Reference6Ideal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Value
public import proofs.«01_k».proof.Proof.Same
public import proofs.«01_k».proof.Proof.Gen.Pre_finite
public import proofs.«01_k».proof.Proof.FfnPlain
public import proofs.«01_k».proof.Proof.FfnPlain3
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.DiffPlain
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite5
public import proofs.«01_k».proof.Proof.Gen.Kernel6.Frame
public import proofs.«01_k».proof.Proof.Gen.Kernel6Ideal.Value
public import proofs.«01_k».proof.Proof.Gen.Reference6Ideal.Run
public import proofs.«01_k».proof.Proof.FoxPlain
public import proofs.«01_k».proof.Proof.ConvPlain
public import Idealize.ShloMosaic.Adequacy
public import Idealize.ShloMosaic.Init

@[expose] public section

noncomputable section

namespace Cert.Proof

open Idealize.ShloMosaic Idealize.SL.Sem

theorem frame_p : Cert.quiescent_Kernel := fun m ρ _ => by
  rw [Cert.Same.defs_eq]
  exact (θ_run Cert.KernelIdeal.defs _ _).mono (fun _ h => h) (Cert.KernelIdeal.Hand.frame (F := Bits) m ρ)
theorem frame_pi : Cert.quiescent_KernelIdeal := fun m ρ _ => Cert.KernelIdeal.Hand.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_pi_pre : Cert.quiescent_KernelIdeal_pre_finite := fun m ρ _ => Cert.KernelIdeal.Hand.frame m ρ
theorem frame_ri_pre : Cert.quiescent_ReferenceIdeal_pre_finite := fun m ρ _ => frame_ri m ρ trivial

/-- An extended real whose magnitude is below `⊤` is a real. -/
theorem real_of_abs_lt {x : EReal} (h : Ideal.cmp .olt (max x (-x)) (⊤ : EReal) = 1#1) : ∃ r : ℝ, x = (r : EReal) := by
  induction x with
  | bot => simp [Ideal.cmp] at h
  | top => simp [Ideal.cmp] at h
  | coe r => exact ⟨r, rfl⟩

theorem finite_args (m : (ℓ : Loc Cert.KernelIdeal.nD Cert.KernelIdeal.τ Cert.KernelIdeal.sig) → Buf (Elt Ideal) ℓ) (h : Cert.Pre_KernelIdeal_finite m)
    (c : Dev Cert.KernelIdeal.nD) :
    (∀ i, ∃ r : ℝ, m ((c.tc : Thread Cert.KernelIdeal.nD Cert.KernelIdeal.τ).loc Cert.KernelIdeal.main_arg0) i = (r : EReal))
    ∧ ∀ i, ∃ r : ℝ, m ((c.tc : Thread Cert.KernelIdeal.nD Cert.KernelIdeal.τ).loc Cert.KernelIdeal.main_arg1) i = (r : EReal) := by
  have top : Ideal.ofBits .f32 0x7F800000#32 = (⊤ : EReal) := by simp [Ideal.ofBits, Ideal.ieee]
  refine ⟨fun i => real_of_abs_lt ?_, fun i => real_of_abs_lt ?_⟩
  · rw [← top]; exact congrFun (h c).1 i
  · rw [← top]; exact congrFun (h c).2 i

theorem value : Cert.algebraic_KernelIdeal_ReferenceIdeal_pre_finite := fun m ρ m' ρ' hpre hag => by
  refine ⟨_, Cert.KernelIdeal.Hand.run_value m (fun c => (finite_args m hpre c).1) (fun c => (finite_args m hpre c).2) ρ, ?_⟩
  refine (θ_run Cert.ReferenceIdeal.defs _ _).mono (fun r h c => ⟨(h c).1.trans ?_, (h c).2⟩) (Cert.ReferenceIdeal.Value.run (F := Ideal) m' ρ')
  rw [Cert.ReferenceIdeal.Hand.res_eq, (hag c).1, (hag c).2.1, (hag c).2.2]

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value2 : Cert.algebraic_Kernel2Ideal_Reference2Ideal := fun m ρ m' ρ' _ hag => by
  refine ⟨_, (θ_run Cert.Kernel2Ideal.defs _ _).mono (fun r h c => ⟨(h c).1.trans (Cert.Kernel2Ideal.Hand.array_value m c), (h c).2⟩)
    (Cert.Kernel2Ideal.Value.run_blocks m ρ), ?_⟩
  refine (θ_run Cert.Reference2Ideal.defs _ _).mono (fun r h c => ⟨(h c).1.trans ((Cert.Reference2Ideal.Hand.layer_eq _ _ _ _ _).trans ?_), (h c).2⟩)
    (Cert.Reference2Ideal.Value.run (F := Ideal) m' ρ')
  obtain ⟨h0, h1, h2, h3, h4⟩ := hag c
  rw [h0, h1, h2, h3, h4]

theorem value3 : Cert.algebraic_Kernel3Ideal_Reference3Ideal := fun m ρ m' ρ' _ hag => by
  refine ⟨_, (θ_run Cert.Kernel3Ideal.defs _ _).mono (fun r h c => ⟨(h c).1.trans (Cert.Kernel3Ideal.Hand.array_value m c), (h c).2⟩)
    (Cert.Kernel3Ideal.Value.run_blocks m ρ), ?_⟩
  refine (θ_run Cert.Reference3Ideal.defs _ _).mono (fun r h c => ⟨(h c).1.trans ((Cert.Reference3Ideal.Hand.res_eq m' c).trans ?_), (h c).2⟩)
    (Cert.Reference3Ideal.Value.run (F := Ideal) m' ρ')
  obtain ⟨h0, h1, h2, h3, h4, h5, h6⟩ := hag c
  rw [h0, h1, h2, h3, h4, h5, h6]

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem value4 : Cert.algebraic_Kernel4Ideal_Reference4Ideal := fun m ρ m' ρ' _ hag => by
  refine ⟨_, _, _, (θ_run Cert.Kernel4Ideal.defs _ _).mono (fun r h c => ⟨(h c).1.trans (Cert.Kernel4Ideal.Hand.queries_value m c),
      (h c).2.1.trans (Cert.Kernel4Ideal.Hand.keys_value m c), (h c).2.2.1.trans (Cert.Kernel4Ideal.Hand.values_value m c), (h c).2.2.2⟩)
    (Cert.Kernel4Ideal.Value.run_blocks m ρ), ?_⟩
  refine (θ_run Cert.Reference4Ideal.defs _ _).mono (fun r h c => ⟨(h c).1.trans ((Cert.Reference4Ideal.Hand.query_result m' c).trans ?_),
      (h c).2.1.trans ((Cert.Reference4Ideal.Hand.key_result m' c).trans ?_), (h c).2.2.1.trans ((Cert.Reference4Ideal.Hand.valueArray_eq _ _ _).trans ?_), (h c).2.2.2⟩)
    (Cert.Reference4Ideal.Value.run (F := Ideal) m' ρ')
  all_goals
    obtain ⟨h0, h1, h2, h3, h4, h5, h6⟩ := hag c
    simp only [h0, h1, h2, h3, h4, h5, h6]

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_pi5_pre : Cert.quiescent_Kernel5Ideal_pre_finite5 := fun m ρ _ => Cert.Kernel5Ideal.Gen.frame m ρ
theorem frame_ri5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)
theorem frame_ri5_pre : Cert.quiescent_Reference5Ideal_pre_finite5 := fun m ρ _ => frame_ri5 m ρ trivial

theorem finite_args5 (m : (ℓ : Loc Cert.Kernel5Ideal.nD Cert.Kernel5Ideal.τ Cert.Kernel5Ideal.sig) → Buf (Elt Ideal) ℓ) (h : Cert.Pre_Kernel5Ideal_finite5 m) (c : Dev Cert.Kernel5Ideal.nD) :
    (∀ j, ∃ r : ℝ, (m ((c.tc : Thread Cert.Kernel5Ideal.nD Cert.Kernel5Ideal.τ).loc Cert.Kernel5Ideal.main_arg1) : Cert.Kernel5Ideal.S4x1024.Idx → EReal) (ix2 0 j) = (r : EReal))
    ∧ (∀ (j : Fin 1024) (a : Fin 16), ∃ r : ℝ, (m ((c.tc : Thread Cert.Kernel5Ideal.nD Cert.Kernel5Ideal.τ).loc Cert.Kernel5Ideal.main_arg2) : Cert.Kernel5Ideal.S2x1024x3088.Idx → EReal)
        (ix3 0 j ⟨3072 + a.val, by omega⟩) = (r : EReal))
    ∧ ∀ a, ∃ r : ℝ, (m ((c.tc : Thread Cert.Kernel5Ideal.nD Cert.Kernel5Ideal.τ).loc Cert.Kernel5Ideal.main_arg3) : Cert.Kernel5Ideal.S2x16.Idx → EReal) (ix2 0 a) = (r : EReal) := by
  have top : Ideal.ofBits .f32 0x7F800000#32 = (⊤ : EReal) := by simp [Ideal.ofBits, Ideal.ieee]
  obtain ⟨h1, h2, h3⟩ := h c
  refine ⟨fun j => real_of_abs_lt ?_, fun j a => real_of_abs_lt ?_, fun a => real_of_abs_lt ?_⟩
  · rw [← top]
    have e := congrFun h1 (ix1 j)
    unfold Cert.Pre_finite5.fn at e
    pointwise at e
    exact e
  · rw [← top]
    have e := congrFun h2 (ix2 j a)
    unfold Cert.Pre_finite5.fn at e
    pointwise at e
    exact e
  · rw [← top]
    have e := congrFun h3 (ix1 a)
    unfold Cert.Pre_finite5.fn at e
    pointwise at e
    exact e

theorem value5 : Cert.algebraic_Kernel5Ideal_Reference5Ideal_pre_finite5 := fun m ρ m' ρ' hpre hag => by
  have hg := fun c => (finite_args5 m hpre c).1
  have hw := fun c => (finite_args5 m hpre c).2.1
  have hb := fun c => (finite_args5 m hpre c).2.2
  refine ⟨_, _, _, (θ_run Cert.Kernel5Ideal.defs _ _).mono (fun r h c => ⟨(h c).1.trans (Cert.Kernel5Ideal.Hand.queries_value m hg hw hb c),
      (h c).2.1.trans (Cert.Kernel5Ideal.Hand.keys_value m hg hw hb c), (h c).2.2.1.trans (Cert.Kernel5Ideal.Hand.values_value m c), (h c).2.2.2⟩)
    (Cert.Kernel5Ideal.Value.run_blocks m ρ), ?_⟩
  refine (θ_run Cert.Reference5Ideal.defs _ _).mono (fun r h c => ⟨(h c).1.trans ((Cert.Reference5Ideal.Hand.query_result m' c).trans ?_),
      (h c).2.1.trans ((Cert.Reference5Ideal.Hand.key_result m' c).trans ?_), (h c).2.2.1.trans ((Cert.Reference5Ideal.Hand.valueArray_eq _ _ _).trans ?_), (h c).2.2.2⟩)
    (Cert.Reference5Ideal.Value.run (F := Ideal) m' ρ')
  all_goals
    obtain ⟨h0, h1, h2, h3, h4, h5⟩ := hag c
    simp only [h0, h1, h2, h3, h4, h5]

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value6 : Cert.algebraic_Kernel6Ideal_Reference6Ideal := fun m ρ m' ρ' _ hag => by
  refine ⟨_, (θ_run Cert.Kernel6Ideal.defs _ _).mono (fun r h c => ⟨(h c).1.trans (Cert.Kernel6Ideal.Hand.result_value m c), (h c).2⟩)
    (Cert.Kernel6Ideal.Value.run_blocks m ρ), ?_⟩
  refine (θ_run Cert.Reference6Ideal.defs _ _).mono (fun r h c => ⟨(h c).1.trans ((Cert.Reference6Ideal.Hand.printed (StableHlo.launchContents m' c)).trans ?_), (h c).2⟩)
    (Cert.Reference6Ideal.Value.run (F := Ideal) m' ρ')
  obtain ⟨h0, h1, h2, h3, h4, h5, h6, h7, h8, h9⟩ := hag c
  rw [← h0, ← h1, ← h2, ← h3, ← h4, ← h5, ← h6, ← h7, ← h8, ← h9]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Pre_finite.Gen.facts, Cert.Pre_finite5.Gen.facts,
    frame_p, frame_pi, frame_pi_pre, frame_ri, frame_ri_pre, frame_p2, frame_pi2, frame_ri2, frame_p3, frame_pi3, frame_ri3, frame_p4, frame_pi4, frame_ri4,
    frame_p5, frame_pi5, frame_pi5_pre, frame_ri5, frame_ri5_pre, frame_p6, frame_pi6, frame_ri6,
    trivial, value, trivial, value2, trivial, value3, trivial, value4, trivial, value5, trivial, value6⟩

end Cert.Proof

end
